-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v7)) (v3 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_v8) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x1x4096 : Shape := ⟨3, ![6, 1, 4096]⟩
abbrev S4096x11008 : Shape := ⟨2, ![4096, 11008]⟩
abbrev S11008 : Shape := ⟨1, ![11008]⟩
abbrev S11008x4096 : Shape := ⟨2, ![11008, 4096]⟩
abbrev S4096 : Shape := ⟨1, ![4096]⟩
abbrev S6x4096 : Shape := ⟨2, ![6, 4096]⟩
abbrev S1x11008 : Shape := ⟨2, ![1, 11008]⟩
abbrev S1x4096 : Shape := ⟨2, ![1, 4096]⟩
abbrev S6x11008 : Shape := ⟨2, ![6, 11008]⟩
abbrev S1x6 : Shape := ⟨2, ![1, 6]⟩
abbrev S32x4096 : Shape := ⟨2, ![32, 4096]⟩
abbrev S87x16x128 : Shape := ⟨3, ![87, 16, 128]⟩
abbrev S8x4096 : Shape := ⟨2, ![8, 4096]⟩
abbrev S5x4096x512 : Shape := ⟨3, ![5, 4096, 512]⟩
abbrev S8x256x4096 : Shape := ⟨3, ![8, 256, 4096]⟩
abbrev S87 : Shape := ⟨1, ![87]⟩
abbrev S4 : Shape := ⟨1, ![4]⟩
abbrev S5 : Shape := ⟨1, ![5]⟩
abbrev S16 : Shape := ⟨1, ![16]⟩
abbrev S1 : Shape := ⟨1, ![1]⟩
abbrev S_ : Shape := ⟨0, ![]⟩
abbrev S1x4096x512 : Shape := ⟨3, ![1, 4096, 512]⟩
abbrev S4096x512 : Shape := ⟨2, ![4096, 512]⟩
abbrev S6 : Shape := ⟨1, ![6]⟩
abbrev S6x1 : Shape := ⟨2, ![6, 1]⟩
abbrev S6x255 : Shape := ⟨2, ![6, 255]⟩
abbrev S32x512 : Shape := ⟨2, ![32, 512]⟩
abbrev S6x512 : Shape := ⟨2, ![6, 512]⟩
abbrev S1x512 : Shape := ⟨2, ![1, 512]⟩
abbrev S6x128 : Shape := ⟨2, ![6, 128]⟩
abbrev S1x6x128 : Shape := ⟨3, ![1, 6, 128]⟩
abbrev S1x1x1 : Shape := ⟨3, ![1, 1, 1]⟩
abbrev S1x4096x256 : Shape := ⟨3, ![1, 4096, 256]⟩
abbrev S4096x256 : Shape := ⟨2, ![4096, 256]⟩
abbrev S1x128x4096 : Shape := ⟨3, ![1, 128, 4096]⟩
abbrev S128x4096 : Shape := ⟨2, ![128, 4096]⟩
abbrev S32x256 : Shape := ⟨2, ![32, 256]⟩
abbrev S6x256 : Shape := ⟨2, ![6, 256]⟩
abbrev S1x256 : Shape := ⟨2, ![1, 256]⟩
abbrev S1x16x128 : Shape := ⟨3, ![1, 16, 128]⟩
abbrev S16x128 : Shape := ⟨2, ![16, 128]⟩
abbrev S16x256 : Shape := ⟨2, ![16, 256]⟩
abbrev S1x256x4096 : Shape := ⟨3, ![1, 256, 4096]⟩
abbrev S256x4096 : Shape := ⟨2, ![256, 4096]⟩
abbrev S16x4096 : Shape := ⟨2, ![16, 4096]⟩
abbrev S6x1x11008 : Shape := ⟨3, ![6, 1, 11008]⟩

abbrev nBuf : Space → Nat
  | .hbm => 18
  | .vmem => 13
  | .smem => 1
  | _ => 0

abbrev bufTy : (tb : Table) → Fin (tcTables nBuf tb) → BufTy
  | .hbm, ⟨0, _⟩ => ⟨S6x1x4096, .bf16⟩
  | .hbm, ⟨1, _⟩ => ⟨S4096x11008, .fp8e4m3⟩
  | .hbm, ⟨2, _⟩ => ⟨S11008, .f32⟩
  | .hbm, ⟨3, _⟩ => ⟨S11008, .f32⟩
  | .hbm, ⟨4, _⟩ => ⟨S11008x4096, .i8⟩
  | .hbm, ⟨5, _⟩ => ⟨S4096, .f32⟩
  | .hbm, ⟨6, _⟩ => ⟨S6x4096, .bf16⟩
  | .hbm, ⟨7, _⟩ => ⟨S1x11008, .f32⟩
  | .hbm, ⟨8, _⟩ => ⟨S1x11008, .f32⟩
  | .hbm, ⟨9, _⟩ => ⟨S1x4096, .f32⟩
  | .hbm, ⟨10, _⟩ => ⟨S6x4096, .bf16⟩
  | .hbm, ⟨11, _⟩ => ⟨S6x11008, .bf16⟩
  | .hbm, ⟨12, _⟩ => ⟨S6x4096, .fp8e4m3⟩
  | .hbm, ⟨13, _⟩ => ⟨S1x6, .f32⟩
  | .hbm, ⟨14, _⟩ => ⟨S6x1x4096, .bf16⟩
  | .hbm, ⟨15, _⟩ => ⟨S6x1x11008, .bf16⟩
  | .hbm, ⟨16, _⟩ => ⟨S6x1x4096, .fp8e4m3⟩
  | .hbm, ⟨17, _⟩ => ⟨S6x1, .f32⟩
  | .local _ .vmem, ⟨0, _⟩ => ⟨S6x4096, .bf16⟩
  | .local _ .vmem, ⟨1, _⟩ => ⟨S1x11008, .f32⟩
  | .local _ .vmem, ⟨2, _⟩ => ⟨S1x11008, .f32⟩
  | .local _ .vmem, ⟨3, _⟩ => ⟨S1x4096, .f32⟩
  | .local _ .vmem, ⟨4, _⟩ => ⟨S6x4096, .fp8e4m3⟩
  | .local _ .vmem, ⟨5, _⟩ => ⟨S1x6, .f32⟩
  | .local _ .vmem, ⟨6, _⟩ => ⟨S6x11008, .bf16⟩
  | .local _ .vmem, ⟨7, _⟩ => ⟨S6x4096, .bf16⟩
  | .local _ .vmem, ⟨8, _⟩ => ⟨S32x4096, .fp8e4m3⟩
  | .local _ .vmem, ⟨9, _⟩ => ⟨S87x16x128, .bf16⟩
  | .local _ .vmem, ⟨10, _⟩ => ⟨S8x4096, .f32⟩
  | .local _ .vmem, ⟨11, _⟩ => ⟨S5x4096x512, .fp8e4m3⟩
  | .local _ .vmem, ⟨12, _⟩ => ⟨S8x256x4096, .i8⟩
  | .local _ .smem, ⟨0, _⟩ => ⟨S87, .i32⟩
  | _, _ => ⟨S6x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev cc0_scratch11 : Ref sig .tc := ⟨.vmem, 11, rfl⟩
abbrev cc0_scratch12 : Ref sig .tc := ⟨.vmem, 12, rfl⟩
abbrev cc0_scratch13 : Ref sig .tc := ⟨.smem, 0, rfl⟩

abbrev nD : Nat := 1
abbrev τ : Topo := Topo.v7x

variable {F : FTy → Type} [FloatOps F]

abbrev grid0 : Pipeline.Grid := .none

def k0_mult1 : BitVec 32 :=
  let c0_i32_0 : BitVec 32 := 0#32
  c0_i32_0
def k0_mult2 : BitVec 32 :=
  let c512_i32 : BitVec 32 := 512#32
  c512_i32
def k0_mult3 : BitVec 32 :=
  let c1024_i32 : BitVec 32 := 1024#32
  c1024_i32
def k0_mult4 : BitVec 32 :=
  let c1536_i32 : BitVec 32 := 1536#32
  c1536_i32
def k0_mult5 : BitVec 32 :=
  let c2048_i32 : BitVec 32 := 2048#32
  c2048_i32
@[reducible] def k0_t1_loop : Scf.Loop 32 :=
  let c0_i32_64 : BitVec 32 := 0#32
  let c21_i32 : BitVec 32 := 21#32
  let v125 : BitVec 32 := Scalar.addi c0_i32_64 c21_i32
  let c1_i32_65 : BitVec 32 := 1#32
  ⟨c0_i32_64, v125, c1_i32_65⟩
def k0_mult6 (k0_t1 : Fin k0_t1_loop.trips) : BitVec 32 :=
  let c0_i32_64 : BitVec 32 := 0#32
  let c1_i32_65 : BitVec 32 := 1#32
  let arg28 : BitVec 32 := Scf.iv c0_i32_64 c1_i32_65 k0_t1
  let c512_i32_120 : BitVec 32 := 512#32
  let v231 : BitVec 32 := Scalar.muli arg28 c512_i32_120
  v231
def k0_off1 (k0_t1 : Fin k0_t1_loop.trips) : Fin 1 → Nat :=
  let c0_i32_64 : BitVec 32 := 0#32
  let c1_i32_65 : BitVec 32 := 1#32
  let arg28 : BitVec 32 := Scf.iv c0_i32_64 c1_i32_65 k0_t1
  let c5_i32 : BitVec 32 := 5#32
  let v230 : BitVec 32 := Scalar.remsi arg28 c5_i32
  ![v230.toNat]
def k0_off2 (k0_t1 : Fin k0_t1_loop.trips) : Fin 3 → Nat :=
  let c0_i32_64 : BitVec 32 := 0#32
  let c1_i32_65 : BitVec 32 := 1#32
  let arg28 : BitVec 32 := Scf.iv c0_i32_64 c1_i32_65 k0_t1
  let c5_i32 : BitVec 32 := 5#32
  let v230 : BitVec 32 := Scalar.remsi arg28 c5_i32
  let c0_i32_121 : BitVec 32 := 0#32
  let c0_i32_122 : BitVec 32 := 0#32
  ![v230.toNat, 0, 0]
def k0_off3 (k0_t1 : Fin k0_t1_loop.trips) : Fin 2 → Nat :=
  let c0_i32_123 : BitVec 32 := 0#32
  let c0_i32_64 : BitVec 32 := 0#32
  let c1_i32_65 : BitVec 32 := 1#32
  let arg28 : BitVec 32 := Scf.iv c0_i32_64 c1_i32_65 k0_t1
  let c512_i32_120 : BitVec 32 := 512#32
  let v231 : BitVec 32 := Scalar.muli arg28 c512_i32_120
  let v232 : BitVec 32 := v231
  ![0, v232.toNat]
def k0_mult7 (k0_t1 : Fin k0_t1_loop.trips) : BitVec 32 :=
  let c0_i32_64 : BitVec 32 := 0#32
  let c1_i32_65 : BitVec 32 := 1#32
  let arg28 : BitVec 32 := Scf.iv c0_i32_64 c1_i32_65 k0_t1
  let c512_i32_124 : BitVec 32 := 512#32
  let v238 : BitVec 32 := Scalar.muli arg28 c512_i32_124
  v238
def k0_off4 (k0_t1 : Fin k0_t1_loop.trips) : Fin 3 → Nat :=
  let c0_i32_64 : BitVec 32 := 0#32
  let c1_i32_65 : BitVec 32 := 1#32
  let arg28 : BitVec 32 := Scf.iv c0_i32_64 c1_i32_65 k0_t1
  let c5_i32 : BitVec 32 := 5#32
  let v230 : BitVec 32 := Scalar.remsi arg28 c5_i32
  let v241 : Index := Scalar.indexCast v230
  let c0_127 : Index := 0#32
  let c0_128 : Index := 0#32
  ![v241.toNat, 0, 0]
def k0_off5 (k0_t1 : Fin k0_t1_loop.trips) : Fin 2 → Nat :=
  let c0_130 : Index := 0#32
  let c0_i32_64 : BitVec 32 := 0#32
  let c1_i32_65 : BitVec 32 := 1#32
  let arg28 : BitVec 32 := Scf.iv c0_i32_64 c1_i32_65 k0_t1
  let c512_i32_124 : BitVec 32 := 512#32
  let v238 : BitVec 32 := Scalar.muli arg28 c512_i32_124
  let v239 : BitVec 32 := v238
  let v248 : Index := Scalar.indexCast v239
  ![0, v248.toNat]
def k0_off6 (k0_t1 : Fin k0_t1_loop.trips) : Fin 2 → Nat :=
  let c0_133 : Index := 0#32
  let c0_i32_64 : BitVec 32 := 0#32
  let c1_i32_65 : BitVec 32 := 1#32
  let arg28 : BitVec 32 := Scf.iv c0_i32_64 c1_i32_65 k0_t1
  let c512_i32_124 : BitVec 32 := 512#32
  let v238 : BitVec 32 := Scalar.muli arg28 c512_i32_124
  let v239 : BitVec 32 := v238
  let v259 : Index := Scalar.indexCast v239
  ![0, v259.toNat]
def k0_off7 (arg29 : BitVec 32) : Fin 3 → Nat :=
  let v274 : Index := Scalar.indexCast arg29
  let c0_138 : Index := 0#32
  let c0_139 : Index := 0#32
  ![v274.toNat, 0, 0]

def k0_off8 (arg29 : BitVec 32) : Fin 1 → Nat :=
  let v280 : Index := Scalar.indexCast arg29
  ![v280.toNat]

def k0_chk1 (arg29 : BitVec 32) : Prop :=
  (∀ a, (k0_off7 arg29) a + S1x6x128.size a ≤ S87x16x128.size a) ∧
  (∀ (hinb : ∀ a, (k0_off7 arg29) a + S1x6x128.size a ≤ S87x16x128.size a), (Rect.unit (s := S87x16x128) (k0_off7 arg29) S1x6x128.size hinb).PackedRows (EltTy.packing .bf16)) ∧
  (∀ a, (k0_off8 arg29) a + S1.size a ≤ S87.size a)
theorem k0_off7_inb : ∀ (arg29 : BitVec 32) (k0_hw1 : k0_chk1 arg29), ∀ a, (k0_off7 arg29) a + S1x6x128.size a ≤ S87x16x128.size a := fun arg29 k0_hw1 => k0_hw1.1
theorem k0_off7_packedbf16 : ∀ (arg29 : BitVec 32) (k0_hw1 : k0_chk1 arg29), (Rect.unit (s := S87x16x128) (k0_off7 arg29) S1x6x128.size (k0_off7_inb arg29 k0_hw1)).PackedRows (EltTy.packing .bf16) := fun arg29 k0_hw1 => k0_hw1.2.1 (k0_off7_inb arg29 k0_hw1)
theorem k0_off8_inb : ∀ (arg29 : BitVec 32) (k0_hw1 : k0_chk1 arg29), ∀ a, (k0_off8 arg29) a + S1.size a ≤ S87.size a := fun arg29 k0_hw1 => k0_hw1.2.2

def k0_off9 (arg29 : BitVec 32) (v272 : BitVec 32) : Fin 3 → Nat :=
  let v282 : BitVec 32 := Scalar.addi arg29 v272
  let v294 : Index := Scalar.indexCast v282
  let c0_146 : Index := 0#32
  let c0_147 : Index := 0#32
  ![v294.toNat, 0, 0]

def k0_off10 (arg29 : BitVec 32) (v272 : BitVec 32) : Fin 1 → Nat :=
  let v282 : BitVec 32 := Scalar.addi arg29 v272
  let v300 : Index := Scalar.indexCast v282
  ![v300.toNat]

def k0_chk2 (arg29 : BitVec 32) (v272 : BitVec 32) : Prop :=
  (∀ a, (k0_off9 arg29 v272) a + S1x6x128.size a ≤ S87x16x128.size a) ∧
  (∀ (hinb : ∀ a, (k0_off9 arg29 v272) a + S1x6x128.size a ≤ S87x16x128.size a), (Rect.unit (s := S87x16x128) (k0_off9 arg29 v272) S1x6x128.size hinb).PackedRows (EltTy.packing .bf16)) ∧
  (∀ a, (k0_off10 arg29 v272) a + S1.size a ≤ S87.size a)
theorem k0_off9_inb : ∀ (arg29 : BitVec 32) (v272 : BitVec 32) (k0_hw2 : k0_chk2 arg29 v272), ∀ a, (k0_off9 arg29 v272) a + S1x6x128.size a ≤ S87x16x128.size a := fun arg29 v272 k0_hw2 => k0_hw2.1
theorem k0_off9_packedbf16 : ∀ (arg29 : BitVec 32) (v272 : BitVec 32) (k0_hw2 : k0_chk2 arg29 v272), (Rect.unit (s := S87x16x128) (k0_off9 arg29 v272) S1x6x128.size (k0_off9_inb arg29 v272 k0_hw2)).PackedRows (EltTy.packing .bf16) := fun arg29 v272 k0_hw2 => k0_hw2.2.1 (k0_off9_inb arg29 v272 k0_hw2)
theorem k0_off10_inb : ∀ (arg29 : BitVec 32) (v272 : BitVec 32) (k0_hw2 : k0_chk2 arg29 v272), ∀ a, (k0_off10 arg29 v272) a + S1.size a ≤ S87.size a := fun arg29 v272 k0_hw2 => k0_hw2.2.2

def k0_off11 (arg29 : BitVec 32) (v272 : BitVec 32) (v292 : BitVec 32) : Fin 3 → Nat :=
  let v282 : BitVec 32 := Scalar.addi arg29 v272
  let v302 : BitVec 32 := Scalar.addi v282 v292
  let v314 : Index := Scalar.indexCast v302
  let c0_154 : Index := 0#32
  let c0_155 : Index := 0#32
  ![v314.toNat, 0, 0]

def k0_off12 (arg29 : BitVec 32) (v272 : BitVec 32) (v292 : BitVec 32) : Fin 1 → Nat :=
  let v282 : BitVec 32 := Scalar.addi arg29 v272
  let v302 : BitVec 32 := Scalar.addi v282 v292
  let v320 : Index := Scalar.indexCast v302
  ![v320.toNat]

def k0_chk3 (arg29 : BitVec 32) (v272 : BitVec 32) (v292 : BitVec 32) : Prop :=
  (∀ a, (k0_off11 arg29 v272 v292) a + S1x6x128.size a ≤ S87x16x128.size a) ∧
  (∀ (hinb : ∀ a, (k0_off11 arg29 v272 v292) a + S1x6x128.size a ≤ S87x16x128.size a), (Rect.unit (s := S87x16x128) (k0_off11 arg29 v272 v292) S1x6x128.size hinb).PackedRows (EltTy.packing .bf16)) ∧
  (∀ a, (k0_off12 arg29 v272 v292) a + S1.size a ≤ S87.size a)
theorem k0_off11_inb : ∀ (arg29 : BitVec 32) (v272 : BitVec 32) (v292 : BitVec 32) (k0_hw3 : k0_chk3 arg29 v272 v292), ∀ a, (k0_off11 arg29 v272 v292) a + S1x6x128.size a ≤ S87x16x128.size a := fun arg29 v272 v292 k0_hw3 => k0_hw3.1
theorem k0_off11_packedbf16 : ∀ (arg29 : BitVec 32) (v272 : BitVec 32) (v292 : BitVec 32) (k0_hw3 : k0_chk3 arg29 v272 v292), (Rect.unit (s := S87x16x128) (k0_off11 arg29 v272 v292) S1x6x128.size (k0_off11_inb arg29 v272 v292 k0_hw3)).PackedRows (EltTy.packing .bf16) := fun arg29 v272 v292 k0_hw3 => k0_hw3.2.1 (k0_off11_inb arg29 v272 v292 k0_hw3)
theorem k0_off12_inb : ∀ (arg29 : BitVec 32) (v272 : BitVec 32) (v292 : BitVec 32) (k0_hw3 : k0_chk3 arg29 v272 v292), ∀ a, (k0_off12 arg29 v272 v292) a + S1.size a ≤ S87.size a := fun arg29 v272 v292 k0_hw3 => k0_hw3.2.2

def k0_off13 (arg29 : BitVec 32) (v272 : BitVec 32) (v292 : BitVec 32) (v312 : BitVec 32) : Fin 3 → Nat :=
  let v282 : BitVec 32 := Scalar.addi arg29 v272
  let v302 : BitVec 32 := Scalar.addi v282 v292
  let v322 : BitVec 32 := Scalar.addi v302 v312
  let v334 : Index := Scalar.indexCast v322
  let c0_162 : Index := 0#32
  let c0_163 : Index := 0#32
  ![v334.toNat, 0, 0]

def k0_off14 (arg29 : BitVec 32) (v272 : BitVec 32) (v292 : BitVec 32) (v312 : BitVec 32) : Fin 1 → Nat :=
  let v282 : BitVec 32 := Scalar.addi arg29 v272
  let v302 : BitVec 32 := Scalar.addi v282 v292
  let v322 : BitVec 32 := Scalar.addi v302 v312
  let v340 : Index := Scalar.indexCast v322
  ![v340.toNat]

def k0_chk4 (arg29 : BitVec 32) (v272 : BitVec 32) (v292 : BitVec 32) (v312 : BitVec 32) : Prop :=
  (∀ a, (k0_off13 arg29 v272 v292 v312) a + S1x6x128.size a ≤ S87x16x128.size a) ∧
  (∀ (hinb : ∀ a, (k0_off13 arg29 v272 v292 v312) a + S1x6x128.size a ≤ S87x16x128.size a), (Rect.unit (s := S87x16x128) (k0_off13 arg29 v272 v292 v312) S1x6x128.size hinb).PackedRows (EltTy.packing .bf16)) ∧
  (∀ a, (k0_off14 arg29 v272 v292 v312) a + S1.size a ≤ S87.size a)
theorem k0_off13_inb : ∀ (arg29 : BitVec 32) (v272 : BitVec 32) (v292 : BitVec 32) (v312 : BitVec 32) (k0_hw4 : k0_chk4 arg29 v272 v292 v312), ∀ a, (k0_off13 arg29 v272 v292 v312) a + S1x6x128.size a ≤ S87x16x128.size a := fun arg29 v272 v292 v312 k0_hw4 => k0_hw4.1
theorem k0_off13_packedbf16 : ∀ (arg29 : BitVec 32) (v272 : BitVec 32) (v292 : BitVec 32) (v312 : BitVec 32) (k0_hw4 : k0_chk4 arg29 v272 v292 v312), (Rect.unit (s := S87x16x128) (k0_off13 arg29 v272 v292 v312) S1x6x128.size (k0_off13_inb arg29 v272 v292 v312 k0_hw4)).PackedRows (EltTy.packing .bf16) := fun arg29 v272 v292 v312 k0_hw4 => k0_hw4.2.1 (k0_off13_inb arg29 v272 v292 v312 k0_hw4)
theorem k0_off14_inb : ∀ (arg29 : BitVec 32) (v272 : BitVec 32) (v292 : BitVec 32) (v312 : BitVec 32) (k0_hw4 : k0_chk4 arg29 v272 v292 v312), ∀ a, (k0_off14 arg29 v272 v292 v312) a + S1.size a ≤ S87.size a := fun arg29 v272 v292 v312 k0_hw4 => k0_hw4.2.2

def k0_cond1 (k0_t1 : Fin k0_t1_loop.trips) : BitVec 1 :=
  let c0_i32_64 : BitVec 32 := 0#32
  let c1_i32_65 : BitVec 32 := 1#32
  let arg28 : BitVec 32 := Scf.iv c0_i32_64 c1_i32_65 k0_t1
  let c5_i32_166 : BitVec 32 := 5#32
  let v343 : BitVec 32 := Scalar.addi arg28 c5_i32_166
  let c21_i32_167 : BitVec 32 := 21#32
  let v344 : BitVec 1 := Scalar.cmpi .slt v343 c21_i32_167
  let v345 : BitVec 32 := Scalar.extui v344
  let c0_i32_168 : BitVec 32 := 0#32
  let v346 : BitVec 1 := Scalar.cmpi .ne v345 c0_i32_168
  v346

def k0_mult8 (k0_t1 : Fin k0_t1_loop.trips) : BitVec 32 :=
  let c0_i32_64 : BitVec 32 := 0#32
  let c1_i32_65 : BitVec 32 := 1#32
  let arg28 : BitVec 32 := Scf.iv c0_i32_64 c1_i32_65 k0_t1
  let c5_i32_166 : BitVec 32 := 5#32
  let v343 : BitVec 32 := Scalar.addi arg28 c5_i32_166
  let c512_i32_178 : BitVec 32 := 512#32
  let v361 : BitVec 32 := Scalar.muli v343 c512_i32_178
  v361
def k0_off15 (k0_t1 : Fin k0_t1_loop.trips) : Fin 1 → Nat :=
  let c0_i32_64 : BitVec 32 := 0#32
  let c1_i32_65 : BitVec 32 := 1#32
  let arg28 : BitVec 32 := Scf.iv c0_i32_64 c1_i32_65 k0_t1
  let c5_i32 : BitVec 32 := 5#32
  let v230 : BitVec 32 := Scalar.remsi arg28 c5_i32
  ![v230.toNat]
def k0_off16 (k0_t1 : Fin k0_t1_loop.trips) : Fin 3 → Nat :=
  let c0_i32_64 : BitVec 32 := 0#32
  let c1_i32_65 : BitVec 32 := 1#32
  let arg28 : BitVec 32 := Scf.iv c0_i32_64 c1_i32_65 k0_t1
  let c5_i32 : BitVec 32 := 5#32
  let v230 : BitVec 32 := Scalar.remsi arg28 c5_i32
  let c0_i32_179 : BitVec 32 := 0#32
  let c0_i32_180 : BitVec 32 := 0#32
  ![v230.toNat, 0, 0]
def k0_off17 (k0_t1 : Fin k0_t1_loop.trips) : Fin 2 → Nat :=
  let c0_i32_181 : BitVec 32 := 0#32
  let c0_i32_64 : BitVec 32 := 0#32
  let c1_i32_65 : BitVec 32 := 1#32
  let arg28 : BitVec 32 := Scf.iv c0_i32_64 c1_i32_65 k0_t1
  let c5_i32_166 : BitVec 32 := 5#32
  let v343 : BitVec 32 := Scalar.addi arg28 c5_i32_166
  let c512_i32_178 : BitVec 32 := 512#32
  let v361 : BitVec 32 := Scalar.muli v343 c512_i32_178
  let v362 : BitVec 32 := v361
  ![0, v362.toNat]
@[reducible] def k0_t2_loop (k0_t1 : Fin k0_t1_loop.trips) (arg29 : BitVec 32) (arg30 : BitVec 32) (v272 : BitVec 32) (v292 : BitVec 32) (v312 : BitVec 32) (v332 : BitVec 32) : Scf.Loop 32 :=
  let c0_i32_64 : BitVec 32 := 0#32
  let c1_i32_65 : BitVec 32 := 1#32
  let arg28 : BitVec 32 := Scf.iv c0_i32_64 c1_i32_65 k0_t1
  let c5_i32_166 : BitVec 32 := 5#32
  let v343 : BitVec 32 := Scalar.addi arg28 c5_i32_166
  let c21_i32_171 : BitVec 32 := 21#32
  let v350 : BitVec 1 := Scalar.cmpi .sgt v343 c21_i32_171
  let v282 : BitVec 32 := Scalar.addi arg29 v272
  let v302 : BitVec 32 := Scalar.addi v282 v292
  let v322 : BitVec 32 := Scalar.addi v302 v312
  let v342 : BitVec 32 := Scalar.addi v322 v332
  let c16_i32_172 : BitVec 32 := 16#32
  let v351 : BitVec 32 := Scalar.minsi v342 c16_i32_172
  let c0_i32_173 : BitVec 32 := 0#32
  let v352 : BitVec 32 := Scalar.select v350 v351 c0_i32_173
  let v353 : BitVec 32 := Scalar.maxsi arg30 v352
  let v354 : BitVec 32 := Scalar.subi v353 arg30
  let c1_i32_175 : BitVec 32 := 1#32
  let v356 : BitVec 32 := Scalar.divsi v354 c1_i32_175
  let v357 : BitVec 32 := Scalar.muli v356 c1_i32_175
  let v358 : BitVec 32 := Scalar.addi arg30 v357
  let c1_i32_176 : BitVec 32 := 1#32
  ⟨arg30, v358, c1_i32_176⟩

def k0_off18 (k0_t1 : Fin k0_t1_loop.trips) (arg29 : BitVec 32) (arg30 : BitVec 32) (v272 : BitVec 32) (v292 : BitVec 32) (v312 : BitVec 32) (v332 : BitVec 32) (k0_t2 : Fin (k0_t2_loop k0_t1 arg29 arg30 v272 v292 v312 v332).trips) : Fin 1 → Nat :=
  let c1_i32_176 : BitVec 32 := 1#32
  let arg31 : BitVec 32 := Scf.iv arg30 c1_i32_176 k0_t2
  let v361 : Index := Scalar.indexCast arg31
  ![v361.toNat]
def k0_mult9 (v362 : BitVec 32) : BitVec 32 :=
  let c128_i32 : BitVec 32 := 128#32
  let v364 : BitVec 32 := Scalar.muli v362 c128_i32
  v364

def k0_mult10 (k0_t1 : Fin k0_t1_loop.trips) (arg29 : BitVec 32) (arg30 : BitVec 32) (v272 : BitVec 32) (v292 : BitVec 32) (v312 : BitVec 32) (v332 : BitVec 32) (k0_t2 : Fin (k0_t2_loop k0_t1 arg29 arg30 v272 v292 v312 v332).trips) : BitVec 32 :=
  let c1_i32_176 : BitVec 32 := 1#32
  let arg31 : BitVec 32 := Scf.iv arg30 c1_i32_176 k0_t2
  let c16_i32_178 : BitVec 32 := 16#32
  let v363 : BitVec 32 := Scalar.remsi arg31 c16_i32_178
  let c1_i32_180 : BitVec 32 := 1#32
  let v367 : BitVec 32 := Scalar.andi v363 c1_i32_180
  let c128_i32_181 : BitVec 32 := 128#32
  let v368 : BitVec 32 := Scalar.muli v367 c128_i32_181
  v368
def k0_off19 (k0_t1 : Fin k0_t1_loop.trips) (arg29 : BitVec 32) (arg30 : BitVec 32) (v272 : BitVec 32) (v292 : BitVec 32) (v312 : BitVec 32) (v332 : BitVec 32) (k0_t2 : Fin (k0_t2_loop k0_t1 arg29 arg30 v272 v292 v312 v332).trips) : Fin 1 → Nat :=
  let c1_i32_176 : BitVec 32 := 1#32
  let arg31 : BitVec 32 := Scf.iv arg30 c1_i32_176 k0_t2
  let c16_i32_178 : BitVec 32 := 16#32
  let v363 : BitVec 32 := Scalar.remsi arg31 c16_i32_178
  ![v363.toNat]
def k0_off20 (k0_t1 : Fin k0_t1_loop.trips) (arg29 : BitVec 32) (arg30 : BitVec 32) (v272 : BitVec 32) (v292 : BitVec 32) (v312 : BitVec 32) (v332 : BitVec 32) (k0_t2 : Fin (k0_t2_loop k0_t1 arg29 arg30 v272 v292 v312 v332).trips) : Fin 3 → Nat :=
  let c1_i32_176 : BitVec 32 := 1#32
  let arg31 : BitVec 32 := Scf.iv arg30 c1_i32_176 k0_t2
  let c16_i32_178 : BitVec 32 := 16#32
  let v363 : BitVec 32 := Scalar.remsi arg31 c16_i32_178
  let c1_i32_179 : BitVec 32 := 1#32
  let v366 : BitVec 32 := Scalar.shrsi v363 c1_i32_179
  let c1_i32_180 : BitVec 32 := 1#32
  let v367 : BitVec 32 := Scalar.andi v363 c1_i32_180
  let c128_i32_181 : BitVec 32 := 128#32
  let v368 : BitVec 32 := Scalar.muli v367 c128_i32_181
  let v369 : BitVec 32 := v368
  let c0_i32_182 : BitVec 32 := 0#32
  ![v366.toNat, v369.toNat, 0]
def k0_off21 (v362 : BitVec 32) : Fin 2 → Nat :=
  let c128_i32 : BitVec 32 := 128#32
  let v364 : BitVec 32 := Scalar.muli v362 c128_i32
  let v365 : BitVec 32 := v364
  let c0_i32_183 : BitVec 32 := 0#32
  ![v365.toNat, 0]

def k0_chk6 (v362 : BitVec 32) : Prop :=
  (128 ∣ (k0_mult9 v362).toNat) ∧
  (∀ a, (k0_off21 v362) a + S128x4096.size a ≤ S11008x4096.size a) ∧
  (∀ (hinb : ∀ a, (k0_off21 v362) a + S128x4096.size a ≤ S11008x4096.size a), (Rect.unit (s := S11008x4096) (k0_off21 v362) S128x4096.size hinb).WholeWords (EltTy.packing .i8))
theorem k0_mult9_dvd : ∀ (v362 : BitVec 32) (k0_hw6 : k0_chk6 v362), 128 ∣ (k0_mult9 v362).toNat := fun v362 k0_hw6 => k0_hw6.1
theorem k0_off21_inb : ∀ (v362 : BitVec 32) (k0_hw6 : k0_chk6 v362), ∀ a, (k0_off21 v362) a + S128x4096.size a ≤ S11008x4096.size a := fun v362 k0_hw6 => k0_hw6.2.1
theorem k0_off21_wordsi8 : ∀ (v362 : BitVec 32) (k0_hw6 : k0_chk6 v362), (Rect.unit (s := S11008x4096) (k0_off21 v362) S128x4096.size (k0_off21_inb v362 k0_hw6)).WholeWords (EltTy.packing .i8) := fun v362 k0_hw6 => k0_hw6.2.2 (k0_off21_inb v362 k0_hw6)

@[reducible] def k0_t3_loop (k0_t1 : Fin k0_t1_loop.trips) (arg29 : BitVec 32) (arg30 : BitVec 32) (v272 : BitVec 32) (v292 : BitVec 32) (v312 : BitVec 32) (v332 : BitVec 32) : Scf.Loop 32 :=
  let c0_i32_64 : BitVec 32 := 0#32
  let c1_i32_65 : BitVec 32 := 1#32
  let arg28 : BitVec 32 := Scf.iv c0_i32_64 c1_i32_65 k0_t1
  let c5_i32_166 : BitVec 32 := 5#32
  let v343 : BitVec 32 := Scalar.addi arg28 c5_i32_166
  let c21_i32_171 : BitVec 32 := 21#32
  let v350 : BitVec 1 := Scalar.cmpi .sgt v343 c21_i32_171
  let v282 : BitVec 32 := Scalar.addi arg29 v272
  let v302 : BitVec 32 := Scalar.addi v282 v292
  let v322 : BitVec 32 := Scalar.addi v302 v312
  let v342 : BitVec 32 := Scalar.addi v322 v332
  let c16_i32_172 : BitVec 32 := 16#32
  let v351 : BitVec 32 := Scalar.minsi v342 c16_i32_172
  let c0_i32_173 : BitVec 32 := 0#32
  let v352 : BitVec 32 := Scalar.select v350 v351 c0_i32_173
  let v353 : BitVec 32 := Scalar.maxsi arg30 v352
  let v354 : BitVec 32 := Scalar.subi v353 arg30
  let c1_i32_175 : BitVec 32 := 1#32
  let v356 : BitVec 32 := Scalar.divsi v354 c1_i32_175
  let v357 : BitVec 32 := Scalar.muli v356 c1_i32_175
  let v358 : BitVec 32 := Scalar.addi arg30 v357
  let v355 : BitVec 32 := Scalar.addi arg30 v354
  let c1_i32_177 : BitVec 32 := 1#32
  ⟨v358, v355, c1_i32_177⟩
def k0_off22 (k0_t1 : Fin k0_t1_loop.trips) (arg29 : BitVec 32) (arg30 : BitVec 32) (v272 : BitVec 32) (v292 : BitVec 32) (v312 : BitVec 32) (v332 : BitVec 32) (k0_t3 : Fin (k0_t3_loop k0_t1 arg29 arg30 v272 v292 v312 v332).trips) : Fin 1 → Nat :=
  let c0_i32_64 : BitVec 32 := 0#32
  let c1_i32_65 : BitVec 32 := 1#32
  let arg28 : BitVec 32 := Scf.iv c0_i32_64 c1_i32_65 k0_t1
  let c5_i32_166 : BitVec 32 := 5#32
  let v343 : BitVec 32 := Scalar.addi arg28 c5_i32_166
  let c21_i32_171 : BitVec 32 := 21#32
  let v350 : BitVec 1 := Scalar.cmpi .sgt v343 c21_i32_171
  let v282 : BitVec 32 := Scalar.addi arg29 v272
  let v302 : BitVec 32 := Scalar.addi v282 v292
  let v322 : BitVec 32 := Scalar.addi v302 v312
  let v342 : BitVec 32 := Scalar.addi v322 v332
  let c16_i32_172 : BitVec 32 := 16#32
  let v351 : BitVec 32 := Scalar.minsi v342 c16_i32_172
  let c0_i32_173 : BitVec 32 := 0#32
  let v352 : BitVec 32 := Scalar.select v350 v351 c0_i32_173
  let v353 : BitVec 32 := Scalar.maxsi arg30 v352
  let v354 : BitVec 32 := Scalar.subi v353 arg30
  let c1_i32_175 : BitVec 32 := 1#32
  let v356 : BitVec 32 := Scalar.divsi v354 c1_i32_175
  let v357 : BitVec 32 := Scalar.muli v356 c1_i32_175
  let v358 : BitVec 32 := Scalar.addi arg30 v357
  let c1_i32_177 : BitVec 32 := 1#32
  let arg31 : BitVec 32 := Scf.iv v358 c1_i32_177 k0_t3
  let v361 : Index := Scalar.indexCast arg31
  ![v361.toNat]
def k0_mult11 (v362 : BitVec 32) : BitVec 32 :=
  let c128_i32 : BitVec 32 := 128#32
  let v364 : BitVec 32 := Scalar.muli v362 c128_i32
  v364

def k0_mult12 (k0_t1 : Fin k0_t1_loop.trips) (arg29 : BitVec 32) (arg30 : BitVec 32) (v272 : BitVec 32) (v292 : BitVec 32) (v312 : BitVec 32) (v332 : BitVec 32) (k0_t3 : Fin (k0_t3_loop k0_t1 arg29 arg30 v272 v292 v312 v332).trips) : BitVec 32 :=
  let c0_i32_64 : BitVec 32 := 0#32
  let c1_i32_65 : BitVec 32 := 1#32
  let arg28 : BitVec 32 := Scf.iv c0_i32_64 c1_i32_65 k0_t1
  let c5_i32_166 : BitVec 32 := 5#32
  let v343 : BitVec 32 := Scalar.addi arg28 c5_i32_166
  let c21_i32_171 : BitVec 32 := 21#32
  let v350 : BitVec 1 := Scalar.cmpi .sgt v343 c21_i32_171
  let v282 : BitVec 32 := Scalar.addi arg29 v272
  let v302 : BitVec 32 := Scalar.addi v282 v292
  let v322 : BitVec 32 := Scalar.addi v302 v312
  let v342 : BitVec 32 := Scalar.addi v322 v332
  let c16_i32_172 : BitVec 32 := 16#32
  let v351 : BitVec 32 := Scalar.minsi v342 c16_i32_172
  let c0_i32_173 : BitVec 32 := 0#32
  let v352 : BitVec 32 := Scalar.select v350 v351 c0_i32_173
  let v353 : BitVec 32 := Scalar.maxsi arg30 v352
  let v354 : BitVec 32 := Scalar.subi v353 arg30
  let c1_i32_175 : BitVec 32 := 1#32
  let v356 : BitVec 32 := Scalar.divsi v354 c1_i32_175
  let v357 : BitVec 32 := Scalar.muli v356 c1_i32_175
  let v358 : BitVec 32 := Scalar.addi arg30 v357
  let c1_i32_177 : BitVec 32 := 1#32
  let arg31 : BitVec 32 := Scf.iv v358 c1_i32_177 k0_t3
  let c16_i32_178 : BitVec 32 := 16#32
  let v363 : BitVec 32 := Scalar.remsi arg31 c16_i32_178
  let c1_i32_180 : BitVec 32 := 1#32
  let v367 : BitVec 32 := Scalar.andi v363 c1_i32_180
  let c128_i32_181 : BitVec 32 := 128#32
  let v368 : BitVec 32 := Scalar.muli v367 c128_i32_181
  v368
def k0_off23 (k0_t1 : Fin k0_t1_loop.trips) (arg29 : BitVec 32) (arg30 : BitVec 32) (v272 : BitVec 32) (v292 : BitVec 32) (v312 : BitVec 32) (v332 : BitVec 32) (k0_t3 : Fin (k0_t3_loop k0_t1 arg29 arg30 v272 v292 v312 v332).trips) : Fin 1 → Nat :=
  let c0_i32_64 : BitVec 32 := 0#32
  let c1_i32_65 : BitVec 32 := 1#32
  let arg28 : BitVec 32 := Scf.iv c0_i32_64 c1_i32_65 k0_t1
  let c5_i32_166 : BitVec 32 := 5#32
  let v343 : BitVec 32 := Scalar.addi arg28 c5_i32_166
  let c21_i32_171 : BitVec 32 := 21#32
  let v350 : BitVec 1 := Scalar.cmpi .sgt v343 c21_i32_171
  let v282 : BitVec 32 := Scalar.addi arg29 v272
  let v302 : BitVec 32 := Scalar.addi v282 v292
  let v322 : BitVec 32 := Scalar.addi v302 v312
  let v342 : BitVec 32 := Scalar.addi v322 v332
  let c16_i32_172 : BitVec 32 := 16#32
  let v351 : BitVec 32 := Scalar.minsi v342 c16_i32_172
  let c0_i32_173 : BitVec 32 := 0#32
  let v352 : BitVec 32 := Scalar.select v350 v351 c0_i32_173
  let v353 : BitVec 32 := Scalar.maxsi arg30 v352
  let v354 : BitVec 32 := Scalar.subi v353 arg30
  let c1_i32_175 : BitVec 32 := 1#32
  let v356 : BitVec 32 := Scalar.divsi v354 c1_i32_175
  let v357 : BitVec 32 := Scalar.muli v356 c1_i32_175
  let v358 : BitVec 32 := Scalar.addi arg30 v357
  let c1_i32_177 : BitVec 32 := 1#32
  let arg31 : BitVec 32 := Scf.iv v358 c1_i32_177 k0_t3
  let c16_i32_178 : BitVec 32 := 16#32
  let v363 : BitVec 32 := Scalar.remsi arg31 c16_i32_178
  ![v363.toNat]
def k0_off24 (k0_t1 : Fin k0_t1_loop.trips) (arg29 : BitVec 32) (arg30 : BitVec 32) (v272 : BitVec 32) (v292 : BitVec 32) (v312 : BitVec 32) (v332 : BitVec 32) (k0_t3 : Fin (k0_t3_loop k0_t1 arg29 arg30 v272 v292 v312 v332).trips) : Fin 3 → Nat :=
  let c0_i32_64 : BitVec 32 := 0#32
  let c1_i32_65 : BitVec 32 := 1#32
  let arg28 : BitVec 32 := Scf.iv c0_i32_64 c1_i32_65 k0_t1
  let c5_i32_166 : BitVec 32 := 5#32
  let v343 : BitVec 32 := Scalar.addi arg28 c5_i32_166
  let c21_i32_171 : BitVec 32 := 21#32
  let v350 : BitVec 1 := Scalar.cmpi .sgt v343 c21_i32_171
  let v282 : BitVec 32 := Scalar.addi arg29 v272
  let v302 : BitVec 32 := Scalar.addi v282 v292
  let v322 : BitVec 32 := Scalar.addi v302 v312
  let v342 : BitVec 32 := Scalar.addi v322 v332
  let c16_i32_172 : BitVec 32 := 16#32
  let v351 : BitVec 32 := Scalar.minsi v342 c16_i32_172
  let c0_i32_173 : BitVec 32 := 0#32
  let v352 : BitVec 32 := Scalar.select v350 v351 c0_i32_173
  let v353 : BitVec 32 := Scalar.maxsi arg30 v352
  let v354 : BitVec 32 := Scalar.subi v353 arg30
  let c1_i32_175 : BitVec 32 := 1#32
  let v356 : BitVec 32 := Scalar.divsi v354 c1_i32_175
  let v357 : BitVec 32 := Scalar.muli v356 c1_i32_175
  let v358 : BitVec 32 := Scalar.addi arg30 v357
  let c1_i32_177 : BitVec 32 := 1#32
  let arg31 : BitVec 32 := Scf.iv v358 c1_i32_177 k0_t3
  let c16_i32_178 : BitVec 32 := 16#32
  let v363 : BitVec 32 := Scalar.remsi arg31 c16_i32_178
  let c1_i32_179 : BitVec 32 := 1#32
  let v366 : BitVec 32 := Scalar.shrsi v363 c1_i32_179
  let c1_i32_180 : BitVec 32 := 1#32
  let v367 : BitVec 32 := Scalar.andi v363 c1_i32_180
  let c128_i32_181 : BitVec 32 := 128#32
  let v368 : BitVec 32 := Scalar.muli v367 c128_i32_181
  let v369 : BitVec 32 := v368
  let c0_i32_182 : BitVec 32 := 0#32
  ![v366.toNat, v369.toNat, 0]
def k0_off25 (v362 : BitVec 32) : Fin 2 → Nat :=
  let c128_i32 : BitVec 32 := 128#32
  let v364 : BitVec 32 := Scalar.muli v362 c128_i32
  let v365 : BitVec 32 := v364
  let c0_i32_183 : BitVec 32 := 0#32
  ![v365.toNat, 0]

def k0_chk7 (v362 : BitVec 32) : Prop :=
  (128 ∣ (k0_mult11 v362).toNat) ∧
  (∀ a, (k0_off25 v362) a + S128x4096.size a ≤ S11008x4096.size a) ∧
  (∀ (hinb : ∀ a, (k0_off25 v362) a + S128x4096.size a ≤ S11008x4096.size a), (Rect.unit (s := S11008x4096) (k0_off25 v362) S128x4096.size hinb).WholeWords (EltTy.packing .i8))
theorem k0_mult11_dvd : ∀ (v362 : BitVec 32) (k0_hw7 : k0_chk7 v362), 128 ∣ (k0_mult11 v362).toNat := fun v362 k0_hw7 => k0_hw7.1
theorem k0_off25_inb : ∀ (v362 : BitVec 32) (k0_hw7 : k0_chk7 v362), ∀ a, (k0_off25 v362) a + S128x4096.size a ≤ S11008x4096.size a := fun v362 k0_hw7 => k0_hw7.2.1
theorem k0_off25_wordsi8 : ∀ (v362 : BitVec 32) (k0_hw7 : k0_chk7 v362), (Rect.unit (s := S11008x4096) (k0_off25 v362) S128x4096.size (k0_off25_inb v362 k0_hw7)).WholeWords (EltTy.packing .i8) := fun v362 k0_hw7 => k0_hw7.2.2 (k0_off25_inb v362 k0_hw7)

def k0_chk5 (k0_t1 : Fin k0_t1_loop.trips) (arg29 : BitVec 32) (arg30 : BitVec 32) (v272 : BitVec 32) (v292 : BitVec 32) (v312 : BitVec 32) (v332 : BitVec 32) : Prop :=
  ((k0_t2_loop k0_t1 arg29 arg30 v272 v292 v312 v332).OK) ∧
  (∀ k0_t2 : Fin (k0_t2_loop k0_t1 arg29 arg30 v272 v292 v312 v332).trips, ∀ a, (k0_off18 k0_t1 arg29 arg30 v272 v292 v312 v332 k0_t2) a + S1.size a ≤ S87.size a) ∧
  (∀ k0_t2 : Fin (k0_t2_loop k0_t1 arg29 arg30 v272 v292 v312 v332).trips, 128 ∣ (k0_mult10 k0_t1 arg29 arg30 v272 v292 v312 v332 k0_t2).toNat) ∧
  (∀ k0_t2 : Fin (k0_t2_loop k0_t1 arg29 arg30 v272 v292 v312 v332).trips, ∀ a, (k0_off19 k0_t1 arg29 arg30 v272 v292 v312 v332 k0_t2) a + S1.size a ≤ S16.size a) ∧
  (∀ k0_t2 : Fin (k0_t2_loop k0_t1 arg29 arg30 v272 v292 v312 v332).trips, ∀ a, (k0_off20 k0_t1 arg29 arg30 v272 v292 v312 v332 k0_t2) a + S1x128x4096.size a ≤ S8x256x4096.size a) ∧
  (∀ k0_t2 : Fin (k0_t2_loop k0_t1 arg29 arg30 v272 v292 v312 v332).trips, ∀ (hinb : ∀ a, (k0_off20 k0_t1 arg29 arg30 v272 v292 v312 v332 k0_t2) a + S1x128x4096.size a ≤ S8x256x4096.size a), (Rect.unit (s := S8x256x4096) (k0_off20 k0_t1 arg29 arg30 v272 v292 v312 v332 k0_t2) S1x128x4096.size hinb).WholeWords (EltTy.packing .i8)) ∧
  ((k0_t3_loop k0_t1 arg29 arg30 v272 v292 v312 v332).OK) ∧
  (∀ k0_t3 : Fin (k0_t3_loop k0_t1 arg29 arg30 v272 v292 v312 v332).trips, ∀ a, (k0_off22 k0_t1 arg29 arg30 v272 v292 v312 v332 k0_t3) a + S1.size a ≤ S87.size a) ∧
  (∀ k0_t3 : Fin (k0_t3_loop k0_t1 arg29 arg30 v272 v292 v312 v332).trips, 128 ∣ (k0_mult12 k0_t1 arg29 arg30 v272 v292 v312 v332 k0_t3).toNat) ∧
  (∀ k0_t3 : Fin (k0_t3_loop k0_t1 arg29 arg30 v272 v292 v312 v332).trips, ∀ a, (k0_off23 k0_t1 arg29 arg30 v272 v292 v312 v332 k0_t3) a + S1.size a ≤ S16.size a) ∧
  (∀ k0_t3 : Fin (k0_t3_loop k0_t1 arg29 arg30 v272 v292 v312 v332).trips, ∀ a, (k0_off24 k0_t1 arg29 arg30 v272 v292 v312 v332 k0_t3) a + S1x128x4096.size a ≤ S8x256x4096.size a) ∧
  (∀ k0_t3 : Fin (k0_t3_loop k0_t1 arg29 arg30 v272 v292 v312 v332).trips, ∀ (hinb : ∀ a, (k0_off24 k0_t1 arg29 arg30 v272 v292 v312 v332 k0_t3) a + S1x128x4096.size a ≤ S8x256x4096.size a), (Rect.unit (s := S8x256x4096) (k0_off24 k0_t1 arg29 arg30 v272 v292 v312 v332 k0_t3) S1x128x4096.size hinb).WholeWords (EltTy.packing .i8))
theorem k0_t2_ok : ∀ (k0_t1 : Fin k0_t1_loop.trips) (arg29 : BitVec 32) (arg30 : BitVec 32) (v272 : BitVec 32) (v292 : BitVec 32) (v312 : BitVec 32) (v332 : BitVec 32) (k0_hw5 : k0_chk5 k0_t1 arg29 arg30 v272 v292 v312 v332), (k0_t2_loop k0_t1 arg29 arg30 v272 v292 v312 v332).OK := fun k0_t1 arg29 arg30 v272 v292 v312 v332 k0_hw5 => k0_hw5.1
theorem k0_off18_inb : ∀ (k0_t1 : Fin k0_t1_loop.trips) (arg29 : BitVec 32) (arg30 : BitVec 32) (v272 : BitVec 32) (v292 : BitVec 32) (v312 : BitVec 32) (v332 : BitVec 32) (k0_hw5 : k0_chk5 k0_t1 arg29 arg30 v272 v292 v312 v332) (k0_t2 : Fin (k0_t2_loop k0_t1 arg29 arg30 v272 v292 v312 v332).trips), ∀ a, (k0_off18 k0_t1 arg29 arg30 v272 v292 v312 v332 k0_t2) a + S1.size a ≤ S87.size a := fun k0_t1 arg29 arg30 v272 v292 v312 v332 k0_hw5 k0_t2 => k0_hw5.2.1 k0_t2
theorem k0_mult10_dvd : ∀ (k0_t1 : Fin k0_t1_loop.trips) (arg29 : BitVec 32) (arg30 : BitVec 32) (v272 : BitVec 32) (v292 : BitVec 32) (v312 : BitVec 32) (v332 : BitVec 32) (k0_hw5 : k0_chk5 k0_t1 arg29 arg30 v272 v292 v312 v332) (k0_t2 : Fin (k0_t2_loop k0_t1 arg29 arg30 v272 v292 v312 v332).trips), 128 ∣ (k0_mult10 k0_t1 arg29 arg30 v272 v292 v312 v332 k0_t2).toNat := fun k0_t1 arg29 arg30 v272 v292 v312 v332 k0_hw5 k0_t2 => k0_hw5.2.2.1 k0_t2
theorem k0_off19_inb : ∀ (k0_t1 : Fin k0_t1_loop.trips) (arg29 : BitVec 32) (arg30 : BitVec 32) (v272 : BitVec 32) (v292 : BitVec 32) (v312 : BitVec 32) (v332 : BitVec 32) (k0_hw5 : k0_chk5 k0_t1 arg29 arg30 v272 v292 v312 v332) (k0_t2 : Fin (k0_t2_loop k0_t1 arg29 arg30 v272 v292 v312 v332).trips), ∀ a, (k0_off19 k0_t1 arg29 arg30 v272 v292 v312 v332 k0_t2) a + S1.size a ≤ S16.size a := fun k0_t1 arg29 arg30 v272 v292 v312 v332 k0_hw5 k0_t2 => k0_hw5.2.2.2.1 k0_t2
theorem k0_off20_inb : ∀ (k0_t1 : Fin k0_t1_loop.trips) (arg29 : BitVec 32) (arg30 : BitVec 32) (v272 : BitVec 32) (v292 : BitVec 32) (v312 : BitVec 32) (v332 : BitVec 32) (k0_hw5 : k0_chk5 k0_t1 arg29 arg30 v272 v292 v312 v332) (k0_t2 : Fin (k0_t2_loop k0_t1 arg29 arg30 v272 v292 v312 v332).trips), ∀ a, (k0_off20 k0_t1 arg29 arg30 v272 v292 v312 v332 k0_t2) a + S1x128x4096.size a ≤ S8x256x4096.size a := fun k0_t1 arg29 arg30 v272 v292 v312 v332 k0_hw5 k0_t2 => k0_hw5.2.2.2.2.1 k0_t2
theorem k0_off20_wordsi8 : ∀ (k0_t1 : Fin k0_t1_loop.trips) (arg29 : BitVec 32) (arg30 : BitVec 32) (v272 : BitVec 32) (v292 : BitVec 32) (v312 : BitVec 32) (v332 : BitVec 32) (k0_hw5 : k0_chk5 k0_t1 arg29 arg30 v272 v292 v312 v332) (k0_t2 : Fin (k0_t2_loop k0_t1 arg29 arg30 v272 v292 v312 v332).trips), (Rect.unit (s := S8x256x4096) (k0_off20 k0_t1 arg29 arg30 v272 v292 v312 v332 k0_t2) S1x128x4096.size (k0_off20_inb k0_t1 arg29 arg30 v272 v292 v312 v332 k0_hw5 k0_t2)).WholeWords (EltTy.packing .i8) := fun k0_t1 arg29 arg30 v272 v292 v312 v332 k0_hw5 k0_t2 => k0_hw5.2.2.2.2.2.1 k0_t2 (k0_off20_inb k0_t1 arg29 arg30 v272 v292 v312 v332 k0_hw5 k0_t2)
theorem k0_t3_ok : ∀ (k0_t1 : Fin k0_t1_loop.trips) (arg29 : BitVec 32) (arg30 : BitVec 32) (v272 : BitVec 32) (v292 : BitVec 32) (v312 : BitVec 32) (v332 : BitVec 32) (k0_hw5 : k0_chk5 k0_t1 arg29 arg30 v272 v292 v312 v332), (k0_t3_loop k0_t1 arg29 arg30 v272 v292 v312 v332).OK := fun k0_t1 arg29 arg30 v272 v292 v312 v332 k0_hw5 => k0_hw5.2.2.2.2.2.2.1
theorem k0_off22_inb : ∀ (k0_t1 : Fin k0_t1_loop.trips) (arg29 : BitVec 32) (arg30 : BitVec 32) (v272 : BitVec 32) (v292 : BitVec 32) (v312 : BitVec 32) (v332 : BitVec 32) (k0_hw5 : k0_chk5 k0_t1 arg29 arg30 v272 v292 v312 v332) (k0_t3 : Fin (k0_t3_loop k0_t1 arg29 arg30 v272 v292 v312 v332).trips), ∀ a, (k0_off22 k0_t1 arg29 arg30 v272 v292 v312 v332 k0_t3) a + S1.size a ≤ S87.size a := fun k0_t1 arg29 arg30 v272 v292 v312 v332 k0_hw5 k0_t3 => k0_hw5.2.2.2.2.2.2.2.1 k0_t3
theorem k0_mult12_dvd : ∀ (k0_t1 : Fin k0_t1_loop.trips) (arg29 : BitVec 32) (arg30 : BitVec 32) (v272 : BitVec 32) (v292 : BitVec 32) (v312 : BitVec 32) (v332 : BitVec 32) (k0_hw5 : k0_chk5 k0_t1 arg29 arg30 v272 v292 v312 v332) (k0_t3 : Fin (k0_t3_loop k0_t1 arg29 arg30 v272 v292 v312 v332).trips), 128 ∣ (k0_mult12 k0_t1 arg29 arg30 v272 v292 v312 v332 k0_t3).toNat := fun k0_t1 arg29 arg30 v272 v292 v312 v332 k0_hw5 k0_t3 => k0_hw5.2.2.2.2.2.2.2.2.1 k0_t3
theorem k0_off23_inb : ∀ (k0_t1 : Fin k0_t1_loop.trips) (arg29 : BitVec 32) (arg30 : BitVec 32) (v272 : BitVec 32) (v292 : BitVec 32) (v312 : BitVec 32) (v332 : BitVec 32) (k0_hw5 : k0_chk5 k0_t1 arg29 arg30 v272 v292 v312 v332) (k0_t3 : Fin (k0_t3_loop k0_t1 arg29 arg30 v272 v292 v312 v332).trips), ∀ a, (k0_off23 k0_t1 arg29 arg30 v272 v292 v312 v332 k0_t3) a + S1.size a ≤ S16.size a := fun k0_t1 arg29 arg30 v272 v292 v312 v332 k0_hw5 k0_t3 => k0_hw5.2.2.2.2.2.2.2.2.2.1 k0_t3
theorem k0_off24_inb : ∀ (k0_t1 : Fin k0_t1_loop.trips) (arg29 : BitVec 32) (arg30 : BitVec 32) (v272 : BitVec 32) (v292 : BitVec 32) (v312 : BitVec 32) (v332 : BitVec 32) (k0_hw5 : k0_chk5 k0_t1 arg29 arg30 v272 v292 v312 v332) (k0_t3 : Fin (k0_t3_loop k0_t1 arg29 arg30 v272 v292 v312 v332).trips), ∀ a, (k0_off24 k0_t1 arg29 arg30 v272 v292 v312 v332 k0_t3) a + S1x128x4096.size a ≤ S8x256x4096.size a := fun k0_t1 arg29 arg30 v272 v292 v312 v332 k0_hw5 k0_t3 => k0_hw5.2.2.2.2.2.2.2.2.2.2.1 k0_t3
theorem k0_off24_wordsi8 : ∀ (k0_t1 : Fin k0_t1_loop.trips) (arg29 : BitVec 32) (arg30 : BitVec 32) (v272 : BitVec 32) (v292 : BitVec 32) (v312 : BitVec 32) (v332 : BitVec 32) (k0_hw5 : k0_chk5 k0_t1 arg29 arg30 v272 v292 v312 v332) (k0_t3 : Fin (k0_t3_loop k0_t1 arg29 arg30 v272 v292 v312 v332).trips), (Rect.unit (s := S8x256x4096) (k0_off24 k0_t1 arg29 arg30 v272 v292 v312 v332 k0_t3) S1x128x4096.size (k0_off24_inb k0_t1 arg29 arg30 v272 v292 v312 v332 k0_hw5 k0_t3)).WholeWords (EltTy.packing .i8) := fun k0_t1 arg29 arg30 v272 v292 v312 v332 k0_hw5 k0_t3 => k0_hw5.2.2.2.2.2.2.2.2.2.2.2 k0_t3 (k0_off24_inb k0_t1 arg29 arg30 v272 v292 v312 v332 k0_hw5 k0_t3)

def k0_off26 (v126_0 : BitVec 32) : Fin 3 → Nat :=
  let v162 : Index := Scalar.indexCast v126_0
  let c0_87 : Index := 0#32
  let c0_88 : Index := 0#32
  ![v162.toNat, 0, 0]

def k0_off27 (v126_0 : BitVec 32) : Fin 1 → Nat :=
  let v166 : Index := Scalar.indexCast v126_0
  ![v166.toNat]

def k0_chk8 (v126_0 : BitVec 32) : Prop :=
  (∀ a, (k0_off26 v126_0) a + S1x6x128.size a ≤ S87x16x128.size a) ∧
  (∀ (hinb : ∀ a, (k0_off26 v126_0) a + S1x6x128.size a ≤ S87x16x128.size a), (Rect.unit (s := S87x16x128) (k0_off26 v126_0) S1x6x128.size hinb).PackedRows (EltTy.packing .bf16)) ∧
  (∀ a, (k0_off27 v126_0) a + S1.size a ≤ S87.size a)
theorem k0_off26_inb : ∀ (v126_0 : BitVec 32) (k0_hw8 : k0_chk8 v126_0), ∀ a, (k0_off26 v126_0) a + S1x6x128.size a ≤ S87x16x128.size a := fun v126_0 k0_hw8 => k0_hw8.1
theorem k0_off26_packedbf16 : ∀ (v126_0 : BitVec 32) (k0_hw8 : k0_chk8 v126_0), (Rect.unit (s := S87x16x128) (k0_off26 v126_0) S1x6x128.size (k0_off26_inb v126_0 k0_hw8)).PackedRows (EltTy.packing .bf16) := fun v126_0 k0_hw8 => k0_hw8.2.1 (k0_off26_inb v126_0 k0_hw8)
theorem k0_off27_inb : ∀ (v126_0 : BitVec 32) (k0_hw8 : k0_chk8 v126_0), ∀ a, (k0_off27 v126_0) a + S1.size a ≤ S87.size a := fun v126_0 k0_hw8 => k0_hw8.2.2

def k0_off28 (v126_0 : BitVec 32) (v160 : BitVec 32) : Fin 3 → Nat :=
  let v168 : BitVec 32 := Scalar.addi v126_0 v160
  let v180 : Index := Scalar.indexCast v168
  let c0_93 : Index := 0#32
  let c0_94 : Index := 0#32
  ![v180.toNat, 0, 0]

def k0_off29 (v126_0 : BitVec 32) (v160 : BitVec 32) : Fin 1 → Nat :=
  let v168 : BitVec 32 := Scalar.addi v126_0 v160
  let v184 : Index := Scalar.indexCast v168
  ![v184.toNat]

def k0_chk9 (v126_0 : BitVec 32) (v160 : BitVec 32) : Prop :=
  (∀ a, (k0_off28 v126_0 v160) a + S1x6x128.size a ≤ S87x16x128.size a) ∧
  (∀ (hinb : ∀ a, (k0_off28 v126_0 v160) a + S1x6x128.size a ≤ S87x16x128.size a), (Rect.unit (s := S87x16x128) (k0_off28 v126_0 v160) S1x6x128.size hinb).PackedRows (EltTy.packing .bf16)) ∧
  (∀ a, (k0_off29 v126_0 v160) a + S1.size a ≤ S87.size a)
theorem k0_off28_inb : ∀ (v126_0 : BitVec 32) (v160 : BitVec 32) (k0_hw9 : k0_chk9 v126_0 v160), ∀ a, (k0_off28 v126_0 v160) a + S1x6x128.size a ≤ S87x16x128.size a := fun v126_0 v160 k0_hw9 => k0_hw9.1
theorem k0_off28_packedbf16 : ∀ (v126_0 : BitVec 32) (v160 : BitVec 32) (k0_hw9 : k0_chk9 v126_0 v160), (Rect.unit (s := S87x16x128) (k0_off28 v126_0 v160) S1x6x128.size (k0_off28_inb v126_0 v160 k0_hw9)).PackedRows (EltTy.packing .bf16) := fun v126_0 v160 k0_hw9 => k0_hw9.2.1 (k0_off28_inb v126_0 v160 k0_hw9)
theorem k0_off29_inb : ∀ (v126_0 : BitVec 32) (v160 : BitVec 32) (k0_hw9 : k0_chk9 v126_0 v160), ∀ a, (k0_off29 v126_0 v160) a + S1.size a ≤ S87.size a := fun v126_0 v160 k0_hw9 => k0_hw9.2.2

@[reducible] def k0_t4_loop (v126_0 : BitVec 32) (v126_1 : BitVec 32) (v160 : BitVec 32) (v178 : BitVec 32) : Scf.Loop 32 :=
  let v168 : BitVec 32 := Scalar.addi v126_0 v160
  let v186 : BitVec 32 := Scalar.addi v168 v178
  let c16_i32 : BitVec 32 := 16#32
  let v189 : BitVec 32 := Scalar.minsi v186 c16_i32
  let v190 : BitVec 32 := Scalar.maxsi v126_1 v189
  let v191 : BitVec 32 := Scalar.subi v190 v126_1
  let c1_i32_97 : BitVec 32 := 1#32
  let v193 : BitVec 32 := Scalar.divsi v191 c1_i32_97
  let v194 : BitVec 32 := Scalar.muli v193 c1_i32_97
  let v195 : BitVec 32 := Scalar.addi v126_1 v194
  let c1_i32_98 : BitVec 32 := 1#32
  ⟨v126_1, v195, c1_i32_98⟩

def k0_off30 (v126_0 : BitVec 32) (v126_1 : BitVec 32) (v160 : BitVec 32) (v178 : BitVec 32) (k0_t4 : Fin (k0_t4_loop v126_0 v126_1 v160 v178).trips) : Fin 1 → Nat :=
  let c1_i32_98 : BitVec 32 := 1#32
  let arg28 : BitVec 32 := Scf.iv v126_1 c1_i32_98 k0_t4
  let v230 : Index := Scalar.indexCast arg28
  ![v230.toNat]
def k0_mult13 (v231 : BitVec 32) : BitVec 32 :=
  let c128_i32 : BitVec 32 := 128#32
  let v233 : BitVec 32 := Scalar.muli v231 c128_i32
  v233

def k0_mult14 (v126_0 : BitVec 32) (v126_1 : BitVec 32) (v160 : BitVec 32) (v178 : BitVec 32) (k0_t4 : Fin (k0_t4_loop v126_0 v126_1 v160 v178).trips) : BitVec 32 :=
  let c1_i32_98 : BitVec 32 := 1#32
  let arg28 : BitVec 32 := Scf.iv v126_1 c1_i32_98 k0_t4
  let c16_i32_120 : BitVec 32 := 16#32
  let v232 : BitVec 32 := Scalar.remsi arg28 c16_i32_120
  let c1_i32_122 : BitVec 32 := 1#32
  let v236 : BitVec 32 := Scalar.andi v232 c1_i32_122
  let c128_i32_123 : BitVec 32 := 128#32
  let v237 : BitVec 32 := Scalar.muli v236 c128_i32_123
  v237
def k0_off31 (v126_0 : BitVec 32) (v126_1 : BitVec 32) (v160 : BitVec 32) (v178 : BitVec 32) (k0_t4 : Fin (k0_t4_loop v126_0 v126_1 v160 v178).trips) : Fin 1 → Nat :=
  let c1_i32_98 : BitVec 32 := 1#32
  let arg28 : BitVec 32 := Scf.iv v126_1 c1_i32_98 k0_t4
  let c16_i32_120 : BitVec 32 := 16#32
  let v232 : BitVec 32 := Scalar.remsi arg28 c16_i32_120
  ![v232.toNat]
def k0_off32 (v126_0 : BitVec 32) (v126_1 : BitVec 32) (v160 : BitVec 32) (v178 : BitVec 32) (k0_t4 : Fin (k0_t4_loop v126_0 v126_1 v160 v178).trips) : Fin 3 → Nat :=
  let c1_i32_98 : BitVec 32 := 1#32
  let arg28 : BitVec 32 := Scf.iv v126_1 c1_i32_98 k0_t4
  let c16_i32_120 : BitVec 32 := 16#32
  let v232 : BitVec 32 := Scalar.remsi arg28 c16_i32_120
  let c1_i32_121 : BitVec 32 := 1#32
  let v235 : BitVec 32 := Scalar.shrsi v232 c1_i32_121
  let c1_i32_122 : BitVec 32 := 1#32
  let v236 : BitVec 32 := Scalar.andi v232 c1_i32_122
  let c128_i32_123 : BitVec 32 := 128#32
  let v237 : BitVec 32 := Scalar.muli v236 c128_i32_123
  let v238 : BitVec 32 := v237
  let c0_i32_124 : BitVec 32 := 0#32
  ![v235.toNat, v238.toNat, 0]
def k0_off33 (v231 : BitVec 32) : Fin 2 → Nat :=
  let c128_i32 : BitVec 32 := 128#32
  let v233 : BitVec 32 := Scalar.muli v231 c128_i32
  let v234 : BitVec 32 := v233
  let c0_i32_125 : BitVec 32 := 0#32
  ![v234.toNat, 0]

def k0_chk11 (v231 : BitVec 32) : Prop :=
  (128 ∣ (k0_mult13 v231).toNat) ∧
  (∀ a, (k0_off33 v231) a + S128x4096.size a ≤ S11008x4096.size a) ∧
  (∀ (hinb : ∀ a, (k0_off33 v231) a + S128x4096.size a ≤ S11008x4096.size a), (Rect.unit (s := S11008x4096) (k0_off33 v231) S128x4096.size hinb).WholeWords (EltTy.packing .i8))
theorem k0_mult13_dvd : ∀ (v231 : BitVec 32) (k0_hw11 : k0_chk11 v231), 128 ∣ (k0_mult13 v231).toNat := fun v231 k0_hw11 => k0_hw11.1
theorem k0_off33_inb : ∀ (v231 : BitVec 32) (k0_hw11 : k0_chk11 v231), ∀ a, (k0_off33 v231) a + S128x4096.size a ≤ S11008x4096.size a := fun v231 k0_hw11 => k0_hw11.2.1
theorem k0_off33_wordsi8 : ∀ (v231 : BitVec 32) (k0_hw11 : k0_chk11 v231), (Rect.unit (s := S11008x4096) (k0_off33 v231) S128x4096.size (k0_off33_inb v231 k0_hw11)).WholeWords (EltTy.packing .i8) := fun v231 k0_hw11 => k0_hw11.2.2 (k0_off33_inb v231 k0_hw11)

@[reducible] def k0_t5_loop (v126_0 : BitVec 32) (v126_1 : BitVec 32) (v160 : BitVec 32) (v178 : BitVec 32) : Scf.Loop 32 :=
  let v168 : BitVec 32 := Scalar.addi v126_0 v160
  let v186 : BitVec 32 := Scalar.addi v168 v178
  let c16_i32 : BitVec 32 := 16#32
  let v189 : BitVec 32 := Scalar.minsi v186 c16_i32
  let v190 : BitVec 32 := Scalar.maxsi v126_1 v189
  let v191 : BitVec 32 := Scalar.subi v190 v126_1
  let c1_i32_97 : BitVec 32 := 1#32
  let v193 : BitVec 32 := Scalar.divsi v191 c1_i32_97
  let v194 : BitVec 32 := Scalar.muli v193 c1_i32_97
  let v195 : BitVec 32 := Scalar.addi v126_1 v194
  let v192 : BitVec 32 := Scalar.addi v126_1 v191
  let c1_i32_99 : BitVec 32 := 1#32
  ⟨v195, v192, c1_i32_99⟩
def k0_off34 (v126_0 : BitVec 32) (v126_1 : BitVec 32) (v160 : BitVec 32) (v178 : BitVec 32) (k0_t5 : Fin (k0_t5_loop v126_0 v126_1 v160 v178).trips) : Fin 1 → Nat :=
  let v168 : BitVec 32 := Scalar.addi v126_0 v160
  let v186 : BitVec 32 := Scalar.addi v168 v178
  let c16_i32 : BitVec 32 := 16#32
  let v189 : BitVec 32 := Scalar.minsi v186 c16_i32
  let v190 : BitVec 32 := Scalar.maxsi v126_1 v189
  let v191 : BitVec 32 := Scalar.subi v190 v126_1
  let c1_i32_97 : BitVec 32 := 1#32
  let v193 : BitVec 32 := Scalar.divsi v191 c1_i32_97
  let v194 : BitVec 32 := Scalar.muli v193 c1_i32_97
  let v195 : BitVec 32 := Scalar.addi v126_1 v194
  let c1_i32_99 : BitVec 32 := 1#32
  let arg28 : BitVec 32 := Scf.iv v195 c1_i32_99 k0_t5
  let v230 : Index := Scalar.indexCast arg28
  ![v230.toNat]
def k0_mult15 (v231 : BitVec 32) : BitVec 32 :=
  let c128_i32 : BitVec 32 := 128#32
  let v233 : BitVec 32 := Scalar.muli v231 c128_i32
  v233

def k0_mult16 (v126_0 : BitVec 32) (v126_1 : BitVec 32) (v160 : BitVec 32) (v178 : BitVec 32) (k0_t5 : Fin (k0_t5_loop v126_0 v126_1 v160 v178).trips) : BitVec 32 :=
  let v168 : BitVec 32 := Scalar.addi v126_0 v160
  let v186 : BitVec 32 := Scalar.addi v168 v178
  let c16_i32 : BitVec 32 := 16#32
  let v189 : BitVec 32 := Scalar.minsi v186 c16_i32
  let v190 : BitVec 32 := Scalar.maxsi v126_1 v189
  let v191 : BitVec 32 := Scalar.subi v190 v126_1
  let c1_i32_97 : BitVec 32 := 1#32
  let v193 : BitVec 32 := Scalar.divsi v191 c1_i32_97
  let v194 : BitVec 32 := Scalar.muli v193 c1_i32_97
  let v195 : BitVec 32 := Scalar.addi v126_1 v194
  let c1_i32_99 : BitVec 32 := 1#32
  let arg28 : BitVec 32 := Scf.iv v195 c1_i32_99 k0_t5
  let c16_i32_120 : BitVec 32 := 16#32
  let v232 : BitVec 32 := Scalar.remsi arg28 c16_i32_120
  let c1_i32_122 : BitVec 32 := 1#32
  let v236 : BitVec 32 := Scalar.andi v232 c1_i32_122
  let c128_i32_123 : BitVec 32 := 128#32
  let v237 : BitVec 32 := Scalar.muli v236 c128_i32_123
  v237
def k0_off35 (v126_0 : BitVec 32) (v126_1 : BitVec 32) (v160 : BitVec 32) (v178 : BitVec 32) (k0_t5 : Fin (k0_t5_loop v126_0 v126_1 v160 v178).trips) : Fin 1 → Nat :=
  let v168 : BitVec 32 := Scalar.addi v126_0 v160
  let v186 : BitVec 32 := Scalar.addi v168 v178
  let c16_i32 : BitVec 32 := 16#32
  let v189 : BitVec 32 := Scalar.minsi v186 c16_i32
  let v190 : BitVec 32 := Scalar.maxsi v126_1 v189
  let v191 : BitVec 32 := Scalar.subi v190 v126_1
  let c1_i32_97 : BitVec 32 := 1#32
  let v193 : BitVec 32 := Scalar.divsi v191 c1_i32_97
  let v194 : BitVec 32 := Scalar.muli v193 c1_i32_97
  let v195 : BitVec 32 := Scalar.addi v126_1 v194
  let c1_i32_99 : BitVec 32 := 1#32
  let arg28 : BitVec 32 := Scf.iv v195 c1_i32_99 k0_t5
  let c16_i32_120 : BitVec 32 := 16#32
  let v232 : BitVec 32 := Scalar.remsi arg28 c16_i32_120
  ![v232.toNat]
def k0_off36 (v126_0 : BitVec 32) (v126_1 : BitVec 32) (v160 : BitVec 32) (v178 : BitVec 32) (k0_t5 : Fin (k0_t5_loop v126_0 v126_1 v160 v178).trips) : Fin 3 → Nat :=
  let v168 : BitVec 32 := Scalar.addi v126_0 v160
  let v186 : BitVec 32 := Scalar.addi v168 v178
  let c16_i32 : BitVec 32 := 16#32
  let v189 : BitVec 32 := Scalar.minsi v186 c16_i32
  let v190 : BitVec 32 := Scalar.maxsi v126_1 v189
  let v191 : BitVec 32 := Scalar.subi v190 v126_1
  let c1_i32_97 : BitVec 32 := 1#32
  let v193 : BitVec 32 := Scalar.divsi v191 c1_i32_97
  let v194 : BitVec 32 := Scalar.muli v193 c1_i32_97
  let v195 : BitVec 32 := Scalar.addi v126_1 v194
  let c1_i32_99 : BitVec 32 := 1#32
  let arg28 : BitVec 32 := Scf.iv v195 c1_i32_99 k0_t5
  let c16_i32_120 : BitVec 32 := 16#32
  let v232 : BitVec 32 := Scalar.remsi arg28 c16_i32_120
  let c1_i32_121 : BitVec 32 := 1#32
  let v235 : BitVec 32 := Scalar.shrsi v232 c1_i32_121
  let c1_i32_122 : BitVec 32 := 1#32
  let v236 : BitVec 32 := Scalar.andi v232 c1_i32_122
  let c128_i32_123 : BitVec 32 := 128#32
  let v237 : BitVec 32 := Scalar.muli v236 c128_i32_123
  let v238 : BitVec 32 := v237
  let c0_i32_124 : BitVec 32 := 0#32
  ![v235.toNat, v238.toNat, 0]
def k0_off37 (v231 : BitVec 32) : Fin 2 → Nat :=
  let c128_i32 : BitVec 32 := 128#32
  let v233 : BitVec 32 := Scalar.muli v231 c128_i32
  let v234 : BitVec 32 := v233
  let c0_i32_125 : BitVec 32 := 0#32
  ![v234.toNat, 0]

def k0_chk12 (v231 : BitVec 32) : Prop :=
  (128 ∣ (k0_mult15 v231).toNat) ∧
  (∀ a, (k0_off37 v231) a + S128x4096.size a ≤ S11008x4096.size a) ∧
  (∀ (hinb : ∀ a, (k0_off37 v231) a + S128x4096.size a ≤ S11008x4096.size a), (Rect.unit (s := S11008x4096) (k0_off37 v231) S128x4096.size hinb).WholeWords (EltTy.packing .i8))
theorem k0_mult15_dvd : ∀ (v231 : BitVec 32) (k0_hw12 : k0_chk12 v231), 128 ∣ (k0_mult15 v231).toNat := fun v231 k0_hw12 => k0_hw12.1
theorem k0_off37_inb : ∀ (v231 : BitVec 32) (k0_hw12 : k0_chk12 v231), ∀ a, (k0_off37 v231) a + S128x4096.size a ≤ S11008x4096.size a := fun v231 k0_hw12 => k0_hw12.2.1
theorem k0_off37_wordsi8 : ∀ (v231 : BitVec 32) (k0_hw12 : k0_chk12 v231), (Rect.unit (s := S11008x4096) (k0_off37 v231) S128x4096.size (k0_off37_inb v231 k0_hw12)).WholeWords (EltTy.packing .i8) := fun v231 k0_hw12 => k0_hw12.2.2 (k0_off37_inb v231 k0_hw12)

@[reducible] def k0_t6_loop (v126_0 : BitVec 32) (v160 : BitVec 32) (v178 : BitVec 32) : Scf.Loop 32 :=
  let c0_i32_101 : BitVec 32 := 0#32
  let v168 : BitVec 32 := Scalar.addi v126_0 v160
  let v186 : BitVec 32 := Scalar.addi v168 v178
  let c1_i32_100 : BitVec 32 := 1#32
  let v198 : BitVec 32 := Scalar.shrsi v186 c1_i32_100
  let v199 : BitVec 32 := Scalar.subi v198 c0_i32_101
  let c1_i32_102 : BitVec 32 := 1#32
  let v201 : BitVec 32 := Scalar.divsi v199 c1_i32_102
  let v202 : BitVec 32 := Scalar.muli v201 c1_i32_102
  let v203 : BitVec 32 := Scalar.addi c0_i32_101 v202
  let c1_i32_103 : BitVec 32 := 1#32
  ⟨c0_i32_101, v203, c1_i32_103⟩
def k0_off38 (v126_0 : BitVec 32) (v160 : BitVec 32) (v178 : BitVec 32) (k0_t6 : Fin (k0_t6_loop v126_0 v160 v178).trips) : Fin 1 → Nat :=
  let c2_i32_120 : BitVec 32 := 2#32
  let c0_i32_101 : BitVec 32 := 0#32
  let c1_i32_103 : BitVec 32 := 1#32
  let arg28 : BitVec 32 := Scf.iv c0_i32_101 c1_i32_103 k0_t6
  let v231 : BitVec 32 := Scalar.muli c2_i32_120 arg28
  let v232 : Index := Scalar.indexCast v231
  ![v232.toNat]
def k0_mult17 (v233 : BitVec 32) : BitVec 32 :=
  let c128_i32 : BitVec 32 := 128#32
  let v235 : BitVec 32 := Scalar.muli v233 c128_i32
  v235

def k0_mult18 (v126_0 : BitVec 32) (v160 : BitVec 32) (v178 : BitVec 32) (k0_t6 : Fin (k0_t6_loop v126_0 v160 v178).trips) : BitVec 32 :=
  let c2_i32_120 : BitVec 32 := 2#32
  let c0_i32_101 : BitVec 32 := 0#32
  let c1_i32_103 : BitVec 32 := 1#32
  let arg28 : BitVec 32 := Scf.iv c0_i32_101 c1_i32_103 k0_t6
  let v231 : BitVec 32 := Scalar.muli c2_i32_120 arg28
  let c16_i32_121 : BitVec 32 := 16#32
  let v234 : BitVec 32 := Scalar.remsi v231 c16_i32_121
  let c1_i32_123 : BitVec 32 := 1#32
  let v238 : BitVec 32 := Scalar.andi v234 c1_i32_123
  let c128_i32_124 : BitVec 32 := 128#32
  let v239 : BitVec 32 := Scalar.muli v238 c128_i32_124
  v239
def k0_off39 (v126_0 : BitVec 32) (v160 : BitVec 32) (v178 : BitVec 32) (k0_t6 : Fin (k0_t6_loop v126_0 v160 v178).trips) : Fin 1 → Nat :=
  let c2_i32_120 : BitVec 32 := 2#32
  let c0_i32_101 : BitVec 32 := 0#32
  let c1_i32_103 : BitVec 32 := 1#32
  let arg28 : BitVec 32 := Scf.iv c0_i32_101 c1_i32_103 k0_t6
  let v231 : BitVec 32 := Scalar.muli c2_i32_120 arg28
  let c16_i32_121 : BitVec 32 := 16#32
  let v234 : BitVec 32 := Scalar.remsi v231 c16_i32_121
  ![v234.toNat]
def k0_off40 (v126_0 : BitVec 32) (v160 : BitVec 32) (v178 : BitVec 32) (k0_t6 : Fin (k0_t6_loop v126_0 v160 v178).trips) : Fin 3 → Nat :=
  let c2_i32_120 : BitVec 32 := 2#32
  let c0_i32_101 : BitVec 32 := 0#32
  let c1_i32_103 : BitVec 32 := 1#32
  let arg28 : BitVec 32 := Scf.iv c0_i32_101 c1_i32_103 k0_t6
  let v231 : BitVec 32 := Scalar.muli c2_i32_120 arg28
  let c16_i32_121 : BitVec 32 := 16#32
  let v234 : BitVec 32 := Scalar.remsi v231 c16_i32_121
  let c1_i32_122 : BitVec 32 := 1#32
  let v237 : BitVec 32 := Scalar.shrsi v234 c1_i32_122
  let c1_i32_123 : BitVec 32 := 1#32
  let v238 : BitVec 32 := Scalar.andi v234 c1_i32_123
  let c128_i32_124 : BitVec 32 := 128#32
  let v239 : BitVec 32 := Scalar.muli v238 c128_i32_124
  let v240 : BitVec 32 := v239
  let c0_i32_125 : BitVec 32 := 0#32
  ![v237.toNat, v240.toNat, 0]
def k0_off41 (v233 : BitVec 32) : Fin 2 → Nat :=
  let c128_i32 : BitVec 32 := 128#32
  let v235 : BitVec 32 := Scalar.muli v233 c128_i32
  let v236 : BitVec 32 := v235
  let c0_i32_126 : BitVec 32 := 0#32
  ![v236.toNat, 0]

def k0_chk13 (v233 : BitVec 32) : Prop :=
  (128 ∣ (k0_mult17 v233).toNat) ∧
  (∀ a, (k0_off41 v233) a + S128x4096.size a ≤ S11008x4096.size a) ∧
  (∀ (hinb : ∀ a, (k0_off41 v233) a + S128x4096.size a ≤ S11008x4096.size a), (Rect.unit (s := S11008x4096) (k0_off41 v233) S128x4096.size hinb).WholeWords (EltTy.packing .i8))
theorem k0_mult17_dvd : ∀ (v233 : BitVec 32) (k0_hw13 : k0_chk13 v233), 128 ∣ (k0_mult17 v233).toNat := fun v233 k0_hw13 => k0_hw13.1
theorem k0_off41_inb : ∀ (v233 : BitVec 32) (k0_hw13 : k0_chk13 v233), ∀ a, (k0_off41 v233) a + S128x4096.size a ≤ S11008x4096.size a := fun v233 k0_hw13 => k0_hw13.2.1
theorem k0_off41_wordsi8 : ∀ (v233 : BitVec 32) (k0_hw13 : k0_chk13 v233), (Rect.unit (s := S11008x4096) (k0_off41 v233) S128x4096.size (k0_off41_inb v233 k0_hw13)).WholeWords (EltTy.packing .i8) := fun v233 k0_hw13 => k0_hw13.2.2 (k0_off41_inb v233 k0_hw13)

def k0_off42 (v126_0 : BitVec 32) (v160 : BitVec 32) (v178 : BitVec 32) (k0_t6 : Fin (k0_t6_loop v126_0 v160 v178).trips) : Fin 1 → Nat :=
  let c2_i32_127 : BitVec 32 := 2#32
  let c0_i32_101 : BitVec 32 := 0#32
  let c1_i32_103 : BitVec 32 := 1#32
  let arg28 : BitVec 32 := Scf.iv c0_i32_101 c1_i32_103 k0_t6
  let v246 : BitVec 32 := Scalar.muli c2_i32_127 arg28
  let c1_i32_128 : BitVec 32 := 1#32
  let v247 : BitVec 32 := Scalar.addi v246 c1_i32_128
  let v248 : Index := Scalar.indexCast v247
  ![v248.toNat]
def k0_mult19 (v249 : BitVec 32) : BitVec 32 :=
  let c128_i32_130 : BitVec 32 := 128#32
  let v251 : BitVec 32 := Scalar.muli v249 c128_i32_130
  v251

def k0_mult20 (v126_0 : BitVec 32) (v160 : BitVec 32) (v178 : BitVec 32) (k0_t6 : Fin (k0_t6_loop v126_0 v160 v178).trips) : BitVec 32 :=
  let c2_i32_127 : BitVec 32 := 2#32
  let c0_i32_101 : BitVec 32 := 0#32
  let c1_i32_103 : BitVec 32 := 1#32
  let arg28 : BitVec 32 := Scf.iv c0_i32_101 c1_i32_103 k0_t6
  let v246 : BitVec 32 := Scalar.muli c2_i32_127 arg28
  let c1_i32_128 : BitVec 32 := 1#32
  let v247 : BitVec 32 := Scalar.addi v246 c1_i32_128
  let c16_i32_129 : BitVec 32 := 16#32
  let v250 : BitVec 32 := Scalar.remsi v247 c16_i32_129
  let c1_i32_132 : BitVec 32 := 1#32
  let v254 : BitVec 32 := Scalar.andi v250 c1_i32_132
  let c128_i32_133 : BitVec 32 := 128#32
  let v255 : BitVec 32 := Scalar.muli v254 c128_i32_133
  v255
def k0_off43 (v126_0 : BitVec 32) (v160 : BitVec 32) (v178 : BitVec 32) (k0_t6 : Fin (k0_t6_loop v126_0 v160 v178).trips) : Fin 1 → Nat :=
  let c2_i32_127 : BitVec 32 := 2#32
  let c0_i32_101 : BitVec 32 := 0#32
  let c1_i32_103 : BitVec 32 := 1#32
  let arg28 : BitVec 32 := Scf.iv c0_i32_101 c1_i32_103 k0_t6
  let v246 : BitVec 32 := Scalar.muli c2_i32_127 arg28
  let c1_i32_128 : BitVec 32 := 1#32
  let v247 : BitVec 32 := Scalar.addi v246 c1_i32_128
  let c16_i32_129 : BitVec 32 := 16#32
  let v250 : BitVec 32 := Scalar.remsi v247 c16_i32_129
  ![v250.toNat]
def k0_off44 (v126_0 : BitVec 32) (v160 : BitVec 32) (v178 : BitVec 32) (k0_t6 : Fin (k0_t6_loop v126_0 v160 v178).trips) : Fin 3 → Nat :=
  let c2_i32_127 : BitVec 32 := 2#32
  let c0_i32_101 : BitVec 32 := 0#32
  let c1_i32_103 : BitVec 32 := 1#32
  let arg28 : BitVec 32 := Scf.iv c0_i32_101 c1_i32_103 k0_t6
  let v246 : BitVec 32 := Scalar.muli c2_i32_127 arg28
  let c1_i32_128 : BitVec 32 := 1#32
  let v247 : BitVec 32 := Scalar.addi v246 c1_i32_128
  let c16_i32_129 : BitVec 32 := 16#32
  let v250 : BitVec 32 := Scalar.remsi v247 c16_i32_129
  let c1_i32_131 : BitVec 32 := 1#32
  let v253 : BitVec 32 := Scalar.shrsi v250 c1_i32_131
  let c1_i32_132 : BitVec 32 := 1#32
  let v254 : BitVec 32 := Scalar.andi v250 c1_i32_132
  let c128_i32_133 : BitVec 32 := 128#32
  let v255 : BitVec 32 := Scalar.muli v254 c128_i32_133
  let v256 : BitVec 32 := v255
  let c0_i32_134 : BitVec 32 := 0#32
  ![v253.toNat, v256.toNat, 0]
def k0_off45 (v249 : BitVec 32) : Fin 2 → Nat :=
  let c128_i32_130 : BitVec 32 := 128#32
  let v251 : BitVec 32 := Scalar.muli v249 c128_i32_130
  let v252 : BitVec 32 := v251
  let c0_i32_135 : BitVec 32 := 0#32
  ![v252.toNat, 0]

def k0_chk14 (v249 : BitVec 32) : Prop :=
  (128 ∣ (k0_mult19 v249).toNat) ∧
  (∀ a, (k0_off45 v249) a + S128x4096.size a ≤ S11008x4096.size a) ∧
  (∀ (hinb : ∀ a, (k0_off45 v249) a + S128x4096.size a ≤ S11008x4096.size a), (Rect.unit (s := S11008x4096) (k0_off45 v249) S128x4096.size hinb).WholeWords (EltTy.packing .i8))
theorem k0_mult19_dvd : ∀ (v249 : BitVec 32) (k0_hw14 : k0_chk14 v249), 128 ∣ (k0_mult19 v249).toNat := fun v249 k0_hw14 => k0_hw14.1
theorem k0_off45_inb : ∀ (v249 : BitVec 32) (k0_hw14 : k0_chk14 v249), ∀ a, (k0_off45 v249) a + S128x4096.size a ≤ S11008x4096.size a := fun v249 k0_hw14 => k0_hw14.2.1
theorem k0_off45_wordsi8 : ∀ (v249 : BitVec 32) (k0_hw14 : k0_chk14 v249), (Rect.unit (s := S11008x4096) (k0_off45 v249) S128x4096.size (k0_off45_inb v249 k0_hw14)).WholeWords (EltTy.packing .i8) := fun v249 k0_hw14 => k0_hw14.2.2 (k0_off45_inb v249 k0_hw14)

def k0_off46 (v126_0 : BitVec 32) (v160 : BitVec 32) (v178 : BitVec 32) (k0_t6 : Fin (k0_t6_loop v126_0 v160 v178).trips) : Fin 3 → Nat :=
  let c2_i32_136 : BitVec 32 := 2#32
  let c0_i32_101 : BitVec 32 := 0#32
  let c1_i32_103 : BitVec 32 := 1#32
  let arg28 : BitVec 32 := Scf.iv c0_i32_101 c1_i32_103 k0_t6
  let v262 : BitVec 32 := Scalar.muli c2_i32_136 arg28
  let v263 : Index := Scalar.indexCast v262
  let c0_137 : Index := 0#32
  let c0_138 : Index := 0#32
  ![v263.toNat, 0, 0]
def k0_off47 (v126_0 : BitVec 32) (v160 : BitVec 32) (v178 : BitVec 32) (k0_t6 : Fin (k0_t6_loop v126_0 v160 v178).trips) : Fin 3 → Nat :=
  let c2_i32_139 : BitVec 32 := 2#32
  let c0_i32_101 : BitVec 32 := 0#32
  let c1_i32_103 : BitVec 32 := 1#32
  let arg28 : BitVec 32 := Scf.iv c0_i32_101 c1_i32_103 k0_t6
  let v266 : BitVec 32 := Scalar.muli c2_i32_139 arg28
  let c1_i32_140 : BitVec 32 := 1#32
  let v267 : BitVec 32 := Scalar.addi v266 c1_i32_140
  let v268 : Index := Scalar.indexCast v267
  let c0_141 : Index := 0#32
  let c0_142 : Index := 0#32
  ![v268.toNat, 0, 0]
def k0_off48 (v126_0 : BitVec 32) (v160 : BitVec 32) (v178 : BitVec 32) (k0_t6 : Fin (k0_t6_loop v126_0 v160 v178).trips) : Fin 3 → Nat :=
  let c0_i32_101 : BitVec 32 := 0#32
  let c1_i32_103 : BitVec 32 := 1#32
  let arg28 : BitVec 32 := Scf.iv c0_i32_101 c1_i32_103 k0_t6
  let c8_i32 : BitVec 32 := 8#32
  let v230 : BitVec 32 := Scalar.remsi arg28 c8_i32
  let v272 : Index := Scalar.indexCast v230
  let c0_143 : Index := 0#32
  let c0_144 : Index := 0#32
  ![v272.toNat, 0, 0]
@[reducible] def k0_t7_loop (v126_0 : BitVec 32) (v160 : BitVec 32) (v178 : BitVec 32) (k0_t6 : Fin (k0_t6_loop v126_0 v160 v178).trips) (arg29 : BitVec 32) : Scf.Loop 32 :=
  let v168 : BitVec 32 := Scalar.addi v126_0 v160
  let v186 : BitVec 32 := Scalar.addi v168 v178
  let c2_i32_150 : BitVec 32 := 2#32
  let c0_i32_101 : BitVec 32 := 0#32
  let c1_i32_103 : BitVec 32 := 1#32
  let arg28 : BitVec 32 := Scf.iv c0_i32_101 c1_i32_103 k0_t6
  let v283 : BitVec 32 := Scalar.muli c2_i32_150 arg28
  let c2_i32_151 : BitVec 32 := 2#32
  let v284 : BitVec 32 := Scalar.addi v283 c2_i32_151
  let c16_i32_152 : BitVec 32 := 16#32
  let v285 : BitVec 32 := Scalar.addi v284 c16_i32_152
  let v286 : BitVec 32 := Scalar.minsi v186 v285
  let v287 : BitVec 32 := Scalar.maxsi arg29 v286
  let v288 : BitVec 32 := Scalar.subi v287 arg29
  let c1_i32_154 : BitVec 32 := 1#32
  let v290 : BitVec 32 := Scalar.divsi v288 c1_i32_154
  let v291 : BitVec 32 := Scalar.muli v290 c1_i32_154
  let v292 : BitVec 32 := Scalar.addi arg29 v291
  let c1_i32_155 : BitVec 32 := 1#32
  ⟨arg29, v292, c1_i32_155⟩

def k0_off49 (v126_0 : BitVec 32) (v160 : BitVec 32) (v178 : BitVec 32) (k0_t6 : Fin (k0_t6_loop v126_0 v160 v178).trips) (arg29 : BitVec 32) (k0_t7 : Fin (k0_t7_loop v126_0 v160 v178 k0_t6 arg29).trips) : Fin 1 → Nat :=
  let c1_i32_155 : BitVec 32 := 1#32
  let arg30 : BitVec 32 := Scf.iv arg29 c1_i32_155 k0_t7
  let v295 : Index := Scalar.indexCast arg30
  ![v295.toNat]
def k0_mult21 (v296 : BitVec 32) : BitVec 32 :=
  let c128_i32_158 : BitVec 32 := 128#32
  let v298 : BitVec 32 := Scalar.muli v296 c128_i32_158
  v298

def k0_mult22 (v126_0 : BitVec 32) (v160 : BitVec 32) (v178 : BitVec 32) (k0_t6 : Fin (k0_t6_loop v126_0 v160 v178).trips) (arg29 : BitVec 32) (k0_t7 : Fin (k0_t7_loop v126_0 v160 v178 k0_t6 arg29).trips) : BitVec 32 :=
  let c1_i32_155 : BitVec 32 := 1#32
  let arg30 : BitVec 32 := Scf.iv arg29 c1_i32_155 k0_t7
  let c16_i32_157 : BitVec 32 := 16#32
  let v297 : BitVec 32 := Scalar.remsi arg30 c16_i32_157
  let c1_i32_160 : BitVec 32 := 1#32
  let v301 : BitVec 32 := Scalar.andi v297 c1_i32_160
  let c128_i32_161 : BitVec 32 := 128#32
  let v302 : BitVec 32 := Scalar.muli v301 c128_i32_161
  v302
def k0_off50 (v126_0 : BitVec 32) (v160 : BitVec 32) (v178 : BitVec 32) (k0_t6 : Fin (k0_t6_loop v126_0 v160 v178).trips) (arg29 : BitVec 32) (k0_t7 : Fin (k0_t7_loop v126_0 v160 v178 k0_t6 arg29).trips) : Fin 1 → Nat :=
  let c1_i32_155 : BitVec 32 := 1#32
  let arg30 : BitVec 32 := Scf.iv arg29 c1_i32_155 k0_t7
  let c16_i32_157 : BitVec 32 := 16#32
  let v297 : BitVec 32 := Scalar.remsi arg30 c16_i32_157
  ![v297.toNat]
def k0_off51 (v126_0 : BitVec 32) (v160 : BitVec 32) (v178 : BitVec 32) (k0_t6 : Fin (k0_t6_loop v126_0 v160 v178).trips) (arg29 : BitVec 32) (k0_t7 : Fin (k0_t7_loop v126_0 v160 v178 k0_t6 arg29).trips) : Fin 3 → Nat :=
  let c1_i32_155 : BitVec 32 := 1#32
  let arg30 : BitVec 32 := Scf.iv arg29 c1_i32_155 k0_t7
  let c16_i32_157 : BitVec 32 := 16#32
  let v297 : BitVec 32 := Scalar.remsi arg30 c16_i32_157
  let c1_i32_159 : BitVec 32 := 1#32
  let v300 : BitVec 32 := Scalar.shrsi v297 c1_i32_159
  let c1_i32_160 : BitVec 32 := 1#32
  let v301 : BitVec 32 := Scalar.andi v297 c1_i32_160
  let c128_i32_161 : BitVec 32 := 128#32
  let v302 : BitVec 32 := Scalar.muli v301 c128_i32_161
  let v303 : BitVec 32 := v302
  let c0_i32_162 : BitVec 32 := 0#32
  ![v300.toNat, v303.toNat, 0]
def k0_off52 (v296 : BitVec 32) : Fin 2 → Nat :=
  let c128_i32_158 : BitVec 32 := 128#32
  let v298 : BitVec 32 := Scalar.muli v296 c128_i32_158
  let v299 : BitVec 32 := v298
  let c0_i32_163 : BitVec 32 := 0#32
  ![v299.toNat, 0]

def k0_chk16 (v296 : BitVec 32) : Prop :=
  (128 ∣ (k0_mult21 v296).toNat) ∧
  (∀ a, (k0_off52 v296) a + S128x4096.size a ≤ S11008x4096.size a) ∧
  (∀ (hinb : ∀ a, (k0_off52 v296) a + S128x4096.size a ≤ S11008x4096.size a), (Rect.unit (s := S11008x4096) (k0_off52 v296) S128x4096.size hinb).WholeWords (EltTy.packing .i8))
theorem k0_mult21_dvd : ∀ (v296 : BitVec 32) (k0_hw16 : k0_chk16 v296), 128 ∣ (k0_mult21 v296).toNat := fun v296 k0_hw16 => k0_hw16.1
theorem k0_off52_inb : ∀ (v296 : BitVec 32) (k0_hw16 : k0_chk16 v296), ∀ a, (k0_off52 v296) a + S128x4096.size a ≤ S11008x4096.size a := fun v296 k0_hw16 => k0_hw16.2.1
theorem k0_off52_wordsi8 : ∀ (v296 : BitVec 32) (k0_hw16 : k0_chk16 v296), (Rect.unit (s := S11008x4096) (k0_off52 v296) S128x4096.size (k0_off52_inb v296 k0_hw16)).WholeWords (EltTy.packing .i8) := fun v296 k0_hw16 => k0_hw16.2.2 (k0_off52_inb v296 k0_hw16)

@[reducible] def k0_t8_loop (v126_0 : BitVec 32) (v160 : BitVec 32) (v178 : BitVec 32) (k0_t6 : Fin (k0_t6_loop v126_0 v160 v178).trips) (arg29 : BitVec 32) : Scf.Loop 32 :=
  let v168 : BitVec 32 := Scalar.addi v126_0 v160
  let v186 : BitVec 32 := Scalar.addi v168 v178
  let c2_i32_150 : BitVec 32 := 2#32
  let c0_i32_101 : BitVec 32 := 0#32
  let c1_i32_103 : BitVec 32 := 1#32
  let arg28 : BitVec 32 := Scf.iv c0_i32_101 c1_i32_103 k0_t6
  let v283 : BitVec 32 := Scalar.muli c2_i32_150 arg28
  let c2_i32_151 : BitVec 32 := 2#32
  let v284 : BitVec 32 := Scalar.addi v283 c2_i32_151
  let c16_i32_152 : BitVec 32 := 16#32
  let v285 : BitVec 32 := Scalar.addi v284 c16_i32_152
  let v286 : BitVec 32 := Scalar.minsi v186 v285
  let v287 : BitVec 32 := Scalar.maxsi arg29 v286
  let v288 : BitVec 32 := Scalar.subi v287 arg29
  let c1_i32_154 : BitVec 32 := 1#32
  let v290 : BitVec 32 := Scalar.divsi v288 c1_i32_154
  let v291 : BitVec 32 := Scalar.muli v290 c1_i32_154
  let v292 : BitVec 32 := Scalar.addi arg29 v291
  let v289 : BitVec 32 := Scalar.addi arg29 v288
  let c1_i32_156 : BitVec 32 := 1#32
  ⟨v292, v289, c1_i32_156⟩
def k0_off53 (v126_0 : BitVec 32) (v160 : BitVec 32) (v178 : BitVec 32) (k0_t6 : Fin (k0_t6_loop v126_0 v160 v178).trips) (arg29 : BitVec 32) (k0_t8 : Fin (k0_t8_loop v126_0 v160 v178 k0_t6 arg29).trips) : Fin 1 → Nat :=
  let v168 : BitVec 32 := Scalar.addi v126_0 v160
  let v186 : BitVec 32 := Scalar.addi v168 v178
  let c2_i32_150 : BitVec 32 := 2#32
  let c0_i32_101 : BitVec 32 := 0#32
  let c1_i32_103 : BitVec 32 := 1#32
  let arg28 : BitVec 32 := Scf.iv c0_i32_101 c1_i32_103 k0_t6
  let v283 : BitVec 32 := Scalar.muli c2_i32_150 arg28
  let c2_i32_151 : BitVec 32 := 2#32
  let v284 : BitVec 32 := Scalar.addi v283 c2_i32_151
  let c16_i32_152 : BitVec 32 := 16#32
  let v285 : BitVec 32 := Scalar.addi v284 c16_i32_152
  let v286 : BitVec 32 := Scalar.minsi v186 v285
  let v287 : BitVec 32 := Scalar.maxsi arg29 v286
  let v288 : BitVec 32 := Scalar.subi v287 arg29
  let c1_i32_154 : BitVec 32 := 1#32
  let v290 : BitVec 32 := Scalar.divsi v288 c1_i32_154
  let v291 : BitVec 32 := Scalar.muli v290 c1_i32_154
  let v292 : BitVec 32 := Scalar.addi arg29 v291
  let c1_i32_156 : BitVec 32 := 1#32
  let arg30 : BitVec 32 := Scf.iv v292 c1_i32_156 k0_t8
  let v295 : Index := Scalar.indexCast arg30
  ![v295.toNat]
def k0_mult23 (v296 : BitVec 32) : BitVec 32 :=
  let c128_i32_158 : BitVec 32 := 128#32
  let v298 : BitVec 32 := Scalar.muli v296 c128_i32_158
  v298

def k0_mult24 (v126_0 : BitVec 32) (v160 : BitVec 32) (v178 : BitVec 32) (k0_t6 : Fin (k0_t6_loop v126_0 v160 v178).trips) (arg29 : BitVec 32) (k0_t8 : Fin (k0_t8_loop v126_0 v160 v178 k0_t6 arg29).trips) : BitVec 32 :=
  let v168 : BitVec 32 := Scalar.addi v126_0 v160
  let v186 : BitVec 32 := Scalar.addi v168 v178
  let c2_i32_150 : BitVec 32 := 2#32
  let c0_i32_101 : BitVec 32 := 0#32
  let c1_i32_103 : BitVec 32 := 1#32
  let arg28 : BitVec 32 := Scf.iv c0_i32_101 c1_i32_103 k0_t6
  let v283 : BitVec 32 := Scalar.muli c2_i32_150 arg28
  let c2_i32_151 : BitVec 32 := 2#32
  let v284 : BitVec 32 := Scalar.addi v283 c2_i32_151
  let c16_i32_152 : BitVec 32 := 16#32
  let v285 : BitVec 32 := Scalar.addi v284 c16_i32_152
  let v286 : BitVec 32 := Scalar.minsi v186 v285
  let v287 : BitVec 32 := Scalar.maxsi arg29 v286
  let v288 : BitVec 32 := Scalar.subi v287 arg29
  let c1_i32_154 : BitVec 32 := 1#32
  let v290 : BitVec 32 := Scalar.divsi v288 c1_i32_154
  let v291 : BitVec 32 := Scalar.muli v290 c1_i32_154
  let v292 : BitVec 32 := Scalar.addi arg29 v291
  let c1_i32_156 : BitVec 32 := 1#32
  let arg30 : BitVec 32 := Scf.iv v292 c1_i32_156 k0_t8
  let c16_i32_157 : BitVec 32 := 16#32
  let v297 : BitVec 32 := Scalar.remsi arg30 c16_i32_157
  let c1_i32_160 : BitVec 32 := 1#32
  let v301 : BitVec 32 := Scalar.andi v297 c1_i32_160
  let c128_i32_161 : BitVec 32 := 128#32
  let v302 : BitVec 32 := Scalar.muli v301 c128_i32_161
  v302
def k0_off54 (v126_0 : BitVec 32) (v160 : BitVec 32) (v178 : BitVec 32) (k0_t6 : Fin (k0_t6_loop v126_0 v160 v178).trips) (arg29 : BitVec 32) (k0_t8 : Fin (k0_t8_loop v126_0 v160 v178 k0_t6 arg29).trips) : Fin 1 → Nat :=
  let v168 : BitVec 32 := Scalar.addi v126_0 v160
  let v186 : BitVec 32 := Scalar.addi v168 v178
  let c2_i32_150 : BitVec 32 := 2#32
  let c0_i32_101 : BitVec 32 := 0#32
  let c1_i32_103 : BitVec 32 := 1#32
  let arg28 : BitVec 32 := Scf.iv c0_i32_101 c1_i32_103 k0_t6
  let v283 : BitVec 32 := Scalar.muli c2_i32_150 arg28
  let c2_i32_151 : BitVec 32 := 2#32
  let v284 : BitVec 32 := Scalar.addi v283 c2_i32_151
  let c16_i32_152 : BitVec 32 := 16#32
  let v285 : BitVec 32 := Scalar.addi v284 c16_i32_152
  let v286 : BitVec 32 := Scalar.minsi v186 v285
  let v287 : BitVec 32 := Scalar.maxsi arg29 v286
  let v288 : BitVec 32 := Scalar.subi v287 arg29
  let c1_i32_154 : BitVec 32 := 1#32
  let v290 : BitVec 32 := Scalar.divsi v288 c1_i32_154
  let v291 : BitVec 32 := Scalar.muli v290 c1_i32_154
  let v292 : BitVec 32 := Scalar.addi arg29 v291
  let c1_i32_156 : BitVec 32 := 1#32
  let arg30 : BitVec 32 := Scf.iv v292 c1_i32_156 k0_t8
  let c16_i32_157 : BitVec 32 := 16#32
  let v297 : BitVec 32 := Scalar.remsi arg30 c16_i32_157
  ![v297.toNat]
def k0_off55 (v126_0 : BitVec 32) (v160 : BitVec 32) (v178 : BitVec 32) (k0_t6 : Fin (k0_t6_loop v126_0 v160 v178).trips) (arg29 : BitVec 32) (k0_t8 : Fin (k0_t8_loop v126_0 v160 v178 k0_t6 arg29).trips) : Fin 3 → Nat :=
  let v168 : BitVec 32 := Scalar.addi v126_0 v160
  let v186 : BitVec 32 := Scalar.addi v168 v178
  let c2_i32_150 : BitVec 32 := 2#32
  let c0_i32_101 : BitVec 32 := 0#32
  let c1_i32_103 : BitVec 32 := 1#32
  let arg28 : BitVec 32 := Scf.iv c0_i32_101 c1_i32_103 k0_t6
  let v283 : BitVec 32 := Scalar.muli c2_i32_150 arg28
  let c2_i32_151 : BitVec 32 := 2#32
  let v284 : BitVec 32 := Scalar.addi v283 c2_i32_151
  let c16_i32_152 : BitVec 32 := 16#32
  let v285 : BitVec 32 := Scalar.addi v284 c16_i32_152
  let v286 : BitVec 32 := Scalar.minsi v186 v285
  let v287 : BitVec 32 := Scalar.maxsi arg29 v286
  let v288 : BitVec 32 := Scalar.subi v287 arg29
  let c1_i32_154 : BitVec 32 := 1#32
  let v290 : BitVec 32 := Scalar.divsi v288 c1_i32_154
  let v291 : BitVec 32 := Scalar.muli v290 c1_i32_154
  let v292 : BitVec 32 := Scalar.addi arg29 v291
  let c1_i32_156 : BitVec 32 := 1#32
  let arg30 : BitVec 32 := Scf.iv v292 c1_i32_156 k0_t8
  let c16_i32_157 : BitVec 32 := 16#32
  let v297 : BitVec 32 := Scalar.remsi arg30 c16_i32_157
  let c1_i32_159 : BitVec 32 := 1#32
  let v300 : BitVec 32 := Scalar.shrsi v297 c1_i32_159
  let c1_i32_160 : BitVec 32 := 1#32
  let v301 : BitVec 32 := Scalar.andi v297 c1_i32_160
  let c128_i32_161 : BitVec 32 := 128#32
  let v302 : BitVec 32 := Scalar.muli v301 c128_i32_161
  let v303 : BitVec 32 := v302
  let c0_i32_162 : BitVec 32 := 0#32
  ![v300.toNat, v303.toNat, 0]
def k0_off56 (v296 : BitVec 32) : Fin 2 → Nat :=
  let c128_i32_158 : BitVec 32 := 128#32
  let v298 : BitVec 32 := Scalar.muli v296 c128_i32_158
  let v299 : BitVec 32 := v298
  let c0_i32_163 : BitVec 32 := 0#32
  ![v299.toNat, 0]

def k0_chk17 (v296 : BitVec 32) : Prop :=
  (128 ∣ (k0_mult23 v296).toNat) ∧
  (∀ a, (k0_off56 v296) a + S128x4096.size a ≤ S11008x4096.size a) ∧
  (∀ (hinb : ∀ a, (k0_off56 v296) a + S128x4096.size a ≤ S11008x4096.size a), (Rect.unit (s := S11008x4096) (k0_off56 v296) S128x4096.size hinb).WholeWords (EltTy.packing .i8))
theorem k0_mult23_dvd : ∀ (v296 : BitVec 32) (k0_hw17 : k0_chk17 v296), 128 ∣ (k0_mult23 v296).toNat := fun v296 k0_hw17 => k0_hw17.1
theorem k0_off56_inb : ∀ (v296 : BitVec 32) (k0_hw17 : k0_chk17 v296), ∀ a, (k0_off56 v296) a + S128x4096.size a ≤ S11008x4096.size a := fun v296 k0_hw17 => k0_hw17.2.1
theorem k0_off56_wordsi8 : ∀ (v296 : BitVec 32) (k0_hw17 : k0_chk17 v296), (Rect.unit (s := S11008x4096) (k0_off56 v296) S128x4096.size (k0_off56_inb v296 k0_hw17)).WholeWords (EltTy.packing .i8) := fun v296 k0_hw17 => k0_hw17.2.2 (k0_off56_inb v296 k0_hw17)

def k0_chk15 (v126_0 : BitVec 32) (v160 : BitVec 32) (v178 : BitVec 32) (k0_t6 : Fin (k0_t6_loop v126_0 v160 v178).trips) (arg29 : BitVec 32) : Prop :=
  ((k0_t7_loop v126_0 v160 v178 k0_t6 arg29).OK) ∧
  (∀ k0_t7 : Fin (k0_t7_loop v126_0 v160 v178 k0_t6 arg29).trips, ∀ a, (k0_off49 v126_0 v160 v178 k0_t6 arg29 k0_t7) a + S1.size a ≤ S87.size a) ∧
  (∀ k0_t7 : Fin (k0_t7_loop v126_0 v160 v178 k0_t6 arg29).trips, 128 ∣ (k0_mult22 v126_0 v160 v178 k0_t6 arg29 k0_t7).toNat) ∧
  (∀ k0_t7 : Fin (k0_t7_loop v126_0 v160 v178 k0_t6 arg29).trips, ∀ a, (k0_off50 v126_0 v160 v178 k0_t6 arg29 k0_t7) a + S1.size a ≤ S16.size a) ∧
  (∀ k0_t7 : Fin (k0_t7_loop v126_0 v160 v178 k0_t6 arg29).trips, ∀ a, (k0_off51 v126_0 v160 v178 k0_t6 arg29 k0_t7) a + S1x128x4096.size a ≤ S8x256x4096.size a) ∧
  (∀ k0_t7 : Fin (k0_t7_loop v126_0 v160 v178 k0_t6 arg29).trips, ∀ (hinb : ∀ a, (k0_off51 v126_0 v160 v178 k0_t6 arg29 k0_t7) a + S1x128x4096.size a ≤ S8x256x4096.size a), (Rect.unit (s := S8x256x4096) (k0_off51 v126_0 v160 v178 k0_t6 arg29 k0_t7) S1x128x4096.size hinb).WholeWords (EltTy.packing .i8)) ∧
  ((k0_t8_loop v126_0 v160 v178 k0_t6 arg29).OK) ∧
  (∀ k0_t8 : Fin (k0_t8_loop v126_0 v160 v178 k0_t6 arg29).trips, ∀ a, (k0_off53 v126_0 v160 v178 k0_t6 arg29 k0_t8) a + S1.size a ≤ S87.size a) ∧
  (∀ k0_t8 : Fin (k0_t8_loop v126_0 v160 v178 k0_t6 arg29).trips, 128 ∣ (k0_mult24 v126_0 v160 v178 k0_t6 arg29 k0_t8).toNat) ∧
  (∀ k0_t8 : Fin (k0_t8_loop v126_0 v160 v178 k0_t6 arg29).trips, ∀ a, (k0_off54 v126_0 v160 v178 k0_t6 arg29 k0_t8) a + S1.size a ≤ S16.size a) ∧
  (∀ k0_t8 : Fin (k0_t8_loop v126_0 v160 v178 k0_t6 arg29).trips, ∀ a, (k0_off55 v126_0 v160 v178 k0_t6 arg29 k0_t8) a + S1x128x4096.size a ≤ S8x256x4096.size a) ∧
  (∀ k0_t8 : Fin (k0_t8_loop v126_0 v160 v178 k0_t6 arg29).trips, ∀ (hinb : ∀ a, (k0_off55 v126_0 v160 v178 k0_t6 arg29 k0_t8) a + S1x128x4096.size a ≤ S8x256x4096.size a), (Rect.unit (s := S8x256x4096) (k0_off55 v126_0 v160 v178 k0_t6 arg29 k0_t8) S1x128x4096.size hinb).WholeWords (EltTy.packing .i8))
theorem k0_t7_ok : ∀ (v126_0 : BitVec 32) (v160 : BitVec 32) (v178 : BitVec 32) (k0_t6 : Fin (k0_t6_loop v126_0 v160 v178).trips) (arg29 : BitVec 32) (k0_hw15 : k0_chk15 v126_0 v160 v178 k0_t6 arg29), (k0_t7_loop v126_0 v160 v178 k0_t6 arg29).OK := fun v126_0 v160 v178 k0_t6 arg29 k0_hw15 => k0_hw15.1
theorem k0_off49_inb : ∀ (v126_0 : BitVec 32) (v160 : BitVec 32) (v178 : BitVec 32) (k0_t6 : Fin (k0_t6_loop v126_0 v160 v178).trips) (arg29 : BitVec 32) (k0_hw15 : k0_chk15 v126_0 v160 v178 k0_t6 arg29) (k0_t7 : Fin (k0_t7_loop v126_0 v160 v178 k0_t6 arg29).trips), ∀ a, (k0_off49 v126_0 v160 v178 k0_t6 arg29 k0_t7) a + S1.size a ≤ S87.size a := fun v126_0 v160 v178 k0_t6 arg29 k0_hw15 k0_t7 => k0_hw15.2.1 k0_t7
theorem k0_mult22_dvd : ∀ (v126_0 : BitVec 32) (v160 : BitVec 32) (v178 : BitVec 32) (k0_t6 : Fin (k0_t6_loop v126_0 v160 v178).trips) (arg29 : BitVec 32) (k0_hw15 : k0_chk15 v126_0 v160 v178 k0_t6 arg29) (k0_t7 : Fin (k0_t7_loop v126_0 v160 v178 k0_t6 arg29).trips), 128 ∣ (k0_mult22 v126_0 v160 v178 k0_t6 arg29 k0_t7).toNat := fun v126_0 v160 v178 k0_t6 arg29 k0_hw15 k0_t7 => k0_hw15.2.2.1 k0_t7
theorem k0_off50_inb : ∀ (v126_0 : BitVec 32) (v160 : BitVec 32) (v178 : BitVec 32) (k0_t6 : Fin (k0_t6_loop v126_0 v160 v178).trips) (arg29 : BitVec 32) (k0_hw15 : k0_chk15 v126_0 v160 v178 k0_t6 arg29) (k0_t7 : Fin (k0_t7_loop v126_0 v160 v178 k0_t6 arg29).trips), ∀ a, (k0_off50 v126_0 v160 v178 k0_t6 arg29 k0_t7) a + S1.size a ≤ S16.size a := fun v126_0 v160 v178 k0_t6 arg29 k0_hw15 k0_t7 => k0_hw15.2.2.2.1 k0_t7
theorem k0_off51_inb : ∀ (v126_0 : BitVec 32) (v160 : BitVec 32) (v178 : BitVec 32) (k0_t6 : Fin (k0_t6_loop v126_0 v160 v178).trips) (arg29 : BitVec 32) (k0_hw15 : k0_chk15 v126_0 v160 v178 k0_t6 arg29) (k0_t7 : Fin (k0_t7_loop v126_0 v160 v178 k0_t6 arg29).trips), ∀ a, (k0_off51 v126_0 v160 v178 k0_t6 arg29 k0_t7) a + S1x128x4096.size a ≤ S8x256x4096.size a := fun v126_0 v160 v178 k0_t6 arg29 k0_hw15 k0_t7 => k0_hw15.2.2.2.2.1 k0_t7
theorem k0_off51_wordsi8 : ∀ (v126_0 : BitVec 32) (v160 : BitVec 32) (v178 : BitVec 32) (k0_t6 : Fin (k0_t6_loop v126_0 v160 v178).trips) (arg29 : BitVec 32) (k0_hw15 : k0_chk15 v126_0 v160 v178 k0_t6 arg29) (k0_t7 : Fin (k0_t7_loop v126_0 v160 v178 k0_t6 arg29).trips), (Rect.unit (s := S8x256x4096) (k0_off51 v126_0 v160 v178 k0_t6 arg29 k0_t7) S1x128x4096.size (k0_off51_inb v126_0 v160 v178 k0_t6 arg29 k0_hw15 k0_t7)).WholeWords (EltTy.packing .i8) := fun v126_0 v160 v178 k0_t6 arg29 k0_hw15 k0_t7 => k0_hw15.2.2.2.2.2.1 k0_t7 (k0_off51_inb v126_0 v160 v178 k0_t6 arg29 k0_hw15 k0_t7)
theorem k0_t8_ok : ∀ (v126_0 : BitVec 32) (v160 : BitVec 32) (v178 : BitVec 32) (k0_t6 : Fin (k0_t6_loop v126_0 v160 v178).trips) (arg29 : BitVec 32) (k0_hw15 : k0_chk15 v126_0 v160 v178 k0_t6 arg29), (k0_t8_loop v126_0 v160 v178 k0_t6 arg29).OK := fun v126_0 v160 v178 k0_t6 arg29 k0_hw15 => k0_hw15.2.2.2.2.2.2.1
theorem k0_off53_inb : ∀ (v126_0 : BitVec 32) (v160 : BitVec 32) (v178 : BitVec 32) (k0_t6 : Fin (k0_t6_loop v126_0 v160 v178).trips) (arg29 : BitVec 32) (k0_hw15 : k0_chk15 v126_0 v160 v178 k0_t6 arg29) (k0_t8 : Fin (k0_t8_loop v126_0 v160 v178 k0_t6 arg29).trips), ∀ a, (k0_off53 v126_0 v160 v178 k0_t6 arg29 k0_t8) a + S1.size a ≤ S87.size a := fun v126_0 v160 v178 k0_t6 arg29 k0_hw15 k0_t8 => k0_hw15.2.2.2.2.2.2.2.1 k0_t8
theorem k0_mult24_dvd : ∀ (v126_0 : BitVec 32) (v160 : BitVec 32) (v178 : BitVec 32) (k0_t6 : Fin (k0_t6_loop v126_0 v160 v178).trips) (arg29 : BitVec 32) (k0_hw15 : k0_chk15 v126_0 v160 v178 k0_t6 arg29) (k0_t8 : Fin (k0_t8_loop v126_0 v160 v178 k0_t6 arg29).trips), 128 ∣ (k0_mult24 v126_0 v160 v178 k0_t6 arg29 k0_t8).toNat := fun v126_0 v160 v178 k0_t6 arg29 k0_hw15 k0_t8 => k0_hw15.2.2.2.2.2.2.2.2.1 k0_t8
theorem k0_off54_inb : ∀ (v126_0 : BitVec 32) (v160 : BitVec 32) (v178 : BitVec 32) (k0_t6 : Fin (k0_t6_loop v126_0 v160 v178).trips) (arg29 : BitVec 32) (k0_hw15 : k0_chk15 v126_0 v160 v178 k0_t6 arg29) (k0_t8 : Fin (k0_t8_loop v126_0 v160 v178 k0_t6 arg29).trips), ∀ a, (k0_off54 v126_0 v160 v178 k0_t6 arg29 k0_t8) a + S1.size a ≤ S16.size a := fun v126_0 v160 v178 k0_t6 arg29 k0_hw15 k0_t8 => k0_hw15.2.2.2.2.2.2.2.2.2.1 k0_t8
theorem k0_off55_inb : ∀ (v126_0 : BitVec 32) (v160 : BitVec 32) (v178 : BitVec 32) (k0_t6 : Fin (k0_t6_loop v126_0 v160 v178).trips) (arg29 : BitVec 32) (k0_hw15 : k0_chk15 v126_0 v160 v178 k0_t6 arg29) (k0_t8 : Fin (k0_t8_loop v126_0 v160 v178 k0_t6 arg29).trips), ∀ a, (k0_off55 v126_0 v160 v178 k0_t6 arg29 k0_t8) a + S1x128x4096.size a ≤ S8x256x4096.size a := fun v126_0 v160 v178 k0_t6 arg29 k0_hw15 k0_t8 => k0_hw15.2.2.2.2.2.2.2.2.2.2.1 k0_t8
theorem k0_off55_wordsi8 : ∀ (v126_0 : BitVec 32) (v160 : BitVec 32) (v178 : BitVec 32) (k0_t6 : Fin (k0_t6_loop v126_0 v160 v178).trips) (arg29 : BitVec 32) (k0_hw15 : k0_chk15 v126_0 v160 v178 k0_t6 arg29) (k0_t8 : Fin (k0_t8_loop v126_0 v160 v178 k0_t6 arg29).trips), (Rect.unit (s := S8x256x4096) (k0_off55 v126_0 v160 v178 k0_t6 arg29 k0_t8) S1x128x4096.size (k0_off55_inb v126_0 v160 v178 k0_t6 arg29 k0_hw15 k0_t8)).WholeWords (EltTy.packing .i8) := fun v126_0 v160 v178 k0_t6 arg29 k0_hw15 k0_t8 => k0_hw15.2.2.2.2.2.2.2.2.2.2.2 k0_t8 (k0_off55_inb v126_0 v160 v178 k0_t6 arg29 k0_hw15 k0_t8)

@[reducible] def k0_t9_loop (v126_0 : BitVec 32) (v160 : BitVec 32) (v178 : BitVec 32) : Scf.Loop 32 :=
  let c0_i32_101 : BitVec 32 := 0#32
  let v168 : BitVec 32 := Scalar.addi v126_0 v160
  let v186 : BitVec 32 := Scalar.addi v168 v178
  let c1_i32_100 : BitVec 32 := 1#32
  let v198 : BitVec 32 := Scalar.shrsi v186 c1_i32_100
  let v199 : BitVec 32 := Scalar.subi v198 c0_i32_101
  let c1_i32_102 : BitVec 32 := 1#32
  let v201 : BitVec 32 := Scalar.divsi v199 c1_i32_102
  let v202 : BitVec 32 := Scalar.muli v201 c1_i32_102
  let v203 : BitVec 32 := Scalar.addi c0_i32_101 v202
  let v200 : BitVec 32 := Scalar.addi c0_i32_101 v199
  let c1_i32_104 : BitVec 32 := 1#32
  ⟨v203, v200, c1_i32_104⟩
def k0_off57 (v126_0 : BitVec 32) (v160 : BitVec 32) (v178 : BitVec 32) (k0_t9 : Fin (k0_t9_loop v126_0 v160 v178).trips) : Fin 1 → Nat :=
  let c2_i32_120 : BitVec 32 := 2#32
  let c0_i32_101 : BitVec 32 := 0#32
  let v168 : BitVec 32 := Scalar.addi v126_0 v160
  let v186 : BitVec 32 := Scalar.addi v168 v178
  let c1_i32_100 : BitVec 32 := 1#32
  let v198 : BitVec 32 := Scalar.shrsi v186 c1_i32_100
  let v199 : BitVec 32 := Scalar.subi v198 c0_i32_101
  let c1_i32_102 : BitVec 32 := 1#32
  let v201 : BitVec 32 := Scalar.divsi v199 c1_i32_102
  let v202 : BitVec 32 := Scalar.muli v201 c1_i32_102
  let v203 : BitVec 32 := Scalar.addi c0_i32_101 v202
  let c1_i32_104 : BitVec 32 := 1#32
  let arg28 : BitVec 32 := Scf.iv v203 c1_i32_104 k0_t9
  let v231 : BitVec 32 := Scalar.muli c2_i32_120 arg28
  let v232 : Index := Scalar.indexCast v231
  ![v232.toNat]
def k0_mult25 (v233 : BitVec 32) : BitVec 32 :=
  let c128_i32 : BitVec 32 := 128#32
  let v235 : BitVec 32 := Scalar.muli v233 c128_i32
  v235

def k0_mult26 (v126_0 : BitVec 32) (v160 : BitVec 32) (v178 : BitVec 32) (k0_t9 : Fin (k0_t9_loop v126_0 v160 v178).trips) : BitVec 32 :=
  let c2_i32_120 : BitVec 32 := 2#32
  let c0_i32_101 : BitVec 32 := 0#32
  let v168 : BitVec 32 := Scalar.addi v126_0 v160
  let v186 : BitVec 32 := Scalar.addi v168 v178
  let c1_i32_100 : BitVec 32 := 1#32
  let v198 : BitVec 32 := Scalar.shrsi v186 c1_i32_100
  let v199 : BitVec 32 := Scalar.subi v198 c0_i32_101
  let c1_i32_102 : BitVec 32 := 1#32
  let v201 : BitVec 32 := Scalar.divsi v199 c1_i32_102
  let v202 : BitVec 32 := Scalar.muli v201 c1_i32_102
  let v203 : BitVec 32 := Scalar.addi c0_i32_101 v202
  let c1_i32_104 : BitVec 32 := 1#32
  let arg28 : BitVec 32 := Scf.iv v203 c1_i32_104 k0_t9
  let v231 : BitVec 32 := Scalar.muli c2_i32_120 arg28
  let c16_i32_121 : BitVec 32 := 16#32
  let v234 : BitVec 32 := Scalar.remsi v231 c16_i32_121
  let c1_i32_123 : BitVec 32 := 1#32
  let v238 : BitVec 32 := Scalar.andi v234 c1_i32_123
  let c128_i32_124 : BitVec 32 := 128#32
  let v239 : BitVec 32 := Scalar.muli v238 c128_i32_124
  v239
def k0_off58 (v126_0 : BitVec 32) (v160 : BitVec 32) (v178 : BitVec 32) (k0_t9 : Fin (k0_t9_loop v126_0 v160 v178).trips) : Fin 1 → Nat :=
  let c2_i32_120 : BitVec 32 := 2#32
  let c0_i32_101 : BitVec 32 := 0#32
  let v168 : BitVec 32 := Scalar.addi v126_0 v160
  let v186 : BitVec 32 := Scalar.addi v168 v178
  let c1_i32_100 : BitVec 32 := 1#32
  let v198 : BitVec 32 := Scalar.shrsi v186 c1_i32_100
  let v199 : BitVec 32 := Scalar.subi v198 c0_i32_101
  let c1_i32_102 : BitVec 32 := 1#32
  let v201 : BitVec 32 := Scalar.divsi v199 c1_i32_102
  let v202 : BitVec 32 := Scalar.muli v201 c1_i32_102
  let v203 : BitVec 32 := Scalar.addi c0_i32_101 v202
  let c1_i32_104 : BitVec 32 := 1#32
  let arg28 : BitVec 32 := Scf.iv v203 c1_i32_104 k0_t9
  let v231 : BitVec 32 := Scalar.muli c2_i32_120 arg28
  let c16_i32_121 : BitVec 32 := 16#32
  let v234 : BitVec 32 := Scalar.remsi v231 c16_i32_121
  ![v234.toNat]
def k0_off59 (v126_0 : BitVec 32) (v160 : BitVec 32) (v178 : BitVec 32) (k0_t9 : Fin (k0_t9_loop v126_0 v160 v178).trips) : Fin 3 → Nat :=
  let c2_i32_120 : BitVec 32 := 2#32
  let c0_i32_101 : BitVec 32 := 0#32
  let v168 : BitVec 32 := Scalar.addi v126_0 v160
  let v186 : BitVec 32 := Scalar.addi v168 v178
  let c1_i32_100 : BitVec 32 := 1#32
  let v198 : BitVec 32 := Scalar.shrsi v186 c1_i32_100
  let v199 : BitVec 32 := Scalar.subi v198 c0_i32_101
  let c1_i32_102 : BitVec 32 := 1#32
  let v201 : BitVec 32 := Scalar.divsi v199 c1_i32_102
  let v202 : BitVec 32 := Scalar.muli v201 c1_i32_102
  let v203 : BitVec 32 := Scalar.addi c0_i32_101 v202
  let c1_i32_104 : BitVec 32 := 1#32
  let arg28 : BitVec 32 := Scf.iv v203 c1_i32_104 k0_t9
  let v231 : BitVec 32 := Scalar.muli c2_i32_120 arg28
  let c16_i32_121 : BitVec 32 := 16#32
  let v234 : BitVec 32 := Scalar.remsi v231 c16_i32_121
  let c1_i32_122 : BitVec 32 := 1#32
  let v237 : BitVec 32 := Scalar.shrsi v234 c1_i32_122
  let c1_i32_123 : BitVec 32 := 1#32
  let v238 : BitVec 32 := Scalar.andi v234 c1_i32_123
  let c128_i32_124 : BitVec 32 := 128#32
  let v239 : BitVec 32 := Scalar.muli v238 c128_i32_124
  let v240 : BitVec 32 := v239
  let c0_i32_125 : BitVec 32 := 0#32
  ![v237.toNat, v240.toNat, 0]
def k0_off60 (v233 : BitVec 32) : Fin 2 → Nat :=
  let c128_i32 : BitVec 32 := 128#32
  let v235 : BitVec 32 := Scalar.muli v233 c128_i32
  let v236 : BitVec 32 := v235
  let c0_i32_126 : BitVec 32 := 0#32
  ![v236.toNat, 0]

def k0_chk18 (v233 : BitVec 32) : Prop :=
  (128 ∣ (k0_mult25 v233).toNat) ∧
  (∀ a, (k0_off60 v233) a + S128x4096.size a ≤ S11008x4096.size a) ∧
  (∀ (hinb : ∀ a, (k0_off60 v233) a + S128x4096.size a ≤ S11008x4096.size a), (Rect.unit (s := S11008x4096) (k0_off60 v233) S128x4096.size hinb).WholeWords (EltTy.packing .i8))
theorem k0_mult25_dvd : ∀ (v233 : BitVec 32) (k0_hw18 : k0_chk18 v233), 128 ∣ (k0_mult25 v233).toNat := fun v233 k0_hw18 => k0_hw18.1
theorem k0_off60_inb : ∀ (v233 : BitVec 32) (k0_hw18 : k0_chk18 v233), ∀ a, (k0_off60 v233) a + S128x4096.size a ≤ S11008x4096.size a := fun v233 k0_hw18 => k0_hw18.2.1
theorem k0_off60_wordsi8 : ∀ (v233 : BitVec 32) (k0_hw18 : k0_chk18 v233), (Rect.unit (s := S11008x4096) (k0_off60 v233) S128x4096.size (k0_off60_inb v233 k0_hw18)).WholeWords (EltTy.packing .i8) := fun v233 k0_hw18 => k0_hw18.2.2 (k0_off60_inb v233 k0_hw18)

def k0_off61 (v126_0 : BitVec 32) (v160 : BitVec 32) (v178 : BitVec 32) (k0_t9 : Fin (k0_t9_loop v126_0 v160 v178).trips) : Fin 1 → Nat :=
  let c2_i32_127 : BitVec 32 := 2#32
  let c0_i32_101 : BitVec 32 := 0#32
  let v168 : BitVec 32 := Scalar.addi v126_0 v160
  let v186 : BitVec 32 := Scalar.addi v168 v178
  let c1_i32_100 : BitVec 32 := 1#32
  let v198 : BitVec 32 := Scalar.shrsi v186 c1_i32_100
  let v199 : BitVec 32 := Scalar.subi v198 c0_i32_101
  let c1_i32_102 : BitVec 32 := 1#32
  let v201 : BitVec 32 := Scalar.divsi v199 c1_i32_102
  let v202 : BitVec 32 := Scalar.muli v201 c1_i32_102
  let v203 : BitVec 32 := Scalar.addi c0_i32_101 v202
  let c1_i32_104 : BitVec 32 := 1#32
  let arg28 : BitVec 32 := Scf.iv v203 c1_i32_104 k0_t9
  let v246 : BitVec 32 := Scalar.muli c2_i32_127 arg28
  let c1_i32_128 : BitVec 32 := 1#32
  let v247 : BitVec 32 := Scalar.addi v246 c1_i32_128
  let v248 : Index := Scalar.indexCast v247
  ![v248.toNat]
def k0_mult27 (v249 : BitVec 32) : BitVec 32 :=
  let c128_i32_130 : BitVec 32 := 128#32
  let v251 : BitVec 32 := Scalar.muli v249 c128_i32_130
  v251

def k0_mult28 (v126_0 : BitVec 32) (v160 : BitVec 32) (v178 : BitVec 32) (k0_t9 : Fin (k0_t9_loop v126_0 v160 v178).trips) : BitVec 32 :=
  let c2_i32_127 : BitVec 32 := 2#32
  let c0_i32_101 : BitVec 32 := 0#32
  let v168 : BitVec 32 := Scalar.addi v126_0 v160
  let v186 : BitVec 32 := Scalar.addi v168 v178
  let c1_i32_100 : BitVec 32 := 1#32
  let v198 : BitVec 32 := Scalar.shrsi v186 c1_i32_100
  let v199 : BitVec 32 := Scalar.subi v198 c0_i32_101
  let c1_i32_102 : BitVec 32 := 1#32
  let v201 : BitVec 32 := Scalar.divsi v199 c1_i32_102
  let v202 : BitVec 32 := Scalar.muli v201 c1_i32_102
  let v203 : BitVec 32 := Scalar.addi c0_i32_101 v202
  let c1_i32_104 : BitVec 32 := 1#32
  let arg28 : BitVec 32 := Scf.iv v203 c1_i32_104 k0_t9
  let v246 : BitVec 32 := Scalar.muli c2_i32_127 arg28
  let c1_i32_128 : BitVec 32 := 1#32
  let v247 : BitVec 32 := Scalar.addi v246 c1_i32_128
  let c16_i32_129 : BitVec 32 := 16#32
  let v250 : BitVec 32 := Scalar.remsi v247 c16_i32_129
  let c1_i32_132 : BitVec 32 := 1#32
  let v254 : BitVec 32 := Scalar.andi v250 c1_i32_132
  let c128_i32_133 : BitVec 32 := 128#32
  let v255 : BitVec 32 := Scalar.muli v254 c128_i32_133
  v255
def k0_off62 (v126_0 : BitVec 32) (v160 : BitVec 32) (v178 : BitVec 32) (k0_t9 : Fin (k0_t9_loop v126_0 v160 v178).trips) : Fin 1 → Nat :=
  let c2_i32_127 : BitVec 32 := 2#32
  let c0_i32_101 : BitVec 32 := 0#32
  let v168 : BitVec 32 := Scalar.addi v126_0 v160
  let v186 : BitVec 32 := Scalar.addi v168 v178
  let c1_i32_100 : BitVec 32 := 1#32
  let v198 : BitVec 32 := Scalar.shrsi v186 c1_i32_100
  let v199 : BitVec 32 := Scalar.subi v198 c0_i32_101
  let c1_i32_102 : BitVec 32 := 1#32
  let v201 : BitVec 32 := Scalar.divsi v199 c1_i32_102
  let v202 : BitVec 32 := Scalar.muli v201 c1_i32_102
  let v203 : BitVec 32 := Scalar.addi c0_i32_101 v202
  let c1_i32_104 : BitVec 32 := 1#32
  let arg28 : BitVec 32 := Scf.iv v203 c1_i32_104 k0_t9
  let v246 : BitVec 32 := Scalar.muli c2_i32_127 arg28
  let c1_i32_128 : BitVec 32 := 1#32
  let v247 : BitVec 32 := Scalar.addi v246 c1_i32_128
  let c16_i32_129 : BitVec 32 := 16#32
  let v250 : BitVec 32 := Scalar.remsi v247 c16_i32_129
  ![v250.toNat]
def k0_off63 (v126_0 : BitVec 32) (v160 : BitVec 32) (v178 : BitVec 32) (k0_t9 : Fin (k0_t9_loop v126_0 v160 v178).trips) : Fin 3 → Nat :=
  let c2_i32_127 : BitVec 32 := 2#32
  let c0_i32_101 : BitVec 32 := 0#32
  let v168 : BitVec 32 := Scalar.addi v126_0 v160
  let v186 : BitVec 32 := Scalar.addi v168 v178
  let c1_i32_100 : BitVec 32 := 1#32
  let v198 : BitVec 32 := Scalar.shrsi v186 c1_i32_100
  let v199 : BitVec 32 := Scalar.subi v198 c0_i32_101
  let c1_i32_102 : BitVec 32 := 1#32
  let v201 : BitVec 32 := Scalar.divsi v199 c1_i32_102
  let v202 : BitVec 32 := Scalar.muli v201 c1_i32_102
  let v203 : BitVec 32 := Scalar.addi c0_i32_101 v202
  let c1_i32_104 : BitVec 32 := 1#32
  let arg28 : BitVec 32 := Scf.iv v203 c1_i32_104 k0_t9
  let v246 : BitVec 32 := Scalar.muli c2_i32_127 arg28
  let c1_i32_128 : BitVec 32 := 1#32
  let v247 : BitVec 32 := Scalar.addi v246 c1_i32_128
  let c16_i32_129 : BitVec 32 := 16#32
  let v250 : BitVec 32 := Scalar.remsi v247 c16_i32_129
  let c1_i32_131 : BitVec 32 := 1#32
  let v253 : BitVec 32 := Scalar.shrsi v250 c1_i32_131
  let c1_i32_132 : BitVec 32 := 1#32
  let v254 : BitVec 32 := Scalar.andi v250 c1_i32_132
  let c128_i32_133 : BitVec 32 := 128#32
  let v255 : BitVec 32 := Scalar.muli v254 c128_i32_133
  let v256 : BitVec 32 := v255
  let c0_i32_134 : BitVec 32 := 0#32
  ![v253.toNat, v256.toNat, 0]
def k0_off64 (v249 : BitVec 32) : Fin 2 → Nat :=
  let c128_i32_130 : BitVec 32 := 128#32
  let v251 : BitVec 32 := Scalar.muli v249 c128_i32_130
  let v252 : BitVec 32 := v251
  let c0_i32_135 : BitVec 32 := 0#32
  ![v252.toNat, 0]

def k0_chk19 (v249 : BitVec 32) : Prop :=
  (128 ∣ (k0_mult27 v249).toNat) ∧
  (∀ a, (k0_off64 v249) a + S128x4096.size a ≤ S11008x4096.size a) ∧
  (∀ (hinb : ∀ a, (k0_off64 v249) a + S128x4096.size a ≤ S11008x4096.size a), (Rect.unit (s := S11008x4096) (k0_off64 v249) S128x4096.size hinb).WholeWords (EltTy.packing .i8))
theorem k0_mult27_dvd : ∀ (v249 : BitVec 32) (k0_hw19 : k0_chk19 v249), 128 ∣ (k0_mult27 v249).toNat := fun v249 k0_hw19 => k0_hw19.1
theorem k0_off64_inb : ∀ (v249 : BitVec 32) (k0_hw19 : k0_chk19 v249), ∀ a, (k0_off64 v249) a + S128x4096.size a ≤ S11008x4096.size a := fun v249 k0_hw19 => k0_hw19.2.1
theorem k0_off64_wordsi8 : ∀ (v249 : BitVec 32) (k0_hw19 : k0_chk19 v249), (Rect.unit (s := S11008x4096) (k0_off64 v249) S128x4096.size (k0_off64_inb v249 k0_hw19)).WholeWords (EltTy.packing .i8) := fun v249 k0_hw19 => k0_hw19.2.2 (k0_off64_inb v249 k0_hw19)

def k0_off65 (v126_0 : BitVec 32) (v160 : BitVec 32) (v178 : BitVec 32) (k0_t9 : Fin (k0_t9_loop v126_0 v160 v178).trips) : Fin 3 → Nat :=
  let c2_i32_136 : BitVec 32 := 2#32
  let c0_i32_101 : BitVec 32 := 0#32
  let v168 : BitVec 32 := Scalar.addi v126_0 v160
  let v186 : BitVec 32 := Scalar.addi v168 v178
  let c1_i32_100 : BitVec 32 := 1#32
  let v198 : BitVec 32 := Scalar.shrsi v186 c1_i32_100
  let v199 : BitVec 32 := Scalar.subi v198 c0_i32_101
  let c1_i32_102 : BitVec 32 := 1#32
  let v201 : BitVec 32 := Scalar.divsi v199 c1_i32_102
  let v202 : BitVec 32 := Scalar.muli v201 c1_i32_102
  let v203 : BitVec 32 := Scalar.addi c0_i32_101 v202
  let c1_i32_104 : BitVec 32 := 1#32
  let arg28 : BitVec 32 := Scf.iv v203 c1_i32_104 k0_t9
  let v262 : BitVec 32 := Scalar.muli c2_i32_136 arg28
  let v263 : Index := Scalar.indexCast v262
  let c0_137 : Index := 0#32
  let c0_138 : Index := 0#32
  ![v263.toNat, 0, 0]
def k0_off66 (v126_0 : BitVec 32) (v160 : BitVec 32) (v178 : BitVec 32) (k0_t9 : Fin (k0_t9_loop v126_0 v160 v178).trips) : Fin 3 → Nat :=
  let c2_i32_139 : BitVec 32 := 2#32
  let c0_i32_101 : BitVec 32 := 0#32
  let v168 : BitVec 32 := Scalar.addi v126_0 v160
  let v186 : BitVec 32 := Scalar.addi v168 v178
  let c1_i32_100 : BitVec 32 := 1#32
  let v198 : BitVec 32 := Scalar.shrsi v186 c1_i32_100
  let v199 : BitVec 32 := Scalar.subi v198 c0_i32_101
  let c1_i32_102 : BitVec 32 := 1#32
  let v201 : BitVec 32 := Scalar.divsi v199 c1_i32_102
  let v202 : BitVec 32 := Scalar.muli v201 c1_i32_102
  let v203 : BitVec 32 := Scalar.addi c0_i32_101 v202
  let c1_i32_104 : BitVec 32 := 1#32
  let arg28 : BitVec 32 := Scf.iv v203 c1_i32_104 k0_t9
  let v266 : BitVec 32 := Scalar.muli c2_i32_139 arg28
  let c1_i32_140 : BitVec 32 := 1#32
  let v267 : BitVec 32 := Scalar.addi v266 c1_i32_140
  let v268 : Index := Scalar.indexCast v267
  let c0_141 : Index := 0#32
  let c0_142 : Index := 0#32
  ![v268.toNat, 0, 0]
def k0_off67 (v126_0 : BitVec 32) (v160 : BitVec 32) (v178 : BitVec 32) (k0_t9 : Fin (k0_t9_loop v126_0 v160 v178).trips) : Fin 3 → Nat :=
  let c0_i32_101 : BitVec 32 := 0#32
  let v168 : BitVec 32 := Scalar.addi v126_0 v160
  let v186 : BitVec 32 := Scalar.addi v168 v178
  let c1_i32_100 : BitVec 32 := 1#32
  let v198 : BitVec 32 := Scalar.shrsi v186 c1_i32_100
  let v199 : BitVec 32 := Scalar.subi v198 c0_i32_101
  let c1_i32_102 : BitVec 32 := 1#32
  let v201 : BitVec 32 := Scalar.divsi v199 c1_i32_102
  let v202 : BitVec 32 := Scalar.muli v201 c1_i32_102
  let v203 : BitVec 32 := Scalar.addi c0_i32_101 v202
  let c1_i32_104 : BitVec 32 := 1#32
  let arg28 : BitVec 32 := Scf.iv v203 c1_i32_104 k0_t9
  let c8_i32 : BitVec 32 := 8#32
  let v230 : BitVec 32 := Scalar.remsi arg28 c8_i32
  let v272 : Index := Scalar.indexCast v230
  let c0_143 : Index := 0#32
  let c0_144 : Index := 0#32
  ![v272.toNat, 0, 0]
@[reducible] def k0_t10_loop (v126_0 : BitVec 32) (v160 : BitVec 32) (v178 : BitVec 32) (k0_t9 : Fin (k0_t9_loop v126_0 v160 v178).trips) (arg29 : BitVec 32) : Scf.Loop 32 :=
  let v168 : BitVec 32 := Scalar.addi v126_0 v160
  let v186 : BitVec 32 := Scalar.addi v168 v178
  let c2_i32_150 : BitVec 32 := 2#32
  let c0_i32_101 : BitVec 32 := 0#32
  let c1_i32_100 : BitVec 32 := 1#32
  let v198 : BitVec 32 := Scalar.shrsi v186 c1_i32_100
  let v199 : BitVec 32 := Scalar.subi v198 c0_i32_101
  let c1_i32_102 : BitVec 32 := 1#32
  let v201 : BitVec 32 := Scalar.divsi v199 c1_i32_102
  let v202 : BitVec 32 := Scalar.muli v201 c1_i32_102
  let v203 : BitVec 32 := Scalar.addi c0_i32_101 v202
  let c1_i32_104 : BitVec 32 := 1#32
  let arg28 : BitVec 32 := Scf.iv v203 c1_i32_104 k0_t9
  let v283 : BitVec 32 := Scalar.muli c2_i32_150 arg28
  let c2_i32_151 : BitVec 32 := 2#32
  let v284 : BitVec 32 := Scalar.addi v283 c2_i32_151
  let c16_i32_152 : BitVec 32 := 16#32
  let v285 : BitVec 32 := Scalar.addi v284 c16_i32_152
  let v286 : BitVec 32 := Scalar.minsi v186 v285
  let v287 : BitVec 32 := Scalar.maxsi arg29 v286
  let v288 : BitVec 32 := Scalar.subi v287 arg29
  let c1_i32_154 : BitVec 32 := 1#32
  let v290 : BitVec 32 := Scalar.divsi v288 c1_i32_154
  let v291 : BitVec 32 := Scalar.muli v290 c1_i32_154
  let v292 : BitVec 32 := Scalar.addi arg29 v291
  let c1_i32_155 : BitVec 32 := 1#32
  ⟨arg29, v292, c1_i32_155⟩

def k0_off68 (v126_0 : BitVec 32) (v160 : BitVec 32) (v178 : BitVec 32) (k0_t9 : Fin (k0_t9_loop v126_0 v160 v178).trips) (arg29 : BitVec 32) (k0_t10 : Fin (k0_t10_loop v126_0 v160 v178 k0_t9 arg29).trips) : Fin 1 → Nat :=
  let c1_i32_155 : BitVec 32 := 1#32
  let arg30 : BitVec 32 := Scf.iv arg29 c1_i32_155 k0_t10
  let v295 : Index := Scalar.indexCast arg30
  ![v295.toNat]
def k0_mult29 (v296 : BitVec 32) : BitVec 32 :=
  let c128_i32_158 : BitVec 32 := 128#32
  let v298 : BitVec 32 := Scalar.muli v296 c128_i32_158
  v298

def k0_mult30 (v126_0 : BitVec 32) (v160 : BitVec 32) (v178 : BitVec 32) (k0_t9 : Fin (k0_t9_loop v126_0 v160 v178).trips) (arg29 : BitVec 32) (k0_t10 : Fin (k0_t10_loop v126_0 v160 v178 k0_t9 arg29).trips) : BitVec 32 :=
  let c1_i32_155 : BitVec 32 := 1#32
  let arg30 : BitVec 32 := Scf.iv arg29 c1_i32_155 k0_t10
  let c16_i32_157 : BitVec 32 := 16#32
  let v297 : BitVec 32 := Scalar.remsi arg30 c16_i32_157
  let c1_i32_160 : BitVec 32 := 1#32
  let v301 : BitVec 32 := Scalar.andi v297 c1_i32_160
  let c128_i32_161 : BitVec 32 := 128#32
  let v302 : BitVec 32 := Scalar.muli v301 c128_i32_161
  v302
def k0_off69 (v126_0 : BitVec 32) (v160 : BitVec 32) (v178 : BitVec 32) (k0_t9 : Fin (k0_t9_loop v126_0 v160 v178).trips) (arg29 : BitVec 32) (k0_t10 : Fin (k0_t10_loop v126_0 v160 v178 k0_t9 arg29).trips) : Fin 1 → Nat :=
  let c1_i32_155 : BitVec 32 := 1#32
  let arg30 : BitVec 32 := Scf.iv arg29 c1_i32_155 k0_t10
  let c16_i32_157 : BitVec 32 := 16#32
  let v297 : BitVec 32 := Scalar.remsi arg30 c16_i32_157
  ![v297.toNat]
def k0_off70 (v126_0 : BitVec 32) (v160 : BitVec 32) (v178 : BitVec 32) (k0_t9 : Fin (k0_t9_loop v126_0 v160 v178).trips) (arg29 : BitVec 32) (k0_t10 : Fin (k0_t10_loop v126_0 v160 v178 k0_t9 arg29).trips) : Fin 3 → Nat :=
  let c1_i32_155 : BitVec 32 := 1#32
  let arg30 : BitVec 32 := Scf.iv arg29 c1_i32_155 k0_t10
  let c16_i32_157 : BitVec 32 := 16#32
  let v297 : BitVec 32 := Scalar.remsi arg30 c16_i32_157
  let c1_i32_159 : BitVec 32 := 1#32
  let v300 : BitVec 32 := Scalar.shrsi v297 c1_i32_159
  let c1_i32_160 : BitVec 32 := 1#32
  let v301 : BitVec 32 := Scalar.andi v297 c1_i32_160
  let c128_i32_161 : BitVec 32 := 128#32
  let v302 : BitVec 32 := Scalar.muli v301 c128_i32_161
  let v303 : BitVec 32 := v302
  let c0_i32_162 : BitVec 32 := 0#32
  ![v300.toNat, v303.toNat, 0]
def k0_off71 (v296 : BitVec 32) : Fin 2 → Nat :=
  let c128_i32_158 : BitVec 32 := 128#32
  let v298 : BitVec 32 := Scalar.muli v296 c128_i32_158
  let v299 : BitVec 32 := v298
  let c0_i32_163 : BitVec 32 := 0#32
  ![v299.toNat, 0]

def k0_chk21 (v296 : BitVec 32) : Prop :=
  (128 ∣ (k0_mult29 v296).toNat) ∧
  (∀ a, (k0_off71 v296) a + S128x4096.size a ≤ S11008x4096.size a) ∧
  (∀ (hinb : ∀ a, (k0_off71 v296) a + S128x4096.size a ≤ S11008x4096.size a), (Rect.unit (s := S11008x4096) (k0_off71 v296) S128x4096.size hinb).WholeWords (EltTy.packing .i8))
theorem k0_mult29_dvd : ∀ (v296 : BitVec 32) (k0_hw21 : k0_chk21 v296), 128 ∣ (k0_mult29 v296).toNat := fun v296 k0_hw21 => k0_hw21.1
theorem k0_off71_inb : ∀ (v296 : BitVec 32) (k0_hw21 : k0_chk21 v296), ∀ a, (k0_off71 v296) a + S128x4096.size a ≤ S11008x4096.size a := fun v296 k0_hw21 => k0_hw21.2.1
theorem k0_off71_wordsi8 : ∀ (v296 : BitVec 32) (k0_hw21 : k0_chk21 v296), (Rect.unit (s := S11008x4096) (k0_off71 v296) S128x4096.size (k0_off71_inb v296 k0_hw21)).WholeWords (EltTy.packing .i8) := fun v296 k0_hw21 => k0_hw21.2.2 (k0_off71_inb v296 k0_hw21)

@[reducible] def k0_t11_loop (v126_0 : BitVec 32) (v160 : BitVec 32) (v178 : BitVec 32) (k0_t9 : Fin (k0_t9_loop v126_0 v160 v178).trips) (arg29 : BitVec 32) : Scf.Loop 32 :=
  let v168 : BitVec 32 := Scalar.addi v126_0 v160
  let v186 : BitVec 32 := Scalar.addi v168 v178
  let c2_i32_150 : BitVec 32 := 2#32
  let c0_i32_101 : BitVec 32 := 0#32
  let c1_i32_100 : BitVec 32 := 1#32
  let v198 : BitVec 32 := Scalar.shrsi v186 c1_i32_100
  let v199 : BitVec 32 := Scalar.subi v198 c0_i32_101
  let c1_i32_102 : BitVec 32 := 1#32
  let v201 : BitVec 32 := Scalar.divsi v199 c1_i32_102
  let v202 : BitVec 32 := Scalar.muli v201 c1_i32_102
  let v203 : BitVec 32 := Scalar.addi c0_i32_101 v202
  let c1_i32_104 : BitVec 32 := 1#32
  let arg28 : BitVec 32 := Scf.iv v203 c1_i32_104 k0_t9
  let v283 : BitVec 32 := Scalar.muli c2_i32_150 arg28
  let c2_i32_151 : BitVec 32 := 2#32
  let v284 : BitVec 32 := Scalar.addi v283 c2_i32_151
  let c16_i32_152 : BitVec 32 := 16#32
  let v285 : BitVec 32 := Scalar.addi v284 c16_i32_152
  let v286 : BitVec 32 := Scalar.minsi v186 v285
  let v287 : BitVec 32 := Scalar.maxsi arg29 v286
  let v288 : BitVec 32 := Scalar.subi v287 arg29
  let c1_i32_154 : BitVec 32 := 1#32
  let v290 : BitVec 32 := Scalar.divsi v288 c1_i32_154
  let v291 : BitVec 32 := Scalar.muli v290 c1_i32_154
  let v292 : BitVec 32 := Scalar.addi arg29 v291
  let v289 : BitVec 32 := Scalar.addi arg29 v288
  let c1_i32_156 : BitVec 32 := 1#32
  ⟨v292, v289, c1_i32_156⟩
def k0_off72 (v126_0 : BitVec 32) (v160 : BitVec 32) (v178 : BitVec 32) (k0_t9 : Fin (k0_t9_loop v126_0 v160 v178).trips) (arg29 : BitVec 32) (k0_t11 : Fin (k0_t11_loop v126_0 v160 v178 k0_t9 arg29).trips) : Fin 1 → Nat :=
  let v168 : BitVec 32 := Scalar.addi v126_0 v160
  let v186 : BitVec 32 := Scalar.addi v168 v178
  let c2_i32_150 : BitVec 32 := 2#32
  let c0_i32_101 : BitVec 32 := 0#32
  let c1_i32_100 : BitVec 32 := 1#32
  let v198 : BitVec 32 := Scalar.shrsi v186 c1_i32_100
  let v199 : BitVec 32 := Scalar.subi v198 c0_i32_101
  let c1_i32_102 : BitVec 32 := 1#32
  let v201 : BitVec 32 := Scalar.divsi v199 c1_i32_102
  let v202 : BitVec 32 := Scalar.muli v201 c1_i32_102
  let v203 : BitVec 32 := Scalar.addi c0_i32_101 v202
  let c1_i32_104 : BitVec 32 := 1#32
  let arg28 : BitVec 32 := Scf.iv v203 c1_i32_104 k0_t9
  let v283 : BitVec 32 := Scalar.muli c2_i32_150 arg28
  let c2_i32_151 : BitVec 32 := 2#32
  let v284 : BitVec 32 := Scalar.addi v283 c2_i32_151
  let c16_i32_152 : BitVec 32 := 16#32
  let v285 : BitVec 32 := Scalar.addi v284 c16_i32_152
  let v286 : BitVec 32 := Scalar.minsi v186 v285
  let v287 : BitVec 32 := Scalar.maxsi arg29 v286
  let v288 : BitVec 32 := Scalar.subi v287 arg29
  let c1_i32_154 : BitVec 32 := 1#32
  let v290 : BitVec 32 := Scalar.divsi v288 c1_i32_154
  let v291 : BitVec 32 := Scalar.muli v290 c1_i32_154
  let v292 : BitVec 32 := Scalar.addi arg29 v291
  let c1_i32_156 : BitVec 32 := 1#32
  let arg30 : BitVec 32 := Scf.iv v292 c1_i32_156 k0_t11
  let v295 : Index := Scalar.indexCast arg30
  ![v295.toNat]
def k0_mult31 (v296 : BitVec 32) : BitVec 32 :=
  let c128_i32_158 : BitVec 32 := 128#32
  let v298 : BitVec 32 := Scalar.muli v296 c128_i32_158
  v298

def k0_mult32 (v126_0 : BitVec 32) (v160 : BitVec 32) (v178 : BitVec 32) (k0_t9 : Fin (k0_t9_loop v126_0 v160 v178).trips) (arg29 : BitVec 32) (k0_t11 : Fin (k0_t11_loop v126_0 v160 v178 k0_t9 arg29).trips) : BitVec 32 :=
  let v168 : BitVec 32 := Scalar.addi v126_0 v160
  let v186 : BitVec 32 := Scalar.addi v168 v178
  let c2_i32_150 : BitVec 32 := 2#32
  let c0_i32_101 : BitVec 32 := 0#32
  let c1_i32_100 : BitVec 32 := 1#32
  let v198 : BitVec 32 := Scalar.shrsi v186 c1_i32_100
  let v199 : BitVec 32 := Scalar.subi v198 c0_i32_101
  let c1_i32_102 : BitVec 32 := 1#32
  let v201 : BitVec 32 := Scalar.divsi v199 c1_i32_102
  let v202 : BitVec 32 := Scalar.muli v201 c1_i32_102
  let v203 : BitVec 32 := Scalar.addi c0_i32_101 v202
  let c1_i32_104 : BitVec 32 := 1#32
  let arg28 : BitVec 32 := Scf.iv v203 c1_i32_104 k0_t9
  let v283 : BitVec 32 := Scalar.muli c2_i32_150 arg28
  let c2_i32_151 : BitVec 32 := 2#32
  let v284 : BitVec 32 := Scalar.addi v283 c2_i32_151
  let c16_i32_152 : BitVec 32 := 16#32
  let v285 : BitVec 32 := Scalar.addi v284 c16_i32_152
  let v286 : BitVec 32 := Scalar.minsi v186 v285
  let v287 : BitVec 32 := Scalar.maxsi arg29 v286
  let v288 : BitVec 32 := Scalar.subi v287 arg29
  let c1_i32_154 : BitVec 32 := 1#32
  let v290 : BitVec 32 := Scalar.divsi v288 c1_i32_154
  let v291 : BitVec 32 := Scalar.muli v290 c1_i32_154
  let v292 : BitVec 32 := Scalar.addi arg29 v291
  let c1_i32_156 : BitVec 32 := 1#32
  let arg30 : BitVec 32 := Scf.iv v292 c1_i32_156 k0_t11
  let c16_i32_157 : BitVec 32 := 16#32
  let v297 : BitVec 32 := Scalar.remsi arg30 c16_i32_157
  let c1_i32_160 : BitVec 32 := 1#32
  let v301 : BitVec 32 := Scalar.andi v297 c1_i32_160
  let c128_i32_161 : BitVec 32 := 128#32
  let v302 : BitVec 32 := Scalar.muli v301 c128_i32_161
  v302
def k0_off73 (v126_0 : BitVec 32) (v160 : BitVec 32) (v178 : BitVec 32) (k0_t9 : Fin (k0_t9_loop v126_0 v160 v178).trips) (arg29 : BitVec 32) (k0_t11 : Fin (k0_t11_loop v126_0 v160 v178 k0_t9 arg29).trips) : Fin 1 → Nat :=
  let v168 : BitVec 32 := Scalar.addi v126_0 v160
  let v186 : BitVec 32 := Scalar.addi v168 v178
  let c2_i32_150 : BitVec 32 := 2#32
  let c0_i32_101 : BitVec 32 := 0#32
  let c1_i32_100 : BitVec 32 := 1#32
  let v198 : BitVec 32 := Scalar.shrsi v186 c1_i32_100
  let v199 : BitVec 32 := Scalar.subi v198 c0_i32_101
  let c1_i32_102 : BitVec 32 := 1#32
  let v201 : BitVec 32 := Scalar.divsi v199 c1_i32_102
  let v202 : BitVec 32 := Scalar.muli v201 c1_i32_102
  let v203 : BitVec 32 := Scalar.addi c0_i32_101 v202
  let c1_i32_104 : BitVec 32 := 1#32
  let arg28 : BitVec 32 := Scf.iv v203 c1_i32_104 k0_t9
  let v283 : BitVec 32 := Scalar.muli c2_i32_150 arg28
  let c2_i32_151 : BitVec 32 := 2#32
  let v284 : BitVec 32 := Scalar.addi v283 c2_i32_151
  let c16_i32_152 : BitVec 32 := 16#32
  let v285 : BitVec 32 := Scalar.addi v284 c16_i32_152
  let v286 : BitVec 32 := Scalar.minsi v186 v285
  let v287 : BitVec 32 := Scalar.maxsi arg29 v286
  let v288 : BitVec 32 := Scalar.subi v287 arg29
  let c1_i32_154 : BitVec 32 := 1#32
  let v290 : BitVec 32 := Scalar.divsi v288 c1_i32_154
  let v291 : BitVec 32 := Scalar.muli v290 c1_i32_154
  let v292 : BitVec 32 := Scalar.addi arg29 v291
  let c1_i32_156 : BitVec 32 := 1#32
  let arg30 : BitVec 32 := Scf.iv v292 c1_i32_156 k0_t11
  let c16_i32_157 : BitVec 32 := 16#32
  let v297 : BitVec 32 := Scalar.remsi arg30 c16_i32_157
  ![v297.toNat]
def k0_off74 (v126_0 : BitVec 32) (v160 : BitVec 32) (v178 : BitVec 32) (k0_t9 : Fin (k0_t9_loop v126_0 v160 v178).trips) (arg29 : BitVec 32) (k0_t11 : Fin (k0_t11_loop v126_0 v160 v178 k0_t9 arg29).trips) : Fin 3 → Nat :=
  let v168 : BitVec 32 := Scalar.addi v126_0 v160
  let v186 : BitVec 32 := Scalar.addi v168 v178
  let c2_i32_150 : BitVec 32 := 2#32
  let c0_i32_101 : BitVec 32 := 0#32
  let c1_i32_100 : BitVec 32 := 1#32
  let v198 : BitVec 32 := Scalar.shrsi v186 c1_i32_100
  let v199 : BitVec 32 := Scalar.subi v198 c0_i32_101
  let c1_i32_102 : BitVec 32 := 1#32
  let v201 : BitVec 32 := Scalar.divsi v199 c1_i32_102
  let v202 : BitVec 32 := Scalar.muli v201 c1_i32_102
  let v203 : BitVec 32 := Scalar.addi c0_i32_101 v202
  let c1_i32_104 : BitVec 32 := 1#32
  let arg28 : BitVec 32 := Scf.iv v203 c1_i32_104 k0_t9
  let v283 : BitVec 32 := Scalar.muli c2_i32_150 arg28
  let c2_i32_151 : BitVec 32 := 2#32
  let v284 : BitVec 32 := Scalar.addi v283 c2_i32_151
  let c16_i32_152 : BitVec 32 := 16#32
  let v285 : BitVec 32 := Scalar.addi v284 c16_i32_152
  let v286 : BitVec 32 := Scalar.minsi v186 v285
  let v287 : BitVec 32 := Scalar.maxsi arg29 v286
  let v288 : BitVec 32 := Scalar.subi v287 arg29
  let c1_i32_154 : BitVec 32 := 1#32
  let v290 : BitVec 32 := Scalar.divsi v288 c1_i32_154
  let v291 : BitVec 32 := Scalar.muli v290 c1_i32_154
  let v292 : BitVec 32 := Scalar.addi arg29 v291
  let c1_i32_156 : BitVec 32 := 1#32
  let arg30 : BitVec 32 := Scf.iv v292 c1_i32_156 k0_t11
  let c16_i32_157 : BitVec 32 := 16#32
  let v297 : BitVec 32 := Scalar.remsi arg30 c16_i32_157
  let c1_i32_159 : BitVec 32 := 1#32
  let v300 : BitVec 32 := Scalar.shrsi v297 c1_i32_159
  let c1_i32_160 : BitVec 32 := 1#32
  let v301 : BitVec 32 := Scalar.andi v297 c1_i32_160
  let c128_i32_161 : BitVec 32 := 128#32
  let v302 : BitVec 32 := Scalar.muli v301 c128_i32_161
  let v303 : BitVec 32 := v302
  let c0_i32_162 : BitVec 32 := 0#32
  ![v300.toNat, v303.toNat, 0]
def k0_off75 (v296 : BitVec 32) : Fin 2 → Nat :=
  let c128_i32_158 : BitVec 32 := 128#32
  let v298 : BitVec 32 := Scalar.muli v296 c128_i32_158
  let v299 : BitVec 32 := v298
  let c0_i32_163 : BitVec 32 := 0#32
  ![v299.toNat, 0]

def k0_chk22 (v296 : BitVec 32) : Prop :=
  (128 ∣ (k0_mult31 v296).toNat) ∧
  (∀ a, (k0_off75 v296) a + S128x4096.size a ≤ S11008x4096.size a) ∧
  (∀ (hinb : ∀ a, (k0_off75 v296) a + S128x4096.size a ≤ S11008x4096.size a), (Rect.unit (s := S11008x4096) (k0_off75 v296) S128x4096.size hinb).WholeWords (EltTy.packing .i8))
theorem k0_mult31_dvd : ∀ (v296 : BitVec 32) (k0_hw22 : k0_chk22 v296), 128 ∣ (k0_mult31 v296).toNat := fun v296 k0_hw22 => k0_hw22.1
theorem k0_off75_inb : ∀ (v296 : BitVec 32) (k0_hw22 : k0_chk22 v296), ∀ a, (k0_off75 v296) a + S128x4096.size a ≤ S11008x4096.size a := fun v296 k0_hw22 => k0_hw22.2.1
theorem k0_off75_wordsi8 : ∀ (v296 : BitVec 32) (k0_hw22 : k0_chk22 v296), (Rect.unit (s := S11008x4096) (k0_off75 v296) S128x4096.size (k0_off75_inb v296 k0_hw22)).WholeWords (EltTy.packing .i8) := fun v296 k0_hw22 => k0_hw22.2.2 (k0_off75_inb v296 k0_hw22)

def k0_chk20 (v126_0 : BitVec 32) (v160 : BitVec 32) (v178 : BitVec 32) (k0_t9 : Fin (k0_t9_loop v126_0 v160 v178).trips) (arg29 : BitVec 32) : Prop :=
  ((k0_t10_loop v126_0 v160 v178 k0_t9 arg29).OK) ∧
  (∀ k0_t10 : Fin (k0_t10_loop v126_0 v160 v178 k0_t9 arg29).trips, ∀ a, (k0_off68 v126_0 v160 v178 k0_t9 arg29 k0_t10) a + S1.size a ≤ S87.size a) ∧
  (∀ k0_t10 : Fin (k0_t10_loop v126_0 v160 v178 k0_t9 arg29).trips, 128 ∣ (k0_mult30 v126_0 v160 v178 k0_t9 arg29 k0_t10).toNat) ∧
  (∀ k0_t10 : Fin (k0_t10_loop v126_0 v160 v178 k0_t9 arg29).trips, ∀ a, (k0_off69 v126_0 v160 v178 k0_t9 arg29 k0_t10) a + S1.size a ≤ S16.size a) ∧
  (∀ k0_t10 : Fin (k0_t10_loop v126_0 v160 v178 k0_t9 arg29).trips, ∀ a, (k0_off70 v126_0 v160 v178 k0_t9 arg29 k0_t10) a + S1x128x4096.size a ≤ S8x256x4096.size a) ∧
  (∀ k0_t10 : Fin (k0_t10_loop v126_0 v160 v178 k0_t9 arg29).trips, ∀ (hinb : ∀ a, (k0_off70 v126_0 v160 v178 k0_t9 arg29 k0_t10) a + S1x128x4096.size a ≤ S8x256x4096.size a), (Rect.unit (s := S8x256x4096) (k0_off70 v126_0 v160 v178 k0_t9 arg29 k0_t10) S1x128x4096.size hinb).WholeWords (EltTy.packing .i8)) ∧
  ((k0_t11_loop v126_0 v160 v178 k0_t9 arg29).OK) ∧
  (∀ k0_t11 : Fin (k0_t11_loop v126_0 v160 v178 k0_t9 arg29).trips, ∀ a, (k0_off72 v126_0 v160 v178 k0_t9 arg29 k0_t11) a + S1.size a ≤ S87.size a) ∧
  (∀ k0_t11 : Fin (k0_t11_loop v126_0 v160 v178 k0_t9 arg29).trips, 128 ∣ (k0_mult32 v126_0 v160 v178 k0_t9 arg29 k0_t11).toNat) ∧
  (∀ k0_t11 : Fin (k0_t11_loop v126_0 v160 v178 k0_t9 arg29).trips, ∀ a, (k0_off73 v126_0 v160 v178 k0_t9 arg29 k0_t11) a + S1.size a ≤ S16.size a) ∧
  (∀ k0_t11 : Fin (k0_t11_loop v126_0 v160 v178 k0_t9 arg29).trips, ∀ a, (k0_off74 v126_0 v160 v178 k0_t9 arg29 k0_t11) a + S1x128x4096.size a ≤ S8x256x4096.size a) ∧
  (∀ k0_t11 : Fin (k0_t11_loop v126_0 v160 v178 k0_t9 arg29).trips, ∀ (hinb : ∀ a, (k0_off74 v126_0 v160 v178 k0_t9 arg29 k0_t11) a + S1x128x4096.size a ≤ S8x256x4096.size a), (Rect.unit (s := S8x256x4096) (k0_off74 v126_0 v160 v178 k0_t9 arg29 k0_t11) S1x128x4096.size hinb).WholeWords (EltTy.packing .i8))
theorem k0_t10_ok : ∀ (v126_0 : BitVec 32) (v160 : BitVec 32) (v178 : BitVec 32) (k0_t9 : Fin (k0_t9_loop v126_0 v160 v178).trips) (arg29 : BitVec 32) (k0_hw20 : k0_chk20 v126_0 v160 v178 k0_t9 arg29), (k0_t10_loop v126_0 v160 v178 k0_t9 arg29).OK := fun v126_0 v160 v178 k0_t9 arg29 k0_hw20 => k0_hw20.1
theorem k0_off68_inb : ∀ (v126_0 : BitVec 32) (v160 : BitVec 32) (v178 : BitVec 32) (k0_t9 : Fin (k0_t9_loop v126_0 v160 v178).trips) (arg29 : BitVec 32) (k0_hw20 : k0_chk20 v126_0 v160 v178 k0_t9 arg29) (k0_t10 : Fin (k0_t10_loop v126_0 v160 v178 k0_t9 arg29).trips), ∀ a, (k0_off68 v126_0 v160 v178 k0_t9 arg29 k0_t10) a + S1.size a ≤ S87.size a := fun v126_0 v160 v178 k0_t9 arg29 k0_hw20 k0_t10 => k0_hw20.2.1 k0_t10
theorem k0_mult30_dvd : ∀ (v126_0 : BitVec 32) (v160 : BitVec 32) (v178 : BitVec 32) (k0_t9 : Fin (k0_t9_loop v126_0 v160 v178).trips) (arg29 : BitVec 32) (k0_hw20 : k0_chk20 v126_0 v160 v178 k0_t9 arg29) (k0_t10 : Fin (k0_t10_loop v126_0 v160 v178 k0_t9 arg29).trips), 128 ∣ (k0_mult30 v126_0 v160 v178 k0_t9 arg29 k0_t10).toNat := fun v126_0 v160 v178 k0_t9 arg29 k0_hw20 k0_t10 => k0_hw20.2.2.1 k0_t10
theorem k0_off69_inb : ∀ (v126_0 : BitVec 32) (v160 : BitVec 32) (v178 : BitVec 32) (k0_t9 : Fin (k0_t9_loop v126_0 v160 v178).trips) (arg29 : BitVec 32) (k0_hw20 : k0_chk20 v126_0 v160 v178 k0_t9 arg29) (k0_t10 : Fin (k0_t10_loop v126_0 v160 v178 k0_t9 arg29).trips), ∀ a, (k0_off69 v126_0 v160 v178 k0_t9 arg29 k0_t10) a + S1.size a ≤ S16.size a := fun v126_0 v160 v178 k0_t9 arg29 k0_hw20 k0_t10 => k0_hw20.2.2.2.1 k0_t10
theorem k0_off70_inb : ∀ (v126_0 : BitVec 32) (v160 : BitVec 32) (v178 : BitVec 32) (k0_t9 : Fin (k0_t9_loop v126_0 v160 v178).trips) (arg29 : BitVec 32) (k0_hw20 : k0_chk20 v126_0 v160 v178 k0_t9 arg29) (k0_t10 : Fin (k0_t10_loop v126_0 v160 v178 k0_t9 arg29).trips), ∀ a, (k0_off70 v126_0 v160 v178 k0_t9 arg29 k0_t10) a + S1x128x4096.size a ≤ S8x256x4096.size a := fun v126_0 v160 v178 k0_t9 arg29 k0_hw20 k0_t10 => k0_hw20.2.2.2.2.1 k0_t10
theorem k0_off70_wordsi8 : ∀ (v126_0 : BitVec 32) (v160 : BitVec 32) (v178 : BitVec 32) (k0_t9 : Fin (k0_t9_loop v126_0 v160 v178).trips) (arg29 : BitVec 32) (k0_hw20 : k0_chk20 v126_0 v160 v178 k0_t9 arg29) (k0_t10 : Fin (k0_t10_loop v126_0 v160 v178 k0_t9 arg29).trips), (Rect.unit (s := S8x256x4096) (k0_off70 v126_0 v160 v178 k0_t9 arg29 k0_t10) S1x128x4096.size (k0_off70_inb v126_0 v160 v178 k0_t9 arg29 k0_hw20 k0_t10)).WholeWords (EltTy.packing .i8) := fun v126_0 v160 v178 k0_t9 arg29 k0_hw20 k0_t10 => k0_hw20.2.2.2.2.2.1 k0_t10 (k0_off70_inb v126_0 v160 v178 k0_t9 arg29 k0_hw20 k0_t10)
theorem k0_t11_ok : ∀ (v126_0 : BitVec 32) (v160 : BitVec 32) (v178 : BitVec 32) (k0_t9 : Fin (k0_t9_loop v126_0 v160 v178).trips) (arg29 : BitVec 32) (k0_hw20 : k0_chk20 v126_0 v160 v178 k0_t9 arg29), (k0_t11_loop v126_0 v160 v178 k0_t9 arg29).OK := fun v126_0 v160 v178 k0_t9 arg29 k0_hw20 => k0_hw20.2.2.2.2.2.2.1
theorem k0_off72_inb : ∀ (v126_0 : BitVec 32) (v160 : BitVec 32) (v178 : BitVec 32) (k0_t9 : Fin (k0_t9_loop v126_0 v160 v178).trips) (arg29 : BitVec 32) (k0_hw20 : k0_chk20 v126_0 v160 v178 k0_t9 arg29) (k0_t11 : Fin (k0_t11_loop v126_0 v160 v178 k0_t9 arg29).trips), ∀ a, (k0_off72 v126_0 v160 v178 k0_t9 arg29 k0_t11) a + S1.size a ≤ S87.size a := fun v126_0 v160 v178 k0_t9 arg29 k0_hw20 k0_t11 => k0_hw20.2.2.2.2.2.2.2.1 k0_t11
theorem k0_mult32_dvd : ∀ (v126_0 : BitVec 32) (v160 : BitVec 32) (v178 : BitVec 32) (k0_t9 : Fin (k0_t9_loop v126_0 v160 v178).trips) (arg29 : BitVec 32) (k0_hw20 : k0_chk20 v126_0 v160 v178 k0_t9 arg29) (k0_t11 : Fin (k0_t11_loop v126_0 v160 v178 k0_t9 arg29).trips), 128 ∣ (k0_mult32 v126_0 v160 v178 k0_t9 arg29 k0_t11).toNat := fun v126_0 v160 v178 k0_t9 arg29 k0_hw20 k0_t11 => k0_hw20.2.2.2.2.2.2.2.2.1 k0_t11
theorem k0_off73_inb : ∀ (v126_0 : BitVec 32) (v160 : BitVec 32) (v178 : BitVec 32) (k0_t9 : Fin (k0_t9_loop v126_0 v160 v178).trips) (arg29 : BitVec 32) (k0_hw20 : k0_chk20 v126_0 v160 v178 k0_t9 arg29) (k0_t11 : Fin (k0_t11_loop v126_0 v160 v178 k0_t9 arg29).trips), ∀ a, (k0_off73 v126_0 v160 v178 k0_t9 arg29 k0_t11) a + S1.size a ≤ S16.size a := fun v126_0 v160 v178 k0_t9 arg29 k0_hw20 k0_t11 => k0_hw20.2.2.2.2.2.2.2.2.2.1 k0_t11
theorem k0_off74_inb : ∀ (v126_0 : BitVec 32) (v160 : BitVec 32) (v178 : BitVec 32) (k0_t9 : Fin (k0_t9_loop v126_0 v160 v178).trips) (arg29 : BitVec 32) (k0_hw20 : k0_chk20 v126_0 v160 v178 k0_t9 arg29) (k0_t11 : Fin (k0_t11_loop v126_0 v160 v178 k0_t9 arg29).trips), ∀ a, (k0_off74 v126_0 v160 v178 k0_t9 arg29 k0_t11) a + S1x128x4096.size a ≤ S8x256x4096.size a := fun v126_0 v160 v178 k0_t9 arg29 k0_hw20 k0_t11 => k0_hw20.2.2.2.2.2.2.2.2.2.2.1 k0_t11
theorem k0_off74_wordsi8 : ∀ (v126_0 : BitVec 32) (v160 : BitVec 32) (v178 : BitVec 32) (k0_t9 : Fin (k0_t9_loop v126_0 v160 v178).trips) (arg29 : BitVec 32) (k0_hw20 : k0_chk20 v126_0 v160 v178 k0_t9 arg29) (k0_t11 : Fin (k0_t11_loop v126_0 v160 v178 k0_t9 arg29).trips), (Rect.unit (s := S8x256x4096) (k0_off74 v126_0 v160 v178 k0_t9 arg29 k0_t11) S1x128x4096.size (k0_off74_inb v126_0 v160 v178 k0_t9 arg29 k0_hw20 k0_t11)).WholeWords (EltTy.packing .i8) := fun v126_0 v160 v178 k0_t9 arg29 k0_hw20 k0_t11 => k0_hw20.2.2.2.2.2.2.2.2.2.2.2 k0_t11 (k0_off74_inb v126_0 v160 v178 k0_t9 arg29 k0_hw20 k0_t11)

def k0_off76 (v126_0 : BitVec 32) (v160 : BitVec 32) (v178 : BitVec 32) : Fin 1 → Nat :=
  let v168 : BitVec 32 := Scalar.addi v126_0 v160
  let v186 : BitVec 32 := Scalar.addi v168 v178
  let c1_i32_120 : BitVec 32 := 1#32
  let v230 : BitVec 32 := Scalar.subi v186 c1_i32_120
  let v231 : Index := Scalar.indexCast v230
  ![v231.toNat]
def k0_cond3 (v126_0 : BitVec 32) (v160 : BitVec 32) (v178 : BitVec 32) : BitVec 1 :=
  let v168 : BitVec 32 := Scalar.addi v126_0 v160
  let v186 : BitVec 32 := Scalar.addi v168 v178
  let c1_i32_105 : BitVec 32 := 1#32
  let v206 : BitVec 32 := Scalar.andi v186 c1_i32_105
  let c1_i32_106 : BitVec 32 := 1#32
  let v207 : BitVec 1 := Scalar.cmpi .eq v206 c1_i32_106
  let v208 : BitVec 32 := Scalar.extui v207
  let c0_i32_107 : BitVec 32 := 0#32
  let v209 : BitVec 1 := Scalar.cmpi .ne v208 c0_i32_107
  v209

def k0_mult33 (v232 : BitVec 32) : BitVec 32 :=
  let c128_i32 : BitVec 32 := 128#32
  let v234 : BitVec 32 := Scalar.muli v232 c128_i32
  v234

def k0_mult34 (v126_0 : BitVec 32) (v160 : BitVec 32) (v178 : BitVec 32) : BitVec 32 :=
  let v168 : BitVec 32 := Scalar.addi v126_0 v160
  let v186 : BitVec 32 := Scalar.addi v168 v178
  let c1_i32_120 : BitVec 32 := 1#32
  let v230 : BitVec 32 := Scalar.subi v186 c1_i32_120
  let c16_i32_121 : BitVec 32 := 16#32
  let v233 : BitVec 32 := Scalar.remsi v230 c16_i32_121
  let c1_i32_123 : BitVec 32 := 1#32
  let v237 : BitVec 32 := Scalar.andi v233 c1_i32_123
  let c128_i32_124 : BitVec 32 := 128#32
  let v238 : BitVec 32 := Scalar.muli v237 c128_i32_124
  v238
def k0_off77 (v126_0 : BitVec 32) (v160 : BitVec 32) (v178 : BitVec 32) : Fin 1 → Nat :=
  let v168 : BitVec 32 := Scalar.addi v126_0 v160
  let v186 : BitVec 32 := Scalar.addi v168 v178
  let c1_i32_120 : BitVec 32 := 1#32
  let v230 : BitVec 32 := Scalar.subi v186 c1_i32_120
  let c16_i32_121 : BitVec 32 := 16#32
  let v233 : BitVec 32 := Scalar.remsi v230 c16_i32_121
  ![v233.toNat]
def k0_off78 (v126_0 : BitVec 32) (v160 : BitVec 32) (v178 : BitVec 32) : Fin 3 → Nat :=
  let v168 : BitVec 32 := Scalar.addi v126_0 v160
  let v186 : BitVec 32 := Scalar.addi v168 v178
  let c1_i32_120 : BitVec 32 := 1#32
  let v230 : BitVec 32 := Scalar.subi v186 c1_i32_120
  let c16_i32_121 : BitVec 32 := 16#32
  let v233 : BitVec 32 := Scalar.remsi v230 c16_i32_121
  let c1_i32_122 : BitVec 32 := 1#32
  let v236 : BitVec 32 := Scalar.shrsi v233 c1_i32_122
  let c1_i32_123 : BitVec 32 := 1#32
  let v237 : BitVec 32 := Scalar.andi v233 c1_i32_123
  let c128_i32_124 : BitVec 32 := 128#32
  let v238 : BitVec 32 := Scalar.muli v237 c128_i32_124
  let v239 : BitVec 32 := v238
  let c0_i32_125 : BitVec 32 := 0#32
  ![v236.toNat, v239.toNat, 0]
def k0_off79 (v232 : BitVec 32) : Fin 2 → Nat :=
  let c128_i32 : BitVec 32 := 128#32
  let v234 : BitVec 32 := Scalar.muli v232 c128_i32
  let v235 : BitVec 32 := v234
  let c0_i32_126 : BitVec 32 := 0#32
  ![v235.toNat, 0]

def k0_chk23 (v126_0 : BitVec 32) (v160 : BitVec 32) (v178 : BitVec 32) (v232 : BitVec 32) : Prop :=
  (∀ (k0_h3 : k0_cond3 v126_0 v160 v178 = 1#1), 128 ∣ (k0_mult33 v232).toNat) ∧
  (∀ (k0_h3 : k0_cond3 v126_0 v160 v178 = 1#1), ∀ a, (k0_off79 v232) a + S128x4096.size a ≤ S11008x4096.size a) ∧
  (∀ (k0_h3 : k0_cond3 v126_0 v160 v178 = 1#1), ∀ (hinb : ∀ a, (k0_off79 v232) a + S128x4096.size a ≤ S11008x4096.size a), (Rect.unit (s := S11008x4096) (k0_off79 v232) S128x4096.size hinb).WholeWords (EltTy.packing .i8))
theorem k0_mult33_dvd : ∀ (v126_0 : BitVec 32) (v160 : BitVec 32) (v178 : BitVec 32) (v232 : BitVec 32) (k0_hw23 : k0_chk23 v126_0 v160 v178 v232), ∀ (k0_h3 : k0_cond3 v126_0 v160 v178 = 1#1), 128 ∣ (k0_mult33 v232).toNat := fun v126_0 v160 v178 v232 k0_hw23 k0_h3 => k0_hw23.1 k0_h3
theorem k0_off79_inb : ∀ (v126_0 : BitVec 32) (v160 : BitVec 32) (v178 : BitVec 32) (v232 : BitVec 32) (k0_hw23 : k0_chk23 v126_0 v160 v178 v232), ∀ (k0_h3 : k0_cond3 v126_0 v160 v178 = 1#1), ∀ a, (k0_off79 v232) a + S128x4096.size a ≤ S11008x4096.size a := fun v126_0 v160 v178 v232 k0_hw23 k0_h3 => k0_hw23.2.1 k0_h3
theorem k0_off79_wordsi8 : ∀ (v126_0 : BitVec 32) (v160 : BitVec 32) (v178 : BitVec 32) (v232 : BitVec 32) (k0_hw23 : k0_chk23 v126_0 v160 v178 v232), ∀ (k0_h3 : k0_cond3 v126_0 v160 v178 = 1#1), (Rect.unit (s := S11008x4096) (k0_off79 v232) S128x4096.size (k0_off79_inb v126_0 v160 v178 v232 k0_hw23 k0_h3)).WholeWords (EltTy.packing .i8) := fun v126_0 v160 v178 v232 k0_hw23 k0_h3 => k0_hw23.2.2 k0_h3 (k0_off79_inb v126_0 v160 v178 v232 k0_hw23 k0_h3)

def k0_off80 (v126_0 : BitVec 32) (v160 : BitVec 32) (v178 : BitVec 32) : Fin 3 → Nat :=
  let v168 : BitVec 32 := Scalar.addi v126_0 v160
  let v186 : BitVec 32 := Scalar.addi v168 v178
  let c1_i32_100 : BitVec 32 := 1#32
  let v198 : BitVec 32 := Scalar.shrsi v186 c1_i32_100
  let c8_i32 : BitVec 32 := 8#32
  let v245 : BitVec 32 := Scalar.remsi v198 c8_i32
  let v246 : Index := Scalar.indexCast v245
  let c0_127 : Index := 0#32
  let c0_128 : Index := 0#32
  ![v246.toNat, 0, 0]
def k0_off81 (v126_0 : BitVec 32) (v160 : BitVec 32) (v178 : BitVec 32) : Fin 3 → Nat :=
  let v168 : BitVec 32 := Scalar.addi v126_0 v160
  let v186 : BitVec 32 := Scalar.addi v168 v178
  let c1_i32_120 : BitVec 32 := 1#32
  let v230 : BitVec 32 := Scalar.subi v186 c1_i32_120
  let v251 : Index := Scalar.indexCast v230
  let c0_131 : Index := 0#32
  let c0_132 : Index := 0#32
  ![v251.toNat, 0, 0]

def k0_chk10_0 (v126_0 : BitVec 32) (v126_1 : BitVec 32) (v160 : BitVec 32) (v178 : BitVec 32) : Prop :=
  ((k0_t4_loop v126_0 v126_1 v160 v178).OK) ∧
  (∀ k0_t4 : Fin (k0_t4_loop v126_0 v126_1 v160 v178).trips, ∀ a, (k0_off30 v126_0 v126_1 v160 v178 k0_t4) a + S1.size a ≤ S87.size a) ∧
  (∀ k0_t4 : Fin (k0_t4_loop v126_0 v126_1 v160 v178).trips, 128 ∣ (k0_mult14 v126_0 v126_1 v160 v178 k0_t4).toNat) ∧
  (∀ k0_t4 : Fin (k0_t4_loop v126_0 v126_1 v160 v178).trips, ∀ a, (k0_off31 v126_0 v126_1 v160 v178 k0_t4) a + S1.size a ≤ S16.size a) ∧
  (∀ k0_t4 : Fin (k0_t4_loop v126_0 v126_1 v160 v178).trips, ∀ a, (k0_off32 v126_0 v126_1 v160 v178 k0_t4) a + S1x128x4096.size a ≤ S8x256x4096.size a) ∧
  (∀ k0_t4 : Fin (k0_t4_loop v126_0 v126_1 v160 v178).trips, ∀ (hinb : ∀ a, (k0_off32 v126_0 v126_1 v160 v178 k0_t4) a + S1x128x4096.size a ≤ S8x256x4096.size a), (Rect.unit (s := S8x256x4096) (k0_off32 v126_0 v126_1 v160 v178 k0_t4) S1x128x4096.size hinb).WholeWords (EltTy.packing .i8)) ∧
  ((k0_t5_loop v126_0 v126_1 v160 v178).OK) ∧
  (∀ k0_t5 : Fin (k0_t5_loop v126_0 v126_1 v160 v178).trips, ∀ a, (k0_off34 v126_0 v126_1 v160 v178 k0_t5) a + S1.size a ≤ S87.size a) ∧
  (∀ k0_t5 : Fin (k0_t5_loop v126_0 v126_1 v160 v178).trips, 128 ∣ (k0_mult16 v126_0 v126_1 v160 v178 k0_t5).toNat) ∧
  (∀ k0_t5 : Fin (k0_t5_loop v126_0 v126_1 v160 v178).trips, ∀ a, (k0_off35 v126_0 v126_1 v160 v178 k0_t5) a + S1.size a ≤ S16.size a) ∧
  (∀ k0_t5 : Fin (k0_t5_loop v126_0 v126_1 v160 v178).trips, ∀ a, (k0_off36 v126_0 v126_1 v160 v178 k0_t5) a + S1x128x4096.size a ≤ S8x256x4096.size a) ∧
  (∀ k0_t5 : Fin (k0_t5_loop v126_0 v126_1 v160 v178).trips, ∀ (hinb : ∀ a, (k0_off36 v126_0 v126_1 v160 v178 k0_t5) a + S1x128x4096.size a ≤ S8x256x4096.size a), (Rect.unit (s := S8x256x4096) (k0_off36 v126_0 v126_1 v160 v178 k0_t5) S1x128x4096.size hinb).WholeWords (EltTy.packing .i8)) ∧
  ((k0_t6_loop v126_0 v160 v178).OK) ∧
  (∀ k0_t6 : Fin (k0_t6_loop v126_0 v160 v178).trips, ∀ a, (k0_off38 v126_0 v160 v178 k0_t6) a + S1.size a ≤ S87.size a) ∧
  (∀ k0_t6 : Fin (k0_t6_loop v126_0 v160 v178).trips, 128 ∣ (k0_mult18 v126_0 v160 v178 k0_t6).toNat) ∧
  (∀ k0_t6 : Fin (k0_t6_loop v126_0 v160 v178).trips, ∀ a, (k0_off39 v126_0 v160 v178 k0_t6) a + S1.size a ≤ S16.size a) ∧
  (∀ k0_t6 : Fin (k0_t6_loop v126_0 v160 v178).trips, ∀ a, (k0_off40 v126_0 v160 v178 k0_t6) a + S1x128x4096.size a ≤ S8x256x4096.size a) ∧
  (∀ k0_t6 : Fin (k0_t6_loop v126_0 v160 v178).trips, ∀ (hinb : ∀ a, (k0_off40 v126_0 v160 v178 k0_t6) a + S1x128x4096.size a ≤ S8x256x4096.size a), (Rect.unit (s := S8x256x4096) (k0_off40 v126_0 v160 v178 k0_t6) S1x128x4096.size hinb).WholeWords (EltTy.packing .i8)) ∧
  (∀ k0_t6 : Fin (k0_t6_loop v126_0 v160 v178).trips, ∀ a, (k0_off42 v126_0 v160 v178 k0_t6) a + S1.size a ≤ S87.size a) ∧
  (∀ k0_t6 : Fin (k0_t6_loop v126_0 v160 v178).trips, 128 ∣ (k0_mult20 v126_0 v160 v178 k0_t6).toNat) ∧
  (∀ k0_t6 : Fin (k0_t6_loop v126_0 v160 v178).trips, ∀ a, (k0_off43 v126_0 v160 v178 k0_t6) a + S1.size a ≤ S16.size a) ∧
  (∀ k0_t6 : Fin (k0_t6_loop v126_0 v160 v178).trips, ∀ a, (k0_off44 v126_0 v160 v178 k0_t6) a + S1x128x4096.size a ≤ S8x256x4096.size a) ∧
  (∀ k0_t6 : Fin (k0_t6_loop v126_0 v160 v178).trips, ∀ (hinb : ∀ a, (k0_off44 v126_0 v160 v178 k0_t6) a + S1x128x4096.size a ≤ S8x256x4096.size a), (Rect.unit (s := S8x256x4096) (k0_off44 v126_0 v160 v178 k0_t6) S1x128x4096.size hinb).WholeWords (EltTy.packing .i8)) ∧
  (∀ k0_t6 : Fin (k0_t6_loop v126_0 v160 v178).trips, ∀ a, (k0_off46 v126_0 v160 v178 k0_t6) a + S1x16x128.size a ≤ S87x16x128.size a) ∧
  (∀ k0_t6 : Fin (k0_t6_loop v126_0 v160 v178).trips, ∀ a, (k0_off47 v126_0 v160 v178 k0_t6) a + S1x16x128.size a ≤ S87x16x128.size a) ∧
  (∀ k0_t6 : Fin (k0_t6_loop v126_0 v160 v178).trips, ∀ a, (k0_off48 v126_0 v160 v178 k0_t6) a + S1x256x4096.size a ≤ S8x256x4096.size a) ∧
  ((k0_t9_loop v126_0 v160 v178).OK) ∧
  (∀ k0_t9 : Fin (k0_t9_loop v126_0 v160 v178).trips, ∀ a, (k0_off57 v126_0 v160 v178 k0_t9) a + S1.size a ≤ S87.size a) ∧
  (∀ k0_t9 : Fin (k0_t9_loop v126_0 v160 v178).trips, 128 ∣ (k0_mult26 v126_0 v160 v178 k0_t9).toNat) ∧
  (∀ k0_t9 : Fin (k0_t9_loop v126_0 v160 v178).trips, ∀ a, (k0_off58 v126_0 v160 v178 k0_t9) a + S1.size a ≤ S16.size a) ∧
  (∀ k0_t9 : Fin (k0_t9_loop v126_0 v160 v178).trips, ∀ a, (k0_off59 v126_0 v160 v178 k0_t9) a + S1x128x4096.size a ≤ S8x256x4096.size a) ∧
  (∀ k0_t9 : Fin (k0_t9_loop v126_0 v160 v178).trips, ∀ (hinb : ∀ a, (k0_off59 v126_0 v160 v178 k0_t9) a + S1x128x4096.size a ≤ S8x256x4096.size a), (Rect.unit (s := S8x256x4096) (k0_off59 v126_0 v160 v178 k0_t9) S1x128x4096.size hinb).WholeWords (EltTy.packing .i8))
def k0_chk10_1 (v126_0 : BitVec 32) (v126_1 : BitVec 32) (v160 : BitVec 32) (v178 : BitVec 32) : Prop :=
  (∀ k0_t9 : Fin (k0_t9_loop v126_0 v160 v178).trips, ∀ a, (k0_off61 v126_0 v160 v178 k0_t9) a + S1.size a ≤ S87.size a) ∧
  (∀ k0_t9 : Fin (k0_t9_loop v126_0 v160 v178).trips, 128 ∣ (k0_mult28 v126_0 v160 v178 k0_t9).toNat) ∧
  (∀ k0_t9 : Fin (k0_t9_loop v126_0 v160 v178).trips, ∀ a, (k0_off62 v126_0 v160 v178 k0_t9) a + S1.size a ≤ S16.size a) ∧
  (∀ k0_t9 : Fin (k0_t9_loop v126_0 v160 v178).trips, ∀ a, (k0_off63 v126_0 v160 v178 k0_t9) a + S1x128x4096.size a ≤ S8x256x4096.size a) ∧
  (∀ k0_t9 : Fin (k0_t9_loop v126_0 v160 v178).trips, ∀ (hinb : ∀ a, (k0_off63 v126_0 v160 v178 k0_t9) a + S1x128x4096.size a ≤ S8x256x4096.size a), (Rect.unit (s := S8x256x4096) (k0_off63 v126_0 v160 v178 k0_t9) S1x128x4096.size hinb).WholeWords (EltTy.packing .i8)) ∧
  (∀ k0_t9 : Fin (k0_t9_loop v126_0 v160 v178).trips, ∀ a, (k0_off65 v126_0 v160 v178 k0_t9) a + S1x16x128.size a ≤ S87x16x128.size a) ∧
  (∀ k0_t9 : Fin (k0_t9_loop v126_0 v160 v178).trips, ∀ a, (k0_off66 v126_0 v160 v178 k0_t9) a + S1x16x128.size a ≤ S87x16x128.size a) ∧
  (∀ k0_t9 : Fin (k0_t9_loop v126_0 v160 v178).trips, ∀ a, (k0_off67 v126_0 v160 v178 k0_t9) a + S1x256x4096.size a ≤ S8x256x4096.size a) ∧
  (∀ (k0_h3 : k0_cond3 v126_0 v160 v178 = 1#1), ∀ a, (k0_off76 v126_0 v160 v178) a + S1.size a ≤ S87.size a) ∧
  (∀ (k0_h3 : k0_cond3 v126_0 v160 v178 = 1#1), 128 ∣ (k0_mult34 v126_0 v160 v178).toNat) ∧
  (∀ (k0_h3 : k0_cond3 v126_0 v160 v178 = 1#1), ∀ a, (k0_off77 v126_0 v160 v178) a + S1.size a ≤ S16.size a) ∧
  (∀ (k0_h3 : k0_cond3 v126_0 v160 v178 = 1#1), ∀ a, (k0_off78 v126_0 v160 v178) a + S1x128x4096.size a ≤ S8x256x4096.size a) ∧
  (∀ (k0_h3 : k0_cond3 v126_0 v160 v178 = 1#1), ∀ (hinb : ∀ a, (k0_off78 v126_0 v160 v178) a + S1x128x4096.size a ≤ S8x256x4096.size a), (Rect.unit (s := S8x256x4096) (k0_off78 v126_0 v160 v178) S1x128x4096.size hinb).WholeWords (EltTy.packing .i8)) ∧
  (∀ (k0_h3 : k0_cond3 v126_0 v160 v178 = 1#1), ∀ a, (k0_off80 v126_0 v160 v178) a + S1x128x4096.size a ≤ S8x256x4096.size a) ∧
  (∀ (k0_h3 : k0_cond3 v126_0 v160 v178 = 1#1), ∀ a, (k0_off81 v126_0 v160 v178) a + S1x16x128.size a ≤ S87x16x128.size a)
def k0_chk10 (v126_0 : BitVec 32) (v126_1 : BitVec 32) (v160 : BitVec 32) (v178 : BitVec 32) : Prop :=
  k0_chk10_0 v126_0 v126_1 v160 v178 ∧
  k0_chk10_1 v126_0 v126_1 v160 v178
theorem k0_t4_ok : ∀ (v126_0 : BitVec 32) (v126_1 : BitVec 32) (v160 : BitVec 32) (v178 : BitVec 32) (k0_hw10 : k0_chk10 v126_0 v126_1 v160 v178), (k0_t4_loop v126_0 v126_1 v160 v178).OK := fun v126_0 v126_1 v160 v178 k0_hw10 => k0_hw10.1.1
theorem k0_off30_inb : ∀ (v126_0 : BitVec 32) (v126_1 : BitVec 32) (v160 : BitVec 32) (v178 : BitVec 32) (k0_hw10 : k0_chk10 v126_0 v126_1 v160 v178) (k0_t4 : Fin (k0_t4_loop v126_0 v126_1 v160 v178).trips), ∀ a, (k0_off30 v126_0 v126_1 v160 v178 k0_t4) a + S1.size a ≤ S87.size a := fun v126_0 v126_1 v160 v178 k0_hw10 k0_t4 => k0_hw10.1.2.1 k0_t4
theorem k0_mult14_dvd : ∀ (v126_0 : BitVec 32) (v126_1 : BitVec 32) (v160 : BitVec 32) (v178 : BitVec 32) (k0_hw10 : k0_chk10 v126_0 v126_1 v160 v178) (k0_t4 : Fin (k0_t4_loop v126_0 v126_1 v160 v178).trips), 128 ∣ (k0_mult14 v126_0 v126_1 v160 v178 k0_t4).toNat := fun v126_0 v126_1 v160 v178 k0_hw10 k0_t4 => k0_hw10.1.2.2.1 k0_t4
theorem k0_off31_inb : ∀ (v126_0 : BitVec 32) (v126_1 : BitVec 32) (v160 : BitVec 32) (v178 : BitVec 32) (k0_hw10 : k0_chk10 v126_0 v126_1 v160 v178) (k0_t4 : Fin (k0_t4_loop v126_0 v126_1 v160 v178).trips), ∀ a, (k0_off31 v126_0 v126_1 v160 v178 k0_t4) a + S1.size a ≤ S16.size a := fun v126_0 v126_1 v160 v178 k0_hw10 k0_t4 => k0_hw10.1.2.2.2.1 k0_t4
theorem k0_off32_inb : ∀ (v126_0 : BitVec 32) (v126_1 : BitVec 32) (v160 : BitVec 32) (v178 : BitVec 32) (k0_hw10 : k0_chk10 v126_0 v126_1 v160 v178) (k0_t4 : Fin (k0_t4_loop v126_0 v126_1 v160 v178).trips), ∀ a, (k0_off32 v126_0 v126_1 v160 v178 k0_t4) a + S1x128x4096.size a ≤ S8x256x4096.size a := fun v126_0 v126_1 v160 v178 k0_hw10 k0_t4 => k0_hw10.1.2.2.2.2.1 k0_t4
theorem k0_off32_wordsi8 : ∀ (v126_0 : BitVec 32) (v126_1 : BitVec 32) (v160 : BitVec 32) (v178 : BitVec 32) (k0_hw10 : k0_chk10 v126_0 v126_1 v160 v178) (k0_t4 : Fin (k0_t4_loop v126_0 v126_1 v160 v178).trips), (Rect.unit (s := S8x256x4096) (k0_off32 v126_0 v126_1 v160 v178 k0_t4) S1x128x4096.size (k0_off32_inb v126_0 v126_1 v160 v178 k0_hw10 k0_t4)).WholeWords (EltTy.packing .i8) := fun v126_0 v126_1 v160 v178 k0_hw10 k0_t4 => k0_hw10.1.2.2.2.2.2.1 k0_t4 (k0_off32_inb v126_0 v126_1 v160 v178 k0_hw10 k0_t4)
theorem k0_t5_ok : ∀ (v126_0 : BitVec 32) (v126_1 : BitVec 32) (v160 : BitVec 32) (v178 : BitVec 32) (k0_hw10 : k0_chk10 v126_0 v126_1 v160 v178), (k0_t5_loop v126_0 v126_1 v160 v178).OK := fun v126_0 v126_1 v160 v178 k0_hw10 => k0_hw10.1.2.2.2.2.2.2.1
theorem k0_off34_inb : ∀ (v126_0 : BitVec 32) (v126_1 : BitVec 32) (v160 : BitVec 32) (v178 : BitVec 32) (k0_hw10 : k0_chk10 v126_0 v126_1 v160 v178) (k0_t5 : Fin (k0_t5_loop v126_0 v126_1 v160 v178).trips), ∀ a, (k0_off34 v126_0 v126_1 v160 v178 k0_t5) a + S1.size a ≤ S87.size a := fun v126_0 v126_1 v160 v178 k0_hw10 k0_t5 => k0_hw10.1.2.2.2.2.2.2.2.1 k0_t5
theorem k0_mult16_dvd : ∀ (v126_0 : BitVec 32) (v126_1 : BitVec 32) (v160 : BitVec 32) (v178 : BitVec 32) (k0_hw10 : k0_chk10 v126_0 v126_1 v160 v178) (k0_t5 : Fin (k0_t5_loop v126_0 v126_1 v160 v178).trips), 128 ∣ (k0_mult16 v126_0 v126_1 v160 v178 k0_t5).toNat := fun v126_0 v126_1 v160 v178 k0_hw10 k0_t5 => k0_hw10.1.2.2.2.2.2.2.2.2.1 k0_t5
theorem k0_off35_inb : ∀ (v126_0 : BitVec 32) (v126_1 : BitVec 32) (v160 : BitVec 32) (v178 : BitVec 32) (k0_hw10 : k0_chk10 v126_0 v126_1 v160 v178) (k0_t5 : Fin (k0_t5_loop v126_0 v126_1 v160 v178).trips), ∀ a, (k0_off35 v126_0 v126_1 v160 v178 k0_t5) a + S1.size a ≤ S16.size a := fun v126_0 v126_1 v160 v178 k0_hw10 k0_t5 => k0_hw10.1.2.2.2.2.2.2.2.2.2.1 k0_t5
theorem k0_off36_inb : ∀ (v126_0 : BitVec 32) (v126_1 : BitVec 32) (v160 : BitVec 32) (v178 : BitVec 32) (k0_hw10 : k0_chk10 v126_0 v126_1 v160 v178) (k0_t5 : Fin (k0_t5_loop v126_0 v126_1 v160 v178).trips), ∀ a, (k0_off36 v126_0 v126_1 v160 v178 k0_t5) a + S1x128x4096.size a ≤ S8x256x4096.size a := fun v126_0 v126_1 v160 v178 k0_hw10 k0_t5 => k0_hw10.1.2.2.2.2.2.2.2.2.2.2.1 k0_t5
theorem k0_off36_wordsi8 : ∀ (v126_0 : BitVec 32) (v126_1 : BitVec 32) (v160 : BitVec 32) (v178 : BitVec 32) (k0_hw10 : k0_chk10 v126_0 v126_1 v160 v178) (k0_t5 : Fin (k0_t5_loop v126_0 v126_1 v160 v178).trips), (Rect.unit (s := S8x256x4096) (k0_off36 v126_0 v126_1 v160 v178 k0_t5) S1x128x4096.size (k0_off36_inb v126_0 v126_1 v160 v178 k0_hw10 k0_t5)).WholeWords (EltTy.packing .i8) := fun v126_0 v126_1 v160 v178 k0_hw10 k0_t5 => k0_hw10.1.2.2.2.2.2.2.2.2.2.2.2.1 k0_t5 (k0_off36_inb v126_0 v126_1 v160 v178 k0_hw10 k0_t5)
theorem k0_t6_ok : ∀ (v126_0 : BitVec 32) (v126_1 : BitVec 32) (v160 : BitVec 32) (v178 : BitVec 32) (k0_hw10 : k0_chk10 v126_0 v126_1 v160 v178), (k0_t6_loop v126_0 v160 v178).OK := fun v126_0 v126_1 v160 v178 k0_hw10 => k0_hw10.1.2.2.2.2.2.2.2.2.2.2.2.2.1
theorem k0_off38_inb : ∀ (v126_0 : BitVec 32) (v126_1 : BitVec 32) (v160 : BitVec 32) (v178 : BitVec 32) (k0_hw10 : k0_chk10 v126_0 v126_1 v160 v178) (k0_t6 : Fin (k0_t6_loop v126_0 v160 v178).trips), ∀ a, (k0_off38 v126_0 v160 v178 k0_t6) a + S1.size a ≤ S87.size a := fun v126_0 v126_1 v160 v178 k0_hw10 k0_t6 => k0_hw10.1.2.2.2.2.2.2.2.2.2.2.2.2.2.1 k0_t6
theorem k0_mult18_dvd : ∀ (v126_0 : BitVec 32) (v126_1 : BitVec 32) (v160 : BitVec 32) (v178 : BitVec 32) (k0_hw10 : k0_chk10 v126_0 v126_1 v160 v178) (k0_t6 : Fin (k0_t6_loop v126_0 v160 v178).trips), 128 ∣ (k0_mult18 v126_0 v160 v178 k0_t6).toNat := fun v126_0 v126_1 v160 v178 k0_hw10 k0_t6 => k0_hw10.1.2.2.2.2.2.2.2.2.2.2.2.2.2.2.1 k0_t6
theorem k0_off39_inb : ∀ (v126_0 : BitVec 32) (v126_1 : BitVec 32) (v160 : BitVec 32) (v178 : BitVec 32) (k0_hw10 : k0_chk10 v126_0 v126_1 v160 v178) (k0_t6 : Fin (k0_t6_loop v126_0 v160 v178).trips), ∀ a, (k0_off39 v126_0 v160 v178 k0_t6) a + S1.size a ≤ S16.size a := fun v126_0 v126_1 v160 v178 k0_hw10 k0_t6 => k0_hw10.1.2.2.2.2.2.2.2.2.2.2.2.2.2.2.2.1 k0_t6
theorem k0_off40_inb : ∀ (v126_0 : BitVec 32) (v126_1 : BitVec 32) (v160 : BitVec 32) (v178 : BitVec 32) (k0_hw10 : k0_chk10 v126_0 v126_1 v160 v178) (k0_t6 : Fin (k0_t6_loop v126_0 v160 v178).trips), ∀ a, (k0_off40 v126_0 v160 v178 k0_t6) a + S1x128x4096.size a ≤ S8x256x4096.size a := fun v126_0 v126_1 v160 v178 k0_hw10 k0_t6 => k0_hw10.1.2.2.2.2.2.2.2.2.2.2.2.2.2.2.2.2.1 k0_t6
theorem k0_off40_wordsi8 : ∀ (v126_0 : BitVec 32) (v126_1 : BitVec 32) (v160 : BitVec 32) (v178 : BitVec 32) (k0_hw10 : k0_chk10 v126_0 v126_1 v160 v178) (k0_t6 : Fin (k0_t6_loop v126_0 v160 v178).trips), (Rect.unit (s := S8x256x4096) (k0_off40 v126_0 v160 v178 k0_t6) S1x128x4096.size (k0_off40_inb v126_0 v126_1 v160 v178 k0_hw10 k0_t6)).WholeWords (EltTy.packing .i8) := fun v126_0 v126_1 v160 v178 k0_hw10 k0_t6 => k0_hw10.1.2.2.2.2.2.2.2.2.2.2.2.2.2.2.2.2.2.1 k0_t6 (k0_off40_inb v126_0 v126_1 v160 v178 k0_hw10 k0_t6)
theorem k0_off42_inb : ∀ (v126_0 : BitVec 32) (v126_1 : BitVec 32) (v160 : BitVec 32) (v178 : BitVec 32) (k0_hw10 : k0_chk10 v126_0 v126_1 v160 v178) (k0_t6 : Fin (k0_t6_loop v126_0 v160 v178).trips), ∀ a, (k0_off42 v126_0 v160 v178 k0_t6) a + S1.size a ≤ S87.size a := fun v126_0 v126_1 v160 v178 k0_hw10 k0_t6 => k0_hw10.1.2.2.2.2.2.2.2.2.2.2.2.2.2.2.2.2.2.2.1 k0_t6
theorem k0_mult20_dvd : ∀ (v126_0 : BitVec 32) (v126_1 : BitVec 32) (v160 : BitVec 32) (v178 : BitVec 32) (k0_hw10 : k0_chk10 v126_0 v126_1 v160 v178) (k0_t6 : Fin (k0_t6_loop v126_0 v160 v178).trips), 128 ∣ (k0_mult20 v126_0 v160 v178 k0_t6).toNat := fun v126_0 v126_1 v160 v178 k0_hw10 k0_t6 => k0_hw10.1.2.2.2.2.2.2.2.2.2.2.2.2.2.2.2.2.2.2.2.1 k0_t6
theorem k0_off43_inb : ∀ (v126_0 : BitVec 32) (v126_1 : BitVec 32) (v160 : BitVec 32) (v178 : BitVec 32) (k0_hw10 : k0_chk10 v126_0 v126_1 v160 v178) (k0_t6 : Fin (k0_t6_loop v126_0 v160 v178).trips), ∀ a, (k0_off43 v126_0 v160 v178 k0_t6) a + S1.size a ≤ S16.size a := fun v126_0 v126_1 v160 v178 k0_hw10 k0_t6 => k0_hw10.1.2.2.2.2.2.2.2.2.2.2.2.2.2.2.2.2.2.2.2.2.1 k0_t6
theorem k0_off44_inb : ∀ (v126_0 : BitVec 32) (v126_1 : BitVec 32) (v160 : BitVec 32) (v178 : BitVec 32) (k0_hw10 : k0_chk10 v126_0 v126_1 v160 v178) (k0_t6 : Fin (k0_t6_loop v126_0 v160 v178).trips), ∀ a, (k0_off44 v126_0 v160 v178 k0_t6) a + S1x128x4096.size a ≤ S8x256x4096.size a := fun v126_0 v126_1 v160 v178 k0_hw10 k0_t6 => k0_hw10.1.2.2.2.2.2.2.2.2.2.2.2.2.2.2.2.2.2.2.2.2.2.1 k0_t6
theorem k0_off44_wordsi8 : ∀ (v126_0 : BitVec 32) (v126_1 : BitVec 32) (v160 : BitVec 32) (v178 : BitVec 32) (k0_hw10 : k0_chk10 v126_0 v126_1 v160 v178) (k0_t6 : Fin (k0_t6_loop v126_0 v160 v178).trips), (Rect.unit (s := S8x256x4096) (k0_off44 v126_0 v160 v178 k0_t6) S1x128x4096.size (k0_off44_inb v126_0 v126_1 v160 v178 k0_hw10 k0_t6)).WholeWords (EltTy.packing .i8) := fun v126_0 v126_1 v160 v178 k0_hw10 k0_t6 => k0_hw10.1.2.2.2.2.2.2.2.2.2.2.2.2.2.2.2.2.2.2.2.2.2.2.1 k0_t6 (k0_off44_inb v126_0 v126_1 v160 v178 k0_hw10 k0_t6)
theorem k0_off46_inb : ∀ (v126_0 : BitVec 32) (v126_1 : BitVec 32) (v160 : BitVec 32) (v178 : BitVec 32) (k0_hw10 : k0_chk10 v126_0 v126_1 v160 v178) (k0_t6 : Fin (k0_t6_loop v126_0 v160 v178).trips), ∀ a, (k0_off46 v126_0 v160 v178 k0_t6) a + S1x16x128.size a ≤ S87x16x128.size a := fun v126_0 v126_1 v160 v178 k0_hw10 k0_t6 => k0_hw10.1.2.2.2.2.2.2.2.2.2.2.2.2.2.2.2.2.2.2.2.2.2.2.2.1 k0_t6
theorem k0_off47_inb : ∀ (v126_0 : BitVec 32) (v126_1 : BitVec 32) (v160 : BitVec 32) (v178 : BitVec 32) (k0_hw10 : k0_chk10 v126_0 v126_1 v160 v178) (k0_t6 : Fin (k0_t6_loop v126_0 v160 v178).trips), ∀ a, (k0_off47 v126_0 v160 v178 k0_t6) a + S1x16x128.size a ≤ S87x16x128.size a := fun v126_0 v126_1 v160 v178 k0_hw10 k0_t6 => k0_hw10.1.2.2.2.2.2.2.2.2.2.2.2.2.2.2.2.2.2.2.2.2.2.2.2.2.1 k0_t6
theorem k0_off48_inb : ∀ (v126_0 : BitVec 32) (v126_1 : BitVec 32) (v160 : BitVec 32) (v178 : BitVec 32) (k0_hw10 : k0_chk10 v126_0 v126_1 v160 v178) (k0_t6 : Fin (k0_t6_loop v126_0 v160 v178).trips), ∀ a, (k0_off48 v126_0 v160 v178 k0_t6) a + S1x256x4096.size a ≤ S8x256x4096.size a := fun v126_0 v126_1 v160 v178 k0_hw10 k0_t6 => k0_hw10.1.2.2.2.2.2.2.2.2.2.2.2.2.2.2.2.2.2.2.2.2.2.2.2.2.2.1 k0_t6
theorem k0_t9_ok : ∀ (v126_0 : BitVec 32) (v126_1 : BitVec 32) (v160 : BitVec 32) (v178 : BitVec 32) (k0_hw10 : k0_chk10 v126_0 v126_1 v160 v178), (k0_t9_loop v126_0 v160 v178).OK := fun v126_0 v126_1 v160 v178 k0_hw10 => k0_hw10.1.2.2.2.2.2.2.2.2.2.2.2.2.2.2.2.2.2.2.2.2.2.2.2.2.2.2.1
theorem k0_off57_inb : ∀ (v126_0 : BitVec 32) (v126_1 : BitVec 32) (v160 : BitVec 32) (v178 : BitVec 32) (k0_hw10 : k0_chk10 v126_0 v126_1 v160 v178) (k0_t9 : Fin (k0_t9_loop v126_0 v160 v178).trips), ∀ a, (k0_off57 v126_0 v160 v178 k0_t9) a + S1.size a ≤ S87.size a := fun v126_0 v126_1 v160 v178 k0_hw10 k0_t9 => k0_hw10.1.2.2.2.2.2.2.2.2.2.2.2.2.2.2.2.2.2.2.2.2.2.2.2.2.2.2.2.1 k0_t9
theorem k0_mult26_dvd : ∀ (v126_0 : BitVec 32) (v126_1 : BitVec 32) (v160 : BitVec 32) (v178 : BitVec 32) (k0_hw10 : k0_chk10 v126_0 v126_1 v160 v178) (k0_t9 : Fin (k0_t9_loop v126_0 v160 v178).trips), 128 ∣ (k0_mult26 v126_0 v160 v178 k0_t9).toNat := fun v126_0 v126_1 v160 v178 k0_hw10 k0_t9 => k0_hw10.1.2.2.2.2.2.2.2.2.2.2.2.2.2.2.2.2.2.2.2.2.2.2.2.2.2.2.2.2.1 k0_t9
theorem k0_off58_inb : ∀ (v126_0 : BitVec 32) (v126_1 : BitVec 32) (v160 : BitVec 32) (v178 : BitVec 32) (k0_hw10 : k0_chk10 v126_0 v126_1 v160 v178) (k0_t9 : Fin (k0_t9_loop v126_0 v160 v178).trips), ∀ a, (k0_off58 v126_0 v160 v178 k0_t9) a + S1.size a ≤ S16.size a := fun v126_0 v126_1 v160 v178 k0_hw10 k0_t9 => k0_hw10.1.2.2.2.2.2.2.2.2.2.2.2.2.2.2.2.2.2.2.2.2.2.2.2.2.2.2.2.2.2.1 k0_t9
theorem k0_off59_inb : ∀ (v126_0 : BitVec 32) (v126_1 : BitVec 32) (v160 : BitVec 32) (v178 : BitVec 32) (k0_hw10 : k0_chk10 v126_0 v126_1 v160 v178) (k0_t9 : Fin (k0_t9_loop v126_0 v160 v178).trips), ∀ a, (k0_off59 v126_0 v160 v178 k0_t9) a + S1x128x4096.size a ≤ S8x256x4096.size a := fun v126_0 v126_1 v160 v178 k0_hw10 k0_t9 => k0_hw10.1.2.2.2.2.2.2.2.2.2.2.2.2.2.2.2.2.2.2.2.2.2.2.2.2.2.2.2.2.2.2.1 k0_t9
theorem k0_off59_wordsi8 : ∀ (v126_0 : BitVec 32) (v126_1 : BitVec 32) (v160 : BitVec 32) (v178 : BitVec 32) (k0_hw10 : k0_chk10 v126_0 v126_1 v160 v178) (k0_t9 : Fin (k0_t9_loop v126_0 v160 v178).trips), (Rect.unit (s := S8x256x4096) (k0_off59 v126_0 v160 v178 k0_t9) S1x128x4096.size (k0_off59_inb v126_0 v126_1 v160 v178 k0_hw10 k0_t9)).WholeWords (EltTy.packing .i8) := fun v126_0 v126_1 v160 v178 k0_hw10 k0_t9 => k0_hw10.1.2.2.2.2.2.2.2.2.2.2.2.2.2.2.2.2.2.2.2.2.2.2.2.2.2.2.2.2.2.2.2 k0_t9 (k0_off59_inb v126_0 v126_1 v160 v178 k0_hw10 k0_t9)
theorem k0_off61_inb : ∀ (v126_0 : BitVec 32) (v126_1 : BitVec 32) (v160 : BitVec 32) (v178 : BitVec 32) (k0_hw10 : k0_chk10 v126_0 v126_1 v160 v178) (k0_t9 : Fin (k0_t9_loop v126_0 v160 v178).trips), ∀ a, (k0_off61 v126_0 v160 v178 k0_t9) a + S1.size a ≤ S87.size a := fun v126_0 v126_1 v160 v178 k0_hw10 k0_t9 => k0_hw10.2.1 k0_t9
theorem k0_mult28_dvd : ∀ (v126_0 : BitVec 32) (v126_1 : BitVec 32) (v160 : BitVec 32) (v178 : BitVec 32) (k0_hw10 : k0_chk10 v126_0 v126_1 v160 v178) (k0_t9 : Fin (k0_t9_loop v126_0 v160 v178).trips), 128 ∣ (k0_mult28 v126_0 v160 v178 k0_t9).toNat := fun v126_0 v126_1 v160 v178 k0_hw10 k0_t9 => k0_hw10.2.2.1 k0_t9
theorem k0_off62_inb : ∀ (v126_0 : BitVec 32) (v126_1 : BitVec 32) (v160 : BitVec 32) (v178 : BitVec 32) (k0_hw10 : k0_chk10 v126_0 v126_1 v160 v178) (k0_t9 : Fin (k0_t9_loop v126_0 v160 v178).trips), ∀ a, (k0_off62 v126_0 v160 v178 k0_t9) a + S1.size a ≤ S16.size a := fun v126_0 v126_1 v160 v178 k0_hw10 k0_t9 => k0_hw10.2.2.2.1 k0_t9
theorem k0_off63_inb : ∀ (v126_0 : BitVec 32) (v126_1 : BitVec 32) (v160 : BitVec 32) (v178 : BitVec 32) (k0_hw10 : k0_chk10 v126_0 v126_1 v160 v178) (k0_t9 : Fin (k0_t9_loop v126_0 v160 v178).trips), ∀ a, (k0_off63 v126_0 v160 v178 k0_t9) a + S1x128x4096.size a ≤ S8x256x4096.size a := fun v126_0 v126_1 v160 v178 k0_hw10 k0_t9 => k0_hw10.2.2.2.2.1 k0_t9
theorem k0_off63_wordsi8 : ∀ (v126_0 : BitVec 32) (v126_1 : BitVec 32) (v160 : BitVec 32) (v178 : BitVec 32) (k0_hw10 : k0_chk10 v126_0 v126_1 v160 v178) (k0_t9 : Fin (k0_t9_loop v126_0 v160 v178).trips), (Rect.unit (s := S8x256x4096) (k0_off63 v126_0 v160 v178 k0_t9) S1x128x4096.size (k0_off63_inb v126_0 v126_1 v160 v178 k0_hw10 k0_t9)).WholeWords (EltTy.packing .i8) := fun v126_0 v126_1 v160 v178 k0_hw10 k0_t9 => k0_hw10.2.2.2.2.2.1 k0_t9 (k0_off63_inb v126_0 v126_1 v160 v178 k0_hw10 k0_t9)
theorem k0_off65_inb : ∀ (v126_0 : BitVec 32) (v126_1 : BitVec 32) (v160 : BitVec 32) (v178 : BitVec 32) (k0_hw10 : k0_chk10 v126_0 v126_1 v160 v178) (k0_t9 : Fin (k0_t9_loop v126_0 v160 v178).trips), ∀ a, (k0_off65 v126_0 v160 v178 k0_t9) a + S1x16x128.size a ≤ S87x16x128.size a := fun v126_0 v126_1 v160 v178 k0_hw10 k0_t9 => k0_hw10.2.2.2.2.2.2.1 k0_t9
theorem k0_off66_inb : ∀ (v126_0 : BitVec 32) (v126_1 : BitVec 32) (v160 : BitVec 32) (v178 : BitVec 32) (k0_hw10 : k0_chk10 v126_0 v126_1 v160 v178) (k0_t9 : Fin (k0_t9_loop v126_0 v160 v178).trips), ∀ a, (k0_off66 v126_0 v160 v178 k0_t9) a + S1x16x128.size a ≤ S87x16x128.size a := fun v126_0 v126_1 v160 v178 k0_hw10 k0_t9 => k0_hw10.2.2.2.2.2.2.2.1 k0_t9
theorem k0_off67_inb : ∀ (v126_0 : BitVec 32) (v126_1 : BitVec 32) (v160 : BitVec 32) (v178 : BitVec 32) (k0_hw10 : k0_chk10 v126_0 v126_1 v160 v178) (k0_t9 : Fin (k0_t9_loop v126_0 v160 v178).trips), ∀ a, (k0_off67 v126_0 v160 v178 k0_t9) a + S1x256x4096.size a ≤ S8x256x4096.size a := fun v126_0 v126_1 v160 v178 k0_hw10 k0_t9 => k0_hw10.2.2.2.2.2.2.2.2.1 k0_t9
theorem k0_off76_inb : ∀ (v126_0 : BitVec 32) (v126_1 : BitVec 32) (v160 : BitVec 32) (v178 : BitVec 32) (k0_hw10 : k0_chk10 v126_0 v126_1 v160 v178), ∀ (k0_h3 : k0_cond3 v126_0 v160 v178 = 1#1), ∀ a, (k0_off76 v126_0 v160 v178) a + S1.size a ≤ S87.size a := fun v126_0 v126_1 v160 v178 k0_hw10 k0_h3 => k0_hw10.2.2.2.2.2.2.2.2.2.1 k0_h3
theorem k0_mult34_dvd : ∀ (v126_0 : BitVec 32) (v126_1 : BitVec 32) (v160 : BitVec 32) (v178 : BitVec 32) (k0_hw10 : k0_chk10 v126_0 v126_1 v160 v178), ∀ (k0_h3 : k0_cond3 v126_0 v160 v178 = 1#1), 128 ∣ (k0_mult34 v126_0 v160 v178).toNat := fun v126_0 v126_1 v160 v178 k0_hw10 k0_h3 => k0_hw10.2.2.2.2.2.2.2.2.2.2.1 k0_h3
theorem k0_off77_inb : ∀ (v126_0 : BitVec 32) (v126_1 : BitVec 32) (v160 : BitVec 32) (v178 : BitVec 32) (k0_hw10 : k0_chk10 v126_0 v126_1 v160 v178), ∀ (k0_h3 : k0_cond3 v126_0 v160 v178 = 1#1), ∀ a, (k0_off77 v126_0 v160 v178) a + S1.size a ≤ S16.size a := fun v126_0 v126_1 v160 v178 k0_hw10 k0_h3 => k0_hw10.2.2.2.2.2.2.2.2.2.2.2.1 k0_h3
theorem k0_off78_inb : ∀ (v126_0 : BitVec 32) (v126_1 : BitVec 32) (v160 : BitVec 32) (v178 : BitVec 32) (k0_hw10 : k0_chk10 v126_0 v126_1 v160 v178), ∀ (k0_h3 : k0_cond3 v126_0 v160 v178 = 1#1), ∀ a, (k0_off78 v126_0 v160 v178) a + S1x128x4096.size a ≤ S8x256x4096.size a := fun v126_0 v126_1 v160 v178 k0_hw10 k0_h3 => k0_hw10.2.2.2.2.2.2.2.2.2.2.2.2.1 k0_h3
theorem k0_off78_wordsi8 : ∀ (v126_0 : BitVec 32) (v126_1 : BitVec 32) (v160 : BitVec 32) (v178 : BitVec 32) (k0_hw10 : k0_chk10 v126_0 v126_1 v160 v178), ∀ (k0_h3 : k0_cond3 v126_0 v160 v178 = 1#1), (Rect.unit (s := S8x256x4096) (k0_off78 v126_0 v160 v178) S1x128x4096.size (k0_off78_inb v126_0 v126_1 v160 v178 k0_hw10 k0_h3)).WholeWords (EltTy.packing .i8) := fun v126_0 v126_1 v160 v178 k0_hw10 k0_h3 => k0_hw10.2.2.2.2.2.2.2.2.2.2.2.2.2.1 k0_h3 (k0_off78_inb v126_0 v126_1 v160 v178 k0_hw10 k0_h3)
theorem k0_off80_inb : ∀ (v126_0 : BitVec 32) (v126_1 : BitVec 32) (v160 : BitVec 32) (v178 : BitVec 32) (k0_hw10 : k0_chk10 v126_0 v126_1 v160 v178), ∀ (k0_h3 : k0_cond3 v126_0 v160 v178 = 1#1), ∀ a, (k0_off80 v126_0 v160 v178) a + S1x128x4096.size a ≤ S8x256x4096.size a := fun v126_0 v126_1 v160 v178 k0_hw10 k0_h3 => k0_hw10.2.2.2.2.2.2.2.2.2.2.2.2.2.2.1 k0_h3
theorem k0_off81_inb : ∀ (v126_0 : BitVec 32) (v126_1 : BitVec 32) (v160 : BitVec 32) (v178 : BitVec 32) (k0_hw10 : k0_chk10 v126_0 v126_1 v160 v178), ∀ (k0_h3 : k0_cond3 v126_0 v160 v178 = 1#1), ∀ a, (k0_off81 v126_0 v160 v178) a + S1x16x128.size a ≤ S87x16x128.size a := fun v126_0 v126_1 v160 v178 k0_hw10 k0_h3 => k0_hw10.2.2.2.2.2.2.2.2.2.2.2.2.2.2.2 k0_h3
-- ==== ReferenceIdeal.lean ====
abbrev S6x1x4096 : Shape := ⟨3, ![6, 1, 4096]⟩
abbrev S4096x11008 : Shape := ⟨2, ![4096, 11008]⟩
abbrev S11008 : Shape := ⟨1, ![11008]⟩
abbrev S11008x4096 : Shape := ⟨2, ![11008, 4096]⟩
abbrev S4096 : Shape := ⟨1, ![4096]⟩
abbrev S6x1x11008 : Shape := ⟨3, ![6, 1, 11008]⟩
abbrev S6x1 : Shape := ⟨2, ![6, 1]⟩
abbrev S6x4096 : Shape := ⟨2, ![6, 4096]⟩
abbrev S6 : Shape := ⟨1, ![6]⟩
abbrev S6x246 : Shape := ⟨2, ![6, 246]⟩
abbrev S6x11008 : Shape := ⟨2, ![6, 11008]⟩
abbrev S1x11008 : Shape := ⟨2, ![1, 11008]⟩
abbrev S1x4096 : Shape := ⟨2, ![1, 4096]⟩

abbrev nBuf : Space → Nat
  | .hbm => 10
  | .vmem => 10
  | .smem => 0
  | _ => 0

abbrev bufTy : (tb : Table) → Fin (tcTables nBuf tb) → BufTy
  | .hbm, ⟨0, _⟩ => ⟨S6x1x4096, .bf16⟩
  | .hbm, ⟨1, _⟩ => ⟨S4096x11008, .fp8e4m3⟩
  | .hbm, ⟨2, _⟩ => ⟨S11008, .f32⟩
  | .hbm, ⟨3, _⟩ => ⟨S11008, .f32⟩
  | .hbm, ⟨4, _⟩ => ⟨S11008x4096, .i8⟩
  | .hbm, ⟨5, _⟩ => ⟨S4096, .f32⟩
  | .hbm, ⟨6, _⟩ => ⟨S6x1x4096, .bf16⟩
  | .hbm, ⟨7, _⟩ => ⟨S6x1x11008, .bf16⟩
  | .hbm, ⟨8, _⟩ => ⟨S6x1x4096, .fp8e4m3⟩
  | .hbm, ⟨9, _⟩ => ⟨S6x1, .f32⟩
  | .local _ .vmem, ⟨0, _⟩ => ⟨S6x1x4096, .bf16⟩
  | .local _ .vmem, ⟨1, _⟩ => ⟨S4096x11008, .fp8e4m3⟩
  | .local _ .vmem, ⟨2, _⟩ => ⟨S11008, .f32⟩
  | .local _ .vmem, ⟨3, _⟩ => ⟨S11008, .f32⟩
  | .local _ .vmem, ⟨4, _⟩ => ⟨S11008x4096, .i8⟩
  | .local _ .vmem, ⟨5, _⟩ => ⟨S4096, .f32⟩
  | .local _ .vmem, ⟨6, _⟩ => ⟨S6x1x4096, .bf16⟩
  | .local _ .vmem, ⟨7, _⟩ => ⟨S6x1x11008, .bf16⟩
  | .local _ .vmem, ⟨8, _⟩ => ⟨S6x1x4096, .fp8e4m3⟩
  | .local _ .vmem, ⟨9, _⟩ => ⟨S6x1, .f32⟩
  | _, _ => ⟨S6x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S6x1x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x11008 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S11008 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S11008 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S11008x4096 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6x1x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6x1x11008 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S6x1x4096 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S6x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Words.lean ====
/-
  The words of the kernel's scalar code, read as natural numbers: every counter of the kernel is a word
  `BitVec.ofNat 32 n` of a small `n`, and the lemmas here evaluate the kernel's scalar operations on such words.
-/
module

public import Idealize.ShloMosaic.Lib.WordArith
public import Idealize.ShloMosaic.Lib.Tactic
public import Mathlib.Data.Nat.Count

@[expose] public section

namespace Cert.Words

open Idealize.ShloMosaic

theorem toNat_w {n : ℕ} (h : n < 2 ^ 32) : (BitVec.ofNat 32 n).toNat = n := by
  simp only [BitVec.toNat_ofNat]; omega

theorem toInt_w {n : ℕ} (h : n < 2 ^ 31) : (BitVec.ofNat 32 n).toInt = n := by
  rw [BitVec.toInt_eq_toNat_of_lt (by rw [toNat_w (by omega)]; omega), toNat_w (by omega)]

theorem addi_w (a b : ℕ) : Scalar.addi (BitVec.ofNat 32 a) (BitVec.ofNat 32 b) = BitVec.ofNat 32 (a + b) := by
  simp [Scalar.addi, IntOp.addi, BitVec.ofNat_add]

theorem muli_w (a b : ℕ) : Scalar.muli (BitVec.ofNat 32 a) (BitVec.ofNat 32 b) = BitVec.ofNat 32 (a * b) := by
  simp [Scalar.muli, IntOp.muli, BitVec.ofNat_mul]

theorem subi_w {a b : ℕ} (h : b ≤ a) (ha : a < 2 ^ 32) :
    Scalar.subi (BitVec.ofNat 32 a) (BitVec.ofNat 32 b) = BitVec.ofNat 32 (a - b) := by
  apply BitVec.eq_of_toNat_eq
  simp only [Scalar.subi, IntOp.subi, BitVec.toNat_sub, BitVec.toNat_ofNat]
  omega

theorem slt_w {a b : ℕ} (ha : a < 2 ^ 31) (hb : b < 2 ^ 31) :
    (BitVec.ofNat 32 a).slt (BitVec.ofNat 32 b) = decide (a < b) := by
  rw [BitVec.slt, toInt_w ha, toInt_w hb]; simp

theorem sle_w {a b : ℕ} (ha : a < 2 ^ 31) (hb : b < 2 ^ 31) :
    (BitVec.ofNat 32 a).sle (BitVec.ofNat 32 b) = decide (a ≤ b) := by
  rw [BitVec.sle, toInt_w ha, toInt_w hb]; simp

theorem maxsi_w {a b : ℕ} (ha : a < 2 ^ 31) (hb : b < 2 ^ 31) :
    Scalar.maxsi (BitVec.ofNat 32 a) (BitVec.ofNat 32 b) = BitVec.ofNat 32 (max a b) := by
  simp only [Scalar.maxsi, IntOp.maxsi, slt_w hb ha, decide_eq_true_eq]
  split
  · rw [Nat.max_eq_left (by omega)]
  · rw [Nat.max_eq_right (by omega)]

theorem minsi_w {a b : ℕ} (ha : a < 2 ^ 31) (hb : b < 2 ^ 31) :
    Scalar.minsi (BitVec.ofNat 32 a) (BitVec.ofNat 32 b) = BitVec.ofNat 32 (min a b) := by
  simp only [Scalar.minsi, IntOp.minsi, slt_w ha hb, decide_eq_true_eq]
  split
  · rw [Nat.min_eq_left (by omega)]
  · rw [Nat.min_eq_right (by omega)]

theorem sgt_w {a b : ℕ} (ha : a < 2 ^ 31) (hb : b < 2 ^ 31) :
    Scalar.cmpi .sgt (BitVec.ofNat 32 a) (BitVec.ofNat 32 b) = BitVec.ofBool (decide (b < a)) := by
  simp only [Scalar.cmpi, IntOp.cmpi, slt_w hb ha]

theorem slt_cmp_w {a b : ℕ} (ha : a < 2 ^ 31) (hb : b < 2 ^ 31) :
    Scalar.cmpi .slt (BitVec.ofNat 32 a) (BitVec.ofNat 32 b) = BitVec.ofBool (decide (a < b)) := by
  simp only [Scalar.cmpi, IntOp.cmpi, slt_w ha hb]

theorem eq_cmp_w {a b : ℕ} (ha : a < 2 ^ 32) (hb : b < 2 ^ 32) :
    Scalar.cmpi .eq (BitVec.ofNat 32 a) (BitVec.ofNat 32 b) = BitVec.ofBool (decide (a = b)) := by
  simp only [Scalar.cmpi, IntOp.cmpi]
  congr 1
  rw [Bool.eq_iff_iff]
  simp only [beq_iff_eq, decide_eq_true_eq]
  constructor
  · intro h
    have := congrArg BitVec.toNat h
    rwa [toNat_w ha, toNat_w hb] at this
  · rintro rfl; rfl

theorem ofBool_one {b : Bool} : BitVec.ofBool b = 1#1 ↔ b = true := by cases b <;> decide

theorem divsi_one_w (a : BitVec 32) : Scalar.divsi a 1#32 = a := WordArith.divsi_one _ a

theorem remsi16_w {a : ℕ} (ha : a < 2 ^ 31) : Scalar.remsi (BitVec.ofNat 32 a) 16#32 = BitVec.ofNat 32 (a % 16) := by
  have hm : (BitVec.ofNat 32 a).msb = false := by
    rw [BitVec.msb_eq_decide, toNat_w (by omega)]; simp; omega
  have hc : ¬ IntOp.SDivCorner (BitVec.ofNat 32 a) 16#32 := by
    simp [IntOp.SDivCorner]
  simp only [Scalar.remsi, IntOp.remsi, if_neg hc]
  rw [BitVec.srem_eq, hm, show (16#32 : BitVec 32).msb = false by decide]
  apply BitVec.eq_of_toNat_eq
  simp only [BitVec.toNat_umod, BitVec.toNat_ofNat]
  rw [show 16 % 2 ^ 32 = 16 by decide]
  omega

theorem remsi8_w {a : ℕ} (ha : a < 2 ^ 31) : Scalar.remsi (BitVec.ofNat 32 a) 8#32 = BitVec.ofNat 32 (a % 8) := by
  have hm : (BitVec.ofNat 32 a).msb = false := by
    rw [BitVec.msb_eq_decide, toNat_w (by omega)]; simp; omega
  have hc : ¬ IntOp.SDivCorner (BitVec.ofNat 32 a) 8#32 := by
    simp [IntOp.SDivCorner]
  simp only [Scalar.remsi, IntOp.remsi, if_neg hc]
  rw [BitVec.srem_eq, hm, show (8#32 : BitVec 32).msb = false by decide]
  apply BitVec.eq_of_toNat_eq
  simp only [BitVec.toNat_umod, BitVec.toNat_ofNat]
  rw [show 8 % 2 ^ 32 = 8 by decide]
  omega

theorem remsi5_w {a : ℕ} (ha : a < 2 ^ 31) : Scalar.remsi (BitVec.ofNat 32 a) 5#32 = BitVec.ofNat 32 (a % 5) := by
  have hm : (BitVec.ofNat 32 a).msb = false := by
    rw [BitVec.msb_eq_decide, toNat_w (by omega)]; simp; omega
  have hc : ¬ IntOp.SDivCorner (BitVec.ofNat 32 a) 5#32 := by
    simp [IntOp.SDivCorner]
  simp only [Scalar.remsi, IntOp.remsi, if_neg hc]
  rw [BitVec.srem_eq, hm, show (5#32 : BitVec 32).msb = false by decide]
  apply BitVec.eq_of_toNat_eq
  simp only [BitVec.toNat_umod, BitVec.toNat_ofNat]
  rw [show 5 % 2 ^ 32 = 5 by decide]
  omega

theorem shrsi1_w {a : ℕ} (ha : a < 2 ^ 31) : Scalar.shrsi (BitVec.ofNat 32 a) 1#32 = BitVec.ofNat 32 (a / 2) := by
  have hm : (BitVec.ofNat 32 a).msb = false := by
    rw [BitVec.msb_eq_decide, toNat_w (by omega)]; simp; omega
  simp only [Scalar.shrsi, IntOp.shrsi]
  rw [if_pos (by decide)]
  apply BitVec.eq_of_toNat_eq
  simp only [BitVec.sshiftRight', BitVec.sshiftRight_eq_of_msb_false hm, BitVec.toNat_ushiftRight, BitVec.toNat_ofNat,
    Nat.shiftRight_eq_div_pow]
  rw [show 2 ^ (1 % 2 ^ 32) = 2 by decide]
  omega

theorem andi1_w {a : ℕ} (ha : a < 2 ^ 31) : Scalar.andi (BitVec.ofNat 32 a) 1#32 = BitVec.ofNat 32 (a % 2) := by
  apply BitVec.eq_of_toNat_eq
  simp only [Scalar.andi, IntOp.andi, BitVec.toNat_and, BitVec.toNat_ofNat]
  rw [show 1 % 2 ^ 32 = 1 by decide, Nat.and_one_is_mod]
  omega

theorem iv_w (a b k : ℕ) : Scf.iv (BitVec.ofNat 32 a) (BitVec.ofNat 32 b) k = BitVec.ofNat 32 (a + k * b) := by
  simp [Scf.iv, BitVec.ofNat_add, BitVec.ofNat_mul]

theorem trips_w {a b : ℕ} (ha : a < 2 ^ 30) (hb : b < 2 ^ 30) :
    Scf.trips (BitVec.ofNat 32 a) (BitVec.ofNat 32 b) 1#32 = b - a := by
  unfold Scf.trips
  rw [toInt_w (by omega), toInt_w (by omega), show (1#32 : BitVec 32).toInt = 1 by decide]
  omega

theorem ok_w {a b : ℕ} (ha : a < 2 ^ 30) (hb : b < 2 ^ 30) : Scf.OK (BitVec.ofNat 32 a) (BitVec.ofNat 32 b) 1#32 := by
  refine ⟨by decide, ?_⟩
  rw [trips_w ha hb, toInt_w (by omega), show (1#32 : BitVec 32).toInt = 1 by decide]
  omega

/-! ## The list of the numbers with a property, through `Nat.count` -/

section Nth

variable (P : ℕ → Prop) [DecidablePred P]

open Classical in
/-- The `i`-th number with the property. -/
noncomputable def nth (i : ℕ) : ℕ := if h : ∃ b, P b ∧ Nat.count P b = i then h.choose else 0

theorem nth_count {b : ℕ} (hb : P b) : nth P (Nat.count P b) = b := by
  have h : ∃ b', P b' ∧ Nat.count P b' = Nat.count P b := ⟨b, hb, rfl⟩
  unfold nth
  rw [dif_pos h]
  exact Nat.count_injective h.choose_spec.1 hb h.choose_spec.2

theorem nth_spec {i n : ℕ} (h : i < Nat.count P n) : P (nth P i) ∧ nth P i < n ∧ Nat.count P (nth P i) = i := by
  induction n with
  | zero => simp at h
  | succ n ih =>
    rw [Nat.count_succ] at h
    by_cases hi : i < Nat.count P n
    · exact ⟨(ih hi).1, by have := (ih hi).2.1; omega, (ih hi).2.2⟩
    · by_cases hn : P n
      · rw [if_pos hn] at h
        have : i = Nat.count P n := by omega
        subst this
        rw [nth_count P hn]
        exact ⟨hn, by omega, rfl⟩
      · rw [if_neg hn] at h; omega

/-- A sum over the numbers with the property, in their order, is the sum over all numbers of the terms that have it. -/
theorem sum_nth {M : Type*} [AddCommMonoid M] (f : ℕ → M) (n : ℕ) :
    (Finset.range (Nat.count P n)).sum (fun i => f (nth P i)) = (Finset.range n).sum (fun b => if P b then f b else 0) := by
  induction n with
  | zero => simp
  | succ n ih =>
    rw [Finset.sum_range_succ, ← ih, Nat.count_succ]
    by_cases hn : P n
    · rw [if_pos hn, if_pos hn, Finset.sum_range_succ, nth_count P hn]
    · rw [if_neg hn, if_neg hn]; simp

end Nth

end Cert.Words
-- ==== Proof.Kernel.Base.lean ====
/-
  The kernel's buffers by name, and the ring of down-projection copies: sixteen slots of `wdV`, slot `q` filled by the
  copy of 128 rows of the down-projection weights that completes on cell `q` of `dnS`.
-/
module

public import proofs.«01_k».proof.Proof.Gen.Kernel.Launch
public import proofs.«01_k».proof.Proof.Gen.Kernel.Skeleton
public import proofs.«01_k».proof.Proof.Gen.Kernel.Points
public import proofs.«01_k».proof.Proof.Words
public import Idealize.ShloMosaic.Lib.Pipeline.FrameBody
public import Idealize.ShloMosaic.Lib.Ring
public import Idealize.ShloMosaic.Lib.Ring.Window
public import Idealize.ShloMosaic.Lib.Ring.FamCut
public import Idealize.ShloMosaic.Lib.Ring.Pair
public import Idealize.ShloMosaic.Lib.Tactic
public import Idealize.ShloMosaic.Lib.PointwiseCore

@[expose] public section

noncomputable section

namespace Cert.Kernel.Hand

open Cert.Kernel Cert.Kernel.Gen Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's beside the transfers' counters. -/
local notation "𝕄" => MT nD τ sig Unit (Elt F) ℕ (Pipeline.UD sig nD τ) ℕ

/-! ## The buffers -/

abbrev xH : Memref sig .tc .hbm S6x4096 .bf16 := Memref.whole main_v0
abbrev wuH : Memref sig .tc .hbm S4096x11008 .fp8e4m3 := Memref.whole main_arg1
abbrev wusH : Memref sig .tc .hbm S1x11008 .f32 := Memref.whole main_v1
abbrev buH : Memref sig .tc .hbm S1x11008 .f32 := Memref.whole main_v2
abbrev wdH : Memref sig .tc .hbm S11008x4096 .i8 := Memref.whole main_arg4
abbrev wdsH : Memref sig .tc .hbm S1x4096 .f32 := Memref.whole main_v3
abbrev yH : Memref sig .tc .hbm S6x4096 .bf16 := Memref.whole main_v4_0
abbrev hH : Memref sig .tc .hbm S6x11008 .bf16 := Memref.whole main_v4_1
abbrev cH : Memref sig .tc .hbm S6x4096 .fp8e4m3 := Memref.whole main_v4_2
abbrev sH : Memref sig .tc .hbm S1x6 .f32 := Memref.whole main_v4_3
abbrev xV : Memref sig .tc .vmem S6x4096 .bf16 := Memref.whole cc0_scratch0
abbrev wusV : Memref sig .tc .vmem S1x11008 .f32 := Memref.whole cc0_scratch1
abbrev buV : Memref sig .tc .vmem S1x11008 .f32 := Memref.whole cc0_scratch2
abbrev wdsV : Memref sig .tc .vmem S1x4096 .f32 := Memref.whole cc0_scratch3
abbrev cV : Memref sig .tc .vmem S6x4096 .fp8e4m3 := Memref.whole cc0_scratch4
abbrev sV : Memref sig .tc .vmem S1x6 .f32 := Memref.whole cc0_scratch5
abbrev hV : Memref sig .tc .vmem S6x11008 .bf16 := Memref.whole cc0_scratch6
abbrev yV : Memref sig .tc .vmem S6x4096 .bf16 := Memref.whole cc0_scratch7
abbrev lhsV : Memref sig .tc .vmem S32x4096 .fp8e4m3 := Memref.whole cc0_scratch8
abbrev hcV : Memref sig .tc .vmem S87x16x128 .bf16 := Memref.whole cc0_scratch9
abbrev accV : Memref sig .tc .vmem S8x4096 .f32 := Memref.whole cc0_scratch10
abbrev wuV : Memref sig .tc .vmem S5x4096x512 .fp8e4m3 := Memref.whole cc0_scratch11
abbrev wdV : Memref sig .tc .vmem S8x256x4096 .i8 := Memref.whole cc0_scratch12
abbrev alS : Memref sig .tc .smem S87 .i32 := Memref.whole cc0_scratch13
abbrev inS : DmaSems sig S4 := cc0_scratch14
abbrev ouS : DmaSems sig S4 := cc0_scratch15
abbrev upS : DmaSems sig S5 := cc0_scratch16
abbrev dnS : DmaSems sig S16 := cc0_scratch17

/-- A buffer held whole. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

/-- The weakest precondition of a piece of the kernel's body. -/
abbrev WP (c : Dev nD) {α : Type} (p : Prog (TpuEff nD τ sig (Elt F) Λ₀ .tc) α) (Q : α → sProp 𝕄) : sProp 𝕄 :=
  wp frame (wpE (defs₀ (F := F)) Variants.none (c : Thread nD τ) none) Set.univ p Q

theorem WP_ret (c : Dev nD) {α : Type} (a : α) (Q : α → sProp 𝕄) : Q a ⊢ WP c (.ret a) Q := by
  unfold WP
  rw [wp_ret]
  iintro H
  imodintro
  iexact H

/-- The waits recorded so far, whatever they are. -/
def Ow (c : Dev nD) : sProp 𝕄 := iprop(∃ W, owes (c : Thread nD τ) 0 W)

/-! ## The ring of down-projection copies -/

theorem dsem_inb (q : Fin 16) : ∀ a, (![q.val] : Fin 1 → ℕ) a + S1.size a ≤ S16.size a := by
  intro a; fin_cases a; have := q.isLt; simp [S1, S16]; omega

/-- Cell `q` of the ring. -/
abbrev dsem (q : Fin 16) : DmaSem sig :=
  ((dnS.slice (Rect.unit (s := S16) ![q.val] S1.size (dsem_inb q))).squeeze S_ squeezes_S1_S_).sem

theorem dslot_inb (q : Fin 16) : ∀ a, (![q.val / 2, q.val % 2 * 128, 0] : Fin 3 → ℕ) a + S1x128x4096.size a ≤ S8x256x4096.size a := by
  intro a; have := q.isLt; fin_cases a <;> simp [S1x128x4096, S8x256x4096] <;> omega

/-- Slot `q` of the ring: half of one of the eight 256-row tiles. -/
abbrev dslot (q : Fin 16) : Memref sig .tc .vmem S128x4096 .i8 :=
  (wdV.slice (Rect.unit (s := S8x256x4096) ![q.val / 2, q.val % 2 * 128, 0] S1x128x4096.size (dslot_inb q)) (fun _ => rfl)).squeeze S128x4096 squeezes_S1x128x4096_S128x4096

theorem dsrc_inb {b : ℕ} (hb : b < 86) : ∀ a, (![b * 128, 0] : Fin 2 → ℕ) a + S128x4096.size a ≤ S11008x4096.size a := by
  intro a; fin_cases a <;> simp [S128x4096, S11008x4096] <;> omega

/-- Block `b` of the down-projection weights. -/
abbrev dsrc (b : Fin 86) : Memref sig .tc .hbm S128x4096 .i8 :=
  wdH.slice (Rect.unit (s := S11008x4096) ![b.val * 128, 0] S128x4096.size (dsrc_inb b.isLt)) (fun _ => rfl)

/-- Slot `q` holds block `b`. -/
def DHas (c : Dev nD) (fwd : Buf (Elt F) (wdH.view.loc (c : Thread nD τ))) (q : Fin 16) (b : Fin 86)
    (f : Buf (Elt F) (wdV.view.loc (c : Thread nD τ))) : Prop :=
  (dslot q).view.read (Elt F) f = (dsrc b).view.read (Elt F) fwd

/-- What the copy of block `b` into slot `q` delivers. -/
def DDel (c : Dev nD) (fwd : Buf (Elt F) (wdH.view.loc (c : Thread nD τ))) (q : Fin 16) (b : Fin 86) : sProp 𝕄 :=
  iprop((∃ f, ⌜DHas c fwd q b f⌝ ∗ (dslot q).view.loc (c : Thread nD τ) ↦[(dslot q).view.set]{fullShare} f)
    ∗ (dsrc b).view.loc (c : Thread nD τ) ↦[(dsrc b).view.set]{Transfers.shareTok fullShare 16 q} fwd)

/-- The state of a slot of the ring. -/
inductive DS where
  | idle
  | busy (b : Fin 86)
  | full (b : Fin 86)

/-- A copy's amount. -/
abbrev dN : ℕ := (dslot 0).view.amount (.dma (dsem 0))

/-- What a slot of the ring in a given state owns. -/
def DSlot (c : Dev nD) (fwd : Buf (Elt F) (wdH.view.loc (c : Thread nD τ))) (q : Fin 16) : DS → sProp 𝕄
  | .idle => iprop(semVal ((c : Thread nD τ), SemLoc.dma (dsem q)) 0
      ∗ (∃ f, (dslot q).view.loc (c : Thread nD τ) ↦[(dslot q).view.set]{fullShare} f)
      ∗ wdH.view.loc (c : Thread nD τ) ↦{Transfers.shareTok fullShare 16 q} fwd)
  | .busy b => iprop(Transfers.Flight (countersEmb (U := Pipeline.UD sig nD τ)) (c : Thread nD τ) (SemLoc.dma (dsem q)) () dN (DDel c fwd q b)
      ∗ wdH.view.loc (c : Thread nD τ) ↦[Finset.univ \ (dsrc b).view.set]{Transfers.shareTok fullShare 16 q} fwd)
  | .full b => iprop(semVal ((c : Thread nD τ), SemLoc.dma (dsem q)) 0
      ∗ (∃ f, ⌜DHas c fwd q b f⌝ ∗ (dslot q).view.loc (c : Thread nD τ) ↦[(dslot q).view.set]{fullShare} f)
      ∗ wdH.view.loc (c : Thread nD τ) ↦{Transfers.shareTok fullShare 16 q} fwd)

/-- The ring. -/
abbrev Down (c : Dev nD) (fwd : Buf (Elt F) (wdH.view.loc (c : Thread nD τ))) (st : Fin 16 → DS) : sProp 𝕄 :=
  Ring.AtW (fun q => DSlot c fwd q) st

end Cert.Kernel.Hand

end
-- ==== Proof.Kernel.Ring.lean ====
/-
  The steps of the ring of down-projection copies: one start, one wait.
-/
module

public import proofs.«01_k».proof.Proof.Kernel.Base

@[expose] public section

noncomputable section

namespace Cert.Kernel.Hand

open Cert.Kernel Cert.Kernel.Gen Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's beside the transfers' counters. -/
local notation "𝕄" => MT nD τ sig Unit (Elt F) ℕ (Pipeline.UD sig nD τ) ℕ

theorem dN_eq (q : Fin 16) : (dslot q).view.amount (.dma (dsem q)) = dN := rfl
theorem dN_pos : 0 < dN := by decide

theorem DSlot_idle (c : Dev nD) (fwd : Buf (Elt F) (wdH.view.loc (c : Thread nD τ))) (q : Fin 16) :
    DSlot c fwd q .idle = iprop(semVal ((c : Thread nD τ), SemLoc.dma (dsem q)) 0
      ∗ (∃ f, (dslot q).view.loc (c : Thread nD τ) ↦[(dslot q).view.set]{fullShare} f)
      ∗ wdH.view.loc (c : Thread nD τ) ↦{Transfers.shareTok fullShare 16 q} fwd) := rfl

theorem DSlot_busy (c : Dev nD) (fwd : Buf (Elt F) (wdH.view.loc (c : Thread nD τ))) (q : Fin 16) (b : Fin 86) :
    DSlot c fwd q (.busy b) = iprop(Transfers.Flight (countersEmb (U := Pipeline.UD sig nD τ)) (c : Thread nD τ) (SemLoc.dma (dsem q)) () dN (DDel c fwd q b)
      ∗ wdH.view.loc (c : Thread nD τ) ↦[Finset.univ \ (dsrc b).view.set]{Transfers.shareTok fullShare 16 q} fwd) := rfl

theorem DSlot_full (c : Dev nD) (fwd : Buf (Elt F) (wdH.view.loc (c : Thread nD τ))) (q : Fin 16) (b : Fin 86) :
    DSlot c fwd q (.full b) = iprop(semVal ((c : Thread nD τ), SemLoc.dma (dsem q)) 0
      ∗ (∃ f, ⌜DHas c fwd q b f⌝ ∗ (dslot q).view.loc (c : Thread nD τ) ↦[(dslot q).view.set]{fullShare} f)
      ∗ wdH.view.loc (c : Thread nD τ) ↦{Transfers.shareTok fullShare 16 q} fwd) := rfl

/-- A word of the list of live blocks, as the kernel's scalar load reads it. -/
theorem al_read (c : Dev nD) (A : Buf (Elt F) (alS.view.loc (c : Thread nD τ))) (o : Fin 1 → ℕ) (h : ∀ a, o a + S1.size a ≤ S87.size a)
    (x : (Rect.unit (s := S87) o S1.size h).shape.Idx) (s : Fin 87) (hs : o = ![s.val]) :
    ((alS.access (Rect.unit (s := S87) o S1.size h)).read (Elt F) A x) = A (ix1 s) := by
  subst hs
  show A _ = A _
  congr 1
  funext a
  fin_cases a
  apply Fin.ext
  have : (x 0).val < 1 := (x 0).isLt
  show s.val + 1 * (x 0).val = s.val
  omega

/-- Start the copy of the block that the list of live blocks names at `o1`. -/
def dnStart (o1 : Fin 1 → ℕ) (h1 : ∀ a, o1 a + S1.size a ≤ S87.size a) (chk : BitVec 32 → Prop) (dec : ∀ v, Decidable (chk v))
    (o2 : Fin 1 → ℕ) (h2 : ∀ a, o2 a + S1.size a ≤ S16.size a)
    (o3 : Fin 3 → ℕ) (h3 : ∀ a, o3 a + S1x128x4096.size a ≤ S8x256x4096.size a)
    (o4 : BitVec 32 → Fin 2 → ℕ) (h4 : ∀ v, chk v → ∀ a, o4 v a + S128x4096.size a ≤ S11008x4096.size a)
    (w3 : ((wdV.slice (Rect.unit (s := S8x256x4096) o3 S1x128x4096.size h3) (fun _ => rfl)).squeeze S128x4096 squeezes_S1x128x4096_S128x4096).view.WordExact)
    (w4 : ∀ v (hv : chk v), (wdH.slice (Rect.unit (s := S11008x4096) (o4 v) S128x4096.size (h4 v hv)) (fun _ => rfl)).view.WordExact) :
    Prog (TpuEff nD τ sig (Elt F) Λ₀ .tc) (BitVec 32) :=
  smemLoadElt alS (Rect.unit (s := S87) o1 S1.size h1) (View.loads_smem_one rfl numel1_S1) (Shape.Idx.first (numel1_S1.symm ▸ Nat.one_pos)) fun v =>
    .op (.assume (chk v) (dec v)) fun hw =>
      .op (.enqueueDmaAs (wdH.slice (Rect.unit (s := S11008x4096) (o4 v) S128x4096.size (h4 v hw.down)) (fun _ => rfl))
        (.here ((wdV.slice (Rect.unit (s := S8x256x4096) o3 S1x128x4096.size h3) (fun _ => rfl)).squeeze S128x4096 squeezes_S1x128x4096_S128x4096))
        .same (.dma ((dnS.slice (Rect.unit (s := S16) o2 S1.size h2)).squeeze S_ squeezes_S1_S_).sem)
        (w4 v hw.down) w3 ⟨Or.inl rfl, trivial⟩) fun _ => .ret 0#32

theorem dDel_intro (c : Dev nD) (fwd : Buf (Elt F) (wdH.view.loc (c : Thread nD τ))) (q : Fin 16) (b : Fin 86)
    (f : Buf (Elt F) ((dslot q).view.loc (c : Thread nD τ))) :
    (iprop(((dslot q).view.loc (c : Thread nD τ) ↦[(dslot q).view.set]{fullShare}
        ((dslot q).view.write (Elt F) f (ReadAs.same.apply ((dsrc b).view.read (Elt F) fwd)) Finset.univ))
      ∗ (dsrc b).view.loc (c : Thread nD τ) ↦[(dsrc b).view.set]{Transfers.shareTok fullShare 16 q} fwd) : sProp 𝕄) ⊢ DDel c fwd q b := by
  have h : DHas c fwd q b ((dslot q).view.write (Elt F) f (ReadAs.same.apply ((dsrc b).view.read (Elt F) fwd)) Finset.univ) :=
    View.read_write_univ _ _
  unfold DDel
  iintro ⟨Hd, Hs⟩
  isplitl [Hd]
  · iexists _
    isplitr
    · ipureintro; exact h
    iexact Hd
  iexact Hs

theorem dn_enq (c : Dev nD) (fwd : Buf (Elt F) (wdH.view.loc (c : Thread nD τ))) (q : Fin 16) (b : Fin 86)
    (srcm : Memref sig .tc .hbm S128x4096 .i8) (hs : srcm = dsrc b) (w4 : srcm.view.WordExact) (w3 : (dslot q).view.WordExact)
    {α : Type} (k : PUnit → Prog (TpuEff nD τ sig (Elt F) Λ₀ .tc) α) (Q : α → sProp 𝕄) :
    DSlot c fwd q .idle ⊢ iprop((DSlot c fwd q (.busy b) -∗ WP c (k ⟨⟩) Q)
      -∗ WP c (.op (.enqueueDmaAs srcm (.here (dslot q)) .same (.dma (dsem q)) w4 w3 ⟨Or.inl rfl, trivial⟩) k) Q) := by
  subst hs
  rw [DSlot_idle, DSlot_busy]
  iintro ⟨Hcell, ⟨%f, Hslot⟩, Htok⟩ HQ
  ihave Htok := (pointsTo_split_subset (Finset.subset_univ (dsrc b).view.set)).1 $$ Htok
  icases Htok with ⟨Hs, Htok⟩
  iapply (Transfers.wp_dmaLocal (countersEmb (U := Pipeline.UD sig nD τ)) Variants.none (c : Thread nD τ) none () dN (dN_eq q) dN_pos (Finset.Subset.refl _)) $$ [Hs Hslot Hcell]
  · isplitl [Hs]
    · iexact Hs
    isplitl [Hslot]
    · iexact Hslot
    iexact Hcell
  iintro Hf
  iapply HQ
  isplitl [Hf]
  · iapply (Transfers.Flight_mono _ _ (dDel_intro c fwd q b f)) $$ Hf
  iexact Htok

theorem dn_start (c : Dev nD) (fwd : Buf (Elt F) (wdH.view.loc (c : Thread nD τ))) (st : Fin 16 → DS) (q : Fin 16) (b : Fin 86)
    (A : Buf (Elt F) (alS.view.loc (c : Thread nD τ))) (s : Fin 87) (hst : st q = .idle) (hA : A (ix1 s) = (BitVec.ofNat 32 b.val : BitVec 32))
    (o1 h1 chk dec o2 h2 o3 h3 o4 h4 w3 w4) (e1 : o1 = ![s.val]) (e2 : o2 = ![q.val]) (e3 : o3 = ![q.val / 2, q.val % 2 * 128, 0])
    (e4 : o4 (BitVec.ofNat 32 b.val) = ![b.val * 128, 0]) (hchk : chk (BitVec.ofNat 32 b.val)) (Q : BitVec 32 → sProp 𝕄) :
    iprop(Down c fwd st ∗ pt c alS A ∗ (Down c fwd (Function.update st q (.busy b)) ∗ pt c alS A -∗ Q 0#32))
      ⊢ WP c (dnStart (F := F) o1 h1 chk dec o2 h2 o3 h3 o4 h4 w3 w4) Q := by
  subst e2 e3
  unfold Down
  rw [Ring.AtW_focus _ st q, hst, DSlot_idle]
  iintro ⟨⟨⟨Hcell, ⟨%f, Hslot⟩, Htok⟩, Hrest⟩, HA, HQ⟩
  unfold dnStart
  iapply (wp_smemLoadElt Variants.none (c : Thread nD τ) none Set.univ (m := alS) (r := Rect.unit (s := S87) o1 S1.size h1) (S := Finset.univ) (f := A) (q := fullShare) (Finset.subset_univ _)) $$ HA
  iintro HA
  rw [al_read c A o1 h1 _ s e1, hA]
  iapply (wp_assume Variants.none (c : Thread nD τ) none Set.univ hchk)
  have hsrc : (wdH.slice (Rect.unit (s := S11008x4096) (o4 (BitVec.ofNat 32 b.val)) S128x4096.size (h4 _ hchk)) (fun _ => rfl)) = dsrc b := by
    unfold dsrc; congr 2
  iapply (dn_enq c fwd q b _ hsrc (w4 _ hchk) w3 _ _) $$ [Hcell Hslot Htok]
  · rw [DSlot_idle]
    isplitl [Hcell]; · iexact Hcell
    isplitl [Hslot]
    · iexists f; iexact Hslot
    iexact Htok
  iintro Hb
  iapply WP_ret
  iapply HQ
  isplitr [HA]
  · iapply (Ring.AtW_update (fun q => DSlot c fwd q) st q (.busy b))
    isplitl [Hb] <;> iassumption
  iexact HA

/-- Wait for the copy of the block that the list of live blocks names at `o1`, then go on as `k`. -/
def dnWait (o1 : Fin 1 → ℕ) (h1 : ∀ a, o1 a + S1.size a ≤ S87.size a) (chk : BitVec 32 → Prop) (dec : ∀ v, Decidable (chk v))
    (o2 : Fin 1 → ℕ) (h2 : ∀ a, o2 a + S1.size a ≤ S16.size a)
    (o3 : Fin 3 → ℕ) (h3 : ∀ a, o3 a + S1x128x4096.size a ≤ S8x256x4096.size a)
    (o4 : BitVec 32 → Fin 2 → ℕ) (h4 : ∀ v, chk v → ∀ a, o4 v a + S128x4096.size a ≤ S11008x4096.size a)
    (w3 : ((wdV.slice (Rect.unit (s := S8x256x4096) o3 S1x128x4096.size h3) (fun _ => rfl)).squeeze S128x4096 squeezes_S1x128x4096_S128x4096).view.WordExact)
    (w4 : ∀ v (hv : chk v), (wdH.slice (Rect.unit (s := S11008x4096) (o4 v) S128x4096.size (h4 v hv)) (fun _ => rfl)).view.WordExact)
    {α : Type} (k : Prog (TpuEff nD τ sig (Elt F) Λ₀ .tc) α) :
    Prog (TpuEff nD τ sig (Elt F) Λ₀ .tc) α :=
  smemLoadElt alS (Rect.unit (s := S87) o1 S1.size h1) (View.loads_smem_one rfl numel1_S1) (Shape.Idx.first (numel1_S1.symm ▸ Nat.one_pos)) fun v =>
    .op (.assume (chk v) (dec v)) fun hw =>
      .op (.waitDma2 ((dnS.slice (Rect.unit (s := S16) o2 S1.size h2)).squeeze S_ squeezes_S1_S_).sem
        (wdH.slice (Rect.unit (s := S11008x4096) (o4 v) S128x4096.size (h4 v hw.down)) (fun _ => rfl))
        ((wdV.slice (Rect.unit (s := S8x256x4096) o3 S1x128x4096.size h3) (fun _ => rfl)).squeeze S128x4096 squeezes_S1x128x4096_S128x4096)
        (w4 v hw.down) w3) fun _ => k

theorem dn_wait (c : Dev nD) (fwd : Buf (Elt F) (wdH.view.loc (c : Thread nD τ))) (st : Fin 16 → DS) (q : Fin 16) (b : Fin 86)
    (A : Buf (Elt F) (alS.view.loc (c : Thread nD τ))) (s : Fin 87) (hst : st q = .busy b) (hA : A (ix1 s) = (BitVec.ofNat 32 b.val : BitVec 32))
    (o1 h1 chk dec o2 h2 o3 h3 o4 h4 w3 w4) (e1 : o1 = ![s.val]) (e2 : o2 = ![q.val]) (e3 : o3 = ![q.val / 2, q.val % 2 * 128, 0])
    (hchk : chk (BitVec.ofNat 32 b.val)) {α : Type} (k : Prog (TpuEff nD τ sig (Elt F) Λ₀ .tc) α) (Q : α → sProp 𝕄) :
    iprop(Down c fwd st ∗ pt c alS A ∗ Ow c ∗ (Down c fwd (Function.update st q (.full b)) ∗ pt c alS A ∗ Ow c -∗ WP c k Q))
      ⊢ WP c (dnWait (F := F) o1 h1 chk dec o2 h2 o3 h3 o4 h4 w3 w4 k) Q := by
  subst e2 e3
  unfold Down
  rw [Ring.AtW_focus _ st q, hst, DSlot_busy]
  unfold Ow
  iintro ⟨⟨⟨Hf, Htok⟩, Hrest⟩, HA, ⟨%W, HO⟩, HQ⟩
  unfold dnWait
  iapply (wp_smemLoadElt Variants.none (c : Thread nD τ) none Set.univ (m := alS) (r := Rect.unit (s := S87) o1 S1.size h1) (S := Finset.univ) (f := A) (q := fullShare) (Finset.subset_univ _)) $$ HA
  iintro HA
  rw [al_read c A o1 h1 _ s e1, hA]
  iapply (wp_assume Variants.none (c : Thread nD τ) none Set.univ hchk)
  iapply (Transfers.wp_waitLocal (countersEmb (U := Pipeline.UD sig nD τ)) Variants.none (c : Thread nD τ) none () (N := dN) (show (dslot q).view.dmaCredit = dN from rfl) (D := DDel c fwd q b) (W := W)) $$ [Hf HO]
  · isplitl [Hf]; · iexact Hf
    iexact HO
  unfold DDel
  iintro ⟨⟨Hd, Hs⟩, Hcell, HO⟩
  iapply HQ
  isplitl [Hcell Hd Hs Htok Hrest]
  · iapply (Ring.AtW_update (fun q => DSlot c fwd q) st q (.full b))
    isplitr [Hrest]
    · rw [DSlot_full]
      isplitl [Hcell]; · iexact Hcell
      isplitl [Hd]; · iexact Hd
      iapply (pointsTo_split_subset (Finset.subset_univ (dsrc b).view.set)).2
      isplitl [Hs] <;> iassumption
    iexact Hrest
  isplitl [HA]; · iexact HA
  iexists _; iexact HO

end Cert.Kernel.Hand

end
-- ==== Proof.Kernel.RingLoad.lean ====
/-
  The steps of the ring of down-projection copies: one start, one wait.
-/
module

public import proofs.«01_k».proof.Proof.Kernel.Ring

@[expose] public section

noncomputable section

namespace Cert.Kernel.Hand

open Cert.Kernel Cert.Kernel.Gen Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's beside the transfers' counters. -/
local notation "𝕄" => MT nD τ sig Unit (Elt F) ℕ (Pipeline.UD sig nD τ) ℕ

theorem reshape_slot (r : Fin 128) (l : Fin 4096) :
    Shape.reshapeEquiv (s := S1x128x4096) (s' := S128x4096) squeezes_S1x128x4096_S128x4096.numel_eq (ix2 r l) = ix3 0 r l := by
  pointwise

theorem slot_rect_emb (q : Fin 16) (r : Fin 128) (l : Fin 4096) :
    (Rect.unit (s := S8x256x4096) ![q.val / 2, q.val % 2 * 128, 0] S1x128x4096.size (dslot_inb q)).emb (ix3 0 r l) = (ix3 ⟨q.val / 2, by omega⟩ ⟨q.val % 2 * 128 + r.val, by omega⟩ l : S8x256x4096.Idx) := by
  funext a
  apply Fin.ext
  rw [Rect.emb_apply]
  fin_cases a <;> simp [Rect.unit]

theorem dslot_emb (q : Fin 16) (r : Fin 128) (l : Fin 4096) :
    (dslot q).view.emb (ix2 r l) = (ix3 ⟨q.val / 2, by omega⟩ ⟨q.val % 2 * 128 + r.val, by omega⟩ l : S8x256x4096.Idx) := by
  rw [← slot_rect_emb, ← reshape_slot]
  rfl

theorem dsrc_emb (b : Fin 86) (r : Fin 128) (l : Fin 4096) :
    (dsrc b).view.emb (ix2 r l) = (ix2 ⟨b.val * 128 + r.val, by omega⟩ l : S11008x4096.Idx) := by
  funext a
  apply Fin.ext
  fin_cases a
  · show b.val * 128 + 1 * r.val = _; simp
  · show 0 + 1 * l.val = l.val; omega

theorem DHas_at {c : Dev nD} {fwd : Buf (Elt F) (wdH.view.loc (c : Thread nD τ))} {q : Fin 16} {b : Fin 86}
    {f : Buf (Elt F) (wdV.view.loc (c : Thread nD τ))} (h : DHas c fwd q b f) (r : Fin 128) (l : Fin 4096) :
    f (ix3 ⟨q.val / 2, by omega⟩ ⟨q.val % 2 * 128 + r.val, by omega⟩ l : S8x256x4096.Idx) = fwd (ix2 ⟨b.val * 128 + r.val, by omega⟩ l : S11008x4096.Idx) := by
  have h2 := congrFun h (ix2 r l)
  rw [← dslot_emb, ← dsrc_emb]
  exact h2

theorem dslot_mem (q : Fin 16) (r : Fin 128) (l : Fin 4096) :
    (ix3 ⟨q.val / 2, by omega⟩ ⟨q.val % 2 * 128 + r.val, by omega⟩ l : S8x256x4096.Idx) ∈ (dslot q).view.set := by
  rw [← dslot_emb]; exact View.emb_mem_set _ _

theorem dslot_disj {q q' : Fin 16} (h : q ≠ q') : Disjoint (dslot q).view.set (dslot q').view.set := by
  rw [Finset.disjoint_left]
  intro i hi hi'
  obtain ⟨x, -, rfl⟩ := Finset.mem_map.1 hi
  obtain ⟨y, -, hy⟩ := Finset.mem_map.1 hi'
  obtain ⟨r, l, rfl⟩ : ∃ (r : Fin 128) (l : Fin 4096), x = ix2 r l := ⟨x 0, x 1, eq_ix2 x⟩
  obtain ⟨r', l', rfl⟩ : ∃ (r : Fin 128) (l : Fin 4096), y = ix2 r l := ⟨y 0, y 1, eq_ix2 y⟩
  have hy' : (dslot q').view.emb (ix2 r' l') = (dslot q).view.emb (ix2 r l) := hy
  rw [dslot_emb, dslot_emb] at hy'
  have h0 := congrArg (fun i : S8x256x4096.Idx => (i 0).val) hy'
  have h1 := congrArg (fun i : S8x256x4096.Idx => (i 1).val) hy'
  apply h
  apply Fin.ext
  change q'.val / 2 = q.val / 2 at h0
  change q'.val % 2 * 128 + r'.val = q.val % 2 * 128 + r.val at h1
  have := r.isLt; have := r'.isLt
  omega

/-- Two blocks of the down-projection weights, one below the other. -/
def wdTile (c : Dev nD) (fwd : Buf (Elt F) (wdH.view.loc (c : Thread nD τ))) (b1 b2 : Fin 86) : Vec F S1x256x4096 .i8 := fun i =>
  if h : (i 1).val < 128 then fwd (ix2 ⟨b1.val * 128 + (i 1).val, by omega⟩ (i 2) : S11008x4096.Idx)
  else fwd (ix2 ⟨b2.val * 128 + ((i 1).val - 128), by have : (i 1).val < 256 := (i 1).isLt; omega⟩ (i 2) : S11008x4096.Idx)

/-- One block of the down-projection weights. -/
def wdHalf (c : Dev nD) (fwd : Buf (Elt F) (wdH.view.loc (c : Thread nD τ))) (b : Fin 86) : Vec F S1x128x4096 .i8 := fun i =>
  fwd (ix2 ⟨b.val * 128 + (i 1).val, by have : (i 1).val < 128 := (i 1).isLt; omega⟩ (i 2) : S11008x4096.Idx)

theorem tile_mem (t : Fin 8) (x : Fin 256) (l : Fin 4096) (q1 q2 : Fin 16) (hq1 : q1.val = 2 * t.val) (hq2 : q2.val = 2 * t.val + 1) :
    (x.val < 128 → (ix3 t x l : S8x256x4096.Idx) ∈ (dslot q1).view.set) ∧ (¬ x.val < 128 → (ix3 t x l : S8x256x4096.Idx) ∈ (dslot q2).view.set) := by
  constructor
  · intro h
    have := dslot_mem q1 ⟨x.val, h⟩ l
    have e : (ix3 t x l : S8x256x4096.Idx) = ix3 ⟨q1.val / 2, by omega⟩ ⟨q1.val % 2 * 128 + x.val, by omega⟩ l := by
      rw [show (⟨q1.val / 2, by omega⟩ : Fin 8) = t from Fin.ext (by simp; omega), show (⟨q1.val % 2 * 128 + x.val, by omega⟩ : Fin 256) = x from Fin.ext (by simp; omega)]
    rw [e]; exact this
  · intro h
    have hx := x.isLt
    have := dslot_mem q2 ⟨x.val - 128, by omega⟩ l
    have e : (ix3 t x l : S8x256x4096.Idx) = ix3 ⟨q2.val / 2, by omega⟩ ⟨q2.val % 2 * 128 + (x.val - 128), by omega⟩ l := by
      rw [show (⟨q2.val / 2, by omega⟩ : Fin 8) = t from Fin.ext (by simp; omega), show (⟨q2.val % 2 * 128 + (x.val - 128), by omega⟩ : Fin 256) = x from Fin.ext (by simp; omega)]
    rw [e]; exact this

theorem tile_rect_emb (t : Fin 8) (h : ∀ a, (![t.val, 0, 0] : Fin 3 → ℕ) a + S1x256x4096.size a ≤ S8x256x4096.size a) (x : S1x256x4096.Idx) :
    (Rect.unit (s := S8x256x4096) ![t.val, 0, 0] S1x256x4096.size h).emb x = (ix3 t (x 1) (x 2) : S8x256x4096.Idx) := by
  funext a
  apply Fin.ext
  rw [Rect.emb_apply]
  have h0 : (x 0).val < 1 := (x 0).isLt
  fin_cases a
  · show t.val + 1 * (x 0).val = t.val; omega
  · show 0 + 1 * (x 1).val = (x 1).val; omega
  · show 0 + 1 * (x 2).val = (x 2).val; omega

theorem half_rect_emb (q : Fin 16) (h : ∀ a, (![q.val / 2, q.val % 2 * 128, 0] : Fin 3 → ℕ) a + S1x128x4096.size a ≤ S8x256x4096.size a) (x : S1x128x4096.Idx) :
    (Rect.unit (s := S8x256x4096) ![q.val / 2, q.val % 2 * 128, 0] S1x128x4096.size h).emb x = (ix3 ⟨q.val / 2, by omega⟩ ⟨q.val % 2 * 128 + (x 1).val, by have : (x 1).val < 128 := (x 1).isLt; omega⟩ (x 2) : S8x256x4096.Idx) := by
  funext a
  apply Fin.ext
  rw [Rect.emb_apply]
  have h0 : (x 0).val < 1 := (x 0).isLt
  fin_cases a
  · show q.val / 2 + 1 * (x 0).val = q.val / 2; omega
  · show q.val % 2 * 128 + 1 * (x 1).val = q.val % 2 * 128 + (x 1).val; omega
  · show 0 + 1 * (x 2).val = (x 2).val; omega

theorem tile_sub (t : Fin 8) (h : ∀ a, (![t.val, 0, 0] : Fin 3 → ℕ) a + S1x256x4096.size a ≤ S8x256x4096.size a) (q1 q2 : Fin 16) (hq1 : q1.val = 2 * t.val) (hq2 : q2.val = 2 * t.val + 1) :
    wdV.view.setOn (Rect.unit (s := S8x256x4096) ![t.val, 0, 0] S1x256x4096.size h).toLoadRect.set ⊆ (dslot q1).view.set ∪ (dslot q2).view.set := by
  intro i hi
  have hi' : i ∈ (Rect.unit (s := S8x256x4096) ![t.val, 0, 0] S1x256x4096.size h).set := by
    obtain ⟨j, hj, rfl⟩ := Finset.mem_map.1 hi
    exact hj
  rw [← Rect.map_emb_univ] at hi'
  obtain ⟨x, -, rfl⟩ := Finset.mem_map.1 hi'
  have ex := tile_rect_emb t h x
  rw [ex]
  have := tile_mem t (x 1) (x 2) q1 q2 hq1 hq2
  by_cases hx : (x 1).val < 128
  · exact Finset.mem_union_left _ (this.1 hx)
  · exact Finset.mem_union_right _ (this.2 hx)

theorem half_sub (q : Fin 16) (h : ∀ a, (![q.val / 2, q.val % 2 * 128, 0] : Fin 3 → ℕ) a + S1x128x4096.size a ≤ S8x256x4096.size a) :
    wdV.view.setOn (Rect.unit (s := S8x256x4096) ![q.val / 2, q.val % 2 * 128, 0] S1x128x4096.size h).toLoadRect.set ⊆ (dslot q).view.set := by
  intro i hi
  have hi' : i ∈ (Rect.unit (s := S8x256x4096) ![q.val / 2, q.val % 2 * 128, 0] S1x128x4096.size h).set := by
    obtain ⟨j, hj, rfl⟩ := Finset.mem_map.1 hi
    exact hj
  rw [← Rect.map_emb_univ] at hi'
  obtain ⟨x, -, rfl⟩ := Finset.mem_map.1 hi'
  have ex := half_rect_emb q h x
  rw [ex]
  exact dslot_mem q (x 1) (x 2)

theorem tile_read (c : Dev nD) (fwd : Buf (Elt F) (wdH.view.loc (c : Thread nD τ))) (t : Fin 8) (q1 q2 : Fin 16) (b1 b2 : Fin 86)
    (hq1 : q1.val = 2 * t.val) (hq2 : q2.val = 2 * t.val + 1) (h : ∀ a, (![t.val, 0, 0] : Fin 3 → ℕ) a + S1x256x4096.size a ≤ S8x256x4096.size a)
    (f1 f2 : Buf (Elt F) (wdV.view.loc (c : Thread nD τ))) (H1 : DHas c fwd q1 b1 f1) (H2 : DHas c fwd q2 b2 f2) :
    wdV.view.readAt (Elt F) (Rect.unit (s := S8x256x4096) ![t.val, 0, 0] S1x256x4096.size h).toLoadRect ((dslot q2).view.set.piecewise f2 f1) = wdTile c fwd b1 b2 := by
  funext i
  have ex := tile_rect_emb t h i
  show ((dslot q2).view.set.piecewise f2 f1) ((Rect.unit (s := S8x256x4096) ![t.val, 0, 0] S1x256x4096.size h).emb i) = _
  rw [ex]
  have hm := tile_mem t (i 1) (i 2) q1 q2 hq1 hq2
  unfold wdTile
  by_cases hx : (i 1).val < 128
  · rw [dif_pos hx, Finset.piecewise_eq_of_notMem _ _ _ (fun h' => (Finset.disjoint_left.1 (dslot_disj (q := q1) (q' := q2) (fun e => by have := congrArg Fin.val e; omega)) (hm.1 hx) h'))]
    rw [← DHas_at H1 ⟨(i 1).val, hx⟩ (i 2)]
    congr 1
    have e1 : (⟨q1.val / 2, by omega⟩ : Fin 8) = t := Fin.ext (by simp; omega)
    have e2 : (⟨q1.val % 2 * 128 + (i 1).val, by omega⟩ : Fin 256) = i 1 := Fin.ext (by simp; omega)
    rw [e1]
    exact congrArg (fun z => (ix3 t z (i 2) : S8x256x4096.Idx)) e2.symm
  · have hlt : (i 1).val < 256 := (i 1).isLt
    rw [dif_neg hx, Finset.piecewise_eq_of_mem _ _ _ (hm.2 hx)]
    rw [← DHas_at H2 ⟨(i 1).val - 128, by omega⟩ (i 2)]
    congr 1
    have e1 : (⟨q2.val / 2, by omega⟩ : Fin 8) = t := Fin.ext (by simp; omega)
    have e2 : (⟨q2.val % 2 * 128 + ((i 1).val - 128), by omega⟩ : Fin 256) = i 1 := Fin.ext (by simp; omega)
    rw [e1]
    exact congrArg (fun z => (ix3 t z (i 2) : S8x256x4096.Idx)) e2.symm

theorem half_read (c : Dev nD) (fwd : Buf (Elt F) (wdH.view.loc (c : Thread nD τ))) (q : Fin 16) (b : Fin 86)
    (h : ∀ a, (![q.val / 2, q.val % 2 * 128, 0] : Fin 3 → ℕ) a + S1x128x4096.size a ≤ S8x256x4096.size a)
    (f : Buf (Elt F) (wdV.view.loc (c : Thread nD τ))) (H : DHas c fwd q b f) :
    wdV.view.readAt (Elt F) (Rect.unit (s := S8x256x4096) ![q.val / 2, q.val % 2 * 128, 0] S1x128x4096.size h).toLoadRect f = wdHalf c fwd b := by
  funext i
  have ex := half_rect_emb q h i
  show f ((Rect.unit (s := S8x256x4096) ![q.val / 2, q.val % 2 * 128, 0] S1x128x4096.size h).emb i) = _
  rw [ex]
  exact DHas_at H (i 1) (i 2)

theorem dn_load2 (c : Dev nD) (fwd : Buf (Elt F) (wdH.view.loc (c : Thread nD τ))) (st : Fin 16 → DS) (t : Fin 8) (q1 q2 : Fin 16) (b1 b2 : Fin 86)
    (hq1 : q1.val = 2 * t.val) (hq2 : q2.val = 2 * t.val + 1) (hs1 : st q1 = .full b1) (hs2 : st q2 = .full b2)
    (o : Fin 3 → ℕ) (h : ∀ a, o a + S1x256x4096.size a ≤ S8x256x4096.size a) (ho : o = ![t.val, 0, 0])
    (hl : wdV.view.LoadsAt (Rect.unit (s := S8x256x4096) o S1x256x4096.size h).toLoadRect)
    {α : Type} (k : Vec F S1x256x4096 .i8 → Prog (TpuEff nD τ sig (Elt F) Λ₀ .tc) α) (Q : α → sProp 𝕄) :
    iprop(Down c fwd st ∗ (Down c fwd (Function.update (Function.update st q1 .idle) q2 .idle) -∗ WP c (k (wdTile c fwd b1 b2)) Q))
      ⊢ WP c (.op (.load wdV (Rect.unit (s := S8x256x4096) o S1x256x4096.size h).toLoadRect hl) k) Q := by
  subst ho
  have hne : q2 ≠ q1 := fun e => by have := congrArg Fin.val e; omega
  unfold Down
  rw [Ring.AtW_focus2 (fun q => DSlot c fwd q) st hne, hs1, hs2, DSlot_full, DSlot_full]
  iintro ⟨⟨⟨Hc1, ⟨%f1, %H1, Hf1⟩, Ht1⟩, ⟨Hc2, ⟨%f2, %H2, Hf2⟩, Ht2⟩, Hrest⟩, HQ⟩
  have hj := pointsTo_join (Ix := Unit) (Name := ℕ) (U := Pipeline.UD sig nD τ) (Lvl := ℕ) (ℓ := (dslot q1).view.loc (c : Thread nD τ)) (q := fullShare) (f := f1) (g := f2) (dslot_disj hne.symm : Disjoint (dslot q1).view.set (dslot q2).view.set)
  ihave Hj := hj $$ [Hf1 Hf2]
  · isplitl [Hf1]
    · iexact Hf1
    · iexact Hf2
  iapply (wp_load Variants.none (c : Thread nD τ) none Set.univ (m := wdV) (r := (Rect.unit (s := S8x256x4096) ![t.val, 0, 0] S1x256x4096.size h).toLoadRect) (S := (dslot q1).view.set ∪ (dslot q2).view.set) (q := fullShare) (f := (dslot q2).view.set.piecewise f2 f1) (tile_sub t h q1 q2 hq1 hq2)) $$ Hj
  iintro Hj
  rw [tile_read c fwd t q1 q2 b1 b2 hq1 hq2 h f1 f2 H1 H2]
  iapply HQ
  iapply (Ring.AtW_update2 (fun q => DSlot c fwd q) st hne .idle .idle)
  ihave Hj := (pointsTo_union (Ix := Unit) (Name := ℕ) (U := Pipeline.UD sig nD τ) (Lvl := ℕ) (ℓ := (dslot q1).view.loc (c : Thread nD τ)) (q := fullShare) (dslot_disj hne.symm : Disjoint (dslot q1).view.set (dslot q2).view.set)).1 $$ Hj
  icases Hj with ⟨Hf1, Hf2⟩
  rw [DSlot_idle, DSlot_idle]
  isplitl [Hc1 Ht1 Hf1]
  · isplitl [Hc1]; · iexact Hc1
    isplitl [Hf1]; · iexists _; iexact Hf1
    iexact Ht1
  isplitl [Hc2 Ht2 Hf2]
  · isplitl [Hc2]; · iexact Hc2
    isplitl [Hf2]; · iexists _; iexact Hf2
    iexact Ht2
  iexact Hrest

theorem dn_load1 (c : Dev nD) (fwd : Buf (Elt F) (wdH.view.loc (c : Thread nD τ))) (st : Fin 16 → DS) (q : Fin 16) (b : Fin 86)
    (hs : st q = .full b)
    (o : Fin 3 → ℕ) (h : ∀ a, o a + S1x128x4096.size a ≤ S8x256x4096.size a) (ho : o = ![q.val / 2, q.val % 2 * 128, 0])
    (hl : wdV.view.LoadsAt (Rect.unit (s := S8x256x4096) o S1x128x4096.size h).toLoadRect)
    {α : Type} (k : Vec F S1x128x4096 .i8 → Prog (TpuEff nD τ sig (Elt F) Λ₀ .tc) α) (Q : α → sProp 𝕄) :
    iprop(Down c fwd st ∗ (Down c fwd (Function.update st q .idle) -∗ WP c (k (wdHalf c fwd b)) Q))
      ⊢ WP c (.op (.load wdV (Rect.unit (s := S8x256x4096) o S1x128x4096.size h).toLoadRect hl) k) Q := by
  subst ho
  unfold Down
  rw [Ring.AtW_focus (fun q => DSlot c fwd q) st q, hs, DSlot_full]
  iintro ⟨⟨⟨Hc1, ⟨%f1, %H1, Hf1⟩, Ht1⟩, Hrest⟩, HQ⟩
  iapply (wp_load Variants.none (c : Thread nD τ) none Set.univ (m := wdV) (r := (Rect.unit (s := S8x256x4096) ![q.val / 2, q.val % 2 * 128, 0] S1x128x4096.size h).toLoadRect) (S := (dslot q).view.set) (q := fullShare) (f := f1) (half_sub q h)) $$ Hf1
  iintro Hf1
  rw [half_read c fwd q b h f1 H1]
  iapply HQ
  iapply (Ring.AtW_update (fun q => DSlot c fwd q) st q .idle)
  rw [DSlot_idle]
  isplitl [Hc1 Ht1 Hf1]
  · isplitl [Hc1]; · iexact Hc1
    isplitl [Hf1]; · iexists _; iexact Hf1
    iexact Ht1
  iexact Hrest

end Cert.Kernel.Hand
end
-- ==== Proof.Kernel.RingLoop.lean ====
/-
  The loops that start the down-projection copies.
-/
module

public import proofs.«01_k».proof.Proof.Kernel.RingLoad
public import Idealize.ShloMosaic.Lib.LoopRemainder

@[expose] public section

noncomputable section

namespace Cert.Kernel.Hand

open Cert.Kernel Cert.Kernel.Gen Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's beside the transfers' counters. -/
local notation "𝕄" => MT nD τ sig Unit (Elt F) ℕ (Pipeline.UD sig nD τ) ℕ

/-- The states of the ring when the copies of the live blocks from the `w`-th to before the `s`-th are in flight. -/
def stOf (al : ℕ → Fin 86) (w s : ℕ) : Fin 16 → DS := fun q => match Ring.inWin w s 16 q with
  | some i => .busy (al i)
  | none => .idle

theorem stOf_idle (al : ℕ → Fin 86) {w s : ℕ} (h1 : w ≤ s) (h2 : s < w + 16) : stOf al w s (Ring.sl 16 s) = .idle := by
  unfold stOf; rw [Ring.inWin_hi h1 h2]

theorem stOf_push (al : ℕ → Fin 86) {w s : ℕ} (h1 : w ≤ s) (h2 : s + 1 ≤ w + 16) :
    Function.update (stOf al w s) (Ring.sl 16 s) (.busy (al s)) = stOf al w (s + 1) := by
  funext q
  unfold stOf
  rw [Ring.inWin_push h1 h2]
  by_cases hq : q = Ring.sl 16 s
  · subst hq; simp
  · rw [Function.update_of_ne hq, Function.update_of_ne hq]

theorem stOf_lo (al : ℕ → Fin 86) {w s : ℕ} (h1 : w < s) (h2 : s ≤ w + 16) : stOf al w s (Ring.sl 16 w) = .busy (al w) := by
  unfold stOf; rw [Ring.inWin_lo h1 h2]

theorem stOf_pop (al : ℕ → Fin 86) {w s : ℕ} (h1 : w < s) (h2 : s ≤ w + 16) :
    Function.update (stOf al w s) (Ring.sl 16 w) .idle = stOf al (w + 1) s := by
  funext q
  unfold stOf
  rw [Ring.inWin_pop h1 h2]
  by_cases hq : q = Ring.sl 16 w
  · subst hq; simp
  · rw [Function.update_of_ne hq, Function.update_of_ne hq]

theorem stOf_self (al : ℕ → Fin 86) (w : ℕ) : stOf al w w = fun _ => .idle := by
  funext q
  unfold stOf
  rw [(Ring.inWin_eq_none_iff (by omega) q).2 (fun x h1 h2 => by omega)]

/-- The list of live blocks holds the first `n` of them. -/
def AL (A : Fin 87 → BitVec 32) (al : ℕ → Fin 86) (n : ℕ) : Prop :=
  ∀ i (h : i < 87), i < n → A ⟨i, h⟩ = BitVec.ofNat 32 (al i).val

/-- The words of the list of live blocks. -/
def alF {c : Dev nD} (A : Buf (Elt F) (alS.view.loc (c : Thread nD τ))) : Fin 87 → BitVec 32 := fun i => A (ix1 i)

/-! ### Offsets within their bounds -/

theorem inb_slot {o : Fin 3 → ℕ} {i : ℕ} (h : o = ![i % 16 / 2, i % 16 % 2 * 128, 0]) : ∀ a, o a + S1x128x4096.size a ≤ S8x256x4096.size a := by
  subst h
  exact dslot_inb ⟨i % 16, Nat.mod_lt _ (by decide)⟩

theorem inb_one {o : Fin 1 → ℕ} {i n : ℕ} (h : o = ![i]) (hi : i < n) : ∀ a, o a + S1.size a ≤ (![n] : Fin 1 → ℕ) a := by
  subst h
  intro a; fin_cases a; simp [S1]; omega

theorem words_slot {o : Fin 3 → ℕ} {i : ℕ} (h : o = ![i % 16 / 2, i % 16 % 2 * 128, 0]) (hinb : ∀ a, o a + S1x128x4096.size a ≤ S8x256x4096.size a) :
    (Rect.unit (s := S8x256x4096) o S1x128x4096.size hinb).WholeWords (EltTy.packing .i8) := by
  subst h
  exact Affine.words_of_packed (Affine.packed_dvd (by decide) (Dvd.intro_left (i % 16 % 2 * 32) (by show i % 16 % 2 * 32 * 4 = i % 16 % 2 * 128; omega)) (by decide))

theorem inb_src {o : Fin 2 → ℕ} {b : ℕ} (h : o = ![b * 128, 0]) (hb : b < 86) : ∀ a, o a + S128x4096.size a ≤ S11008x4096.size a := by
  subst h; exact dsrc_inb hb

theorem words_src {o : Fin 2 → ℕ} {b : ℕ} (h : o = ![b * 128, 0]) (hinb : ∀ a, o a + S128x4096.size a ≤ S11008x4096.size a) :
    (Rect.unit (s := S11008x4096) o S128x4096.size hinb).WholeWords (EltTy.packing .i8) := by
  subst h
  exact Affine.words_of_packed (Affine.packed_dvd (by decide) (Dvd.intro_left (b * 32) (by show b * 32 * 4 = b * 128; omega)) (by decide))

theorem mul128_dvd {a : ℕ} (ha : a < 2 ^ 20) : 128 ∣ (Scalar.muli (BitVec.ofNat 32 a) 128#32).toNat := by
  rw [show (128#32 : BitVec 32) = BitVec.ofNat 32 128 from rfl, muli_w, toNat_w (by omega)]
  exact Dvd.intro_left _ rfl

/-- The offsets of the slot that the `i`-th live block goes to. -/
theorem slot_words {i : ℕ} (hi : i < 2 ^ 31) :
    (![(Scalar.shrsi (Scalar.remsi (BitVec.ofNat 32 i) 16#32) 1#32).toNat, (Scalar.muli (Scalar.andi (Scalar.remsi (BitVec.ofNat 32 i) 16#32) 1#32) 128#32).toNat, 0] : Fin 3 → ℕ)
      = ![i % 16 / 2, i % 16 % 2 * 128, 0] := by
  rw [remsi16_w hi, shrsi1_w (by omega), andi1_w (by omega), show (128#32 : BitVec 32) = BitVec.ofNat 32 128 from rfl, muli_w, toNat_w (by omega), toNat_w (by omega)]

/-- The offsets of the block of weights that a word names. -/
theorem src_words {b : ℕ} (hb : b < 86) : (![(Scalar.muli (BitVec.ofNat 32 b) 128#32).toNat, 0] : Fin 2 → ℕ) = ![b * 128, 0] := by
  rw [show (128#32 : BitVec 32) = BitVec.ofNat 32 128 from rfl, muli_w, toNat_w (by omega)]

theorem dn_loop (c : Dev nD) (fwd : Buf (Elt F) (wdH.view.loc (c : Thread nD τ))) (al : ℕ → Fin 86)
    (A : Buf (Elt F) (alS.view.loc (c : Thread nD τ))) (w s0 s1 : ℕ) (hws : w ≤ s0) (hs : s0 ≤ s1) (hs1 : s1 ≤ w + 16) (hn : s1 ≤ 86)
    (L : Scf.Loop 32) (hlb : L.lb = BitVec.ofNat 32 s0) (hub : L.ub = BitVec.ofNat 32 s1) (hst : L.st = 1#32)
    (hok : L.OK) (init : BitVec 32) (body : Fin L.trips → BitVec 32 → Prog (TpuEff nD τ sig (Elt F) Λ₀ .tc) (BitVec 32))
    (hbody : ∀ (k : Fin L.trips) (r : BitVec 32) (i : ℕ) (hi : i = s0 + k.val) (hi' : i < s1) (st : Fin 16 → DS) (hst : st (Ring.sl 16 i) = .idle) (Q : BitVec 32 → sProp 𝕄),
      iprop(Down c fwd st ∗ pt c alS A ∗ (Down c fwd (Function.update st (Ring.sl 16 i) (.busy (al i))) ∗ pt c alS A -∗ Q 0#32)) ⊢ WP c (body k r) Q)
    {β : Type} (kk : BitVec 32 → Prog (TpuEff nD τ sig (Elt F) Λ₀ .tc) β) (Q : β → sProp 𝕄) :
    iprop(Down c fwd (stOf al w s0) ∗ pt c alS A ∗ (∀ r, Down c fwd (stOf al w s1) ∗ pt c alS A -∗ WP c (kk r) Q))
      ⊢ WP c (Scf.for L.lb L.ub L.st hok init body >>= kk) Q := by
  have htr : L.trips = s1 - s0 := by
    unfold Scf.Loop.trips; rw [hlb, hub, hst]; exact trips_w (by omega) (by omega)
  iintro ⟨HD, HA, HQ⟩
  iapply (Scf.wp_for_bind frame (wpE (defs₀ (F := F)) Variants.none (c : Thread nD τ) none) Set.univ L.lb L.ub L.st hok init body
    (fun k _ => iprop(Down c fwd (stOf al w (s0 + k)) ∗ pt c alS A)) (fun k acc => by
      have hk : k.val < s1 - s0 := lt_of_lt_of_eq k.isLt htr
      have e := stOf_push al (w := w) (s := s0 + k.val) (by omega) (by omega)
      iintro ⟨HD, HA⟩
      iapply (hbody k acc (s0 + k.val) rfl (by omega) (stOf al w (s0 + k.val)) (stOf_idle al (by omega) (by omega)) _)
      isplitl [HD]; · iexact HD
      isplitl [HA]; · iexact HA
      rw [e]
      iintro ⟨HD, HA⟩
      isplitl [HD]; · iexact HD
      iexact HA)) $$ [HD HA]
  · isplitl [HD]; · iexact HD
    iexact HA
  rw [show Scf.trips L.lb L.ub L.st = s1 - s0 from htr, show s0 + (s1 - s0) = s1 by omega]
  iintro %acc ⟨HD, HA⟩
  iapply HQ
  isplitl [HD]; · iexact HD
  iexact HA

section k0_t2
variable (k0_t1 : Fin k0_t1_loop.trips) (arg29 arg30 v272 v292 v312 v332 : BitVec 32)

theorem k0_t2_iv (s0 k : ℕ) (h : arg30 = BitVec.ofNat 32 s0) : Scf.iv arg30 1#32 k = BitVec.ofNat 32 (s0 + k) := by
  rw [h, show (1#32 : BitVec 32) = BitVec.ofNat 32 1 from rfl, iv_w, Nat.mul_one]

theorem k0_off18_w (s0 : ℕ) (h : arg30 = BitVec.ofNat 32 s0) (k : Fin (k0_t2_loop k0_t1 arg29 arg30 v272 v292 v312 v332).trips) (hk : s0 + k.val < 2 ^ 20) : k0_off18 k0_t1 arg29 arg30 v272 v292 v312 v332 k = ![s0 + k.val] := by
  unfold k0_off18
  dsimp only [Scalar.indexCast]
  rw [k0_t2_iv arg30 s0 _ h, toNat_w (by omega)]

theorem k0_off19_w (s0 : ℕ) (h : arg30 = BitVec.ofNat 32 s0) (k : Fin (k0_t2_loop k0_t1 arg29 arg30 v272 v292 v312 v332).trips) (hk : s0 + k.val < 2 ^ 20) : k0_off19 k0_t1 arg29 arg30 v272 v292 v312 v332 k = ![(s0 + k.val) % 16] := by
  unfold k0_off19
  dsimp only
  rw [k0_t2_iv arg30 s0 _ h, remsi16_w (by omega), toNat_w (by omega)]

theorem k0_off20_w (s0 : ℕ) (h : arg30 = BitVec.ofNat 32 s0) (k : Fin (k0_t2_loop k0_t1 arg29 arg30 v272 v292 v312 v332).trips) (hk : s0 + k.val < 2 ^ 20) :
    k0_off20 k0_t1 arg29 arg30 v272 v292 v312 v332 k = ![(s0 + k.val) % 16 / 2, (s0 + k.val) % 16 % 2 * 128, 0] := by
  unfold k0_off20
  dsimp only
  rw [k0_t2_iv arg30 s0 _ h, slot_words (by omega)]

theorem k0_mult10_w (s0 : ℕ) (h : arg30 = BitVec.ofNat 32 s0) (k : Fin (k0_t2_loop k0_t1 arg29 arg30 v272 v292 v312 v332).trips) (hk : s0 + k.val < 2 ^ 20) : 128 ∣ (k0_mult10 k0_t1 arg29 arg30 v272 v292 v312 v332 k).toNat := by
  unfold k0_mult10
  dsimp only
  rw [k0_t2_iv arg30 s0 _ h, remsi16_w (by omega), andi1_w (by omega)]
  exact mul128_dvd (by omega)

end k0_t2

theorem k0_off21_w {b : ℕ} (hb : b < 86) : k0_off21 (BitVec.ofNat 32 b) = ![b * 128, 0] := by
  unfold k0_off21
  dsimp only
  exact src_words hb

theorem k0_chk6_w {b : ℕ} (hb : b < 86) : k0_chk6 (BitVec.ofNat 32 b) := by
  rw [k0_chk6.eq_1]
  refine ⟨?_, inb_src (k0_off21_w hb) hb, fun h => words_src (k0_off21_w hb) h⟩
  unfold k0_mult9
  dsimp only
  exact mul128_dvd (by omega)

section k0_t4
variable (v126_0 v126_1 v160 v178 : BitVec 32)

theorem k0_t4_iv (s0 k : ℕ) (h : v126_1 = BitVec.ofNat 32 s0) : Scf.iv v126_1 1#32 k = BitVec.ofNat 32 (s0 + k) := by
  rw [h, show (1#32 : BitVec 32) = BitVec.ofNat 32 1 from rfl, iv_w, Nat.mul_one]

theorem k0_off30_w (s0 : ℕ) (h : v126_1 = BitVec.ofNat 32 s0) (k : Fin (k0_t4_loop v126_0 v126_1 v160 v178).trips) (hk : s0 + k.val < 2 ^ 20) : k0_off30 v126_0 v126_1 v160 v178 k = ![s0 + k.val] := by
  unfold k0_off30
  dsimp only [Scalar.indexCast]
  rw [k0_t4_iv v126_1 s0 _ h, toNat_w (by omega)]

theorem k0_off31_w (s0 : ℕ) (h : v126_1 = BitVec.ofNat 32 s0) (k : Fin (k0_t4_loop v126_0 v126_1 v160 v178).trips) (hk : s0 + k.val < 2 ^ 20) : k0_off31 v126_0 v126_1 v160 v178 k = ![(s0 + k.val) % 16] := by
  unfold k0_off31
  dsimp only
  rw [k0_t4_iv v126_1 s0 _ h, remsi16_w (by omega), toNat_w (by omega)]

theorem k0_off32_w (s0 : ℕ) (h : v126_1 = BitVec.ofNat 32 s0) (k : Fin (k0_t4_loop v126_0 v126_1 v160 v178).trips) (hk : s0 + k.val < 2 ^ 20) :
    k0_off32 v126_0 v126_1 v160 v178 k = ![(s0 + k.val) % 16 / 2, (s0 + k.val) % 16 % 2 * 128, 0] := by
  unfold k0_off32
  dsimp only
  rw [k0_t4_iv v126_1 s0 _ h, slot_words (by omega)]

theorem k0_mult14_w (s0 : ℕ) (h : v126_1 = BitVec.ofNat 32 s0) (k : Fin (k0_t4_loop v126_0 v126_1 v160 v178).trips) (hk : s0 + k.val < 2 ^ 20) : 128 ∣ (k0_mult14 v126_0 v126_1 v160 v178 k).toNat := by
  unfold k0_mult14
  dsimp only
  rw [k0_t4_iv v126_1 s0 _ h, remsi16_w (by omega), andi1_w (by omega)]
  exact mul128_dvd (by omega)

end k0_t4

theorem k0_off33_w {b : ℕ} (hb : b < 86) : k0_off33 (BitVec.ofNat 32 b) = ![b * 128, 0] := by
  unfold k0_off33
  dsimp only
  exact src_words hb

theorem k0_chk11_w {b : ℕ} (hb : b < 86) : k0_chk11 (BitVec.ofNat 32 b) := by
  rw [k0_chk11.eq_1]
  refine ⟨?_, inb_src (k0_off33_w hb) hb, fun h => words_src (k0_off33_w hb) h⟩
  unfold k0_mult13
  dsimp only
  exact mul128_dvd (by omega)

section k0_t7
variable (v126_0 v160 v178 : BitVec 32) (k0_t6 : Fin (k0_t6_loop v126_0 v160 v178).trips) (arg29 : BitVec 32)

theorem k0_t7_iv (s0 k : ℕ) (h : arg29 = BitVec.ofNat 32 s0) : Scf.iv arg29 1#32 k = BitVec.ofNat 32 (s0 + k) := by
  rw [h, show (1#32 : BitVec 32) = BitVec.ofNat 32 1 from rfl, iv_w, Nat.mul_one]

theorem k0_off49_w (s0 : ℕ) (h : arg29 = BitVec.ofNat 32 s0) (k : Fin (k0_t7_loop v126_0 v160 v178 k0_t6 arg29).trips) (hk : s0 + k.val < 2 ^ 20) : k0_off49 v126_0 v160 v178 k0_t6 arg29 k = ![s0 + k.val] := by
  unfold k0_off49
  dsimp only [Scalar.indexCast]
  rw [k0_t7_iv arg29 s0 _ h, toNat_w (by omega)]

theorem k0_off50_w (s0 : ℕ) (h : arg29 = BitVec.ofNat 32 s0) (k : Fin (k0_t7_loop v126_0 v160 v178 k0_t6 arg29).trips) (hk : s0 + k.val < 2 ^ 20) : k0_off50 v126_0 v160 v178 k0_t6 arg29 k = ![(s0 + k.val) % 16] := by
  unfold k0_off50
  dsimp only
  rw [k0_t7_iv arg29 s0 _ h, remsi16_w (by omega), toNat_w (by omega)]

theorem k0_off51_w (s0 : ℕ) (h : arg29 = BitVec.ofNat 32 s0) (k : Fin (k0_t7_loop v126_0 v160 v178 k0_t6 arg29).trips) (hk : s0 + k.val < 2 ^ 20) :
    k0_off51 v126_0 v160 v178 k0_t6 arg29 k = ![(s0 + k.val) % 16 / 2, (s0 + k.val) % 16 % 2 * 128, 0] := by
  unfold k0_off51
  dsimp only
  rw [k0_t7_iv arg29 s0 _ h, slot_words (by omega)]

theorem k0_mult22_w (s0 : ℕ) (h : arg29 = BitVec.ofNat 32 s0) (k : Fin (k0_t7_loop v126_0 v160 v178 k0_t6 arg29).trips) (hk : s0 + k.val < 2 ^ 20) : 128 ∣ (k0_mult22 v126_0 v160 v178 k0_t6 arg29 k).toNat := by
  unfold k0_mult22
  dsimp only
  rw [k0_t7_iv arg29 s0 _ h, remsi16_w (by omega), andi1_w (by omega)]
  exact mul128_dvd (by omega)

end k0_t7

theorem k0_off52_w {b : ℕ} (hb : b < 86) : k0_off52 (BitVec.ofNat 32 b) = ![b * 128, 0] := by
  unfold k0_off52
  dsimp only
  exact src_words hb

theorem k0_chk16_w {b : ℕ} (hb : b < 86) : k0_chk16 (BitVec.ofNat 32 b) := by
  rw [k0_chk16.eq_1]
  refine ⟨?_, inb_src (k0_off52_w hb) hb, fun h => words_src (k0_off52_w hb) h⟩
  unfold k0_mult21
  dsimp only
  exact mul128_dvd (by omega)

theorem k0_off41_w {b : ℕ} (hb : b < 86) : k0_off41 (BitVec.ofNat 32 b) = ![b * 128, 0] := by
  unfold k0_off41
  dsimp only
  exact src_words hb

theorem k0_chk13_w {b : ℕ} (hb : b < 86) : k0_chk13 (BitVec.ofNat 32 b) := by
  rw [k0_chk13.eq_1]
  refine ⟨?_, inb_src (k0_off41_w hb) hb, fun h => words_src (k0_off41_w hb) h⟩
  unfold k0_mult17
  dsimp only
  exact mul128_dvd (by omega)

theorem k0_off45_w {b : ℕ} (hb : b < 86) : k0_off45 (BitVec.ofNat 32 b) = ![b * 128, 0] := by
  unfold k0_off45
  dsimp only
  exact src_words hb

theorem k0_chk14_w {b : ℕ} (hb : b < 86) : k0_chk14 (BitVec.ofNat 32 b) := by
  rw [k0_chk14.eq_1]
  refine ⟨?_, inb_src (k0_off45_w hb) hb, fun h => words_src (k0_off45_w hb) h⟩
  unfold k0_mult19
  dsimp only
  exact mul128_dvd (by omega)

theorem k0_t2_run (c : Dev nD) (fwd : Buf (Elt F) (wdH.view.loc (c : Thread nD τ))) (al : ℕ → Fin 86)
    (A : Buf (Elt F) (alS.view.loc (c : Thread nD τ))) (w s0 s1 : ℕ) (hws : w ≤ s0) (hs : s0 ≤ s1) (hs1 : s1 ≤ w + 16) (hn : s1 ≤ 86) (hA : AL (alF A) al s1)
    (v89 : FVec F S6x4096 .fp8e4m3) (v94 : FVec F S6x1 .f32) (v102 : FVec F S32x4096 .fp8e4m3) (k0_t1 : Fin k0_t1_loop.trips) (arg29 arg30 v272 v292 v312 v332 : BitVec 32) (k0_hw5 : k0_chk5 k0_t1 arg29 arg30 v272 v292 v312 v332)
    (hlb : arg30 = BitVec.ofNat 32 s0) (hub : (k0_t2_loop k0_t1 arg29 arg30 v272 v292 v312 v332).ub = BitVec.ofNat 32 s1)
    (hok : (k0_t2_loop k0_t1 arg29 arg30 v272 v292 v312 v332).OK) (init : BitVec 32)
    {β : Type} (kk : BitVec 32 → Prog (TpuEff nD τ sig (Elt F) Λ₀ .tc) β) (Q : β → sProp 𝕄) :
    iprop(Down c fwd (stOf al w s0) ∗ pt c alS A ∗ (∀ r, Down c fwd (stOf al w s1) ∗ pt c alS A -∗ WP c (kk r) Q))
      ⊢ WP c (Scf.Loop.for (k0_t2_loop k0_t1 arg29 arg30 v272 v292 v312 v332) hok init (k0_t2_body xH (Memref.isWhole_whole _) wuH (Memref.isWhole_whole _) wusH (Memref.isWhole_whole _) buH (Memref.isWhole_whole _) wdH (Memref.isWhole_whole _) wdsH (Memref.isWhole_whole _) yH (Memref.isWhole_whole _) hH (Memref.isWhole_whole _) cH (Memref.isWhole_whole _) sH (Memref.isWhole_whole _) xV (Memref.isWhole_whole _) wusV (Memref.isWhole_whole _) buV (Memref.isWhole_whole _) wdsV (Memref.isWhole_whole _) cV (Memref.isWhole_whole _) sV (Memref.isWhole_whole _) hV (Memref.isWhole_whole _) yV (Memref.isWhole_whole _) lhsV (Memref.isWhole_whole _) hcV (Memref.isWhole_whole _) accV (Memref.isWhole_whole _) wuV (Memref.isWhole_whole _) wdV (Memref.isWhole_whole _) alS (Memref.isWhole_whole _) inS ouS upS dnS v89 v94 v102 k0_t1 arg29 arg30 v272 v292 v312 v332 k0_hw5) >>= kk) Q := by
  have htr : (k0_t2_loop k0_t1 arg29 arg30 v272 v292 v312 v332).trips = s1 - s0 := by
    unfold Scf.Loop.trips
    rw [hub, show (k0_t2_loop k0_t1 arg29 arg30 v272 v292 v312 v332).lb = BitVec.ofNat 32 s0 from hlb]; exact trips_w (by omega) (by omega)
  refine dn_loop c fwd al A w s0 s1 hws hs hs1 hn (k0_t2_loop k0_t1 arg29 arg30 v272 v292 v312 v332) hlb hub rfl hok init (k0_t2_body xH (Memref.isWhole_whole _) wuH (Memref.isWhole_whole _) wusH (Memref.isWhole_whole _) buH (Memref.isWhole_whole _) wdH (Memref.isWhole_whole _) wdsH (Memref.isWhole_whole _) yH (Memref.isWhole_whole _) hH (Memref.isWhole_whole _) cH (Memref.isWhole_whole _) sH (Memref.isWhole_whole _) xV (Memref.isWhole_whole _) wusV (Memref.isWhole_whole _) buV (Memref.isWhole_whole _) wdsV (Memref.isWhole_whole _) cV (Memref.isWhole_whole _) sV (Memref.isWhole_whole _) hV (Memref.isWhole_whole _) yV (Memref.isWhole_whole _) lhsV (Memref.isWhole_whole _) hcV (Memref.isWhole_whole _) accV (Memref.isWhole_whole _) wuV (Memref.isWhole_whole _) wdV (Memref.isWhole_whole _) alS (Memref.isWhole_whole _) inS ouS upS dnS v89 v94 v102 k0_t1 arg29 arg30 v272 v292 v312 v332 k0_hw5) ?_ kk Q
  intro k r i hi hi' st hst Q
  subst hi
  have hk : s0 + k.val < 2 ^ 20 := by omega
  refine (dn_start c fwd st (Ring.sl 16 (s0 + k.val)) (al (s0 + k.val)) A ⟨s0 + k.val, by omega⟩ hst (hA _ (by omega) hi')
    (k0_off18 k0_t1 arg29 arg30 v272 v292 v312 v332 k) (k0_off18_inb k0_t1 arg29 arg30 v272 v292 v312 v332 k0_hw5 k) k0_chk6 k0_chk6.dec (k0_off19 k0_t1 arg29 arg30 v272 v292 v312 v332 k) (k0_off19_inb k0_t1 arg29 arg30 v272 v292 v312 v332 k0_hw5 k) (k0_off20 k0_t1 arg29 arg30 v272 v292 v312 v332 k) (k0_off20_inb k0_t1 arg29 arg30 v272 v292 v312 v332 k0_hw5 k)
    k0_off21 (fun v hv => k0_off21_inb v hv) (((Memref.isWhole_whole _).wordExact_slice rfl _ (k0_off20_wordsi8 k0_t1 arg29 arg30 v272 v292 v312 v332 k0_hw5 k)).reshape _ _) (fun v hv => (Memref.isWhole_whole _).wordExact_slice rfl _ (k0_off21_wordsi8 v hv)) (k0_off18_w k0_t1 arg29 arg30 v272 v292 v312 v332 s0 hlb k hk) (by rw [k0_off19_w k0_t1 arg29 arg30 v272 v292 v312 v332 s0 hlb k hk, Ring.sl_val]) (by rw [k0_off20_w k0_t1 arg29 arg30 v272 v292 v312 v332 s0 hlb k hk, Ring.sl_val])
    (k0_off21_w (al _).isLt) (k0_chk6_w (al _).isLt) Q).trans ?_
  exact .rfl

theorem k0_t4_run (c : Dev nD) (fwd : Buf (Elt F) (wdH.view.loc (c : Thread nD τ))) (al : ℕ → Fin 86)
    (A : Buf (Elt F) (alS.view.loc (c : Thread nD τ))) (w s0 s1 : ℕ) (hws : w ≤ s0) (hs : s0 ≤ s1) (hs1 : s1 ≤ w + 16) (hn : s1 ≤ 86) (hA : AL (alF A) al s1)
    (v126_0 v126_1 : BitVec 32) (k0_hw8 : k0_chk8 v126_0) (v146 : FVec F S6x256 .f32) (v147 : FVec F S6x256 .bf16) (v160 : BitVec 32) (k0_hw9 : k0_chk9 v126_0 v160) (v178 : BitVec 32) (k0_hw10 : k0_chk10 v126_0 v126_1 v160 v178)
    (hlb : v126_1 = BitVec.ofNat 32 s0) (hub : (k0_t4_loop v126_0 v126_1 v160 v178).ub = BitVec.ofNat 32 s1)
    (hok : (k0_t4_loop v126_0 v126_1 v160 v178).OK) (init : BitVec 32)
    {β : Type} (kk : BitVec 32 → Prog (TpuEff nD τ sig (Elt F) Λ₀ .tc) β) (Q : β → sProp 𝕄) :
    iprop(Down c fwd (stOf al w s0) ∗ pt c alS A ∗ (∀ r, Down c fwd (stOf al w s1) ∗ pt c alS A -∗ WP c (kk r) Q))
      ⊢ WP c (Scf.Loop.for (k0_t4_loop v126_0 v126_1 v160 v178) hok init (k0_t4_body xH (Memref.isWhole_whole _) wuH (Memref.isWhole_whole _) wusH (Memref.isWhole_whole _) buH (Memref.isWhole_whole _) wdH (Memref.isWhole_whole _) wdsH (Memref.isWhole_whole _) yH (Memref.isWhole_whole _) hH (Memref.isWhole_whole _) cH (Memref.isWhole_whole _) sH (Memref.isWhole_whole _) xV (Memref.isWhole_whole _) wusV (Memref.isWhole_whole _) buV (Memref.isWhole_whole _) wdsV (Memref.isWhole_whole _) cV (Memref.isWhole_whole _) sV (Memref.isWhole_whole _) hV (Memref.isWhole_whole _) yV (Memref.isWhole_whole _) lhsV (Memref.isWhole_whole _) hcV (Memref.isWhole_whole _) accV (Memref.isWhole_whole _) wuV (Memref.isWhole_whole _) wdV (Memref.isWhole_whole _) alS (Memref.isWhole_whole _) inS ouS upS dnS v126_0 v126_1 k0_hw8 v146 v147 v160 k0_hw9 v178 k0_hw10) >>= kk) Q := by
  have htr : (k0_t4_loop v126_0 v126_1 v160 v178).trips = s1 - s0 := by
    unfold Scf.Loop.trips
    rw [hub, show (k0_t4_loop v126_0 v126_1 v160 v178).lb = BitVec.ofNat 32 s0 from hlb]; exact trips_w (by omega) (by omega)
  refine dn_loop c fwd al A w s0 s1 hws hs hs1 hn (k0_t4_loop v126_0 v126_1 v160 v178) hlb hub rfl hok init (k0_t4_body xH (Memref.isWhole_whole _) wuH (Memref.isWhole_whole _) wusH (Memref.isWhole_whole _) buH (Memref.isWhole_whole _) wdH (Memref.isWhole_whole _) wdsH (Memref.isWhole_whole _) yH (Memref.isWhole_whole _) hH (Memref.isWhole_whole _) cH (Memref.isWhole_whole _) sH (Memref.isWhole_whole _) xV (Memref.isWhole_whole _) wusV (Memref.isWhole_whole _) buV (Memref.isWhole_whole _) wdsV (Memref.isWhole_whole _) cV (Memref.isWhole_whole _) sV (Memref.isWhole_whole _) hV (Memref.isWhole_whole _) yV (Memref.isWhole_whole _) lhsV (Memref.isWhole_whole _) hcV (Memref.isWhole_whole _) accV (Memref.isWhole_whole _) wuV (Memref.isWhole_whole _) wdV (Memref.isWhole_whole _) alS (Memref.isWhole_whole _) inS ouS upS dnS v126_0 v126_1 k0_hw8 v146 v147 v160 k0_hw9 v178 k0_hw10) ?_ kk Q
  intro k r i hi hi' st hst Q
  subst hi
  have hk : s0 + k.val < 2 ^ 20 := by omega
  refine (dn_start c fwd st (Ring.sl 16 (s0 + k.val)) (al (s0 + k.val)) A ⟨s0 + k.val, by omega⟩ hst (hA _ (by omega) hi')
    (k0_off30 v126_0 v126_1 v160 v178 k) (k0_off30_inb v126_0 v126_1 v160 v178 k0_hw10 k) k0_chk11 k0_chk11.dec (k0_off31 v126_0 v126_1 v160 v178 k) (k0_off31_inb v126_0 v126_1 v160 v178 k0_hw10 k) (k0_off32 v126_0 v126_1 v160 v178 k) (k0_off32_inb v126_0 v126_1 v160 v178 k0_hw10 k)
    k0_off33 (fun v hv => k0_off33_inb v hv) (((Memref.isWhole_whole _).wordExact_slice rfl _ (k0_off32_wordsi8 v126_0 v126_1 v160 v178 k0_hw10 k)).reshape _ _) (fun v hv => (Memref.isWhole_whole _).wordExact_slice rfl _ (k0_off33_wordsi8 v hv)) (k0_off30_w v126_0 v126_1 v160 v178 s0 hlb k hk) (by rw [k0_off31_w v126_0 v126_1 v160 v178 s0 hlb k hk, Ring.sl_val]) (by rw [k0_off32_w v126_0 v126_1 v160 v178 s0 hlb k hk, Ring.sl_val])
    (k0_off33_w (al _).isLt) (k0_chk11_w (al _).isLt) Q).trans ?_
  exact .rfl

theorem k0_t7_run (c : Dev nD) (fwd : Buf (Elt F) (wdH.view.loc (c : Thread nD τ))) (al : ℕ → Fin 86)
    (A : Buf (Elt F) (alS.view.loc (c : Thread nD τ))) (w s0 s1 : ℕ) (hws : w ≤ s0) (hs : s0 ≤ s1) (hs1 : s1 ≤ w + 16) (hn : s1 ≤ 86) (hA : AL (alF A) al s1)
    (v126_0 v160 v178 : BitVec 32) (k0_t6 : Fin (k0_t6_loop v126_0 v160 v178).trips) (arg29 : BitVec 32) (k0_hw15 : k0_chk15 v126_0 v160 v178 k0_t6 arg29)
    (hlb : arg29 = BitVec.ofNat 32 s0) (hub : (k0_t7_loop v126_0 v160 v178 k0_t6 arg29).ub = BitVec.ofNat 32 s1)
    (hok : (k0_t7_loop v126_0 v160 v178 k0_t6 arg29).OK) (init : BitVec 32)
    {β : Type} (kk : BitVec 32 → Prog (TpuEff nD τ sig (Elt F) Λ₀ .tc) β) (Q : β → sProp 𝕄) :
    iprop(Down c fwd (stOf al w s0) ∗ pt c alS A ∗ (∀ r, Down c fwd (stOf al w s1) ∗ pt c alS A -∗ WP c (kk r) Q))
      ⊢ WP c (Scf.Loop.for (k0_t7_loop v126_0 v160 v178 k0_t6 arg29) hok init (k0_t7_body xH (Memref.isWhole_whole _) wuH (Memref.isWhole_whole _) wusH (Memref.isWhole_whole _) buH (Memref.isWhole_whole _) wdH (Memref.isWhole_whole _) wdsH (Memref.isWhole_whole _) yH (Memref.isWhole_whole _) hH (Memref.isWhole_whole _) cH (Memref.isWhole_whole _) sH (Memref.isWhole_whole _) xV (Memref.isWhole_whole _) wusV (Memref.isWhole_whole _) buV (Memref.isWhole_whole _) wdsV (Memref.isWhole_whole _) cV (Memref.isWhole_whole _) sV (Memref.isWhole_whole _) hV (Memref.isWhole_whole _) yV (Memref.isWhole_whole _) lhsV (Memref.isWhole_whole _) hcV (Memref.isWhole_whole _) accV (Memref.isWhole_whole _) wuV (Memref.isWhole_whole _) wdV (Memref.isWhole_whole _) alS (Memref.isWhole_whole _) inS ouS upS dnS v126_0 v160 v178 k0_t6 arg29 k0_hw15) >>= kk) Q := by
  have htr : (k0_t7_loop v126_0 v160 v178 k0_t6 arg29).trips = s1 - s0 := by
    unfold Scf.Loop.trips
    rw [hub, show (k0_t7_loop v126_0 v160 v178 k0_t6 arg29).lb = BitVec.ofNat 32 s0 from hlb]; exact trips_w (by omega) (by omega)
  refine dn_loop c fwd al A w s0 s1 hws hs hs1 hn (k0_t7_loop v126_0 v160 v178 k0_t6 arg29) hlb hub rfl hok init (k0_t7_body xH (Memref.isWhole_whole _) wuH (Memref.isWhole_whole _) wusH (Memref.isWhole_whole _) buH (Memref.isWhole_whole _) wdH (Memref.isWhole_whole _) wdsH (Memref.isWhole_whole _) yH (Memref.isWhole_whole _) hH (Memref.isWhole_whole _) cH (Memref.isWhole_whole _) sH (Memref.isWhole_whole _) xV (Memref.isWhole_whole _) wusV (Memref.isWhole_whole _) buV (Memref.isWhole_whole _) wdsV (Memref.isWhole_whole _) cV (Memref.isWhole_whole _) sV (Memref.isWhole_whole _) hV (Memref.isWhole_whole _) yV (Memref.isWhole_whole _) lhsV (Memref.isWhole_whole _) hcV (Memref.isWhole_whole _) accV (Memref.isWhole_whole _) wuV (Memref.isWhole_whole _) wdV (Memref.isWhole_whole _) alS (Memref.isWhole_whole _) inS ouS upS dnS v126_0 v160 v178 k0_t6 arg29 k0_hw15) ?_ kk Q
  intro k r i hi hi' st hst Q
  subst hi
  have hk : s0 + k.val < 2 ^ 20 := by omega
  refine (dn_start c fwd st (Ring.sl 16 (s0 + k.val)) (al (s0 + k.val)) A ⟨s0 + k.val, by omega⟩ hst (hA _ (by omega) hi')
    (k0_off49 v126_0 v160 v178 k0_t6 arg29 k) (k0_off49_inb v126_0 v160 v178 k0_t6 arg29 k0_hw15 k) k0_chk16 k0_chk16.dec (k0_off50 v126_0 v160 v178 k0_t6 arg29 k) (k0_off50_inb v126_0 v160 v178 k0_t6 arg29 k0_hw15 k) (k0_off51 v126_0 v160 v178 k0_t6 arg29 k) (k0_off51_inb v126_0 v160 v178 k0_t6 arg29 k0_hw15 k)
    k0_off52 (fun v hv => k0_off52_inb v hv) (((Memref.isWhole_whole _).wordExact_slice rfl _ (k0_off51_wordsi8 v126_0 v160 v178 k0_t6 arg29 k0_hw15 k)).reshape _ _) (fun v hv => (Memref.isWhole_whole _).wordExact_slice rfl _ (k0_off52_wordsi8 v hv)) (k0_off49_w v126_0 v160 v178 k0_t6 arg29 s0 hlb k hk) (by rw [k0_off50_w v126_0 v160 v178 k0_t6 arg29 s0 hlb k hk, Ring.sl_val]) (by rw [k0_off51_w v126_0 v160 v178 k0_t6 arg29 s0 hlb k hk, Ring.sl_val])
    (k0_off52_w (al _).isLt) (k0_chk16_w (al _).isLt) Q).trans ?_
  exact .rfl

theorem k0_chk5_w (k0_t1 : Fin k0_t1_loop.trips) (arg29 arg30 v272 v292 v312 v332 : BitVec 32) (s0 s1 : ℕ) (hs : s0 ≤ s1) (hn : s1 ≤ 86)
    (hlb : arg30 = BitVec.ofNat 32 s0) (hub : (k0_t2_loop k0_t1 arg29 arg30 v272 v292 v312 v332).ub = BitVec.ofNat 32 s1) :
    k0_chk5 k0_t1 arg29 arg30 v272 v292 v312 v332 := by
  have htr : (k0_t2_loop k0_t1 arg29 arg30 v272 v292 v312 v332).trips = s1 - s0 := by
    unfold Scf.Loop.trips
    rw [hub, show (k0_t2_loop k0_t1 arg29 arg30 v272 v292 v312 v332).lb = BitVec.ofNat 32 s0 from hlb]; exact trips_w (by omega) (by omega)
  have hb : ∀ k : Fin (k0_t2_loop k0_t1 arg29 arg30 v272 v292 v312 v332).trips, s0 + k.val < 86 := fun k => by have := k.isLt; omega
  have hb' : ∀ k : Fin (k0_t2_loop k0_t1 arg29 arg30 v272 v292 v312 v332).trips, s0 + k.val < 2 ^ 20 := fun k => by have := hb k; omega
  rw [k0_chk5.eq_1]
  refine ⟨?_, fun k => inb_one (k0_off18_w _ _ _ _ _ _ _ s0 hlb k (hb' k)) (by have := hb k; omega), fun k => k0_mult10_w _ _ _ _ _ _ _ s0 hlb k (hb' k),
    fun k => inb_one (k0_off19_w _ _ _ _ _ _ _ s0 hlb k (hb' k)) (by omega), fun k => inb_slot (k0_off20_w _ _ _ _ _ _ _ s0 hlb k (hb' k)),
    fun k h => words_slot (k0_off20_w _ _ _ _ _ _ _ s0 hlb k (hb' k)) h, Scf.rem_ok _ _, fun k => (Scf.rem_no_trip _ _ k).elim, fun k => (Scf.rem_no_trip _ _ k).elim,
    fun k => (Scf.rem_no_trip _ _ k).elim, fun k => (Scf.rem_no_trip _ _ k).elim, fun k => (Scf.rem_no_trip _ _ k).elim⟩
  unfold Scf.Loop.OK
  rw [hub, show (k0_t2_loop k0_t1 arg29 arg30 v272 v292 v312 v332).lb = BitVec.ofNat 32 s0 from hlb]; exact ok_w (by omega) (by omega)

theorem k0_chk15_w (v126_0 v160 v178 : BitVec 32) (k0_t6 : Fin (k0_t6_loop v126_0 v160 v178).trips) (arg29 : BitVec 32) (s0 s1 : ℕ) (hs : s0 ≤ s1) (hn : s1 ≤ 86)
    (hlb : arg29 = BitVec.ofNat 32 s0) (hub : (k0_t7_loop v126_0 v160 v178 k0_t6 arg29).ub = BitVec.ofNat 32 s1) :
    k0_chk15 v126_0 v160 v178 k0_t6 arg29 := by
  have htr : (k0_t7_loop v126_0 v160 v178 k0_t6 arg29).trips = s1 - s0 := by
    unfold Scf.Loop.trips
    rw [hub, show (k0_t7_loop v126_0 v160 v178 k0_t6 arg29).lb = BitVec.ofNat 32 s0 from hlb]; exact trips_w (by omega) (by omega)
  have hb : ∀ k : Fin (k0_t7_loop v126_0 v160 v178 k0_t6 arg29).trips, s0 + k.val < 86 := fun k => by have := k.isLt; omega
  have hb' : ∀ k : Fin (k0_t7_loop v126_0 v160 v178 k0_t6 arg29).trips, s0 + k.val < 2 ^ 20 := fun k => by have := hb k; omega
  rw [k0_chk15.eq_1]
  refine ⟨?_, fun k => inb_one (k0_off49_w _ _ _ _ _ s0 hlb k (hb' k)) (by have := hb k; omega), fun k => k0_mult22_w _ _ _ _ _ s0 hlb k (hb' k),
    fun k => inb_one (k0_off50_w _ _ _ _ _ s0 hlb k (hb' k)) (by omega), fun k => inb_slot (k0_off51_w _ _ _ _ _ s0 hlb k (hb' k)),
    fun k h => words_slot (k0_off51_w _ _ _ _ _ s0 hlb k (hb' k)) h, Scf.rem_ok _ _, fun k => (Scf.rem_no_trip _ _ k).elim, fun k => (Scf.rem_no_trip _ _ k).elim,
    fun k => (Scf.rem_no_trip _ _ k).elim, fun k => (Scf.rem_no_trip _ _ k).elim, fun k => (Scf.rem_no_trip _ _ k).elim⟩
  unfold Scf.Loop.OK
  rw [hub, show (k0_t7_loop v126_0 v160 v178 k0_t6 arg29).lb = BitVec.ofNat 32 s0 from hlb]; exact ok_w (by omega) (by omega)

end Cert.Kernel.Hand

end
-- ==== Proof.Kernel.PairWords.lean ====
/-
  The words of the loop over pairs of live blocks, and of the block left over when their number is odd.
-/
module

public import proofs.«01_k».proof.Proof.Kernel.RingLoop
public import Idealize.ShloMosaic.Lib.LoopRemainder

@[expose] public section

noncomputable section

namespace Cert.Kernel.Hand

open Cert.Kernel Cert.Kernel.Gen Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's beside the transfers' counters. -/
local notation "𝕄" => MT nD τ sig Unit (Elt F) ℕ (Pipeline.UD sig nD τ) ℕ

theorem iv01_w (k : ℕ) : Scf.iv 0#32 1#32 k = BitVec.ofNat 32 k := by
  rw [iv_w 0 1 k]; congr 1; omega

theorem pair_w (k : ℕ) : Scalar.muli 2#32 (Scf.iv 0#32 1#32 k) = BitVec.ofNat 32 (2 * k) := by
  rw [iv01_w, muli_w 2 k]

theorem pair1_w (k : ℕ) : Scalar.addi (Scalar.muli 2#32 (Scf.iv 0#32 1#32 k)) 1#32 = BitVec.ofNat 32 (2 * k + 1) := by
  rw [pair_w, addi_w (2 * k) 1]

theorem inb_hc {o : Fin 3 → ℕ} {i : ℕ} (h : o = ![i, 0, 0]) (hi : i < 87) : ∀ a, o a + S1x16x128.size a ≤ S87x16x128.size a := by
  subst h; intro a; fin_cases a <;> simp [S1x16x128, S87x16x128] <;> omega

theorem inb_tile {o : Fin 3 → ℕ} {i : ℕ} (h : o = ![i % 8, 0, 0]) : ∀ a, o a + S1x256x4096.size a ≤ S8x256x4096.size a := by
  subst h; intro a; fin_cases a <;> simp [S1x256x4096, S8x256x4096] <;> omega

theorem inb_half {o : Fin 3 → ℕ} {i : ℕ} (h : o = ![i % 8, 0, 0]) : ∀ a, o a + S1x128x4096.size a ≤ S8x256x4096.size a := by
  subst h; intro a; fin_cases a <;> simp [S1x128x4096, S8x256x4096] <;> omega

section words
variable (v126_0 v126_1 v160 v178 : BitVec 32)

theorem k0_off38_w (k : Fin (k0_t6_loop v126_0 v160 v178).trips) (hk : k.val < 2 ^ 20) : k0_off38 v126_0 v160 v178 k = ![2 * k.val] := by
  unfold k0_off38
  dsimp only [Scalar.indexCast]
  rw [pair_w, toNat_w (by omega)]

theorem k0_off39_w (k : Fin (k0_t6_loop v126_0 v160 v178).trips) (hk : k.val < 2 ^ 20) : k0_off39 v126_0 v160 v178 k = ![(2 * k.val) % 16] := by
  unfold k0_off39
  dsimp only [Scalar.indexCast]
  rw [pair_w, remsi16_w (by omega), toNat_w (by omega)]

theorem k0_off40_w (k : Fin (k0_t6_loop v126_0 v160 v178).trips) (hk : k.val < 2 ^ 20) : k0_off40 v126_0 v160 v178 k = ![(2 * k.val) % 16 / 2, (2 * k.val) % 16 % 2 * 128, 0] := by
  unfold k0_off40
  dsimp only [Scalar.indexCast]
  rw [pair_w]
  exact slot_words (by omega)

theorem k0_off42_w (k : Fin (k0_t6_loop v126_0 v160 v178).trips) (hk : k.val < 2 ^ 20) : k0_off42 v126_0 v160 v178 k = ![2 * k.val + 1] := by
  unfold k0_off42
  dsimp only [Scalar.indexCast]
  rw [pair1_w, toNat_w (by omega)]

theorem k0_off43_w (k : Fin (k0_t6_loop v126_0 v160 v178).trips) (hk : k.val < 2 ^ 20) : k0_off43 v126_0 v160 v178 k = ![(2 * k.val + 1) % 16] := by
  unfold k0_off43
  dsimp only [Scalar.indexCast]
  rw [pair1_w, remsi16_w (by omega), toNat_w (by omega)]

theorem k0_off44_w (k : Fin (k0_t6_loop v126_0 v160 v178).trips) (hk : k.val < 2 ^ 20) : k0_off44 v126_0 v160 v178 k = ![(2 * k.val + 1) % 16 / 2, (2 * k.val + 1) % 16 % 2 * 128, 0] := by
  unfold k0_off44
  dsimp only [Scalar.indexCast]
  rw [pair1_w]
  exact slot_words (by omega)

theorem k0_off46_w (k : Fin (k0_t6_loop v126_0 v160 v178).trips) (hk : k.val < 2 ^ 20) : k0_off46 v126_0 v160 v178 k = ![2 * k.val, 0, 0] := by
  unfold k0_off46
  dsimp only [Scalar.indexCast]
  rw [pair_w, toNat_w (by omega)]

theorem k0_off47_w (k : Fin (k0_t6_loop v126_0 v160 v178).trips) (hk : k.val < 2 ^ 20) : k0_off47 v126_0 v160 v178 k = ![2 * k.val + 1, 0, 0] := by
  unfold k0_off47
  dsimp only [Scalar.indexCast]
  rw [pair1_w, toNat_w (by omega)]

theorem k0_off48_w (k : Fin (k0_t6_loop v126_0 v160 v178).trips) (hk : k.val < 2 ^ 20) : k0_off48 v126_0 v160 v178 k = ![k.val % 8, 0, 0] := by
  unfold k0_off48
  dsimp only [Scalar.indexCast]
  rw [iv01_w, remsi8_w (by omega), toNat_w (by omega)]

theorem k0_mult18_w (k : Fin (k0_t6_loop v126_0 v160 v178).trips) (hk : k.val < 2 ^ 20) : 128 ∣ (k0_mult18 v126_0 v160 v178 k).toNat := by
  unfold k0_mult18
  dsimp only
  rw [pair_w, remsi16_w (by omega), andi1_w (by omega)]
  exact mul128_dvd (by omega)

theorem k0_mult20_w (k : Fin (k0_t6_loop v126_0 v160 v178).trips) (hk : k.val < 2 ^ 20) : 128 ∣ (k0_mult20 v126_0 v160 v178 k).toNat := by
  unfold k0_mult20
  dsimp only
  rw [pair1_w, remsi16_w (by omega), andi1_w (by omega)]
  exact mul128_dvd (by omega)

variable {n : ℕ} (hn : Scalar.addi (Scalar.addi v126_0 v160) v178 = BitVec.ofNat 32 n) (hn86 : n ≤ 86)
include hn hn86

theorem t6_ub : (k0_t6_loop v126_0 v160 v178).ub = BitVec.ofNat 32 (n / 2) := by
  show Scalar.addi 0#32 (Scalar.muli (Scalar.divsi (Scalar.subi (Scalar.shrsi (Scalar.addi (Scalar.addi v126_0 v160) v178) 1#32) 0#32) 1#32) 1#32) = _
  rw [Scalar.muli_divsi_one, hn, shrsi1_w (by omega), subi_w (b := 0) (by omega) (by omega), addi_w 0]
  congr 1; omega

theorem t6_trips : (k0_t6_loop v126_0 v160 v178).trips = n / 2 := by
  unfold Scf.Loop.trips
  rw [t6_ub v126_0 v160 v178 hn hn86]
  exact trips_w (a := 0) (by omega) (by omega)

theorem cond3_w : k0_cond3 v126_0 v160 v178 = 1#1 ↔ n % 2 = 1 := by
  unfold k0_cond3
  dsimp only
  rw [hn, andi1_w (by omega), eq_cmp_w (b := 1) (by omega) (by omega)]
  rcases Nat.mod_two_eq_zero_or_one n with h | h <;> rw [h] <;> decide

theorem last_w (h : n % 2 = 1) : Scalar.subi (Scalar.addi (Scalar.addi v126_0 v160) v178) 1#32 = BitVec.ofNat 32 (n - 1) := by
  rw [hn, subi_w (b := 1) (by omega) (by omega)]

theorem k0_off76_w (h : n % 2 = 1) : k0_off76 v126_0 v160 v178 = ![n - 1] := by
  unfold k0_off76
  dsimp only [Scalar.indexCast]
  rw [last_w v126_0 v160 v178 hn hn86 h, toNat_w (by omega)]

theorem k0_off77_w (h : n % 2 = 1) : k0_off77 v126_0 v160 v178 = ![(n - 1) % 16] := by
  unfold k0_off77
  dsimp only
  rw [last_w v126_0 v160 v178 hn hn86 h, remsi16_w (by omega), toNat_w (by omega)]

theorem k0_off78_w (h : n % 2 = 1) : k0_off78 v126_0 v160 v178 = ![(n - 1) % 16 / 2, (n - 1) % 16 % 2 * 128, 0] := by
  unfold k0_off78
  dsimp only
  rw [last_w v126_0 v160 v178 hn hn86 h]
  exact slot_words (by omega)

theorem k0_mult34_w (h : n % 2 = 1) : 128 ∣ (k0_mult34 v126_0 v160 v178).toNat := by
  unfold k0_mult34
  dsimp only
  rw [last_w v126_0 v160 v178 hn hn86 h, remsi16_w (by omega), andi1_w (by omega)]
  exact mul128_dvd (by omega)

theorem k0_off80_w (h : n % 2 = 1) : k0_off80 v126_0 v160 v178 = ![n / 2 % 8, 0, 0] := by
  unfold k0_off80
  dsimp only [Scalar.indexCast]
  rw [hn, shrsi1_w (by omega), remsi8_w (by omega), toNat_w (by omega)]

theorem k0_off81_w (h : n % 2 = 1) : k0_off81 v126_0 v160 v178 = ![n - 1, 0, 0] := by
  unfold k0_off81
  dsimp only [Scalar.indexCast]
  rw [last_w v126_0 v160 v178 hn hn86 h, toNat_w (by omega)]

theorem t4_ub {s0 : ℕ} (h0 : v126_1 = BitVec.ofNat 32 s0) (hs : s0 ≤ min n 16) : (k0_t4_loop v126_0 v126_1 v160 v178).ub = BitVec.ofNat 32 (min n 16) := by
  show Scalar.addi v126_1 (Scalar.muli (Scalar.divsi (Scalar.subi (Scalar.maxsi v126_1 (Scalar.minsi (Scalar.addi (Scalar.addi v126_0 v160) v178) 16#32)) v126_1) 1#32) 1#32) = _
  rw [Scalar.muli_divsi_one, hn, h0, minsi_w (b := 16) (by omega) (by omega), maxsi_w (by omega) (by omega), subi_w (by omega) (by omega), addi_w]
  congr 1; omega

theorem t4_lb : (k0_t4_loop v126_0 v126_1 v160 v178).lb = v126_1 := rfl

theorem t7_ub (k : Fin (k0_t6_loop v126_0 v160 v178).trips) (arg29 : BitVec 32) {s0 : ℕ} (h0 : arg29 = BitVec.ofNat 32 s0) (hs : s0 ≤ min n (2 * k.val + 18)) :
    (k0_t7_loop v126_0 v160 v178 k arg29).ub = BitVec.ofNat 32 (min n (2 * k.val + 18)) := by
  have hk : k.val < n / 2 := lt_of_lt_of_eq k.isLt (t6_trips v126_0 v160 v178 hn hn86)
  show Scalar.addi arg29 (Scalar.muli (Scalar.divsi (Scalar.subi (Scalar.maxsi arg29 (Scalar.minsi (Scalar.addi (Scalar.addi v126_0 v160) v178) (Scalar.addi (Scalar.addi (Scalar.muli 2#32 (Scf.iv 0#32 1#32 k)) 2#32) 16#32))) arg29) 1#32) 1#32) = _
  rw [Scalar.muli_divsi_one, hn, h0, pair_w, addi_w _ 2, addi_w _ 16, minsi_w (by omega) (by omega), maxsi_w (by omega) (by omega), subi_w (by omega) (by omega), addi_w]
  congr 1; omega

theorem t7_next (k : Fin (k0_t6_loop v126_0 v160 v178).trips) (arg29 : BitVec 32) {s0 : ℕ} (h0 : arg29 = BitVec.ofNat 32 s0) (hs : s0 ≤ min n (2 * k.val + 18)) :
    Scalar.maxsi arg29 (Scalar.minsi (Scalar.addi (Scalar.addi v126_0 v160) v178) (Scalar.addi (Scalar.addi (Scalar.muli 2#32 (Scf.iv 0#32 1#32 k)) 2#32) 16#32)) = BitVec.ofNat 32 (min n (2 * k.val + 18)) := by
  have hk : k.val < n / 2 := lt_of_lt_of_eq k.isLt (t6_trips v126_0 v160 v178 hn hn86)
  rw [hn, h0, pair_w, addi_w _ 2, addi_w _ 16, minsi_w (by omega) (by omega), maxsi_w (by omega) (by omega)]
  congr 1; omega

theorem k0_chk10_w {s0 : ℕ} (h0 : v126_1 = BitVec.ofNat 32 s0) (hs : s0 ≤ min n 16) : k0_chk10 v126_0 v126_1 v160 v178 := by
  have hub := t4_ub v126_0 v126_1 v160 v178 hn hn86 h0 hs
  have htr : (k0_t4_loop v126_0 v126_1 v160 v178).trips = min n 16 - s0 := by
    unfold Scf.Loop.trips
    rw [hub, show (k0_t4_loop v126_0 v126_1 v160 v178).lb = BitVec.ofNat 32 s0 from h0]; exact trips_w (by omega) (by omega)
  have hb : ∀ k : Fin (k0_t4_loop v126_0 v126_1 v160 v178).trips, s0 + k.val < 86 := fun k => by have := k.isLt; omega
  have hb' : ∀ k : Fin (k0_t4_loop v126_0 v126_1 v160 v178).trips, s0 + k.val < 2 ^ 20 := fun k => by have := hb k; omega
  have hc : ∀ k : Fin (k0_t6_loop v126_0 v160 v178).trips, k.val < 43 := fun k => by have := lt_of_lt_of_eq k.isLt (t6_trips v126_0 v160 v178 hn hn86); omega
  have hc' : ∀ k : Fin (k0_t6_loop v126_0 v160 v178).trips, k.val < 2 ^ 20 := fun k => by have := hc k; omega
  have h3 : k0_cond3 v126_0 v160 v178 = 1#1 → n % 2 = 1 := (cond3_w v126_0 v160 v178 hn hn86).1
  rw [k0_chk10.eq_1, k0_chk10_0.eq_1, k0_chk10_1.eq_1]
  refine ⟨⟨?_, fun k => inb_one (k0_off30_w _ _ _ _ s0 h0 k (hb' k)) (by have := hb k; omega), fun k => k0_mult14_w _ _ _ _ s0 h0 k (hb' k),
    fun k => inb_one (k0_off31_w _ _ _ _ s0 h0 k (hb' k)) (by omega), fun k => inb_slot (k0_off32_w _ _ _ _ s0 h0 k (hb' k)),
    fun k h => words_slot (k0_off32_w _ _ _ _ s0 h0 k (hb' k)) h, Scf.rem_ok _ _, fun k => (Scf.rem_no_trip _ _ k).elim, fun k => (Scf.rem_no_trip _ _ k).elim,
    fun k => (Scf.rem_no_trip _ _ k).elim, fun k => (Scf.rem_no_trip _ _ k).elim, fun k => (Scf.rem_no_trip _ _ k).elim, ?_,
    fun k => inb_one (k0_off38_w _ _ _ k (hc' k)) (by have := hc k; omega), fun k => k0_mult18_w _ _ _ k (hc' k),
    fun k => inb_one (k0_off39_w _ _ _ k (hc' k)) (by omega), fun k => inb_slot (k0_off40_w _ _ _ k (hc' k)), fun k h => words_slot (k0_off40_w _ _ _ k (hc' k)) h,
    fun k => inb_one (k0_off42_w _ _ _ k (hc' k)) (by have := hc k; omega), fun k => k0_mult20_w _ _ _ k (hc' k),
    fun k => inb_one (k0_off43_w _ _ _ k (hc' k)) (by omega), fun k => inb_slot (k0_off44_w _ _ _ k (hc' k)), fun k h => words_slot (k0_off44_w _ _ _ k (hc' k)) h,
    fun k => inb_hc (k0_off46_w _ _ _ k (hc' k)) (by have := hc k; omega), fun k => inb_hc (k0_off47_w _ _ _ k (hc' k)) (by have := hc k; omega),
    fun k => inb_tile (k0_off48_w _ _ _ k (hc' k)),
    Scf.rem_ok _ _, fun k => (Scf.rem_no_trip _ _ k).elim, fun k => (Scf.rem_no_trip _ _ k).elim,
    fun k => (Scf.rem_no_trip _ _ k).elim, fun k => (Scf.rem_no_trip _ _ k).elim, fun k => (Scf.rem_no_trip _ _ k).elim⟩,
    fun k => (Scf.rem_no_trip _ _ k).elim, fun k => (Scf.rem_no_trip _ _ k).elim,
    fun k => (Scf.rem_no_trip _ _ k).elim, fun k => (Scf.rem_no_trip _ _ k).elim, fun k => (Scf.rem_no_trip _ _ k).elim,
    fun k => (Scf.rem_no_trip _ _ k).elim, fun k => (Scf.rem_no_trip _ _ k).elim, fun k => (Scf.rem_no_trip _ _ k).elim,
    fun h => inb_one (k0_off76_w _ _ _ hn hn86 (h3 h)) (by omega), fun h => k0_mult34_w _ _ _ hn hn86 (h3 h),
    fun h => inb_one (k0_off77_w _ _ _ hn hn86 (h3 h)) (by omega), fun h => inb_slot (k0_off78_w _ _ _ hn hn86 (h3 h)), fun h h' => words_slot (k0_off78_w _ _ _ hn hn86 (h3 h)) h',
    fun h => inb_half (k0_off80_w _ _ _ hn hn86 (h3 h)), fun h => inb_hc (k0_off81_w _ _ _ hn hn86 (h3 h)) (by omega)⟩
  · unfold Scf.Loop.OK
    rw [hub, show (k0_t4_loop v126_0 v126_1 v160 v178).lb = BitVec.ofNat 32 s0 from h0]; exact ok_w (by omega) (by omega)
  · unfold Scf.Loop.OK
    rw [t6_ub v126_0 v160 v178 hn hn86]; exact ok_w (a := 0) (by omega) (by omega)

end words

theorem k0_off79_w {b : ℕ} (hb : b < 86) : k0_off79 (BitVec.ofNat 32 b) = ![b * 128, 0] := by
  unfold k0_off79
  dsimp only
  exact src_words hb

theorem k0_chk23_w (v126_0 v160 v178 : BitVec 32) {b : ℕ} (hb : b < 86) : k0_chk23 v126_0 v160 v178 (BitVec.ofNat 32 b) := by
  rw [k0_chk23.eq_1]
  refine ⟨fun _ => ?_, fun _ => inb_src (k0_off79_w hb) hb, fun _ h => words_src (k0_off79_w hb) h⟩
  unfold k0_mult33
  dsimp only
  exact mul128_dvd (by omega)

end Cert.Kernel.Hand

end
-- ==== Proof.Kernel.Steps.lean ====
/-
  Single steps of the kernel's body: a load, a store, a fact the kernel assumes.
-/
module

public import proofs.«01_k».proof.Proof.Kernel.PairWords
public import Idealize.ShloMosaic.Lib.LoopRemainder

@[expose] public section

noncomputable section

namespace Cert.Kernel.Hand

open Cert.Kernel Cert.Kernel.Gen Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's beside the transfers' counters. -/
local notation "𝕄" => MT nD τ sig Unit (Elt F) ℕ (Pipeline.UD sig nD τ) ℕ

theorem WP_assume (c : Dev nD) {α : Type} {P : Prop} (h : P) (d : Decidable P) (k : PLift P → Prog (TpuEff nD τ sig (Elt F) Λ₀ .tc) α) (Q : α → sProp 𝕄) :
    WP c (k ⟨h⟩) Q ⊢ WP c (.op (.assume P d) k) Q := wp_assume Variants.none (c : Thread nD τ) none Set.univ h

theorem WP_ld (c : Dev nD) {S : Shape} {e : EltTy} (M : Memref sig .tc .vmem S e) (r : LoadRect S) (hl : M.view.LoadsAt r)
    (f : Buf (Elt F) (M.view.loc (c : Thread nD τ))) (v : r.shape.Idx → Elt F e) (hv : M.view.readAt (Elt F) r f = v)
    {α : Type} (k : (r.shape.Idx → Elt F e) → Prog (TpuEff nD τ sig (Elt F) Λ₀ .tc) α) (Q : α → sProp 𝕄) :
    iprop(pt c M f ∗ (pt c M f -∗ WP c (k v) Q)) ⊢ WP c (.op (.load M r hl) k) Q := by
  subst hv
  iintro ⟨H, HQ⟩
  iapply (wp_load Variants.none (c : Thread nD τ) none Set.univ (m := M) (r := r) (S := Finset.univ) (q := fullShare) (f := f) (Finset.subset_univ _)) $$ H
  iintro H
  iapply HQ
  iexact H

theorem WP_st (c : Dev nD) {S : Shape} {e : EltTy} (M : Memref sig .tc .vmem S e) (r : Rect S) (w : r.shape.Idx → Elt F e) (hx : (M.access r).Stores Finset.univ) (hm)
    (f g : Buf (Elt F) (M.view.loc (c : Thread nD τ))) (hg : (M.access r).write (Elt F) f w Finset.univ = g)
    {α : Type} (k : PUnit → Prog (TpuEff nD τ sig (Elt F) Λ₀ .tc) α) (Q : α → sProp 𝕄) :
    iprop(pt c M f ∗ (pt c M g -∗ WP c (k ⟨⟩) Q)) ⊢ WP c (.op (.store M r w Finset.univ hx hm) k) Q := by
  subst hg
  iintro ⟨H, HQ⟩
  iapply (wp_store Variants.none (c : Thread nD τ) none Set.univ (m := M) (r := r) (w := w) (Mk := Finset.univ) (hx := hx) (hm := hm) (S := Finset.univ) (f := f) (Finset.subset_univ _)) $$ H
  iintro H
  iapply HQ
  iexact H

/-- A loop of no trip. -/
theorem WP_for0 (c : Dev nD) {α σ : Type} (L : Scf.Loop 32) (htr : Scf.trips L.lb L.ub L.st = 0) (hok : L.OK) (init : σ)
    (body : Fin L.trips → σ → Prog (TpuEff nD τ sig (Elt F) Λ₀ .tc) σ) (kk : σ → Prog (TpuEff nD τ sig (Elt F) Λ₀ .tc) α) (Q : α → sProp 𝕄) :
    WP c (kk init) Q ⊢ WP c (Scf.Loop.for L hok init body >>= kk) Q := by
  have e : Scf.Loop.for L hok init body = .ret init := Scf.for_eq_ret L.lb L.ub L.st hok init body htr
  rw [e]
  exact .rfl

theorem z2 : (![0, 0] : Fin 2 → ℕ) = fun _ => 0 := by funext a; fin_cases a <;> rfl
theorem z3 : (![0, 0, 0] : Fin 3 → ℕ) = fun _ => 0 := by funext a; fin_cases a <;> rfl

/-! ## The blocks of activations in `hcV` -/

/-- The first `n` rows of `hcV` hold the activations of the live blocks `al 0`, `al 1`, …. -/
def HCok (c : Dev nD) (hcB : Fin 86 → Vec F S1x16x128 .bf16) (al : ℕ → Fin 86) (n : ℕ) (hcf : Buf (Elt F) (hcV.view.loc (c : Thread nD τ))) : Prop :=
  ∀ i (h : i < 87), i < n → ∀ (r : Fin 16) (l : Fin 128), hcf (ix3 ⟨i, h⟩ r l : S87x16x128.Idx) = hcB (al i) (ix3 0 r l : S1x16x128.Idx)

theorem hc_rect_emb (i : Fin 87) (h : ∀ a, (![i.val, 0, 0] : Fin 3 → ℕ) a + S1x16x128.size a ≤ S87x16x128.size a) (x : S1x16x128.Idx) :
    (Rect.unit (s := S87x16x128) ![i.val, 0, 0] S1x16x128.size h).emb x = (ix3 i (x 1) (x 2) : S87x16x128.Idx) := by
  funext a
  apply Fin.ext
  rw [Rect.emb_apply]
  have h0 : (x 0).val < 1 := (x 0).isLt
  fin_cases a
  · show i.val + 1 * (x 0).val = i.val; omega
  · show 0 + 1 * (x 1).val = (x 1).val; omega
  · show 0 + 1 * (x 2).val = (x 2).val; omega

theorem hc_read (c : Dev nD) (hcB : Fin 86 → Vec F S1x16x128 .bf16) (al : ℕ → Fin 86) (n : ℕ) (hcf : Buf (Elt F) (hcV.view.loc (c : Thread nD τ)))
    (H : HCok c hcB al n hcf) (i : ℕ) (hi : i < n) (hi' : i < 87) (o : Fin 3 → ℕ) (ho : o = ![i, 0, 0]) (h : ∀ a, o a + S1x16x128.size a ≤ S87x16x128.size a) :
    hcV.view.readAt (Elt F) (Rect.unit (s := S87x16x128) o S1x16x128.size h).toLoadRect hcf = hcB (al i) := by
  subst ho
  funext x
  have ex := hc_rect_emb ⟨i, hi'⟩ h x
  show hcf ((Rect.unit (s := S87x16x128) ![i, 0, 0] S1x16x128.size h).emb x) = _
  rw [ex]
  refine (H i hi' hi (x 1) (x 2)).trans (congrArg (hcB (al i)) ?_)
  have h0 : (x 0).val < 1 := (x 0).isLt
  funext a
  apply Fin.ext
  fin_cases a
  · show 0 = (x 0).val; omega
  · rfl
  · rfl

end Cert.Kernel.Hand

end
-- ==== Proof.Kernel.Copies.lean ====
/-
  Copies of whole buffers: the start and the wait.
-/
module

public import proofs.«01_k».proof.Proof.Kernel.Steps

@[expose] public section

noncomputable section

namespace Cert.Kernel.Hand

open Cert.Kernel Cert.Kernel.Gen Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's beside the transfers' counters. -/
local notation "𝕄" => MT nD τ sig Unit (Elt F) ℕ (Pipeline.UD sig nD τ) ℕ

/-- A copy of a whole buffer on its way: it delivers the destination at `fd'` and returns the source. -/
def Fl (c : Dev nD) {sp₁ sp₂ : Space} {S : Shape} {e : EltTy} (src : Memref sig .tc sp₁ S e) (dst : Memref sig .tc sp₂ S e) (sm : DmaSem sig)
    (fs : Buf (Elt F) (src.view.loc (c : Thread nD τ))) (fd' : Buf (Elt F) (dst.view.loc (c : Thread nD τ))) : sProp 𝕄 :=
  Transfers.Flight (countersEmb (U := Pipeline.UD sig nD τ)) (c : Thread nD τ) (SemLoc.dma sm) () (dst.view.amount (.dma sm))
    iprop(pt c dst fd' ∗ pt c src fs)

theorem WP_enq (c : Dev nD) {sp₁ sp₂ : Space} {S : Shape} {e : EltTy} (src : Memref sig .tc sp₁ S e) (dst : Memref sig .tc sp₂ S e) (sm : DmaSem sig)
    (fs : Buf (Elt F) (src.view.loc (c : Thread nD τ))) (fd fd' : Buf (Elt F) (dst.view.loc (c : Thread nD τ)))
    (hs : src.view.set = Finset.univ) (hd : dst.view.set = Finset.univ) (hN : 0 < dst.view.amount (.dma sm))
    (hw : dst.view.write (Elt F) fd (src.view.read (Elt F) fs) Finset.univ = fd') (w1 w2 w3)
    {α : Type} (k : PUnit → Prog (TpuEff nD τ sig (Elt F) Λ₀ .tc) α) (Q : α → sProp 𝕄) :
    iprop(pt c src fs ∗ pt c dst fd ∗ semVal ((c : Thread nD τ), SemLoc.dma sm) 0 ∗ (Fl c src dst sm fs fd' -∗ WP c (k ⟨⟩) Q))
      ⊢ WP c (.op (.enqueueDmaAs src (.here dst) .same (.dma sm) w1 w2 w3) k) Q := by
  subst hw
  iintro ⟨Hs, Hd, Hc, HQ⟩
  iapply (Transfers.wp_dmaLocal (countersEmb (U := Pipeline.UD sig nD τ)) Variants.none (c : Thread nD τ) none () (dst.view.amount (.dma sm)) rfl hN
    (Sd := Finset.univ) (q := fullShare) (fs := fs) (fd := fd) (Finset.subset_univ _)) $$ [Hs Hd Hc]
  · rw [hs]
    isplitl [Hs]; · iexact Hs
    isplitl [Hd]; · iexact Hd
    iexact Hc
  iintro Hf
  iapply HQ
  unfold Fl
  rw [hs]
  iexact Hf

theorem WP_wt (c : Dev nD) {sp₁ sp₂ : Space} {S : Shape} {e : EltTy} (src : Memref sig .tc sp₁ S e) (dst : Memref sig .tc sp₂ S e) (sm : DmaSem sig)
    (fs : Buf (Elt F) (src.view.loc (c : Thread nD τ))) (fd' : Buf (Elt F) (dst.view.loc (c : Thread nD τ)))
    (hN : dst.view.dmaCredit = dst.view.amount (.dma sm)) (w1 w2)
    {α : Type} (k : PUnit → Prog (TpuEff nD τ sig (Elt F) Λ₀ .tc) α) (Q : α → sProp 𝕄) :
    iprop(Fl c src dst sm fs fd' ∗ Ow c ∗ (pt c dst fd' ∗ pt c src fs ∗ semVal ((c : Thread nD τ), SemLoc.dma sm) 0 ∗ Ow c -∗ WP c (k ⟨⟩) Q))
      ⊢ WP c (.op (.waitDma2 sm src dst w1 w2) k) Q := by
  unfold Ow Fl
  iintro ⟨Hf, ⟨%W, HO⟩, HQ⟩
  iapply (Transfers.wp_waitLocal (countersEmb (U := Pipeline.UD sig nD τ)) Variants.none (c : Thread nD τ) none () hN) $$ [Hf HO]
  · isplitl [Hf]
    · iexact Hf
    iexact HO
  iintro ⟨⟨Hd, Hs⟩, Hc, HO⟩
  iapply HQ
  isplitl [Hd]; · iexact Hd
  isplitl [Hs]; · iexact Hs
  isplitl [Hc]; · iexact Hc
  iexists _
  iexact HO

end Cert.Kernel.Hand

end
-- ==== Proof.Kernel.Up.lean ====
/-
  The ring of up-projection copies: five slots of `wuV`, slot `q` filled by the copy that completes on cell `q` of `upS`.
-/
module

public import proofs.«01_k».proof.Proof.Kernel.Copies

@[expose] public section

noncomputable section

namespace Cert.Kernel.Hand

open Cert.Kernel Cert.Kernel.Gen Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's beside the transfers' counters. -/
local notation "𝕄" => MT nD τ sig Unit (Elt F) ℕ (Pipeline.UD sig nD τ) ℕ

theorem usem_inb (q : Fin 5) : ∀ a, (![q.val] : Fin 1 → ℕ) a + S1.size a ≤ S5.size a := by
  intro a; fin_cases a; have := q.isLt; simp [S1, S5]; omega

/-- Cell `q` of the ring. -/
abbrev usem (q : Fin 5) : DmaSem sig :=
  ((upS.slice (Rect.unit (s := S5) ![q.val] S1.size (usem_inb q))).squeeze S_ squeezes_S1_S_).sem

theorem uslot_inb (q : Fin 5) : ∀ a, (![q.val, 0, 0] : Fin 3 → ℕ) a + S1x4096x512.size a ≤ S5x4096x512.size a := by
  intro a; have := q.isLt; fin_cases a <;> simp [S1x4096x512, S5x4096x512]; omega

/-- Slot `q` of the ring. -/
abbrev uslot (q : Fin 5) : Memref sig .tc .vmem S4096x512 .fp8e4m3 :=
  (wuV.slice (Rect.unit (s := S5x4096x512) ![q.val, 0, 0] S1x4096x512.size (uslot_inb q)) (fun _ => rfl)).squeeze S4096x512 squeezes_S1x4096x512_S4096x512

theorem usrc_inb {t : ℕ} (h : t < 21) : ∀ a, (![0, t * 512] : Fin 2 → ℕ) a + S4096x512.size a ≤ S4096x11008.size a := by
  intro a; fin_cases a <;> simp [S4096x512, S4096x11008]; omega

/-- Tile `t` of the up-projection weights. -/
abbrev usrc (t : Fin 21) : Memref sig .tc .hbm S4096x512 .fp8e4m3 :=
  wuH.slice (Rect.unit (s := S4096x11008) ![0, t.val * 512] S4096x512.size (usrc_inb t.isLt)) (fun _ => rfl)

/-- The last 256 columns of the up-projection weights, and where they go. -/
abbrev utsrc : Memref sig .tc .hbm S4096x256 .fp8e4m3 :=
  wuH.slice (Rect.unit (s := S4096x11008) ![0, 10752] S4096x256.size inb_S4096x11008_S4096x256_0_10752) (fun _ => rfl)
abbrev utdst : Memref sig .tc .vmem S4096x256 .fp8e4m3 :=
  (wuV.slice (Rect.unit (s := S5x4096x512) ![1, 0, 0] S1x4096x256.size inb_S5x4096x512_S1x4096x256_1_0_0) (fun _ => rfl)).squeeze S4096x256 squeezes_S1x4096x256_S4096x256

/-! ### Where the views lie -/

theorem reshape_uslot (r : Fin 4096) (l : Fin 512) :
    Shape.reshapeEquiv (s := S1x4096x512) (s' := S4096x512) squeezes_S1x4096x512_S4096x512.numel_eq (ix2 r l) = ix3 0 r l := by
  pointwise

theorem uslot_rect_emb (q : Fin 5) (r : Fin 4096) (l : Fin 512) :
    (Rect.unit (s := S5x4096x512) ![q.val, 0, 0] S1x4096x512.size (uslot_inb q)).emb (ix3 0 r l) = (ix3 q r l : S5x4096x512.Idx) := by
  funext a
  apply Fin.ext
  rw [Rect.emb_apply]
  fin_cases a <;> simp [Rect.unit]

theorem uslot_emb (q : Fin 5) (r : Fin 4096) (l : Fin 512) : (uslot q).view.emb (ix2 r l) = (ix3 q r l : S5x4096x512.Idx) := by
  rw [← uslot_rect_emb, ← reshape_uslot]
  rfl

theorem reshape_utdst (r : Fin 4096) (l : Fin 256) :
    Shape.reshapeEquiv (s := S1x4096x256) (s' := S4096x256) squeezes_S1x4096x256_S4096x256.numel_eq (ix2 r l) = ix3 0 r l := by
  pointwise

theorem utdst_rect_emb (r : Fin 4096) (l : Fin 256) :
    (Rect.unit (s := S5x4096x512) ![1, 0, 0] S1x4096x256.size inb_S5x4096x512_S1x4096x256_1_0_0).emb (ix3 0 r l) = (ix3 1 r ⟨l.val, by omega⟩ : S5x4096x512.Idx) := by
  funext a
  apply Fin.ext
  rw [Rect.emb_apply]
  fin_cases a <;> simp [Rect.unit]

theorem utdst_emb (r : Fin 4096) (l : Fin 256) : utdst.view.emb (ix2 r l) = (ix3 1 r ⟨l.val, by omega⟩ : S5x4096x512.Idx) := by
  rw [← utdst_rect_emb, ← reshape_utdst]
  rfl

theorem usrc_emb (t : Fin 21) (r : Fin 4096) (l : Fin 512) :
    (usrc t).view.emb (ix2 r l) = (ix2 r ⟨512 * t.val + l.val, by omega⟩ : S4096x11008.Idx) := by
  funext a
  apply Fin.ext
  fin_cases a
  · show 0 + 1 * r.val = r.val; omega
  · show t.val * 512 + 1 * l.val = 512 * t.val + l.val; omega

theorem utsrc_emb (r : Fin 4096) (l : Fin 256) :
    utsrc.view.emb (ix2 r l) = (ix2 r ⟨10752 + l.val, by omega⟩ : S4096x11008.Idx) := by
  funext a
  apply Fin.ext
  fin_cases a
  · show 0 + 1 * r.val = r.val; omega
  · show 10752 + 1 * l.val = 10752 + l.val; omega

theorem uslot_mem (q : Fin 5) (r : Fin 4096) (l : Fin 512) : (ix3 q r l : S5x4096x512.Idx) ∈ (uslot q).view.set := by
  rw [← uslot_emb]; exact View.emb_mem_set _ _

theorem uslot_disj {q q' : Fin 5} (h : q ≠ q') : Disjoint (uslot q).view.set (uslot q').view.set := by
  rw [Finset.disjoint_left]
  intro i hi hi'
  obtain ⟨x, -, rfl⟩ := Finset.mem_map.1 hi
  obtain ⟨y, -, hy⟩ := Finset.mem_map.1 hi'
  obtain ⟨r, l, rfl⟩ : ∃ (r : Fin 4096) (l : Fin 512), x = ix2 r l := ⟨x 0, x 1, eq_ix2 x⟩
  obtain ⟨r', l', rfl⟩ : ∃ (r : Fin 4096) (l : Fin 512), y = ix2 r l := ⟨y 0, y 1, eq_ix2 y⟩
  have hy' : (uslot q').view.emb (ix2 r' l') = (uslot q).view.emb (ix2 r l) := hy
  rw [uslot_emb, uslot_emb] at hy'
  exact h (congrArg (fun i : S5x4096x512.Idx => i 0) hy').symm

theorem utdst_sub : utdst.view.set ⊆ (uslot 1).view.set := by
  intro i hi
  obtain ⟨x, -, rfl⟩ := Finset.mem_map.1 hi
  obtain ⟨r, l, rfl⟩ : ∃ (r : Fin 4096) (l : Fin 256), x = ix2 r l := ⟨x 0, x 1, eq_ix2 x⟩
  show utdst.view.emb (ix2 r l) ∈ _
  rw [utdst_emb]
  exact uslot_mem 1 _ _

/-! ### The states -/

/-- Slot `q` holds tile `t` (the twenty-second tile is half as wide as the others). -/
def UHas (c : Dev nD) (fwu : Buf (Elt F) (wuH.view.loc (c : Thread nD τ))) (q : Fin 5) (t : Fin 22)
    (f : Buf (Elt F) (wuV.view.loc (c : Thread nD τ))) : Prop :=
  ∀ (r : Fin 4096) (l : Fin 512) (h : 512 * t.val + l.val < 11008), f (ix3 q r l : S5x4096x512.Idx) = fwu (ix2 r ⟨512 * t.val + l.val, h⟩ : S4096x11008.Idx)

abbrev utok (q : Fin 5) := Transfers.shareTok fullShare 5 q

def UDel (c : Dev nD) (fwu : Buf (Elt F) (wuH.view.loc (c : Thread nD τ))) (q : Fin 5) (t : Fin 21) : sProp 𝕄 :=
  iprop((∃ f, ⌜UHas c fwu q ⟨t.val, by omega⟩ f⌝ ∗ (uslot q).view.loc (c : Thread nD τ) ↦[(uslot q).view.set]{fullShare} f)
    ∗ (usrc t).view.loc (c : Thread nD τ) ↦[(usrc t).view.set]{utok q} fwu)

def UTDel (c : Dev nD) (fwu : Buf (Elt F) (wuH.view.loc (c : Thread nD τ))) (q : Fin 5) : sProp 𝕄 :=
  iprop((∃ f, ⌜UHas c fwu q 21 f⌝ ∗ (uslot q).view.loc (c : Thread nD τ) ↦[(uslot q).view.set]{fullShare} f)
    ∗ utsrc.view.loc (c : Thread nD τ) ↦[utsrc.view.set]{utok q} fwu)

/-- The state of a slot of the ring. -/
inductive US where
  | idle
  | busy (t : Fin 21)
  | full (t : Fin 22)
  | tail
deriving DecidableEq

abbrev uN : ℕ := (uslot 0).view.amount (.dma (usem 0))
abbrev utN : ℕ := utdst.view.amount (.dma (usem 1))

theorem uN_eq (q : Fin 5) : (uslot q).view.amount (.dma (usem q)) = uN := rfl
theorem uN_pos : 0 < uN := by decide
theorem utN_pos : 0 < utN := by decide

/-- What a slot of the ring in a given state owns. -/
def USlot (c : Dev nD) (fwu : Buf (Elt F) (wuH.view.loc (c : Thread nD τ))) (q : Fin 5) : US → sProp 𝕄
  | .idle => iprop(semVal ((c : Thread nD τ), SemLoc.dma (usem q)) 0
      ∗ (∃ f, (uslot q).view.loc (c : Thread nD τ) ↦[(uslot q).view.set]{fullShare} f)
      ∗ wuH.view.loc (c : Thread nD τ) ↦{utok q} fwu)
  | .busy t => iprop(Transfers.Flight (countersEmb (U := Pipeline.UD sig nD τ)) (c : Thread nD τ) (SemLoc.dma (usem q)) () uN (UDel c fwu q t)
      ∗ wuH.view.loc (c : Thread nD τ) ↦[Finset.univ \ (usrc t).view.set]{utok q} fwu)
  | .full t => iprop(semVal ((c : Thread nD τ), SemLoc.dma (usem q)) 0
      ∗ (∃ f, ⌜UHas c fwu q t f⌝ ∗ (uslot q).view.loc (c : Thread nD τ) ↦[(uslot q).view.set]{fullShare} f)
      ∗ wuH.view.loc (c : Thread nD τ) ↦{utok q} fwu)
  | .tail => iprop(Transfers.Flight (countersEmb (U := Pipeline.UD sig nD τ)) (c : Thread nD τ) (SemLoc.dma (usem q)) () utN (UTDel c fwu q)
      ∗ wuH.view.loc (c : Thread nD τ) ↦[Finset.univ \ utsrc.view.set]{utok q} fwu)

theorem USlot_idle (c : Dev nD) (fwu : Buf (Elt F) (wuH.view.loc (c : Thread nD τ))) (q : Fin 5) :
    USlot c fwu q .idle = iprop(semVal ((c : Thread nD τ), SemLoc.dma (usem q)) 0
      ∗ (∃ f, (uslot q).view.loc (c : Thread nD τ) ↦[(uslot q).view.set]{fullShare} f)
      ∗ wuH.view.loc (c : Thread nD τ) ↦{utok q} fwu) := rfl
theorem USlot_busy (c : Dev nD) (fwu : Buf (Elt F) (wuH.view.loc (c : Thread nD τ))) (q : Fin 5) (t : Fin 21) :
    USlot c fwu q (.busy t) = iprop(Transfers.Flight (countersEmb (U := Pipeline.UD sig nD τ)) (c : Thread nD τ) (SemLoc.dma (usem q)) () uN (UDel c fwu q t)
      ∗ wuH.view.loc (c : Thread nD τ) ↦[Finset.univ \ (usrc t).view.set]{utok q} fwu) := rfl
theorem USlot_full (c : Dev nD) (fwu : Buf (Elt F) (wuH.view.loc (c : Thread nD τ))) (q : Fin 5) (t : Fin 22) :
    USlot c fwu q (.full t) = iprop(semVal ((c : Thread nD τ), SemLoc.dma (usem q)) 0
      ∗ (∃ f, ⌜UHas c fwu q t f⌝ ∗ (uslot q).view.loc (c : Thread nD τ) ↦[(uslot q).view.set]{fullShare} f)
      ∗ wuH.view.loc (c : Thread nD τ) ↦{utok q} fwu) := rfl
theorem USlot_tail (c : Dev nD) (fwu : Buf (Elt F) (wuH.view.loc (c : Thread nD τ))) (q : Fin 5) :
    USlot c fwu q .tail = iprop(Transfers.Flight (countersEmb (U := Pipeline.UD sig nD τ)) (c : Thread nD τ) (SemLoc.dma (usem q)) () utN (UTDel c fwu q)
      ∗ wuH.view.loc (c : Thread nD τ) ↦[Finset.univ \ utsrc.view.set]{utok q} fwu) := rfl

/-- The ring. -/
abbrev Up (c : Dev nD) (fwu : Buf (Elt F) (wuH.view.loc (c : Thread nD τ))) (st : Fin 5 → US) : sProp 𝕄 :=
  Ring.AtW (fun q => USlot c fwu q) st

/-! ### The steps -/

theorem uDel_intro (c : Dev nD) (fwu : Buf (Elt F) (wuH.view.loc (c : Thread nD τ))) (q : Fin 5) (t : Fin 21)
    (f : Buf (Elt F) ((uslot q).view.loc (c : Thread nD τ))) :
    (iprop(((uslot q).view.loc (c : Thread nD τ) ↦[(uslot q).view.set]{fullShare}
        ((uslot q).view.write (Elt F) f (ReadAs.same.apply ((usrc t).view.read (Elt F) fwu)) Finset.univ))
      ∗ (usrc t).view.loc (c : Thread nD τ) ↦[(usrc t).view.set]{utok q} fwu) : sProp 𝕄) ⊢ UDel c fwu q t := by
  have h : UHas c fwu q ⟨t.val, by omega⟩ ((uslot q).view.write (Elt F) f (ReadAs.same.apply ((usrc t).view.read (Elt F) fwu)) Finset.univ) := by
    intro r l h
    have h2 := congrFun (View.read_write_univ (v := (uslot q).view) (Val := Elt F) f (ReadAs.same.apply ((usrc t).view.read (Elt F) fwu))) (ix2 r l)
    rw [← uslot_emb, ← usrc_emb t r l]
    exact h2
  unfold UDel
  iintro ⟨Hd, Hs⟩
  isplitl [Hd]
  · iexists _
    isplitr
    · ipureintro; exact h
    iexact Hd
  iexact Hs

theorem utDel_intro (c : Dev nD) (fwu : Buf (Elt F) (wuH.view.loc (c : Thread nD τ)))
    (f : Buf (Elt F) (utdst.view.loc (c : Thread nD τ))) :
    (iprop((utdst.view.loc (c : Thread nD τ) ↦[(uslot 1).view.set]{fullShare}
        (utdst.view.write (Elt F) f (ReadAs.same.apply (utsrc.view.read (Elt F) fwu)) Finset.univ))
      ∗ utsrc.view.loc (c : Thread nD τ) ↦[utsrc.view.set]{utok 1} fwu) : sProp 𝕄) ⊢ UTDel c fwu 1 := by
  have h : UHas c fwu 1 21 (utdst.view.write (Elt F) f (ReadAs.same.apply (utsrc.view.read (Elt F) fwu)) Finset.univ) := by
    intro r l h
    have hl : l.val < 256 := by have : 512 * 21 + l.val < 11008 := h; omega
    have h2 := congrFun (View.read_write_univ (v := utdst.view) (Val := Elt F) f (ReadAs.same.apply (utsrc.view.read (Elt F) fwu))) (ix2 r ⟨l.val, hl⟩)
    have e1 := utdst_emb r ⟨l.val, hl⟩
    have e2 := utsrc_emb r ⟨l.val, hl⟩
    show _ = fwu (ix2 r ⟨10752 + l.val, by omega⟩ : S4096x11008.Idx)
    rw [← e2, show (ix3 1 r l : S5x4096x512.Idx) = ix3 1 r ⟨(⟨l.val, hl⟩ : Fin 256).val, by omega⟩ from rfl, ← e1]
    exact h2
  unfold UTDel
  iintro ⟨Hd, Hs⟩
  isplitl [Hd]
  · iexists _
    isplitr
    · ipureintro; exact h
    iexact Hd
  iexact Hs

theorem up_start (c : Dev nD) (fwu : Buf (Elt F) (wuH.view.loc (c : Thread nD τ))) (st : Fin 5 → US) (q : Fin 5) (t : Fin 21) (hst : st q = .idle)
    (o1 h1 o2 h2 o3 h3) (e1 : o1 = ![q.val]) (e2 : o2 = ![q.val, 0, 0]) (e3 : o3 = ![0, t.val * 512]) (w1 w2 w3)
    {α : Type} (k : PUnit → Prog (TpuEff nD τ sig (Elt F) Λ₀ .tc) α) (Q : α → sProp 𝕄) :
    iprop(Up c fwu st ∗ (Up c fwu (Function.update st q (.busy t)) -∗ WP c (k ⟨⟩) Q))
      ⊢ WP c (.op (.enqueueDmaAs (wuH.slice (Rect.unit (s := S4096x11008) o3 S4096x512.size h3) (fun _ => rfl))
        (.here ((wuV.slice (Rect.unit (s := S5x4096x512) o2 S1x4096x512.size h2) (fun _ => rfl)).squeeze S4096x512 squeezes_S1x4096x512_S4096x512)) .same
        (.dma ((upS.slice (Rect.unit (s := S5) o1 S1.size h1)).squeeze S_ squeezes_S1_S_).sem) w1 w2 w3) k) Q := by
  subst e1 e2 e3
  unfold Up
  rw [Ring.AtW_focus _ st q, hst, USlot_idle]
  iintro ⟨⟨⟨Hcell, ⟨%f, Hslot⟩, Htok⟩, Hrest⟩, HQ⟩
  ihave Htok := (pointsTo_split_subset (Finset.subset_univ (usrc t).view.set)).1 $$ Htok
  icases Htok with ⟨Hs, Htok⟩
  iapply (Transfers.wp_dmaLocal (countersEmb (U := Pipeline.UD sig nD τ)) Variants.none (c : Thread nD τ) none () uN (uN_eq q) uN_pos (Finset.Subset.refl _)) $$ [Hs Hslot Hcell]
  · isplitl [Hs]
    · iexact Hs
    isplitl [Hslot]
    · iexact Hslot
    iexact Hcell
  iintro Hf
  iapply HQ
  iapply (Ring.AtW_update (fun q => USlot c fwu q) st q (.busy t))
  isplitr [Hrest]
  · rw [USlot_busy]
    isplitl [Hf]
    · iapply (Transfers.Flight_mono _ _ (uDel_intro c fwu q t f)) $$ Hf
    iexact Htok
  iexact Hrest

theorem up_tail_start (c : Dev nD) (fwu : Buf (Elt F) (wuH.view.loc (c : Thread nD τ))) (st : Fin 5 → US) (hst : st 1 = .idle) (w1 w2 w3)
    {α : Type} (k : PUnit → Prog (TpuEff nD τ sig (Elt F) Λ₀ .tc) α) (Q : α → sProp 𝕄) :
    iprop(Up c fwu st ∗ (Up c fwu (Function.update st 1 .tail) -∗ WP c (k ⟨⟩) Q))
      ⊢ WP c (.op (.enqueueDmaAs utsrc (.here utdst) .same (.dma (usem 1)) w1 w2 w3) k) Q := by
  unfold Up
  rw [Ring.AtW_focus _ st 1, hst, USlot_idle]
  iintro ⟨⟨⟨Hcell, ⟨%f, Hslot⟩, Htok⟩, Hrest⟩, HQ⟩
  ihave Htok := (pointsTo_split_subset (Finset.subset_univ utsrc.view.set)).1 $$ Htok
  icases Htok with ⟨Hs, Htok⟩
  iapply (Transfers.wp_dmaLocal (countersEmb (U := Pipeline.UD sig nD τ)) Variants.none (c : Thread nD τ) none () utN rfl utN_pos utdst_sub) $$ [Hs Hslot Hcell]
  · isplitl [Hs]
    · iexact Hs
    isplitl [Hslot]
    · iexact Hslot
    iexact Hcell
  iintro Hf
  iapply HQ
  iapply (Ring.AtW_update (fun q => USlot c fwu q) st 1 .tail)
  isplitr [Hrest]
  · rw [USlot_tail]
    isplitl [Hf]
    · iapply (Transfers.Flight_mono _ _ (utDel_intro c fwu f)) $$ Hf
    iexact Htok
  iexact Hrest

theorem up_wait (c : Dev nD) (fwu : Buf (Elt F) (wuH.view.loc (c : Thread nD τ))) (st : Fin 5 → US) (q : Fin 5) (t : Fin 21) (hst : st q = .busy t)
    (src : Memref sig .tc .hbm S4096x512 .fp8e4m3)
    (o1 h1 o2 h2) (e1 : o1 = ![q.val]) (e2 : o2 = ![q.val, 0, 0]) (w1 w2)
    {α : Type} (k : PUnit → Prog (TpuEff nD τ sig (Elt F) Λ₀ .tc) α) (Q : α → sProp 𝕄) :
    iprop(Up c fwu st ∗ Ow c ∗ (Up c fwu (Function.update st q (.full ⟨t.val, by omega⟩)) ∗ Ow c -∗ WP c (k ⟨⟩) Q))
      ⊢ WP c (.op (.waitDma2 ((upS.slice (Rect.unit (s := S5) o1 S1.size h1)).squeeze S_ squeezes_S1_S_).sem src
        ((wuV.slice (Rect.unit (s := S5x4096x512) o2 S1x4096x512.size h2) (fun _ => rfl)).squeeze S4096x512 squeezes_S1x4096x512_S4096x512) w1 w2) k) Q := by
  subst e1 e2
  unfold Up Ow
  rw [Ring.AtW_focus _ st q, hst, USlot_busy]
  iintro ⟨⟨⟨Hf, Htok⟩, Hrest⟩, ⟨%W, HO⟩, HQ⟩
  iapply (Transfers.wp_waitLocal (countersEmb (U := Pipeline.UD sig nD τ)) Variants.none (c : Thread nD τ) none () (N := uN) (show (uslot q).view.dmaCredit = uN from rfl) (D := UDel c fwu q t) (W := W)) $$ [Hf HO]
  · isplitl [Hf]; · iexact Hf
    iexact HO
  unfold UDel
  iintro ⟨⟨Hd, Hs⟩, Hcell, HO⟩
  iapply HQ
  isplitr [HO]
  · iapply (Ring.AtW_update (fun q => USlot c fwu q) st q (.full ⟨t.val, Nat.lt_succ_of_lt t.isLt⟩))
    isplitr [Hrest]
    · rw [USlot_full]
      isplitl [Hcell]; · iexact Hcell
      isplitl [Hd]; · iexact Hd
      iapply (pointsTo_split_subset (Finset.subset_univ (usrc t).view.set)).2
      isplitl [Hs] <;> iassumption
    iexact Hrest
  iexists _; iexact HO

theorem up_tail_wait (c : Dev nD) (fwu : Buf (Elt F) (wuH.view.loc (c : Thread nD τ))) (st : Fin 5 → US) (hst : st 1 = .tail) (w1 w2)
    {α : Type} (k : PUnit → Prog (TpuEff nD τ sig (Elt F) Λ₀ .tc) α) (Q : α → sProp 𝕄) :
    iprop(Up c fwu st ∗ Ow c ∗ (Up c fwu (Function.update st 1 (.full 21)) ∗ Ow c -∗ WP c (k ⟨⟩) Q))
      ⊢ WP c (.op (.waitDma2 (usem 1) utsrc utdst w1 w2) k) Q := by
  unfold Up Ow
  rw [Ring.AtW_focus _ st 1, hst, USlot_tail]
  iintro ⟨⟨⟨Hf, Htok⟩, Hrest⟩, ⟨%W, HO⟩, HQ⟩
  iapply (Transfers.wp_waitLocal (countersEmb (U := Pipeline.UD sig nD τ)) Variants.none (c : Thread nD τ) none () (N := utN) (show utdst.view.dmaCredit = utN from rfl) (D := UTDel c fwu 1) (W := W)) $$ [Hf HO]
  · isplitl [Hf]; · iexact Hf
    iexact HO
  unfold UTDel
  iintro ⟨⟨Hd, Hs⟩, Hcell, HO⟩
  iapply HQ
  isplitr [HO]
  · iapply (Ring.AtW_update (fun q => USlot c fwu q) st 1 (.full 21))
    isplitr [Hrest]
    · rw [USlot_full]
      isplitl [Hcell]; · iexact Hcell
      isplitl [Hd]; · iexact Hd
      iapply (pointsTo_split_subset (Finset.subset_univ utsrc.view.set)).2
      isplitl [Hs] <;> iassumption
    iexact Hrest
  iexists _; iexact HO

/-- Tile `t` as the kernel loads it. -/
def wuTile (c : Dev nD) (fwu : Buf (Elt F) (wuH.view.loc (c : Thread nD τ))) (t : Fin 21) : Vec F S1x4096x512 .fp8e4m3 := fun x =>
  fwu (ix2 (x 1) ⟨512 * t.val + (x 2).val, by have : (x 2).val < 512 := (x 2).isLt; omega⟩ : S4096x11008.Idx)

/-- The last 256 columns as the kernel loads them. -/
def wuTail (c : Dev nD) (fwu : Buf (Elt F) (wuH.view.loc (c : Thread nD τ))) : Vec F S1x4096x256 .fp8e4m3 := fun x =>
  fwu (ix2 (x 1) ⟨10752 + (x 2).val, by have : (x 2).val < 256 := (x 2).isLt; omega⟩ : S4096x11008.Idx)

theorem u_rect_emb (q : Fin 5) (h : ∀ a, (![q.val, 0, 0] : Fin 3 → ℕ) a + S1x4096x512.size a ≤ S5x4096x512.size a) (x : S1x4096x512.Idx) :
    (Rect.unit (s := S5x4096x512) ![q.val, 0, 0] S1x4096x512.size h).emb x = (ix3 q (x 1) (x 2) : S5x4096x512.Idx) := by
  funext a
  apply Fin.ext
  rw [Rect.emb_apply]
  have h0 : (x 0).val < 1 := (x 0).isLt
  fin_cases a
  · show q.val + 1 * (x 0).val = q.val; omega
  · show 0 + 1 * (x 1).val = (x 1).val; omega
  · show 0 + 1 * (x 2).val = (x 2).val; omega

theorem ut_rect_emb (x : S1x4096x256.Idx) :
    (Rect.unit (s := S5x4096x512) ![1, 0, 0] S1x4096x256.size inb_S5x4096x512_S1x4096x256_1_0_0).emb x = (ix3 1 (x 1) ⟨(x 2).val, by have : (x 2).val < 256 := (x 2).isLt; omega⟩ : S5x4096x512.Idx) := by
  funext a
  apply Fin.ext
  rw [Rect.emb_apply]
  have h0 : (x 0).val < 1 := (x 0).isLt
  fin_cases a
  · show 1 + 1 * (x 0).val = 1; omega
  · show 0 + 1 * (x 1).val = (x 1).val; omega
  · show 0 + 1 * (x 2).val = (x 2).val; omega

theorem up_load (c : Dev nD) (fwu : Buf (Elt F) (wuH.view.loc (c : Thread nD τ))) (st : Fin 5 → US) (q : Fin 5) (t : Fin 21) (hst : st q = .full ⟨t.val, by omega⟩)
    (o : Fin 3 → ℕ) (h : ∀ a, o a + S1x4096x512.size a ≤ S5x4096x512.size a) (ho : o = ![q.val, 0, 0])
    (hl : wuV.view.LoadsAt (Rect.unit (s := S5x4096x512) o S1x4096x512.size h).toLoadRect)
    {α : Type} (k : Vec F S1x4096x512 .fp8e4m3 → Prog (TpuEff nD τ sig (Elt F) Λ₀ .tc) α) (Q : α → sProp 𝕄) :
    iprop(Up c fwu st ∗ (Up c fwu (Function.update st q .idle) -∗ WP c (k (wuTile c fwu t)) Q))
      ⊢ WP c (.op (.load wuV (Rect.unit (s := S5x4096x512) o S1x4096x512.size h).toLoadRect hl) k) Q := by
  subst ho
  have hsub : wuV.view.setOn (Rect.unit (s := S5x4096x512) ![q.val, 0, 0] S1x4096x512.size h).toLoadRect.set ⊆ (uslot q).view.set := by
    intro i hi
    obtain ⟨y, hy, rfl⟩ := Finset.mem_map.1 hi
    have hy' := hy
    rw [← Rect.map_emb_univ] at hy'
    obtain ⟨x, -, rfl⟩ := Finset.mem_map.1 hy'
    have e := u_rect_emb q h x
    show (Rect.unit (s := S5x4096x512) ![q.val, 0, 0] S1x4096x512.size h).emb x ∈ _
    rw [e]
    exact uslot_mem q _ _
  unfold Up
  rw [Ring.AtW_focus (fun q => USlot c fwu q) st q, hst, USlot_full]
  iintro ⟨⟨⟨Hc1, ⟨%f1, %H1, Hf1⟩, Ht1⟩, Hrest⟩, HQ⟩
  have hread : wuV.view.readAt (Elt F) (Rect.unit (s := S5x4096x512) ![q.val, 0, 0] S1x4096x512.size h).toLoadRect f1 = wuTile c fwu t := by
    funext x
    have e := u_rect_emb q h x
    show f1 ((Rect.unit (s := S5x4096x512) ![q.val, 0, 0] S1x4096x512.size h).emb x) = _
    rw [e]
    exact H1 (x 1) (x 2) _
  iapply (wp_load Variants.none (c : Thread nD τ) none Set.univ (m := wuV) (r := (Rect.unit (s := S5x4096x512) ![q.val, 0, 0] S1x4096x512.size h).toLoadRect) (S := (uslot q).view.set) (q := fullShare) (f := f1) hsub) $$ Hf1
  iintro Hf1
  rw [hread]
  iapply HQ
  iapply (Ring.AtW_update (fun q => USlot c fwu q) st q .idle)
  rw [USlot_idle]
  isplitl [Hc1 Ht1 Hf1]
  · isplitl [Hc1]; · iexact Hc1
    isplitl [Hf1]; · iexists _; iexact Hf1
    iexact Ht1
  iexact Hrest

theorem up_tail_load (c : Dev nD) (fwu : Buf (Elt F) (wuH.view.loc (c : Thread nD τ))) (st : Fin 5 → US) (hst : st 1 = .full 21)
    (hl : wuV.view.LoadsAt (Rect.unit (s := S5x4096x512) ![1, 0, 0] S1x4096x256.size inb_S5x4096x512_S1x4096x256_1_0_0).toLoadRect)
    {α : Type} (k : Vec F S1x4096x256 .fp8e4m3 → Prog (TpuEff nD τ sig (Elt F) Λ₀ .tc) α) (Q : α → sProp 𝕄) :
    iprop(Up c fwu st ∗ (Up c fwu (Function.update st 1 .idle) -∗ WP c (k (wuTail c fwu)) Q))
      ⊢ WP c (.op (.load wuV (Rect.unit (s := S5x4096x512) ![1, 0, 0] S1x4096x256.size inb_S5x4096x512_S1x4096x256_1_0_0).toLoadRect hl) k) Q := by
  have hsub : wuV.view.setOn (Rect.unit (s := S5x4096x512) ![1, 0, 0] S1x4096x256.size inb_S5x4096x512_S1x4096x256_1_0_0).toLoadRect.set ⊆ (uslot 1).view.set := by
    intro i hi
    obtain ⟨y, hy, rfl⟩ := Finset.mem_map.1 hi
    have hy' := hy
    rw [← Rect.map_emb_univ] at hy'
    obtain ⟨x, -, rfl⟩ := Finset.mem_map.1 hy'
    have e := ut_rect_emb x
    show (Rect.unit (s := S5x4096x512) ![1, 0, 0] S1x4096x256.size inb_S5x4096x512_S1x4096x256_1_0_0).emb x ∈ _
    rw [e]
    exact uslot_mem 1 _ _
  unfold Up
  rw [Ring.AtW_focus (fun q => USlot c fwu q) st 1, hst, USlot_full]
  iintro ⟨⟨⟨Hc1, ⟨%f1, %H1, Hf1⟩, Ht1⟩, Hrest⟩, HQ⟩
  have hread : wuV.view.readAt (Elt F) (Rect.unit (s := S5x4096x512) ![1, 0, 0] S1x4096x256.size inb_S5x4096x512_S1x4096x256_1_0_0).toLoadRect f1 = wuTail c fwu := by
    funext x
    have e := ut_rect_emb x
    show f1 ((Rect.unit (s := S5x4096x512) ![1, 0, 0] S1x4096x256.size inb_S5x4096x512_S1x4096x256_1_0_0).emb x) = _
    rw [e]
    exact H1 (x 1) ⟨(x 2).val, by have : (x 2).val < 256 := (x 2).isLt; omega⟩ (by have : (x 2).val < 256 := (x 2).isLt; show 512 * 21 + (x 2).val < 11008; omega)
  iapply (wp_load Variants.none (c : Thread nD τ) none Set.univ (m := wuV) (r := (Rect.unit (s := S5x4096x512) ![1, 0, 0] S1x4096x256.size inb_S5x4096x512_S1x4096x256_1_0_0).toLoadRect) (S := (uslot 1).view.set) (q := fullShare) (f := f1) hsub) $$ Hf1
  iintro Hf1
  rw [hread]
  iapply HQ
  iapply (Ring.AtW_update (fun q => USlot c fwu q) st 1 .idle)
  rw [USlot_idle]
  isplitl [Hc1 Ht1 Hf1]
  · isplitl [Hc1]; · iexact Hc1
    isplitl [Hf1]; · iexists _; iexact Hf1
    iexact Ht1
  iexact Hrest

/-- The ring before tile `j` is used: slot `q` holds the first tile from `j` on that goes there. -/
def uSt (j : ℕ) : Fin 5 → US := fun q =>
  if h : j + (q.val + 5 - j % 5) % 5 < 21 then .busy ⟨j + (q.val + 5 - j % 5) % 5, h⟩
  else if j + (q.val + 5 - j % 5) % 5 = 21 then .tail else .idle

theorem uSt_here : ∀ j : Fin 21, uSt j.val ⟨j.val % 5, Nat.mod_lt _ (by decide)⟩ = .busy j := by decide
theorem uSt_next : ∀ (j : Fin 21) (h : j.val + 5 < 21) (q : Fin 5), Function.update (uSt j.val) ⟨j.val % 5, Nat.mod_lt _ (by decide)⟩ (.busy ⟨j.val + 5, h⟩) q = uSt (j.val + 1) q := by decide
theorem uSt_tail : ∀ (q : Fin 5), Function.update (uSt 16) 1 .tail q = uSt 17 q := by decide
theorem uSt_idle : ∀ (j : Fin 21), 16 < j.val → ∀ (q : Fin 5), Function.update (uSt j.val) ⟨j.val % 5, Nat.mod_lt _ (by decide)⟩ .idle q = uSt (j.val + 1) q := by decide
theorem uSt_end : ∀ q, Function.update (uSt 21) 1 .idle q = .idle := by decide
theorem uSt_end1 : uSt 21 1 = .tail := by decide

end Cert.Kernel.Hand

end
-- ==== Proof.Kernel.Vals.lean ====
/-
  The activations, which blocks of them are live, and one push onto the list of live blocks.
-/
module

public import proofs.«01_k».proof.Proof.Kernel.Up
public import Idealize.ShloMosaic.Lib.SortNet.Extract
public import Idealize.ShloMosaic.PureOps.Reduce
public import Idealize.ShloMosaic.Lib.Pipeline.Value

@[expose] public section

noncomputable section

namespace Cert.Kernel.Hand

open Cert.Kernel Cert.Kernel.Gen Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's beside the transfers' counters. -/
local notation "𝕄" => MT nD τ sig Unit (Elt F) ℕ (Pipeline.UD sig nD τ) ℕ

/-! ## Live blocks -/

/-- A block of activations has an entry other than zero: the word the kernel adds to its count. -/
def liveW (s : FVec F S6x128 .f32) : BitVec 32 :=
  extractAt ![0, 0, 0] (k0_pay11 (cmpf .oeq s (broadcast S6x128 (Scalar.ofBits .f32 0x00000000#32))) k0_pay9 k0_pay10) inpos_S1x1x1_p0_0_0

theorem fold01 {ι : Type} [DecidableEq ι] (g : ι → BitVec 32) (s : Finset ι) (hs : s.Nonempty) (hg : ∀ i, g i = 0#32 ∨ g i = 1#32) :
    (s.fold IntOp.maxsi (2147483648#32) g = 1#32 ∧ ∃ i ∈ s, g i = 1#32) ∨ (s.fold IntOp.maxsi (2147483648#32) g = 0#32 ∧ ∀ i ∈ s, g i = 0#32) := by
  obtain ⟨h1, h2, h3⟩ := Idealize.ShloMosaic.SortNet.fold_maxsi_spec g s (2147483648#32)
  by_cases h : ∃ i ∈ s, g i = 1#32
  · left
    refine ⟨?_, h⟩
    obtain ⟨i, hi, e⟩ := h
    have := h2 i hi
    rcases h3 with h3 | ⟨j, hj, h3⟩
    · rw [h3, e] at this; exact absurd this (by decide)
    · rcases hg j with h0 | h0
      · rw [h3, h0, e] at this; exact absurd this (by decide)
      · rw [h3, h0]
  · right
    have hz : ∀ i ∈ s, g i = 0#32 := fun i hi => (hg i).resolve_right fun e => h ⟨i, hi, e⟩
    refine ⟨?_, hz⟩
    obtain ⟨i, hi⟩ := hs
    have := h2 i hi
    rcases h3 with h3 | ⟨j, hj, h3⟩
    · rw [h3, hz i hi] at this; exact absurd this (by decide)
    · rw [h3, hz j hj]

theorem liveW_spec (s : FVec F S6x128 .f32) :
    (liveW s = 1#32 ∧ ∃ x, cmpf .oeq s (broadcast S6x128 (Scalar.ofBits .f32 0x00000000#32)) x ≠ 1#1)
      ∨ (liveW s = 0#32 ∧ ∀ x, cmpf .oeq s (broadcast S6x128 (Scalar.ofBits .f32 0x00000000#32)) x = 1#1) := by
  generalize hp : cmpf .oeq s (broadcast S6x128 (Scalar.ofBits .f32 0x00000000#32)) = p
  have hsub : ∀ a b : S1.Idx, a = b := fun a b => by
    funext i; apply Fin.ext
    fin_cases i
    have h1 : (a 0).val < 1 := (a 0).isLt
    have h2 : (b 0).val < 1 := (b 0).isLt
    show (a 0).val = (b 0).val
    omega
  have key : liveW s = (Finset.univ : Finset S1x6x128.Idx).fold IntOp.maxsi (2147483648#32)
      (fun i => (select p k0_pay9 k0_pay10 : IVec S6x128 32) (Shape.reshapeEquiv shapeCasts_S6x128_S1x6x128 i)) := by
    rw [← hp]
    show multiReductionI .maxsi [1, 2] S1 (fun i => (select (cmpf .oeq s (broadcast S6x128 (Scalar.ofBits .f32 0x00000000#32))) k0_pay9 k0_pay10 : IVec S6x128 32) (Shape.reshapeEquiv shapeCasts_S6x128_S1x6x128 i)) (2147483648#32) reduces_S1x6x128_S1 rfl _ = _
    refine (multiReductionI_eq_fold _ _ _ _ _ _).trans ?_
    rw [Finset.filter_true_of_mem (fun i _ => hsub _ _)]
    rfl
  rw [key]
  have hval : ∀ y, (select p k0_pay9 k0_pay10 : IVec S6x128 32) y = if p y = 1#1 then 0#32 else 1#32 := by
    intro y
    show (if _ then _ else _) = _
    first | rfl | (congr 1)
  rcases fold01 (fun i : S1x6x128.Idx => (select p k0_pay9 k0_pay10 : IVec S6x128 32) (Shape.reshapeEquiv shapeCasts_S6x128_S1x6x128 i)) Finset.univ
      ⟨ix3 0 0 0, Finset.mem_univ _⟩ (fun i => by rw [hval]; split; exact Or.inl rfl; exact Or.inr rfl) with ⟨h1, i, -, h2⟩ | ⟨h1, h2⟩
  · left
    refine ⟨h1, Shape.reshapeEquiv shapeCasts_S6x128_S1x6x128 i, fun h => ?_⟩
    rw [hval, if_pos h] at h2
    exact absurd h2 (by decide)
  · right
    refine ⟨h1, fun x => ?_⟩
    have := h2 ((Shape.reshapeEquiv shapeCasts_S6x128_S1x6x128).symm x) (Finset.mem_univ _)
    rw [hval] at this
    by_contra hc
    simp only [Equiv.apply_symm_apply] at this
    rw [if_neg hc] at this
    exact absurd this (by decide)

theorem liveW_ne {s : FVec F S6x128 .f32} (h : ¬ liveW s = 1#32) : liveW s = 0#32 := by
  rcases liveW_spec s with h1 | h1
  · exact absurd h1.1 h
  · exact h1.1

/-! ## The activations by blocks of 128 columns -/

/-- Block `b` of the activations. -/
def blk (H : Vec F S6x11008 .f32) (b : ℕ) : FVec F S6x128 .f32 := fun x =>
  H (ix2 (x 0) ⟨(128 * b + (x 1).val) % 11008, Nat.mod_lt _ (by decide)⟩ : S6x11008.Idx)

def lw (H : Vec F S6x11008 .f32) (b : ℕ) : BitVec 32 := liveW (blk H b)

/-- Block `b` is live. -/
abbrev LP (H : Vec F S6x11008 .f32) (b : ℕ) : Prop := lw H b = 1#32

/-- The live block number `i`. -/
def al (H : Vec F S6x11008 .f32) (i : ℕ) : Fin 86 := ⟨nth (LP H) i % 86, Nat.mod_lt _ (by decide)⟩

/-- How many of the first `b` blocks are live. -/
abbrev cnt (H : Vec F S6x11008 .f32) (b : ℕ) : ℕ := Nat.count (LP H) b

theorem cnt_le (H : Vec F S6x11008 .f32) (b : ℕ) : cnt H b ≤ b := Nat.count_le _

theorem cnt_succ (H : Vec F S6x11008 .f32) (b : ℕ) : Scalar.addi (BitVec.ofNat 32 (cnt H b)) (lw H b) = BitVec.ofNat 32 (cnt H (b + 1)) := by
  unfold cnt
  rw [Nat.count_succ]
  by_cases h : LP H b
  · rw [if_pos h, show lw H b = BitVec.ofNat 32 1 from h, addi_w]
  · rw [if_neg h, show lw H b = BitVec.ofNat 32 0 from liveW_ne h, addi_w]

/-- The activations as they are stored. -/
def hB (H : Vec F S6x11008 .f32) : Vec F S6x11008 .bf16 := truncf .bf16 H bitsLt_bf16_f32

/-- Block `b` of the stored activations, with ten rows of zeros below. -/
def hcB (H : Vec F S6x11008 .f32) (b : Fin 86) : Vec F S1x16x128 .bf16 := fun x =>
  if h : (x 1).val < 6 then hB H (ix2 ⟨(x 1).val, h⟩ ⟨128 * b.val + (x 2).val, by have : (x 2).val < 128 := (x 2).isLt; omega⟩ : S6x11008.Idx)
  else Scalar.ofBits .bf16 0x0000#16

theorem hcB_ge (H : Vec F S6x11008 .f32) (b : Fin 86) (r : Fin 16) (l : Fin 128) (hr : ¬ r.val < 6) :
    hcB H b (ix3 0 r l : S1x16x128.Idx) = Scalar.ofBits .bf16 0x0000#16 := by
  unfold hcB
  split
  · rename_i h; exact absurd h hr
  · rfl

theorem hcB_lt (H : Vec F S6x11008 .f32) (b : Fin 86) (r : Fin 16) (l : Fin 128) (hr : r.val < 6) :
    hcB H b (ix3 0 r l : S1x16x128.Idx) = hB H (ix2 ⟨r.val, hr⟩ ⟨128 * b.val + l.val, by omega⟩ : S6x11008.Idx) := by
  unfold hcB
  split
  · rfl
  · rename_i h; exact absurd hr h

/-- The list of the live ones among the first `b` blocks, and their activations. -/
structure LIVE (c : Dev nD) (H : Vec F S6x11008 .f32) (b : ℕ) (A : Buf (Elt F) (alS.view.loc (c : Thread nD τ))) (hcf : Buf (Elt F) (hcV.view.loc (c : Thread nD τ))) : Prop where
  words : AL (alF A) (al H) (cnt H b)
  rows : HCok c (hcB H) (al H) (cnt H b) hcf
  zeros : ∀ (i : Fin 87) (r : Fin 16) (l : Fin 128), ¬ r.val < 6 → hcf (ix3 i r l : S87x16x128.Idx) = Scalar.ofBits .bf16 0x0000#16

theorem LIVE.push (c : Dev nD) (H : Vec F S6x11008 .f32) (b : ℕ) (hb : b < 86) (A A' : Buf (Elt F) (alS.view.loc (c : Thread nD τ))) (hcf hcf' : Buf (Elt F) (hcV.view.loc (c : Thread nD τ)))
    (L : LIVE c H b A hcf)
    (hA : ∀ i : Fin 87, A' (ix1 i) = if i.val = cnt H b then BitVec.ofNat 32 b else A (ix1 i))
    (hH : ∀ (i : Fin 87) (r : Fin 16) (l : Fin 128), hcf' (ix3 i r l : S87x16x128.Idx)
      = if i.val = cnt H b ∧ r.val < 6 then hcB H ⟨b, hb⟩ (ix3 0 r l : S1x16x128.Idx) else hcf (ix3 i r l : S87x16x128.Idx)) :
    LIVE c H (b + 1) A' hcf' := by
  have hal : LP H b → al H (cnt H b) = ⟨b, hb⟩ := fun h => by
    apply Fin.ext
    show nth (LP H) (cnt H b) % 86 = b
    rw [nth_count (LP H) h, Nat.mod_eq_of_lt hb]
  have hc : ∀ i, i < cnt H (b + 1) → i < cnt H b ∨ (i = cnt H b ∧ LP H b) := fun i hi => by
    unfold cnt at hi ⊢
    rw [Nat.count_succ] at hi
    by_cases h : LP H b
    · rw [if_pos h] at hi
      rcases Nat.lt_succ_iff_lt_or_eq.1 hi with h1 | h1
      · exact Or.inl h1
      · exact Or.inr ⟨h1, h⟩
    · rw [if_neg h] at hi; exact Or.inl hi
  constructor
  · intro i h hi
    show A' (ix1 ⟨i, h⟩) = _
    rw [hA]
    rcases hc i hi with h1 | ⟨h1, h2⟩
    · rw [if_neg (by show ¬ i = _; omega)]
      exact L.words i h h1
    · rw [if_pos h1, h1, hal h2]
  · intro i h hi r l
    rw [hH]
    rcases hc i hi with h1 | ⟨h1, h2⟩
    · rw [if_neg (by show ¬ (i = _ ∧ _); omega)]
      exact L.rows i h h1 r l
    · subst h1
      rw [hal h2]
      by_cases hr : r.val < 6
      · rw [if_pos ⟨rfl, hr⟩]
      · rw [if_neg (fun h => hr h.2), L.zeros _ r l hr]
        exact (hcB_ge H _ r l hr).symm
  · intro i r l hr
    rw [hH, if_neg (fun h => hr h.2)]
    exact L.zeros i r l hr

theorem hc_rect_emb6 (i : Fin 87) (h : ∀ a, (![i.val, 0, 0] : Fin 3 → ℕ) a + S1x6x128.size a ≤ S87x16x128.size a) (x : S1x6x128.Idx) :
    (Rect.unit (s := S87x16x128) ![i.val, 0, 0] S1x6x128.size h).emb x = (ix3 i ⟨(x 1).val, by have : (x 1).val < 6 := (x 1).isLt; omega⟩ (x 2) : S87x16x128.Idx) := by
  funext a
  apply Fin.ext
  rw [Rect.emb_apply]
  have h0 : (x 0).val < 1 := (x 0).isLt
  fin_cases a
  · show i.val + 1 * (x 0).val = i.val; omega
  · show 0 + 1 * (x 1).val = (x 1).val; omega
  · show 0 + 1 * (x 2).val = (x 2).val; omega

theorem hc_write (c : Dev nD) (i : Fin 87) (o : Fin 3 → ℕ) (ho : o = ![i.val, 0, 0]) (h : ∀ a, o a + S1x6x128.size a ≤ S87x16x128.size a)
    (f : Buf (Elt F) (hcV.view.loc (c : Thread nD τ))) (w : Vec F S1x6x128 .bf16) (w16 : Vec F S1x16x128 .bf16)
    (hw : ∀ (r : Fin 6) (l : Fin 128), w (ix3 0 r l : S1x6x128.Idx) = w16 (ix3 0 ⟨r.val, by omega⟩ l : S1x16x128.Idx)) (i' : Fin 87) (r : Fin 16) (l : Fin 128) :
    ((hcV.access (Rect.unit (s := S87x16x128) o S1x6x128.size h)).write (Elt F) f w Finset.univ) (ix3 i' r l : S87x16x128.Idx)
      = if i'.val = i.val ∧ r.val < 6 then w16 (ix3 0 r l : S1x16x128.Idx) else f (ix3 i' r l : S87x16x128.Idx) := by
  subst ho
  by_cases hc : i'.val = i.val ∧ r.val < 6
  · rw [if_pos hc]
    obtain ⟨h1, hr⟩ := hc
    obtain rfl : i' = i := Fin.ext h1
    have e : (hcV.access (Rect.unit (s := S87x16x128) ![i'.val, 0, 0] S1x6x128.size h)).emb (ix3 0 ⟨r.val, hr⟩ l : S1x6x128.Idx) = (ix3 i' r l : S87x16x128.Idx) :=
      hc_rect_emb6 i' h (ix3 0 ⟨r.val, hr⟩ l : S1x6x128.Idx)
    rw [← e, View.write_emb_of_mem _ _ (Finset.mem_univ _)]
    exact hw ⟨r.val, hr⟩ l
  · rw [if_neg hc]
    apply View.write_of_not_mem
    intro hm
    obtain ⟨x, -, hx⟩ := Finset.mem_map.1 hm
    have e : (ix3 i ⟨(x 1).val, by have : (x 1).val < 6 := (x 1).isLt; omega⟩ (x 2) : S87x16x128.Idx) = (ix3 i' r l : S87x16x128.Idx) := (hc_rect_emb6 i h x).symm.trans hx
    have e0 := congrArg (fun y : S87x16x128.Idx => (y 0).val) e
    have e1 := congrArg (fun y : S87x16x128.Idx => (y 1).val) e
    change i.val = i'.val at e0
    change (x 1).val = r.val at e1
    have : (x 1).val < 6 := (x 1).isLt
    exact hc ⟨e0.symm, by omega⟩

theorem al_write (c : Dev nD) (i : Fin 87) (o : Fin 1 → ℕ) (ho : o = ![i.val]) (h : ∀ a, o a + S1.size a ≤ S87.size a)
    (f : Buf (Elt F) (alS.view.loc (c : Thread nD τ))) (v : BitVec 32) (i' : Fin 87) :
    ((alS.access (Rect.unit (s := S87) o S1.size h)).write (Elt F) f (fun _ => v) Finset.univ) (ix1 i')
      = if i'.val = i.val then v else f (ix1 i') := by
  subst ho
  have he : ∀ x : S1.Idx, (alS.access (Rect.unit (s := S87) ![i.val] S1.size h)).emb x = (ix1 i : S87.Idx) := fun x => by
    funext a
    apply Fin.ext
    fin_cases a
    have : (x 0).val < 1 := (x 0).isLt
    show i.val + 1 * (x 0).val = i.val
    omega
  by_cases hc : i'.val = i.val
  · rw [if_pos hc]
    obtain rfl : i' = i := Fin.ext hc
    rw [← he (ix1 0), View.write_emb_of_mem _ _ (Finset.mem_univ _)]
    rfl
  · rw [if_neg hc]
    apply View.write_of_not_mem
    intro hm
    obtain ⟨x, -, hx⟩ := Finset.mem_map.1 hm
    have e0 := congrArg (fun y : S87.Idx => (y 0).val) ((he x).symm.trans hx)
    exact hc e0.symm

/-- The list and the blocks after `b` blocks. -/
def Live (c : Dev nD) (H : Vec F S6x11008 .f32) (b : ℕ) : sProp 𝕄 :=
  iprop(∃ A hcf, ⌜LIVE c H b A hcf⌝ ∗ pt c alS A ∗ pt c hcV hcf)

theorem push_run (c : Dev nD) (H : Vec F S6x11008 .f32) (b : ℕ) (hb : b < 86)
    (o7 h7 o8 h8) (e7 : o7 = ![cnt H b, 0, 0]) (e8 : o8 = ![cnt H b])
    (w : Vec F S1x6x128 .bf16)
    (hw : ∀ (r : Fin 6) (l : Fin 128), w (ix3 0 r l : S1x6x128.Idx) = hB H (ix2 r ⟨128 * b + l.val, by omega⟩ : S6x11008.Idx))
    (v : BitVec 32) (hv : v = BitVec.ofNat 32 b) (hl hx hm hx' hm')
    {α : Type} (k : Prog (TpuEff nD τ sig (Elt F) Λ₀ .tc) α) (Q : α → sProp 𝕄) :
    iprop(Live c H b ∗ (Live c H (b + 1) -∗ WP c k Q))
      ⊢ WP c (.op (.load hcV (Rect.unit (s := S87x16x128) o7 S1x6x128.size h7).toLoadRect hl) fun _ =>
        .op (.store hcV (Rect.unit (s := S87x16x128) o7 S1x6x128.size h7) w Finset.univ hx hm) fun _ =>
        smemLoadElt alS (Rect.unit (s := S87) o8 S1.size h8) (View.loads_smem_one rfl numel1_S1) (Shape.Idx.first (numel1_S1.symm ▸ Nat.one_pos)) fun _ =>
        .op (.store alS (Rect.unit (s := S87) o8 S1.size h8) (fun _ => v) Finset.univ hx' hm') fun _ => k) Q := by
  have hn : cnt H b < 87 := by have := cnt_le H b; omega
  unfold Live
  iintro ⟨⟨%A, %hcf, %L, HA, HH⟩, HQ⟩
  iapply (WP_ld c hcV _ _ hcf _ rfl)
  isplitl [HH]; · iexact HH
  iintro HH
  iapply (WP_st c hcV _ _ _ _ hcf _ rfl)
  isplitl [HH]; · iexact HH
  iintro HH
  iapply (wp_smemLoadElt Variants.none (c : Thread nD τ) none Set.univ (m := alS) (r := Rect.unit (s := S87) o8 S1.size h8) (S := Finset.univ) (f := A) (q := fullShare) (Finset.subset_univ _)) $$ HA
  iintro HA
  iapply (wp_store Variants.none (c : Thread nD τ) none Set.univ (m := alS) (r := Rect.unit (s := S87) o8 S1.size h8) (w := fun _ => v) (Mk := Finset.univ) (hx := hx') (hm := hm') (S := Finset.univ) (f := A) (Finset.subset_univ _)) $$ HA
  iintro HA
  iapply HQ
  iexists _
  iexists _
  isplitr
  rotate_left
  · isplitl [HA]; · iexact HA
    iexact HH
  ipureintro
  refine LIVE.push c H b hb A _ hcf _ L (fun i => ?_) (fun i r l => ?_)
  · rw [← hv]
    exact al_write c ⟨cnt H b, hn⟩ o8 e8 h8 A v i
  · refine hc_write c ⟨cnt H b, hn⟩ o7 e7 h7 hcf w (hcB H ⟨b, hb⟩) (fun r l => ?_) i r l
    rw [hw]
    exact (hcB_lt H ⟨b, hb⟩ ⟨r.val, by omega⟩ l r.isLt).symm

end Cert.Kernel.Hand

end
-- ==== Proof.Kernel.TWords.lean ====
/-
  The words of the loop over tiles of 512 activations and of the code after it.
-/
module

public import proofs.«01_k».proof.Proof.Kernel.Vals
public import proofs.«01_k».proof.Proof.Kernel.PairWords

@[expose] public section

noncomputable section

namespace Cert.Kernel.Hand

open Cert.Kernel Cert.Kernel.Gen Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's beside the transfers' counters. -/
local notation "𝕄" => MT nD τ sig Unit (Elt F) ℕ (Pipeline.UD sig nD τ) ℕ

/-! ## The words of the loop over tiles -/

theorem t1_iv (k : Fin k0_t1_loop.trips) : Scf.iv 0#32 1#32 k.val = BitVec.ofNat 32 k.val := by
  rw [show (0#32 : BitVec 32) = BitVec.ofNat 32 0 from rfl, show (1#32 : BitVec 32) = BitVec.ofNat 32 1 from rfl, iv_w]
  congr 1; omega

theorem t1_trips : k0_t1_loop.trips = 21 := by decide

theorem t1_lt (k : Fin k0_t1_loop.trips) : k.val < 21 := lt_of_lt_of_eq k.isLt t1_trips

theorem k0_off1_w (k : Fin k0_t1_loop.trips) : k0_off1 k = ![k.val % 5] := by
  have hk := t1_lt k
  unfold k0_off1
  dsimp only [Scalar.indexCast]
  rw [t1_iv, remsi5_w (by omega), toNat_w (by omega)]

theorem k0_off2_w (k : Fin k0_t1_loop.trips) : k0_off2 k = ![k.val % 5, 0, 0] := by
  have hk := t1_lt k
  unfold k0_off2
  dsimp only [Scalar.indexCast]
  rw [t1_iv, remsi5_w (by omega), toNat_w (by omega)]

theorem k0_off3_w (k : Fin k0_t1_loop.trips) : k0_off3 k = ![0, k.val * 512] := by
  have hk := t1_lt k
  unfold k0_off3
  dsimp only [Scalar.indexCast]
  rw [t1_iv, show (512#32 : BitVec 32) = BitVec.ofNat 32 512 from rfl, muli_w, toNat_w (by omega)]

theorem k0_off4_w (k : Fin k0_t1_loop.trips) : k0_off4 k = ![k.val % 5, 0, 0] := by
  have hk := t1_lt k
  unfold k0_off4
  dsimp only [Scalar.indexCast]
  rw [t1_iv, remsi5_w (by omega), toNat_w (by omega)]

theorem k0_off5_w (k : Fin k0_t1_loop.trips) : k0_off5 k = ![0, k.val * 512] := by
  have hk := t1_lt k
  unfold k0_off5
  dsimp only [Scalar.indexCast]
  rw [t1_iv, show (512#32 : BitVec 32) = BitVec.ofNat 32 512 from rfl, muli_w, toNat_w (by omega)]

theorem k0_off6_w (k : Fin k0_t1_loop.trips) : k0_off6 k = ![0, k.val * 512] := by
  have hk := t1_lt k
  unfold k0_off6
  dsimp only [Scalar.indexCast]
  rw [t1_iv, show (512#32 : BitVec 32) = BitVec.ofNat 32 512 from rfl, muli_w, toNat_w (by omega)]

theorem k0_off15_w (k : Fin k0_t1_loop.trips) : k0_off15 k = ![k.val % 5] := by
  have hk := t1_lt k
  unfold k0_off15
  dsimp only [Scalar.indexCast]
  rw [t1_iv, remsi5_w (by omega), toNat_w (by omega)]

theorem k0_off16_w (k : Fin k0_t1_loop.trips) : k0_off16 k = ![k.val % 5, 0, 0] := by
  have hk := t1_lt k
  unfold k0_off16
  dsimp only [Scalar.indexCast]
  rw [t1_iv, remsi5_w (by omega), toNat_w (by omega)]

theorem k0_off17_w (k : Fin k0_t1_loop.trips) : k0_off17 k = ![0, (k.val + 5) * 512] := by
  have hk := t1_lt k
  unfold k0_off17
  dsimp only [Scalar.indexCast]
  rw [t1_iv, show (5#32 : BitVec 32) = BitVec.ofNat 32 5 from rfl, addi_w, show (512#32 : BitVec 32) = BitVec.ofNat 32 512 from rfl, muli_w, toNat_w (by omega)]

theorem packed6 (o : Fin 3 → ℕ) (i : ℕ) (ho : o = ![i, 0, 0]) (h : ∀ a, o a + S1x6x128.size a ≤ S87x16x128.size a) :
    (Rect.unit (s := S87x16x128) o S1x6x128.size h).PackedRows (EltTy.packing .bf16) := by
  subst ho
  exact Affine.packed_dvd (by decide) (Dvd.intro_left 0 rfl) (Dvd.intro_left 3 rfl)

theorem inb_hc6 {o : Fin 3 → ℕ} {i : ℕ} (h : o = ![i, 0, 0]) (hi : i < 87) : ∀ a, o a + S1x6x128.size a ≤ S87x16x128.size a := by
  subst h; intro a; fin_cases a <;> simp [S1x6x128, S87x16x128]; omega

theorem k0_off7_w (arg29 : BitVec 32) {i : ℕ} (hi : i < 87) (h : arg29 = BitVec.ofNat 32 i) : k0_off7 arg29 = ![i, 0, 0] := by
  unfold k0_off7
  dsimp only [Scalar.indexCast]
  rw [h, toNat_w (by omega)]

theorem k0_off8_w (arg29 : BitVec 32) {i : ℕ} (hi : i < 87) (h : arg29 = BitVec.ofNat 32 i) : k0_off8 arg29 = ![i] := by
  unfold k0_off8
  dsimp only [Scalar.indexCast]
  rw [h, toNat_w (by omega)]

theorem k0_chk1_w (arg29 : BitVec 32) {i : ℕ} (hi : i < 87) (h : arg29 = BitVec.ofNat 32 i) : k0_chk1 arg29 := by
  rw [k0_chk1.eq_1]
  exact ⟨inb_hc6 (k0_off7_w arg29 hi h) hi, fun hinb => packed6 _ i (k0_off7_w arg29 hi h) hinb, inb_one (k0_off8_w arg29 hi h) hi⟩

theorem k0_off9_w (arg29 v272 : BitVec 32) {i : ℕ} (hi : i < 87) (h : Scalar.addi arg29 v272 = BitVec.ofNat 32 i) : k0_off9 arg29 v272 = ![i, 0, 0] := by
  unfold k0_off9
  dsimp only [Scalar.indexCast]
  rw [h, toNat_w (by omega)]

theorem k0_off10_w (arg29 v272 : BitVec 32) {i : ℕ} (hi : i < 87) (h : Scalar.addi arg29 v272 = BitVec.ofNat 32 i) : k0_off10 arg29 v272 = ![i] := by
  unfold k0_off10
  dsimp only [Scalar.indexCast]
  rw [h, toNat_w (by omega)]

theorem k0_chk2_w (arg29 v272 : BitVec 32) {i : ℕ} (hi : i < 87) (h : Scalar.addi arg29 v272 = BitVec.ofNat 32 i) : k0_chk2 arg29 v272 := by
  rw [k0_chk2.eq_1]
  exact ⟨inb_hc6 (k0_off9_w arg29 v272 hi h) hi, fun hinb => packed6 _ i (k0_off9_w arg29 v272 hi h) hinb, inb_one (k0_off10_w arg29 v272 hi h) hi⟩

theorem k0_off11_w (arg29 v272 v292 : BitVec 32) {i : ℕ} (hi : i < 87) (h : Scalar.addi (Scalar.addi arg29 v272) v292 = BitVec.ofNat 32 i) : k0_off11 arg29 v272 v292 = ![i, 0, 0] := by
  unfold k0_off11
  dsimp only [Scalar.indexCast]
  rw [h, toNat_w (by omega)]

theorem k0_off12_w (arg29 v272 v292 : BitVec 32) {i : ℕ} (hi : i < 87) (h : Scalar.addi (Scalar.addi arg29 v272) v292 = BitVec.ofNat 32 i) : k0_off12 arg29 v272 v292 = ![i] := by
  unfold k0_off12
  dsimp only [Scalar.indexCast]
  rw [h, toNat_w (by omega)]

theorem k0_chk3_w (arg29 v272 v292 : BitVec 32) {i : ℕ} (hi : i < 87) (h : Scalar.addi (Scalar.addi arg29 v272) v292 = BitVec.ofNat 32 i) : k0_chk3 arg29 v272 v292 := by
  rw [k0_chk3.eq_1]
  exact ⟨inb_hc6 (k0_off11_w arg29 v272 v292 hi h) hi, fun hinb => packed6 _ i (k0_off11_w arg29 v272 v292 hi h) hinb, inb_one (k0_off12_w arg29 v272 v292 hi h) hi⟩

theorem k0_off13_w (arg29 v272 v292 v312 : BitVec 32) {i : ℕ} (hi : i < 87) (h : Scalar.addi (Scalar.addi (Scalar.addi arg29 v272) v292) v312 = BitVec.ofNat 32 i) : k0_off13 arg29 v272 v292 v312 = ![i, 0, 0] := by
  unfold k0_off13
  dsimp only [Scalar.indexCast]
  rw [h, toNat_w (by omega)]

theorem k0_off14_w (arg29 v272 v292 v312 : BitVec 32) {i : ℕ} (hi : i < 87) (h : Scalar.addi (Scalar.addi (Scalar.addi arg29 v272) v292) v312 = BitVec.ofNat 32 i) : k0_off14 arg29 v272 v292 v312 = ![i] := by
  unfold k0_off14
  dsimp only [Scalar.indexCast]
  rw [h, toNat_w (by omega)]

theorem k0_chk4_w (arg29 v272 v292 v312 : BitVec 32) {i : ℕ} (hi : i < 87) (h : Scalar.addi (Scalar.addi (Scalar.addi arg29 v272) v292) v312 = BitVec.ofNat 32 i) : k0_chk4 arg29 v272 v292 v312 := by
  rw [k0_chk4.eq_1]
  exact ⟨inb_hc6 (k0_off13_w arg29 v272 v292 v312 hi h) hi, fun hinb => packed6 _ i (k0_off13_w arg29 v272 v292 v312 hi h) hinb, inb_one (k0_off14_w arg29 v272 v292 v312 hi h) hi⟩

theorem k0_off26_w (v126_0 : BitVec 32) {i : ℕ} (hi : i < 87) (h : v126_0 = BitVec.ofNat 32 i) : k0_off26 v126_0 = ![i, 0, 0] := by
  unfold k0_off26
  dsimp only [Scalar.indexCast]
  rw [h, toNat_w (by omega)]

theorem k0_off27_w (v126_0 : BitVec 32) {i : ℕ} (hi : i < 87) (h : v126_0 = BitVec.ofNat 32 i) : k0_off27 v126_0 = ![i] := by
  unfold k0_off27
  dsimp only [Scalar.indexCast]
  rw [h, toNat_w (by omega)]

theorem k0_chk8_w (v126_0 : BitVec 32) {i : ℕ} (hi : i < 87) (h : v126_0 = BitVec.ofNat 32 i) : k0_chk8 v126_0 := by
  rw [k0_chk8.eq_1]
  exact ⟨inb_hc6 (k0_off26_w v126_0 hi h) hi, fun hinb => packed6 _ i (k0_off26_w v126_0 hi h) hinb, inb_one (k0_off27_w v126_0 hi h) hi⟩

theorem k0_off28_w (v126_0 v160 : BitVec 32) {i : ℕ} (hi : i < 87) (h : Scalar.addi v126_0 v160 = BitVec.ofNat 32 i) : k0_off28 v126_0 v160 = ![i, 0, 0] := by
  unfold k0_off28
  dsimp only [Scalar.indexCast]
  rw [h, toNat_w (by omega)]

theorem k0_off29_w (v126_0 v160 : BitVec 32) {i : ℕ} (hi : i < 87) (h : Scalar.addi v126_0 v160 = BitVec.ofNat 32 i) : k0_off29 v126_0 v160 = ![i] := by
  unfold k0_off29
  dsimp only [Scalar.indexCast]
  rw [h, toNat_w (by omega)]

theorem k0_chk9_w (v126_0 v160 : BitVec 32) {i : ℕ} (hi : i < 87) (h : Scalar.addi v126_0 v160 = BitVec.ofNat 32 i) : k0_chk9 v126_0 v160 := by
  rw [k0_chk9.eq_1]
  exact ⟨inb_hc6 (k0_off28_w v126_0 v160 hi h) hi, fun hinb => packed6 _ i (k0_off28_w v126_0 v160 hi h) hinb, inb_one (k0_off29_w v126_0 v160 hi h) hi⟩

theorem cond1_w (k : Fin k0_t1_loop.trips) : k0_cond1 k = 1#1 ↔ k.val + 5 < 21 := by
  have : ∀ k : Fin k0_t1_loop.trips, k0_cond1 k = 1#1 ↔ k.val + 5 < 21 := by decide
  exact this k

theorem cond2_w (k : ℕ) (hk : k < 21) (v343 : BitVec 32) (h : v343 = BitVec.ofNat 32 (k + 5)) : Scalar.cmpi .ne ((Scalar.extui (Scalar.cmpi .eq v343 21#32) : BitVec 32)) 0#32 = 1#1 ↔ k = 16 := by
  subst h
  have : ∀ k : Fin 21, Scalar.cmpi .ne ((Scalar.extui (Scalar.cmpi .eq (BitVec.ofNat 32 (k.val + 5)) 21#32) : BitVec 32)) 0#32 = 1#1 ↔ k.val = 16 := by decide
  exact this ⟨k, hk⟩

/-- The bound on the copies started after tile `k`, `n` blocks being live so far. -/
def started (k n s : ℕ) : ℕ := max s (if 16 < k then min n 16 else 0)

theorem started_w (k : ℕ) (hk : k < 21) (arg30 v342 : BitVec 32) {s n : ℕ} (hs : s < 2 ^ 20) (hn : n < 2 ^ 20) (h30 : arg30 = BitVec.ofNat 32 s) (h342 : v342 = BitVec.ofNat 32 n) :
    Scalar.maxsi arg30 (Scalar.select (Scalar.cmpi .sgt (BitVec.ofNat 32 (k + 5)) 21#32) (Scalar.minsi v342 16#32) 0#32) = BitVec.ofNat 32 (started k n s) := by
  have hc : ∀ k : Fin 21, Scalar.cmpi .sgt (BitVec.ofNat 32 (k.val + 5)) 21#32 = if 16 < k.val then 1#1 else 0#1 := by decide
  rw [h30, h342, hc ⟨k, hk⟩, show (16#32 : BitVec 32) = BitVec.ofNat 32 16 from rfl, minsi_w (by omega) (by omega)]
  unfold started
  by_cases h : 16 < k
  · rw [if_pos h, if_pos h, show Scalar.select 1#1 (BitVec.ofNat 32 (min n 16)) 0#32 = BitVec.ofNat 32 (min n 16) from rfl, maxsi_w (by omega) (by omega)]
  · rw [if_neg h, if_neg h, show Scalar.select 0#1 (BitVec.ofNat 32 (min n 16)) 0#32 = BitVec.ofNat 32 0 from rfl, maxsi_w (by omega) (by omega)]

theorem t2_ub (k : Fin k0_t1_loop.trips) (arg29 arg30 v272 v292 v312 v332 : BitVec 32) {s n : ℕ} (hs : s < 2 ^ 20) (hn : n < 2 ^ 20) (h30 : arg30 = BitVec.ofNat 32 s)
    (h342 : Scalar.addi (Scalar.addi (Scalar.addi (Scalar.addi arg29 v272) v292) v312) v332 = BitVec.ofNat 32 n) :
    (k0_t2_loop k arg29 arg30 v272 v292 v312 v332).ub = BitVec.ofNat 32 (started k.val n s) := by
  have hk := t1_lt k
  have hle : s ≤ started k.val n s := le_max_left _ _
  have hlt : started k.val n s < 2 ^ 20 := by unfold started; split <;> omega
  have h343 : Scalar.addi (Scf.iv 0#32 1#32 k.val) 5#32 = BitVec.ofNat 32 (k.val + 5) := by
    rw [t1_iv, show (5#32 : BitVec 32) = BitVec.ofNat 32 5 from rfl, addi_w]
  have e := started_w k.val hk arg30 _ hs hn h30 h342
  rw [← h343] at e
  show Scalar.addi arg30 (Scalar.muli (Scalar.divsi (Scalar.subi (Scalar.maxsi arg30 (Scalar.select (Scalar.cmpi .sgt (Scalar.addi (Scf.iv 0#32 1#32 k.val) 5#32) 21#32) (Scalar.minsi (Scalar.addi (Scalar.addi (Scalar.addi (Scalar.addi arg29 v272) v292) v312) v332) 16#32) 0#32)) arg30) 1#32) 1#32) = _
  rw [Scalar.muli_divsi_one, e, h30, subi_w (by omega) (by omega), addi_w]
  congr 1; omega

end Cert.Kernel.Hand

end
-- ==== Proof.Kernel.Tiles.lean ====
/-
  A tile of activations and the blocks of 128 columns in it.
-/
module

public import proofs.«01_k».proof.Proof.Kernel.TWords

@[expose] public section

noncomputable section

namespace Cert.Kernel.Hand

open Cert.Kernel Cert.Kernel.Gen Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's beside the transfers' counters. -/
local notation "𝕄" => MT nD τ sig Unit (Elt F) ℕ (Pipeline.UD sig nD τ) ℕ

/-! ## A tile of activations and the blocks in it -/

theorem rowMajor2 (r : Fin 6) (l : Fin 128) : (S6x128.rowMajor (ix2 r l : S6x128.Idx)).val = 128 * r.val + l.val := by
  rw [Shape.rowMajor_val_two]
  show r.val * 128 + l.val = _
  omega

theorem rowMajor3 (r : Fin 6) (l : Fin 128) : (S1x6x128.rowMajor (ix3 0 r l : S1x6x128.Idx)).val = 128 * r.val + l.val := by
  rw [Shape.rowMajor_val_three]
  show (0 * 6 + r.val) * 128 + l.val = _
  omega

theorem sl512_0 (T : FVec F S6x512 .f32) (H : Vec F S6x11008 .f32) (b : ℕ) (hb : b + 0 < 86)
    (hT : ∀ (r : Fin 6) (l : Fin 512) (h : 128 * b + l.val < 11008), T (ix2 r l : S6x512.Idx) = H (ix2 r ⟨128 * b + l.val, h⟩ : S6x11008.Idx)) :
    extractStridedSlice S6x128 ![0, 0] T slices_S6x512_o0_0_S6x128 = blk H (b + 0) := by
  funext x
  have h1 : (x 1).val < 128 := (x 1).isLt
  refine (extractStridedSlice_apply ![0, 0] T slices_S6x512_o0_0_S6x128 x (ix2 (x 0) ⟨0 + (x 1).val, by omega⟩ : S6x512.Idx) ?_).trans ?_
  · intro a
    fin_cases a
    · show (x 0).val = 0 + (x 0).val; omega
    · rfl
  · rw [hT (x 0) _ (by show 128 * b + (0 + (x 1).val) < 11008; omega)]
    unfold blk
    congr 2
    apply Fin.ext
    show 128 * b + (0 + (x 1).val) = (128 * (b + 0) + (x 1).val) % 11008
    rw [Nat.mod_eq_of_lt (by omega)]
    omega

theorem ck512_0 (T : FVec F S6x512 .f32) (H : Vec F S6x11008 .f32) (b : ℕ) (hb : b + 0 < 86)
    (hT : ∀ (r : Fin 6) (l : Fin 512) (h : 128 * b + l.val < 11008), T (ix2 r l : S6x512.Idx) = H (ix2 r ⟨128 * b + l.val, h⟩ : S6x11008.Idx)) (r : Fin 6) (l : Fin 128) :
    shapeCast S1x6x128 (extractStridedSlice S6x128 ![0, 0] (truncf .bf16 T bitsLt_bf16_f32) slices_S6x512_o0_0_S6x128) shapeCasts_S6x128_S1x6x128 (ix3 0 r l : S1x6x128.Idx)
      = hB H (ix2 r ⟨128 * (b + 0) + l.val, by omega⟩ : S6x11008.Idx) := by
  refine (shapeCast_apply _ _ _ (ix2 r l : S6x128.Idx) ?_).trans ?_
  · rw [rowMajor2, rowMajor3]
  refine (extractStridedSlice_apply ![0, 0] _ slices_S6x512_o0_0_S6x128 (ix2 r l : S6x128.Idx) (ix2 r ⟨0 + l.val, by omega⟩ : S6x512.Idx) ?_).trans ?_
  · intro a
    fin_cases a
    · show r.val = 0 + r.val; omega
    · rfl
  · have e : T (ix2 r ⟨0 + l.val, by omega⟩ : S6x512.Idx) = H (ix2 r ⟨128 * (b + 0) + l.val, by omega⟩ : S6x11008.Idx) := by
      rw [hT r _ (by show 128 * b + (0 + l.val) < 11008; omega)]
      congr 2
      apply Fin.ext
      show 128 * b + (0 + l.val) = 128 * (b + 0) + l.val
      omega
    exact congrArg (FloatOps.truncf .bf16 bitsLt_bf16_f32) e

theorem sl512_1 (T : FVec F S6x512 .f32) (H : Vec F S6x11008 .f32) (b : ℕ) (hb : b + 1 < 86)
    (hT : ∀ (r : Fin 6) (l : Fin 512) (h : 128 * b + l.val < 11008), T (ix2 r l : S6x512.Idx) = H (ix2 r ⟨128 * b + l.val, h⟩ : S6x11008.Idx)) :
    extractStridedSlice S6x128 ![0, 128] T slices_S6x512_o0_128_S6x128 = blk H (b + 1) := by
  funext x
  have h1 : (x 1).val < 128 := (x 1).isLt
  refine (extractStridedSlice_apply ![0, 128] T slices_S6x512_o0_128_S6x128 x (ix2 (x 0) ⟨128 + (x 1).val, by omega⟩ : S6x512.Idx) ?_).trans ?_
  · intro a
    fin_cases a
    · show (x 0).val = 0 + (x 0).val; omega
    · rfl
  · rw [hT (x 0) _ (by show 128 * b + (128 + (x 1).val) < 11008; omega)]
    unfold blk
    congr 2
    apply Fin.ext
    show 128 * b + (128 + (x 1).val) = (128 * (b + 1) + (x 1).val) % 11008
    rw [Nat.mod_eq_of_lt (by omega)]
    omega

theorem ck512_1 (T : FVec F S6x512 .f32) (H : Vec F S6x11008 .f32) (b : ℕ) (hb : b + 1 < 86)
    (hT : ∀ (r : Fin 6) (l : Fin 512) (h : 128 * b + l.val < 11008), T (ix2 r l : S6x512.Idx) = H (ix2 r ⟨128 * b + l.val, h⟩ : S6x11008.Idx)) (r : Fin 6) (l : Fin 128) :
    shapeCast S1x6x128 (extractStridedSlice S6x128 ![0, 128] (truncf .bf16 T bitsLt_bf16_f32) slices_S6x512_o0_128_S6x128) shapeCasts_S6x128_S1x6x128 (ix3 0 r l : S1x6x128.Idx)
      = hB H (ix2 r ⟨128 * (b + 1) + l.val, by omega⟩ : S6x11008.Idx) := by
  refine (shapeCast_apply _ _ _ (ix2 r l : S6x128.Idx) ?_).trans ?_
  · rw [rowMajor2, rowMajor3]
  refine (extractStridedSlice_apply ![0, 128] _ slices_S6x512_o0_128_S6x128 (ix2 r l : S6x128.Idx) (ix2 r ⟨128 + l.val, by omega⟩ : S6x512.Idx) ?_).trans ?_
  · intro a
    fin_cases a
    · show r.val = 0 + r.val; omega
    · rfl
  · have e : T (ix2 r ⟨128 + l.val, by omega⟩ : S6x512.Idx) = H (ix2 r ⟨128 * (b + 1) + l.val, by omega⟩ : S6x11008.Idx) := by
      rw [hT r _ (by show 128 * b + (128 + l.val) < 11008; omega)]
      congr 2
      apply Fin.ext
      show 128 * b + (128 + l.val) = 128 * (b + 1) + l.val
      omega
    exact congrArg (FloatOps.truncf .bf16 bitsLt_bf16_f32) e

theorem sl512_2 (T : FVec F S6x512 .f32) (H : Vec F S6x11008 .f32) (b : ℕ) (hb : b + 2 < 86)
    (hT : ∀ (r : Fin 6) (l : Fin 512) (h : 128 * b + l.val < 11008), T (ix2 r l : S6x512.Idx) = H (ix2 r ⟨128 * b + l.val, h⟩ : S6x11008.Idx)) :
    extractStridedSlice S6x128 ![0, 256] T slices_S6x512_o0_256_S6x128 = blk H (b + 2) := by
  funext x
  have h1 : (x 1).val < 128 := (x 1).isLt
  refine (extractStridedSlice_apply ![0, 256] T slices_S6x512_o0_256_S6x128 x (ix2 (x 0) ⟨256 + (x 1).val, by omega⟩ : S6x512.Idx) ?_).trans ?_
  · intro a
    fin_cases a
    · show (x 0).val = 0 + (x 0).val; omega
    · rfl
  · rw [hT (x 0) _ (by show 128 * b + (256 + (x 1).val) < 11008; omega)]
    unfold blk
    congr 2
    apply Fin.ext
    show 128 * b + (256 + (x 1).val) = (128 * (b + 2) + (x 1).val) % 11008
    rw [Nat.mod_eq_of_lt (by omega)]
    omega

theorem ck512_2 (T : FVec F S6x512 .f32) (H : Vec F S6x11008 .f32) (b : ℕ) (hb : b + 2 < 86)
    (hT : ∀ (r : Fin 6) (l : Fin 512) (h : 128 * b + l.val < 11008), T (ix2 r l : S6x512.Idx) = H (ix2 r ⟨128 * b + l.val, h⟩ : S6x11008.Idx)) (r : Fin 6) (l : Fin 128) :
    shapeCast S1x6x128 (extractStridedSlice S6x128 ![0, 256] (truncf .bf16 T bitsLt_bf16_f32) slices_S6x512_o0_256_S6x128) shapeCasts_S6x128_S1x6x128 (ix3 0 r l : S1x6x128.Idx)
      = hB H (ix2 r ⟨128 * (b + 2) + l.val, by omega⟩ : S6x11008.Idx) := by
  refine (shapeCast_apply _ _ _ (ix2 r l : S6x128.Idx) ?_).trans ?_
  · rw [rowMajor2, rowMajor3]
  refine (extractStridedSlice_apply ![0, 256] _ slices_S6x512_o0_256_S6x128 (ix2 r l : S6x128.Idx) (ix2 r ⟨256 + l.val, by omega⟩ : S6x512.Idx) ?_).trans ?_
  · intro a
    fin_cases a
    · show r.val = 0 + r.val; omega
    · rfl
  · have e : T (ix2 r ⟨256 + l.val, by omega⟩ : S6x512.Idx) = H (ix2 r ⟨128 * (b + 2) + l.val, by omega⟩ : S6x11008.Idx) := by
      rw [hT r _ (by show 128 * b + (256 + l.val) < 11008; omega)]
      congr 2
      apply Fin.ext
      show 128 * b + (256 + l.val) = 128 * (b + 2) + l.val
      omega
    exact congrArg (FloatOps.truncf .bf16 bitsLt_bf16_f32) e

theorem sl512_3 (T : FVec F S6x512 .f32) (H : Vec F S6x11008 .f32) (b : ℕ) (hb : b + 3 < 86)
    (hT : ∀ (r : Fin 6) (l : Fin 512) (h : 128 * b + l.val < 11008), T (ix2 r l : S6x512.Idx) = H (ix2 r ⟨128 * b + l.val, h⟩ : S6x11008.Idx)) :
    extractStridedSlice S6x128 ![0, 384] T slices_S6x512_o0_384_S6x128 = blk H (b + 3) := by
  funext x
  have h1 : (x 1).val < 128 := (x 1).isLt
  refine (extractStridedSlice_apply ![0, 384] T slices_S6x512_o0_384_S6x128 x (ix2 (x 0) ⟨384 + (x 1).val, by omega⟩ : S6x512.Idx) ?_).trans ?_
  · intro a
    fin_cases a
    · show (x 0).val = 0 + (x 0).val; omega
    · rfl
  · rw [hT (x 0) _ (by show 128 * b + (384 + (x 1).val) < 11008; omega)]
    unfold blk
    congr 2
    apply Fin.ext
    show 128 * b + (384 + (x 1).val) = (128 * (b + 3) + (x 1).val) % 11008
    rw [Nat.mod_eq_of_lt (by omega)]
    omega

theorem ck512_3 (T : FVec F S6x512 .f32) (H : Vec F S6x11008 .f32) (b : ℕ) (hb : b + 3 < 86)
    (hT : ∀ (r : Fin 6) (l : Fin 512) (h : 128 * b + l.val < 11008), T (ix2 r l : S6x512.Idx) = H (ix2 r ⟨128 * b + l.val, h⟩ : S6x11008.Idx)) (r : Fin 6) (l : Fin 128) :
    shapeCast S1x6x128 (extractStridedSlice S6x128 ![0, 384] (truncf .bf16 T bitsLt_bf16_f32) slices_S6x512_o0_384_S6x128) shapeCasts_S6x128_S1x6x128 (ix3 0 r l : S1x6x128.Idx)
      = hB H (ix2 r ⟨128 * (b + 3) + l.val, by omega⟩ : S6x11008.Idx) := by
  refine (shapeCast_apply _ _ _ (ix2 r l : S6x128.Idx) ?_).trans ?_
  · rw [rowMajor2, rowMajor3]
  refine (extractStridedSlice_apply ![0, 384] _ slices_S6x512_o0_384_S6x128 (ix2 r l : S6x128.Idx) (ix2 r ⟨384 + l.val, by omega⟩ : S6x512.Idx) ?_).trans ?_
  · intro a
    fin_cases a
    · show r.val = 0 + r.val; omega
    · rfl
  · have e : T (ix2 r ⟨384 + l.val, by omega⟩ : S6x512.Idx) = H (ix2 r ⟨128 * (b + 3) + l.val, by omega⟩ : S6x11008.Idx) := by
      rw [hT r _ (by show 128 * b + (384 + l.val) < 11008; omega)]
      congr 2
      apply Fin.ext
      show 128 * b + (384 + l.val) = 128 * (b + 3) + l.val
      omega
    exact congrArg (FloatOps.truncf .bf16 bitsLt_bf16_f32) e

theorem sl256_0 (T : FVec F S6x256 .f32) (H : Vec F S6x11008 .f32) (b : ℕ) (hb : b + 0 < 86)
    (hT : ∀ (r : Fin 6) (l : Fin 256) (h : 128 * b + l.val < 11008), T (ix2 r l : S6x256.Idx) = H (ix2 r ⟨128 * b + l.val, h⟩ : S6x11008.Idx)) :
    extractStridedSlice S6x128 ![0, 0] T slices_S6x256_o0_0_S6x128 = blk H (b + 0) := by
  funext x
  have h1 : (x 1).val < 128 := (x 1).isLt
  refine (extractStridedSlice_apply ![0, 0] T slices_S6x256_o0_0_S6x128 x (ix2 (x 0) ⟨0 + (x 1).val, by omega⟩ : S6x256.Idx) ?_).trans ?_
  · intro a
    fin_cases a
    · show (x 0).val = 0 + (x 0).val; omega
    · rfl
  · rw [hT (x 0) _ (by show 128 * b + (0 + (x 1).val) < 11008; omega)]
    unfold blk
    congr 2
    apply Fin.ext
    show 128 * b + (0 + (x 1).val) = (128 * (b + 0) + (x 1).val) % 11008
    rw [Nat.mod_eq_of_lt (by omega)]
    omega

theorem ck256_0 (T : FVec F S6x256 .f32) (H : Vec F S6x11008 .f32) (b : ℕ) (hb : b + 0 < 86)
    (hT : ∀ (r : Fin 6) (l : Fin 256) (h : 128 * b + l.val < 11008), T (ix2 r l : S6x256.Idx) = H (ix2 r ⟨128 * b + l.val, h⟩ : S6x11008.Idx)) (r : Fin 6) (l : Fin 128) :
    shapeCast S1x6x128 (extractStridedSlice S6x128 ![0, 0] (truncf .bf16 T bitsLt_bf16_f32) slices_S6x256_o0_0_S6x128) shapeCasts_S6x128_S1x6x128 (ix3 0 r l : S1x6x128.Idx)
      = hB H (ix2 r ⟨128 * (b + 0) + l.val, by omega⟩ : S6x11008.Idx) := by
  refine (shapeCast_apply _ _ _ (ix2 r l : S6x128.Idx) ?_).trans ?_
  · rw [rowMajor2, rowMajor3]
  refine (extractStridedSlice_apply ![0, 0] _ slices_S6x256_o0_0_S6x128 (ix2 r l : S6x128.Idx) (ix2 r ⟨0 + l.val, by omega⟩ : S6x256.Idx) ?_).trans ?_
  · intro a
    fin_cases a
    · show r.val = 0 + r.val; omega
    · rfl
  · have e : T (ix2 r ⟨0 + l.val, by omega⟩ : S6x256.Idx) = H (ix2 r ⟨128 * (b + 0) + l.val, by omega⟩ : S6x11008.Idx) := by
      rw [hT r _ (by show 128 * b + (0 + l.val) < 11008; omega)]
      congr 2
      apply Fin.ext
      show 128 * b + (0 + l.val) = 128 * (b + 0) + l.val
      omega
    exact congrArg (FloatOps.truncf .bf16 bitsLt_bf16_f32) e

theorem sl256_1 (T : FVec F S6x256 .f32) (H : Vec F S6x11008 .f32) (b : ℕ) (hb : b + 1 < 86)
    (hT : ∀ (r : Fin 6) (l : Fin 256) (h : 128 * b + l.val < 11008), T (ix2 r l : S6x256.Idx) = H (ix2 r ⟨128 * b + l.val, h⟩ : S6x11008.Idx)) :
    extractStridedSlice S6x128 ![0, 128] T slices_S6x256_o0_128_S6x128 = blk H (b + 1) := by
  funext x
  have h1 : (x 1).val < 128 := (x 1).isLt
  refine (extractStridedSlice_apply ![0, 128] T slices_S6x256_o0_128_S6x128 x (ix2 (x 0) ⟨128 + (x 1).val, by omega⟩ : S6x256.Idx) ?_).trans ?_
  · intro a
    fin_cases a
    · show (x 0).val = 0 + (x 0).val; omega
    · rfl
  · rw [hT (x 0) _ (by show 128 * b + (128 + (x 1).val) < 11008; omega)]
    unfold blk
    congr 2
    apply Fin.ext
    show 128 * b + (128 + (x 1).val) = (128 * (b + 1) + (x 1).val) % 11008
    rw [Nat.mod_eq_of_lt (by omega)]
    omega

theorem ck256_1 (T : FVec F S6x256 .f32) (H : Vec F S6x11008 .f32) (b : ℕ) (hb : b + 1 < 86)
    (hT : ∀ (r : Fin 6) (l : Fin 256) (h : 128 * b + l.val < 11008), T (ix2 r l : S6x256.Idx) = H (ix2 r ⟨128 * b + l.val, h⟩ : S6x11008.Idx)) (r : Fin 6) (l : Fin 128) :
    shapeCast S1x6x128 (extractStridedSlice S6x128 ![0, 128] (truncf .bf16 T bitsLt_bf16_f32) slices_S6x256_o0_128_S6x128) shapeCasts_S6x128_S1x6x128 (ix3 0 r l : S1x6x128.Idx)
      = hB H (ix2 r ⟨128 * (b + 1) + l.val, by omega⟩ : S6x11008.Idx) := by
  refine (shapeCast_apply _ _ _ (ix2 r l : S6x128.Idx) ?_).trans ?_
  · rw [rowMajor2, rowMajor3]
  refine (extractStridedSlice_apply ![0, 128] _ slices_S6x256_o0_128_S6x128 (ix2 r l : S6x128.Idx) (ix2 r ⟨128 + l.val, by omega⟩ : S6x256.Idx) ?_).trans ?_
  · intro a
    fin_cases a
    · show r.val = 0 + r.val; omega
    · rfl
  · have e : T (ix2 r ⟨128 + l.val, by omega⟩ : S6x256.Idx) = H (ix2 r ⟨128 * (b + 1) + l.val, by omega⟩ : S6x11008.Idx) := by
      rw [hT r _ (by show 128 * b + (128 + l.val) < 11008; omega)]
      congr 2
      apply Fin.ext
      show 128 * b + (128 + l.val) = 128 * (b + 1) + l.val
      omega
    exact congrArg (FloatOps.truncf .bf16 bitsLt_bf16_f32) e

end Cert.Kernel.Hand

end
-- ==== Proof.Kernel.Acts.lean ====
/-
  The activations by tiles, and the buffer that collects them.
-/
module

public import proofs.«01_k».proof.Proof.Kernel.Tiles

@[expose] public section

noncomputable section

namespace Cert.Kernel.Hand

open Cert.Kernel Cert.Kernel.Gen Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's beside the transfers' counters. -/
local notation "𝕄" => MT nD τ sig Unit (Elt F) ℕ (Pipeline.UD sig nD τ) ℕ

/-! ## The activations -/

/-- Columns `512 t …` of a row. -/
def rowT (f : Vec F S1x11008 .f32) (t : Fin 21) : Vec F S1x512 .f32 := fun x =>
  f (ix2 0 ⟨512 * t.val + (x 1).val, by have : (x 1).val < 512 := (x 1).isLt; omega⟩ : S1x11008.Idx)

/-- The last 256 columns of a row. -/
def rowTail (f : Vec F S1x11008 .f32) : Vec F S1x256 .f32 := fun x =>
  f (ix2 0 ⟨10752 + (x 1).val, by have : (x 1).val < 256 := (x 1).isLt; omega⟩ : S1x11008.Idx)

/-- Tile `t` of the activations. -/
def tileT (c : Dev nD) (v94 : FVec F S6x1 .f32) (lhs : Vec F S32x4096 .fp8e4m3) (fwu : Buf (Elt F) (wuH.view.loc (c : Thread nD τ))) (fwus fbu : Vec F S1x11008 .f32) (t : Fin 21) : FVec F S6x512 .f32 :=
  k0_pay5 v94 lhs (wuTile c fwu t) (rowT fwus t) (rowT fbu t)

/-- The last 256 columns of the activations. -/
def tileL (c : Dev nD) (v94 : FVec F S6x1 .f32) (lhs : Vec F S32x4096 .fp8e4m3) (fwu : Buf (Elt F) (wuH.view.loc (c : Thread nD τ))) (fwus fbu : Vec F S1x11008 .f32) : FVec F S6x256 .f32 :=
  k0_pay33 v94 lhs (wuTail c fwu) (rowTail fwus) (rowTail fbu)

/-- The activations before they are rounded to bf16. -/
def HF (c : Dev nD) (v94 : FVec F S6x1 .f32) (lhs : Vec F S32x4096 .fp8e4m3) (fwu : Buf (Elt F) (wuH.view.loc (c : Thread nD τ))) (fwus fbu : Vec F S1x11008 .f32) : Vec F S6x11008 .f32 := fun x =>
  if h : (x 1).val < 10752 then tileT c v94 lhs fwu fwus fbu ⟨(x 1).val / 512, by omega⟩ (ix2 (x 0) ⟨(x 1).val % 512, Nat.mod_lt _ (by decide)⟩ : S6x512.Idx)
  else tileL c v94 lhs fwu fwus fbu (ix2 (x 0) ⟨(x 1).val - 10752, by have : (x 1).val < 11008 := (x 1).isLt; omega⟩ : S6x256.Idx)

theorem tileT_HF (c : Dev nD) (v94 : FVec F S6x1 .f32) (lhs : Vec F S32x4096 .fp8e4m3) (fwu : Buf (Elt F) (wuH.view.loc (c : Thread nD τ))) (fwus fbu : Vec F S1x11008 .f32) (t : Fin 21)
    (r : Fin 6) (l : Fin 512) (h : 128 * (4 * t.val) + l.val < 11008) :
    tileT c v94 lhs fwu fwus fbu t (ix2 r l : S6x512.Idx) = HF c v94 lhs fwu fwus fbu (ix2 r ⟨128 * (4 * t.val) + l.val, h⟩ : S6x11008.Idx) := by
  have ht := t.isLt
  have e1 : (⟨(128 * (4 * t.val) + l.val) / 512, by omega⟩ : Fin 21) = t := Fin.ext (show (128 * (4 * t.val) + l.val) / 512 = t.val by omega)
  have e2 : (⟨(128 * (4 * t.val) + l.val) % 512, Nat.mod_lt _ (by decide)⟩ : Fin 512) = l := Fin.ext (show (128 * (4 * t.val) + l.val) % 512 = l.val by omega)
  symm
  refine (dif_pos (show 128 * (4 * t.val) + l.val < 10752 by omega)).trans ?_
  show tileT c v94 lhs fwu fwus fbu ⟨(128 * (4 * t.val) + l.val) / 512, _⟩ (ix2 r ⟨(128 * (4 * t.val) + l.val) % 512, _⟩ : S6x512.Idx) = _
  rw [e1, e2]

theorem tileL_HF (c : Dev nD) (v94 : FVec F S6x1 .f32) (lhs : Vec F S32x4096 .fp8e4m3) (fwu : Buf (Elt F) (wuH.view.loc (c : Thread nD τ))) (fwus fbu : Vec F S1x11008 .f32)
    (r : Fin 6) (l : Fin 256) (h : 128 * 84 + l.val < 11008) :
    tileL c v94 lhs fwu fwus fbu (ix2 r l : S6x256.Idx) = HF c v94 lhs fwu fwus fbu (ix2 r ⟨128 * 84 + l.val, h⟩ : S6x11008.Idx) := by
  have e2 : (⟨128 * 84 + l.val - 10752, by omega⟩ : Fin 256) = l := Fin.ext (show 128 * 84 + l.val - 10752 = l.val by omega)
  symm
  refine (dif_neg (show ¬ 128 * 84 + l.val < 10752 by omega)).trans ?_
  show tileL c v94 lhs fwu fwus fbu (ix2 r ⟨128 * 84 + l.val - 10752, _⟩ : S6x256.Idx) = _
  rw [e2]

/-- The first `n` columns of `hV` hold the activations. -/
def HVok (c : Dev nD) (H : Vec F S6x11008 .f32) (n : ℕ) (f : Buf (Elt F) (hV.view.loc (c : Thread nD τ))) : Prop :=
  ∀ (r : Fin 6) (l : Fin 11008), l.val < n → f (ix2 r l : S6x11008.Idx) = hB H (ix2 r l : S6x11008.Idx)

theorem h_emb_tile (b : ℕ) (h : ∀ a, (![0, b] : Fin 2 → ℕ) a + S6x512.size a ≤ S6x11008.size a) (hb : b + 512 ≤ 11008) (x : S6x512.Idx) :
    (hV.access (Rect.unit (s := S6x11008) ![0, b] S6x512.size h)).emb x = (ix2 (x 0) ⟨b + (x 1).val, by have : (x 1).val < 512 := (x 1).isLt; omega⟩ : S6x11008.Idx) := by
  funext a
  apply Fin.ext
  fin_cases a
  · show 0 + 1 * (x 0).val = (x 0).val; omega
  · show b + 1 * (x 1).val = b + (x 1).val; omega

theorem h_write_tile (c : Dev nD) (H : Vec F S6x11008 .f32) (T : FVec F S6x512 .f32) (b : ℕ) (hb : b + 512 ≤ 11008)
    (hT : ∀ (r : Fin 6) (l : Fin 512), T (ix2 r l : S6x512.Idx) = H (ix2 r ⟨b + l.val, by omega⟩ : S6x11008.Idx))
    (o : Fin 2 → ℕ) (ho : o = ![0, b]) (h : ∀ a, o a + S6x512.size a ≤ S6x11008.size a)
    (f : Buf (Elt F) (hV.view.loc (c : Thread nD τ))) (hf : HVok c H b f) :
    HVok c H (b + 512) ((hV.access (Rect.unit (s := S6x11008) o S6x512.size h)).write (Elt F) f (shapeCast S6x512 (truncf .bf16 T bitsLt_bf16_f32) shapeCasts_S6x512_S6x512) Finset.univ) := by
  subst ho
  intro r l hl
  by_cases hc : l.val < b
  · have hn : (ix2 r l : S6x11008.Idx) ∉ (hV.access (Rect.unit (s := S6x11008) ![0, b] S6x512.size h)).setOn Finset.univ := by
      intro hm
      obtain ⟨x, -, hx⟩ := Finset.mem_map.1 hm
      have e := congrArg (fun y : S6x11008.Idx => (y 1).val) ((h_emb_tile b h hb x).symm.trans hx)
      change b + (x 1).val = l.val at e
      omega
    exact (View.write_of_not_mem _ _ _ hn).trans (hf r l hc)
  · have e : (hV.access (Rect.unit (s := S6x11008) ![0, b] S6x512.size h)).emb (ix2 r ⟨l.val - b, by omega⟩ : S6x512.Idx) = (ix2 r l : S6x11008.Idx) := by
      rw [h_emb_tile b h hb]
      show (ix2 r ⟨b + (l.val - b), _⟩ : S6x11008.Idx) = _
      congr 1
      apply Fin.ext
      show b + (l.val - b) = l.val
      omega
    rw [← e, View.write_emb_of_mem _ _ (Finset.mem_univ _), e, shapeCast_self]
    have e2 := hT r ⟨l.val - b, by omega⟩
    have e3 : (⟨b + (l.val - b), by omega⟩ : Fin 11008) = l := Fin.ext (show b + (l.val - b) = l.val by omega)
    have e4 : T (ix2 r ⟨l.val - b, by omega⟩ : S6x512.Idx) = H (ix2 r l : S6x11008.Idx) := by rw [e2]; exact congrArg (fun z => H (ix2 r z : S6x11008.Idx)) e3
    exact congrArg (FloatOps.truncf .bf16 bitsLt_bf16_f32) e4

theorem h_emb_tail (b : ℕ) (h : ∀ a, (![0, b] : Fin 2 → ℕ) a + S6x256.size a ≤ S6x11008.size a) (hb : b + 256 ≤ 11008) (x : S6x256.Idx) :
    (hV.access (Rect.unit (s := S6x11008) ![0, b] S6x256.size h)).emb x = (ix2 (x 0) ⟨b + (x 1).val, by have : (x 1).val < 256 := (x 1).isLt; omega⟩ : S6x11008.Idx) := by
  funext a
  apply Fin.ext
  fin_cases a
  · show 0 + 1 * (x 0).val = (x 0).val; omega
  · show b + 1 * (x 1).val = b + (x 1).val; omega

theorem h_write_tail (c : Dev nD) (H : Vec F S6x11008 .f32) (T : FVec F S6x256 .f32) (b : ℕ) (hb : b + 256 ≤ 11008)
    (hT : ∀ (r : Fin 6) (l : Fin 256), T (ix2 r l : S6x256.Idx) = H (ix2 r ⟨b + l.val, by omega⟩ : S6x11008.Idx))
    (o : Fin 2 → ℕ) (ho : o = ![0, b]) (h : ∀ a, o a + S6x256.size a ≤ S6x11008.size a)
    (f : Buf (Elt F) (hV.view.loc (c : Thread nD τ))) (hf : HVok c H b f) :
    HVok c H (b + 256) ((hV.access (Rect.unit (s := S6x11008) o S6x256.size h)).write (Elt F) f (shapeCast S6x256 (truncf .bf16 T bitsLt_bf16_f32) shapeCasts_S6x256_S6x256) Finset.univ) := by
  subst ho
  intro r l hl
  by_cases hc : l.val < b
  · have hn : (ix2 r l : S6x11008.Idx) ∉ (hV.access (Rect.unit (s := S6x11008) ![0, b] S6x256.size h)).setOn Finset.univ := by
      intro hm
      obtain ⟨x, -, hx⟩ := Finset.mem_map.1 hm
      have e := congrArg (fun y : S6x11008.Idx => (y 1).val) ((h_emb_tail b h hb x).symm.trans hx)
      change b + (x 1).val = l.val at e
      omega
    exact (View.write_of_not_mem _ _ _ hn).trans (hf r l hc)
  · have e : (hV.access (Rect.unit (s := S6x11008) ![0, b] S6x256.size h)).emb (ix2 r ⟨l.val - b, by omega⟩ : S6x256.Idx) = (ix2 r l : S6x11008.Idx) := by
      rw [h_emb_tail b h hb]
      show (ix2 r ⟨b + (l.val - b), _⟩ : S6x11008.Idx) = _
      congr 1
      apply Fin.ext
      show b + (l.val - b) = l.val
      omega
    rw [← e, View.write_emb_of_mem _ _ (Finset.mem_univ _), e, shapeCast_self]
    have e2 := hT r ⟨l.val - b, by omega⟩
    have e3 : (⟨b + (l.val - b), by omega⟩ : Fin 11008) = l := Fin.ext (show b + (l.val - b) = l.val by omega)
    have e4 : T (ix2 r ⟨l.val - b, by omega⟩ : S6x256.Idx) = H (ix2 r l : S6x11008.Idx) := by rw [e2]; exact congrArg (fun z => H (ix2 r z : S6x11008.Idx)) e3
    exact congrArg (FloatOps.truncf .bf16 bitsLt_bf16_f32) e4

end Cert.Kernel.Hand

end
-- ==== Proof.Kernel.Tile.lean ====
/-
  One tile of activations.
-/
module

public import proofs.«01_k».proof.Proof.Kernel.Acts

@[expose] public section

noncomputable section

namespace Cert.Kernel.Hand

open Cert.Kernel Cert.Kernel.Gen Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's beside the transfers' counters. -/
local notation "𝕄" => MT nD τ sig Unit (Elt F) ℕ (Pipeline.UD sig nD τ) ℕ

/-! ## One tile -/

theorem WP_bind_ret (c : Dev nD) {α β : Type} (a : α) (k : α → Prog (TpuEff nD τ sig (Elt F) Λ₀ .tc) β) (Q : β → sProp 𝕄) :
    WP c (k a) Q ⊢ WP c ((Prog.ret a).bind k) Q := .rfl

theorem row_read (c : Dev nD) {sp : Space} (f : Vec F S1x11008 .f32) (t : Fin 21) (o : Fin 2 → ℕ) (ho : o = ![0, t.val * 512]) (h : ∀ a, o a + S1x512.size a ≤ S1x11008.size a) :
    (fun x => f ((Rect.unit (s := S1x11008) o S1x512.size h).emb x)) = rowT f t := by
  subst ho
  funext x
  unfold rowT
  congr 1
  funext a
  apply Fin.ext
  have h0 : (x 0).val < 1 := (x 0).isLt
  fin_cases a
  · show 0 + 1 * (x 0).val = 0; omega
  · show t.val * 512 + 1 * (x 1).val = 512 * t.val + (x 1).val; omega

theorem k0_part1_run (c : Dev nD) (v94 : FVec F S6x1 .f32) (lhs : Vec F S32x4096 .fp8e4m3) (fwu : Buf (Elt F) (wuH.view.loc (c : Thread nD τ))) (fwus fbu : Vec F S1x11008 .f32)
    (k : Fin k0_t1_loop.trips) (arg29 : BitVec 32) (hchk : k0_chk1 arg29)
    (fh : Buf (Elt F) (hV.view.loc (c : Thread nD τ))) (hfh : HVok c (HF c v94 lhs fwu fwus fbu) (512 * k.val) fh)
    {β : Type} (kk : _ → Prog (TpuEff nD τ sig (Elt F) Λ₀ .tc) β) (Q : β → sProp 𝕄) :
    iprop(Up c fwu (uSt k.val) ∗ Ow c ∗ pt c lhsV lhs ∗ pt c wusV fwus ∗ pt c buV fbu ∗ pt c hV fh
      ∗ (∀ fh' : Buf (Elt F) (hV.view.loc (c : Thread nD τ)), ⌜HVok c (HF c v94 lhs fwu fwus fbu) (512 * k.val + 512) fh'⌝ ∗ Up c fwu (Function.update (uSt k.val) ⟨k.val % 5, Nat.mod_lt _ (by decide)⟩ .idle) ∗ Ow c ∗ pt c lhsV lhs ∗ pt c wusV fwus ∗ pt c buV fbu ∗ pt c hV fh'
          -∗ WP c (kk ⟨hchk, Scf.iv 0#32 1#32 k.val, tileT c v94 lhs fwu fwus fbu ⟨k.val, t1_lt k⟩, truncf .bf16 (tileT c v94 lhs fwu fwus fbu ⟨k.val, t1_lt k⟩) bitsLt_bf16_f32,
              cmpf .oeq (extractStridedSlice S6x128 ![0, 0] (tileT c v94 lhs fwu fwus fbu ⟨k.val, t1_lt k⟩) slices_S6x512_o0_0_S6x128) (broadcast S6x128 (Scalar.ofBits .f32 0x00000000#32)), k0_pay9, k0_pay10⟩) Q))
      ⊢ WP c (k0_part1 xH (Memref.isWhole_whole _) wuH (Memref.isWhole_whole _) wusH (Memref.isWhole_whole _) buH (Memref.isWhole_whole _) wdH (Memref.isWhole_whole _) wdsH (Memref.isWhole_whole _) yH (Memref.isWhole_whole _) hH (Memref.isWhole_whole _) cH (Memref.isWhole_whole _) sH (Memref.isWhole_whole _) xV (Memref.isWhole_whole _) wusV (Memref.isWhole_whole _) buV (Memref.isWhole_whole _) wdsV (Memref.isWhole_whole _) cV (Memref.isWhole_whole _) sV (Memref.isWhole_whole _) hV (Memref.isWhole_whole _) yV (Memref.isWhole_whole _) lhsV (Memref.isWhole_whole _) hcV (Memref.isWhole_whole _) accV (Memref.isWhole_whole _) wuV (Memref.isWhole_whole _) wdV (Memref.isWhole_whole _) alS (Memref.isWhole_whole _) inS ouS upS dnS v94 0#32 1#32 k arg29 >>= kk) Q := by
  have hk := t1_lt k
  rw [k0_part1_eq_skeleton]
  unfold k0_part1_skel
  iintro ⟨HU, HO, HL, HW, HB, HH, HQ⟩
  iapply (WP_assume c hchk (k0_chk1.dec arg29))
  iapply (up_wait c fwu (uSt k.val) ⟨k.val % 5, Nat.mod_lt _ (by decide)⟩ ⟨k.val, hk⟩ (uSt_here ⟨k.val, hk⟩) _ _ (k0_off1_inb k) _ (k0_off2_inb k) (k0_off1_w k) (k0_off2_w k))
  isplitl [HU]; · iexact HU
  isplitl [HO]; · iexact HO
  iintro ⟨HU, HO⟩
  iapply (WP_ld c lhsV _ _ lhs lhs (Memref.readAt_unit_zero _ _ z2 _ _))
  isplitl [HL]; · iexact HL
  iintro HL
  iapply (up_load c fwu _ ⟨k.val % 5, Nat.mod_lt _ (by decide)⟩ ⟨k.val, hk⟩ (Function.update_self _ _ _) _ (k0_off4_inb k) (k0_off4_w k))
  isplitl [HU]; · iexact HU
  rw [Function.update_idem]
  iintro HU
  iapply (WP_ld c wusV _ _ fwus (rowT fwus ⟨k.val, hk⟩) (row_read (sp := .vmem) c fwus ⟨k.val, hk⟩ _ (k0_off5_w k) (k0_off5_inb k)))
  isplitl [HW]; · iexact HW
  iintro HW
  iapply (WP_ld c buV _ _ fbu (rowT fbu ⟨k.val, hk⟩) (row_read (sp := .vmem) c fbu ⟨k.val, hk⟩ _ (k0_off5_w k) (k0_off5_inb k)))
  isplitl [HB]; · iexact HB
  iintro HB
  iapply (WP_ld c hV _ _ fh _ rfl)
  isplitl [HH]; · iexact HH
  iintro HH
  iapply (WP_st c hV _ _ _ _ fh _ rfl)
  isplitl [HH]; · iexact HH
  iintro HH
  rw [show k0_pay8 v94 lhs (wuTile c fwu ⟨k.val, hk⟩) (rowT fwus ⟨k.val, hk⟩) (rowT fbu ⟨k.val, hk⟩) = cmpf .oeq (extractStridedSlice S6x128 ![0, 0] (tileT c v94 lhs fwu fwus fbu ⟨k.val, t1_lt k⟩) slices_S6x512_o0_0_S6x128) (broadcast S6x128 (Scalar.ofBits .f32 0x00000000#32)) from rfl,
    show k0_pay6 v94 lhs (wuTile c fwu ⟨k.val, hk⟩) (rowT fwus ⟨k.val, hk⟩) (rowT fbu ⟨k.val, hk⟩) = truncf .bf16 (tileT c v94 lhs fwu fwus fbu ⟨k.val, t1_lt k⟩) bitsLt_bf16_f32 from rfl,
    show k0_pay5 v94 lhs (wuTile c fwu ⟨k.val, hk⟩) (rowT fwus ⟨k.val, hk⟩) (rowT fbu ⟨k.val, hk⟩) = tileT c v94 lhs fwu fwus fbu ⟨k.val, t1_lt k⟩ from rfl]
  iapply (WP_bind_ret c _ kk)
  iapply HQ
  isplitr
  · ipureintro
    exact h_write_tile c (HF c v94 lhs fwu fwus fbu) (tileT c v94 lhs fwu fwus fbu ⟨k.val, hk⟩) (512 * k.val) (by omega)
      (fun r l => (tileT_HF c v94 lhs fwu fwus fbu ⟨k.val, hk⟩ r l (by omega)).trans (congrArg (fun z => HF c v94 lhs fwu fwus fbu (ix2 r z : S6x11008.Idx)) (Fin.ext (show 128 * (4 * k.val) + l.val = 512 * k.val + l.val by omega))))
      _ ((k0_off6_w k).trans (by rw [Nat.mul_comm])) (k0_off6_inb k) fh hfh
  isplitl [HU]; · iexact HU
  isplitl [HO]; · iexact HO
  isplitl [HL]; · iexact HL
  isplitl [HW]; · iexact HW
  isplitl [HB]; · iexact HB
  iexact HH

/-- The words that say which of the four blocks of a tile are live. -/
abbrev w0 (T : FVec F S6x512 .f32) : BitVec 32 := extractAt ![0, 0, 0] (k0_pay11 (cmpf .oeq (extractStridedSlice S6x128 ![0, 0] T slices_S6x512_o0_0_S6x128) (broadcast S6x128 (Scalar.ofBits .f32 0x00000000#32))) k0_pay9 k0_pay10) inpos_S1x1x1_p0_0_0
abbrev w1 (T : FVec F S6x512 .f32) : BitVec 32 := extractAt ![0, 0, 0] (k0_pay13 T) inpos_S1x1x1_p0_0_0
abbrev w2 (T : FVec F S6x512 .f32) : BitVec 32 := extractAt ![0, 0, 0] (k0_pay16 (k0_pay15 T) 0#32 1#32) inpos_S1x1x1_p0_0_0
abbrev w3 (T : FVec F S6x512 .f32) : BitVec 32 := extractAt ![0, 0, 0] (k0_pay18 T) inpos_S1x1x1_p0_0_0

section
variable (T : FVec F S6x512 .f32) (H : Vec F S6x11008 .f32) (b : ℕ) (hb : b + 3 < 86)
    (hT : ∀ (r : Fin 6) (l : Fin 512) (h : 128 * b + l.val < 11008), T (ix2 r l : S6x512.Idx) = H (ix2 r ⟨128 * b + l.val, h⟩ : S6x11008.Idx))
include hb hT
theorem w0_eq : w0 T = lw H b := (congrArg liveW (sl512_0 T H b (by omega) hT))
theorem w1_eq : w1 T = lw H (b + 1) := (congrArg liveW (sl512_1 T H b (by omega) hT))
theorem w2_eq : w2 T = lw H (b + 2) := (congrArg liveW (sl512_2 T H b (by omega) hT))
theorem w3_eq : w3 T = lw H (b + 3) := (congrArg liveW (sl512_3 T H b (by omega) hT))
end

theorem k0_part2_run (c : Dev nD) (H : Vec F S6x11008 .f32) (T : FVec F S6x512 .f32) (k : ℕ) (hk : k < 21)
    (hT : ∀ (r : Fin 6) (l : Fin 512) (h : 128 * (4 * k) + l.val < 11008), T (ix2 r l : S6x512.Idx) = H (ix2 r ⟨128 * (4 * k) + l.val, h⟩ : S6x11008.Idx))
    (arg29 arg28 : BitVec 32) (h29 : arg29 = BitVec.ofNat 32 (cnt H (4 * k))) (h28 : arg28 = BitVec.ofNat 32 k) (hw1 : k0_chk1 arg29) (hw3 : k0_chk3 arg29 (w0 T) (w1 T))
    {β : Type} (kk : _ → Prog (TpuEff nD τ sig (Elt F) Λ₀ .tc) β) (Q : β → sProp 𝕄) :
    iprop(Live c H (4 * k) ∗ (Live c H (4 * k + 2)
          -∗ WP c (kk ⟨w0 T, w1 T, hw3, Scalar.addi (Scalar.addi arg29 (w0 T)) (w1 T), k0_pay15 T, 0#32, 1#32⟩) Q))
      ⊢ WP c (k0_part2 xH (Memref.isWhole_whole _) wuH (Memref.isWhole_whole _) wusH (Memref.isWhole_whole _) buH (Memref.isWhole_whole _) wdH (Memref.isWhole_whole _) wdsH (Memref.isWhole_whole _) yH (Memref.isWhole_whole _) hH (Memref.isWhole_whole _) cH (Memref.isWhole_whole _) sH (Memref.isWhole_whole _) xV (Memref.isWhole_whole _) wusV (Memref.isWhole_whole _) buV (Memref.isWhole_whole _) wdsV (Memref.isWhole_whole _) cV (Memref.isWhole_whole _) sV (Memref.isWhole_whole _) hV (Memref.isWhole_whole _) yV (Memref.isWhole_whole _) lhsV (Memref.isWhole_whole _) hcV (Memref.isWhole_whole _) accV (Memref.isWhole_whole _) wuV (Memref.isWhole_whole _) wdV (Memref.isWhole_whole _) alS (Memref.isWhole_whole _) inS ouS upS dnS arg29 hw1 arg28 T (truncf .bf16 T bitsLt_bf16_f32)
          (cmpf .oeq (extractStridedSlice S6x128 ![0, 0] T slices_S6x512_o0_0_S6x128) (broadcast S6x128 (Scalar.ofBits .f32 0x00000000#32))) k0_pay9 k0_pay10 >>= kk) Q := by
  have hn := cnt_le H (4 * k)
  have hn1 := cnt_le H (4 * k + 1)
  have h30 : Scalar.addi arg29 (w0 T) = BitVec.ofNat 32 (cnt H (4 * k + 1)) := by rw [h29, w0_eq T H (4 * k) (by omega) hT, cnt_succ]
  have hw2 : k0_chk2 arg29 (w0 T) := k0_chk2_w _ _ (by omega) h30
  rw [k0_part2_eq_skeleton]
  unfold k0_part2_skel
  iintro ⟨HL, HQ⟩
  iapply (WP_assume c hw2 (k0_chk2.dec _ _))
  iapply (push_run c H (4 * k) (by omega) (k0_off7 arg29) (k0_off7_inb arg29 hw1) (k0_off8 arg29) (k0_off8_inb arg29 hw1) (k0_off7_w arg29 (by omega) h29) (k0_off8_w arg29 (by omega) h29)
    _ (ck512_0 T H (4 * k) (by omega) hT) _ (by rw [h28, show (4#32 : BitVec 32) = BitVec.ofNat 32 4 from rfl, muli_w, show (0#32 : BitVec 32) = BitVec.ofNat 32 0 from rfl, addi_w]; congr 1; omega))
  isplitl [HL]; · iexact HL
  iintro HL
  iapply (WP_assume c hw3 (k0_chk3.dec _ _ _))
  iapply (push_run c H (4 * k + 1) (by omega) (k0_off9 arg29 (w0 T)) (k0_off9_inb arg29 (w0 T) hw2) (k0_off10 arg29 (w0 T)) (k0_off10_inb arg29 (w0 T) hw2) (k0_off9_w arg29 _ (by omega) h30) (k0_off10_w arg29 _ (by omega) h30)
    _ (ck512_1 T H (4 * k) (by omega) hT) _ (by rw [h28, show (4#32 : BitVec 32) = BitVec.ofNat 32 4 from rfl, muli_w, show (1#32 : BitVec 32) = BitVec.ofNat 32 1 from rfl, addi_w]; congr 1; omega))
  isplitl [HL]; · iexact HL
  iintro HL
  iapply (WP_bind_ret c _ kk)
  iapply HQ
  iexact HL

theorem k0_part3_run (c : Dev nD) (H : Vec F S6x11008 .f32) (T : FVec F S6x512 .f32) (k : Fin k0_t1_loop.trips)
    (hT : ∀ (r : Fin 6) (l : Fin 512) (h : 128 * (4 * k.val) + l.val < 11008), T (ix2 r l : S6x512.Idx) = H (ix2 r ⟨128 * (4 * k.val) + l.val, h⟩ : S6x11008.Idx))
    (arg29 arg30 arg28 v272 v292 : BitVec 32) (h32 : Scalar.addi (Scalar.addi arg29 v272) v292 = BitVec.ofNat 32 (cnt H (4 * k.val + 2))) (h28 : arg28 = BitVec.ofNat 32 k.val) (hw3 : k0_chk3 arg29 v272 v292)
    (hw5 : k0_chk5 k arg29 arg30 v272 v292 (w2 T) (w3 T))
    {β : Type} (kk : _ → Prog (TpuEff nD τ sig (Elt F) Λ₀ .tc) β) (Q : β → sProp 𝕄) :
    iprop(Live c H (4 * k.val + 2) ∗ (Live c H (4 * k.val + 4)
          -∗ WP c (kk ⟨w2 T, w3 T, hw5, Scalar.addi (Scalar.addi (Scalar.addi (Scalar.addi arg29 v272) v292) (w2 T)) (w3 T), Scalar.addi arg28 5#32, Scalar.cmpi .slt (Scalar.addi arg28 5#32) 21#32⟩) Q))
      ⊢ WP c (k0_part3 xH (Memref.isWhole_whole _) wuH (Memref.isWhole_whole _) wusH (Memref.isWhole_whole _) buH (Memref.isWhole_whole _) wdH (Memref.isWhole_whole _) wdsH (Memref.isWhole_whole _) yH (Memref.isWhole_whole _) hH (Memref.isWhole_whole _) cH (Memref.isWhole_whole _) sH (Memref.isWhole_whole _) xV (Memref.isWhole_whole _) wusV (Memref.isWhole_whole _) buV (Memref.isWhole_whole _) wdsV (Memref.isWhole_whole _) cV (Memref.isWhole_whole _) sV (Memref.isWhole_whole _) hV (Memref.isWhole_whole _) yV (Memref.isWhole_whole _) lhsV (Memref.isWhole_whole _) hcV (Memref.isWhole_whole _) accV (Memref.isWhole_whole _) wuV (Memref.isWhole_whole _) wdV (Memref.isWhole_whole _) alS (Memref.isWhole_whole _) inS ouS upS dnS k arg29 arg30 arg28 T (truncf .bf16 T bitsLt_bf16_f32) v272 v292 hw3 (Scalar.addi (Scalar.addi arg29 v272) v292) (k0_pay15 T) 0#32 1#32 >>= kk) Q := by
  have hk := t1_lt k
  have hn2 := cnt_le H (4 * k.val + 2)
  have hn3 := cnt_le H (4 * k.val + 3)
  have h33 : Scalar.addi (Scalar.addi (Scalar.addi arg29 v272) v292) (w2 T) = BitVec.ofNat 32 (cnt H (4 * k.val + 3)) := by rw [h32, w2_eq T H (4 * k.val) (by omega) hT, cnt_succ]
  have hw4 : k0_chk4 arg29 v272 v292 (w2 T) := k0_chk4_w _ _ _ _ (by omega) h33
  rw [k0_part3_eq_skeleton]
  unfold k0_part3_skel
  iintro ⟨HL, HQ⟩
  iapply (WP_assume c hw4 (k0_chk4.dec _ _ _ _))
  iapply (push_run c H (4 * k.val + 2) (by omega) (k0_off11 arg29 v272 v292) (k0_off11_inb _ _ _ hw3) (k0_off12 arg29 v272 v292) (k0_off12_inb _ _ _ hw3) (k0_off11_w _ _ _ (by omega) h32) (k0_off12_w _ _ _ (by omega) h32)
    _ (ck512_2 T H (4 * k.val) (by omega) hT) _ (by rw [h28, show (4#32 : BitVec 32) = BitVec.ofNat 32 4 from rfl, muli_w, show (2#32 : BitVec 32) = BitVec.ofNat 32 2 from rfl, addi_w]; congr 1; omega))
  isplitl [HL]; · iexact HL
  iintro HL
  iapply (WP_assume c hw5 (k0_chk5.dec _ _ _ _ _ _ _))
  iapply (push_run c H (4 * k.val + 3) (by omega) (k0_off13 arg29 v272 v292 (w2 T)) (k0_off13_inb _ _ _ _ hw4) (k0_off14 arg29 v272 v292 (w2 T)) (k0_off14_inb _ _ _ _ hw4) (k0_off13_w _ _ _ _ (by omega) h33) (k0_off14_w _ _ _ _ (by omega) h33)
    _ (ck512_3 T H (4 * k.val) (by omega) hT) _ (by rw [h28, show (4#32 : BitVec 32) = BitVec.ofNat 32 4 from rfl, muli_w, show (3#32 : BitVec 32) = BitVec.ofNat 32 3 from rfl, addi_w]; congr 1; omega))
  isplitl [HL]; · iexact HL
  iintro HL
  iapply (WP_bind_ret c _ kk)
  iapply HQ
  iexact HL

end Cert.Kernel.Hand

end
-- ==== Proof.Kernel.T1.lean ====
/-
  The loop over the tiles of 512 activations.
-/
module

public import proofs.«01_k».proof.Proof.Kernel.Tile

@[expose] public section

noncomputable section

namespace Cert.Kernel.Hand

open Cert.Kernel Cert.Kernel.Gen Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's beside the transfers' counters. -/
local notation "𝕄" => MT nD τ sig Unit (Elt F) ℕ (Pipeline.UD sig nD τ) ℕ

theorem WP_pos (c : Dev nD) {α : Type} {P : Prop} {d : Decidable P} (h : P) (t : P → Prog (TpuEff nD τ sig (Elt F) Λ₀ .tc) α) (e : ¬ P → Prog (TpuEff nD τ sig (Elt F) Λ₀ .tc) α) (Q : α → sProp 𝕄) :
    WP c (t h) Q ⊢ WP c (dite P t e) Q := by rw [dif_pos h]

theorem WP_neg (c : Dev nD) {α : Type} {P : Prop} {d : Decidable P} (h : ¬ P) (t : P → Prog (TpuEff nD τ sig (Elt F) Λ₀ .tc) α) (e : ¬ P → Prog (TpuEff nD τ sig (Elt F) Λ₀ .tc) α) (Q : α → sProp 𝕄) :
    WP c (e h) Q ⊢ WP c (dite P t e) Q := by rw [dif_neg h]

theorem WP_pos_bind (c : Dev nD) {α β : Type} {P : Prop} {d : Decidable P} (h : P) (t : P → Prog (TpuEff nD τ sig (Elt F) Λ₀ .tc) α) (e : ¬ P → Prog (TpuEff nD τ sig (Elt F) Λ₀ .tc) α) (k : α → Prog (TpuEff nD τ sig (Elt F) Λ₀ .tc) β) (Q : β → sProp 𝕄) :
    WP c ((t h).bind k) Q ⊢ WP c ((dite P t e).bind k) Q := by rw [dif_pos h]

theorem WP_neg_bind (c : Dev nD) {α β : Type} {P : Prop} {d : Decidable P} (h : ¬ P) (t : P → Prog (TpuEff nD τ sig (Elt F) Λ₀ .tc) α) (e : ¬ P → Prog (TpuEff nD τ sig (Elt F) Λ₀ .tc) α) (k : α → Prog (TpuEff nD τ sig (Elt F) Λ₀ .tc) β) (Q : β → sProp 𝕄) :
    WP c ((e h).bind k) Q ⊢ WP c ((dite P t e).bind k) Q := by rw [dif_neg h]

theorem cnt_mono (H : Vec F S6x11008 .f32) {a b : ℕ} (h : a ≤ b) : cnt H a ≤ cnt H b := Nat.count_monotone _ h

/-- What the loop over tiles keeps. -/
def T1 (c : Dev nD) (v94 : FVec F S6x1 .f32) (lhs : Vec F S32x4096 .fp8e4m3) (fwu : Buf (Elt F) (wuH.view.loc (c : Thread nD τ))) (fwus fbu : Vec F S1x11008 .f32)
    (fwd : Buf (Elt F) (wdH.view.loc (c : Thread nD τ))) (k : ℕ) (a : BitVec 32 × BitVec 32) : sProp 𝕄 :=
  iprop(∃ s, ⌜a.1 = BitVec.ofNat 32 (cnt (HF c v94 lhs fwu fwus fbu) (4 * k)) ∧ a.2 = BitVec.ofNat 32 s ∧ s ≤ min (cnt (HF c v94 lhs fwu fwus fbu) (4 * k)) 16⌝
    ∗ Up c fwu (uSt k) ∗ Live c (HF c v94 lhs fwu fwus fbu) (4 * k) ∗ Down c fwd (stOf (al (HF c v94 lhs fwu fwus fbu)) 0 s) ∗ Ow c
    ∗ pt c lhsV lhs ∗ pt c wusV fwus ∗ pt c buV fbu
    ∗ ∃ fh, ⌜HVok c (HF c v94 lhs fwu fwus fbu) (512 * k) fh⌝ ∗ pt c hV fh)

theorem k0_t1_step (c : Dev nD) (v94 : FVec F S6x1 .f32) (lhs : Vec F S32x4096 .fp8e4m3) (fwu : Buf (Elt F) (wuH.view.loc (c : Thread nD τ))) (fwus fbu : Vec F S1x11008 .f32)
    (fwd : Buf (Elt F) (wdH.view.loc (c : Thread nD τ))) (v89 : FVec F S6x4096 .fp8e4m3) (v102 : FVec F S32x4096 .fp8e4m3) (k : Fin k0_t1_loop.trips) (a : BitVec 32 × BitVec 32) :
    T1 c v94 lhs fwu fwus fbu fwd k.val a ⊢ WP c (k0_t1_body xH (Memref.isWhole_whole _) wuH (Memref.isWhole_whole _) wusH (Memref.isWhole_whole _) buH (Memref.isWhole_whole _) wdH (Memref.isWhole_whole _) wdsH (Memref.isWhole_whole _) yH (Memref.isWhole_whole _) hH (Memref.isWhole_whole _) cH (Memref.isWhole_whole _) sH (Memref.isWhole_whole _) xV (Memref.isWhole_whole _) wusV (Memref.isWhole_whole _) buV (Memref.isWhole_whole _) wdsV (Memref.isWhole_whole _) cV (Memref.isWhole_whole _) sV (Memref.isWhole_whole _) hV (Memref.isWhole_whole _) yV (Memref.isWhole_whole _) lhsV (Memref.isWhole_whole _) hcV (Memref.isWhole_whole _) accV (Memref.isWhole_whole _) wuV (Memref.isWhole_whole _) wdV (Memref.isWhole_whole _) alS (Memref.isWhole_whole _) inS ouS upS dnS v89 v94 v102 k a) (fun a => T1 c v94 lhs fwu fwus fbu fwd (k.val + 1) a) := by
  have hk := t1_lt k
  obtain ⟨arg29, arg30⟩ := a
  generalize hH : HF c v94 lhs fwu fwus fbu = H
  generalize hTT : tileT c v94 lhs fwu fwus fbu ⟨k.val, t1_lt k⟩ = T
  have hT : ∀ (r : Fin 6) (l : Fin 512) (h : 128 * (4 * k.val) + l.val < 11008), T (ix2 r l : S6x512.Idx) = H (ix2 r ⟨128 * (4 * k.val) + l.val, h⟩ : S6x11008.Idx) := by
    subst hH hTT
    exact fun r l h => tileT_HF c v94 lhs fwu fwus fbu ⟨k.val, t1_lt k⟩ r l h
  unfold T1
  rw [hH]
  iintro ⟨%s, %hs, HU, HL, HD, HO, HX, HW, HB, ⟨%fh, %hfh, HH⟩⟩
  obtain ⟨h29, h30, hs⟩ := hs
  change arg29 = _ at h29
  change arg30 = _ at h30
  have hn0 := cnt_le H (4 * k.val)
  have hn1 := cnt_le H (4 * k.val + 1)
  have hn2 := cnt_le H (4 * k.val + 2)
  have hn3 := cnt_le H (4 * k.val + 3)
  have hn4 := cnt_le H (4 * k.val + 4)
  have hm : cnt H (4 * k.val) ≤ cnt H (4 * k.val + 4) := cnt_mono H (by omega)
  have e32 : Scalar.addi (Scalar.addi arg29 (w0 T)) (w1 T) = BitVec.ofNat 32 (cnt H (4 * k.val + 2)) := by
    rw [h29, w0_eq T H (4 * k.val) (by omega) hT, cnt_succ, w1_eq T H (4 * k.val) (by omega) hT, cnt_succ]
  have e31 : Scalar.addi arg29 (w0 T) = BitVec.ofNat 32 (cnt H (4 * k.val + 1)) := by
    rw [h29, w0_eq T H (4 * k.val) (by omega) hT, cnt_succ]
  have e34 : Scalar.addi (Scalar.addi (Scalar.addi (Scalar.addi arg29 (w0 T)) (w1 T)) (w2 T)) (w3 T) = BitVec.ofNat 32 (cnt H (4 * k.val + 4)) := by
    rw [e32, w2_eq T H (4 * k.val) (by omega) hT, cnt_succ, w3_eq T H (4 * k.val) (by omega) hT, cnt_succ]
  have hub := t2_ub k arg29 arg30 (w0 T) (w1 T) (w2 T) (w3 T) (s := s) (n := cnt H (4 * k.val + 4)) (by omega) (by omega) h30 e34
  have hs0 : s ≤ started k.val (cnt H (4 * k.val + 4)) s := le_max_left _ _
  have hs1 : started k.val (cnt H (4 * k.val + 4)) s ≤ min (cnt H (4 * k.val + 4)) 16 := by
    unfold started; split <;> omega
  have hw1 : k0_chk1 arg29 := k0_chk1_w arg29 (by omega) h29
  have hw3 : k0_chk3 arg29 (w0 T) (w1 T) := k0_chk3_w _ _ _ (by omega) e32
  have hw5 : k0_chk5 k arg29 arg30 (w0 T) (w1 T) (w2 T) (w3 T) := k0_chk5_w k arg29 arg30 (w0 T) (w1 T) (w2 T) (w3 T) s _ hs0 (by omega) h30 hub
  have h28 : Scf.iv 0#32 1#32 k.val = BitVec.ofNat 32 k.val := t1_iv k
  have h343 : Scalar.addi (Scf.iv 0#32 1#32 k.val) 5#32 = BitVec.ofNat 32 (k.val + 5) := by
    rw [h28, show (5#32 : BitVec 32) = BitVec.ofNat 32 5 from rfl, addi_w]
  have h353 : Scalar.maxsi arg30 (Scalar.select (Scalar.cmpi .sgt (Scalar.addi (Scf.iv 0#32 1#32 k.val) 5#32) 21#32) (Scalar.minsi (Scalar.addi (Scalar.addi (Scalar.addi (Scalar.addi arg29 (w0 T)) (w1 T)) (w2 T)) (w3 T)) 16#32) 0#32) = BitVec.ofNat 32 (started k.val (cnt H (4 * k.val + 4)) s) := by
    rw [h343]
    exact started_w k.val hk arg30 _ (by omega) (by omega) h30 e34
  unfold k0_t1_body
  iapply (k0_part1_run c v94 lhs fwu fwus fbu k arg29 hw1 fh (by rw [hH]; exact hfh))
  isplitl [HU]; · iexact HU
  isplitl [HO]; · iexact HO
  isplitl [HX]; · iexact HX
  isplitl [HW]; · iexact HW
  isplitl [HB]; · iexact HB
  isplitl [HH]; · iexact HH
  iintro %fh' ⟨%hfh', HU, HO, HX, HW, HB, HH⟩
  rw [hTT, hH] at *
  iapply (k0_part2_run c H T k.val hk hT arg29 (Scf.iv 0#32 1#32 k.val) h29 h28 hw1 hw3)
  isplitl [HL]; · iexact HL
  iintro HL
  iapply (k0_part3_run c H T k hT arg29 arg30 (Scf.iv 0#32 1#32 k.val) (w0 T) (w1 T) e32 h28 hw3 hw5)
  isplitl [HL]; · iexact HL
  iintro HL
  have hend : ∀ st, (∀ q, st q = uSt (k.val + 1) q) → Up c fwu st ⊢ Up c fwu (uSt (k.val + 1)) := fun st h => by rw [show st = uSt (k.val + 1) from funext h]
  by_cases h1 : k0_cond1 k = 1#1
  · have h1' := (cond1_w k).1 h1
    have h2 : ¬ Scalar.cmpi .ne (Scalar.extui (Scalar.cmpi .eq (Scalar.addi (Scf.iv 0#32 1#32 k.val) 5#32) 21#32) : BitVec 32) 0#32 = 1#1 := fun h => by
      have := (cond2_w k.val hk _ h343).1 h; omega
    iapply (WP_pos c h1)
    iapply (up_start c fwu _ ⟨k.val % 5, Nat.mod_lt _ (by decide)⟩ ⟨k.val + 5, h1'⟩ (Function.update_self _ _ _) _ (k0_off15_inb k h1) _ (k0_off16_inb k h1) _ (k0_off17_inb k h1) (k0_off15_w k) (k0_off16_w k) (k0_off17_w k))
    isplitl [HU]; · iexact HU
    rw [Function.update_idem]
    iintro HU
    ihave HU := (hend _ (uSt_next ⟨k.val, hk⟩ h1')) $$ HU
    iapply (WP_neg c h2)
    unfold Live
    icases HL with ⟨%A, %hcf, %L, HA, HHC⟩
    iapply (k0_t2_run c fwd (al H) A 0 s (started k.val (cnt H (4 * k.val + 4)) s) (by omega) hs0 (by omega) (by omega) (fun i h hi => L.words i h (by omega)) v89 v94 v102 k arg29 arg30 (w0 T) (w1 T) (w2 T) (w3 T) hw5 h30 hub)
    isplitl [HD]; · iexact HD
    isplitl [HA]; · iexact HA
    iintro %r ⟨HD, HA⟩
    iapply (WP_for0 c (k0_t3_loop k arg29 arg30 (w0 T) (w1 T) (w2 T) (w3 T)) (Scf.rem_trips _ _))
    iapply WP_ret
    iexists (started k.val (cnt H (4 * k.val + 4)) s)
    isplitr
    · ipureintro
      exact ⟨e34, h353, hs1⟩
    isplitl [HU]; · iexact HU
    isplitl [HA HHC]
    · iexists A
      iexists hcf
      isplitr; · ipureintro; exact L
      isplitl [HA]; · iexact HA
      iexact HHC
    isplitl [HD]; · iexact HD
    isplitl [HO]; · iexact HO
    isplitl [HX]; · iexact HX
    isplitl [HW]; · iexact HW
    isplitl [HB]; · iexact HB
    iexists fh'
    isplitr; · ipureintro; exact hfh'
    iexact HH
  by_cases h2' : k.val = 16
  · have h2 : Scalar.cmpi .ne (Scalar.extui (Scalar.cmpi .eq (Scalar.addi (Scf.iv 0#32 1#32 k.val) 5#32) 21#32) : BitVec 32) 0#32 = 1#1 := (cond2_w k.val hk _ h343).2 h2'
    have hq : (⟨k.val % 5, Nat.mod_lt _ (by decide)⟩ : Fin 5) = 1 := Fin.ext (show k.val % 5 = 1 by omega)
    iapply (WP_neg c h1)
    iapply (WP_pos c h2)
    rw [hq]
    iapply (up_tail_start c fwu _ (Function.update_self _ _ _))
    isplitl [HU]; · iexact HU
    rw [Function.update_idem]
    iintro HU
    ihave HU := (hend _ (fun q => by rw [show k.val + 1 = 17 by omega, h2']; exact uSt_tail q)) $$ HU
    unfold Live
    icases HL with ⟨%A, %hcf, %L, HA, HHC⟩
    iapply (k0_t2_run c fwd (al H) A 0 s (started k.val (cnt H (4 * k.val + 4)) s) (by omega) hs0 (by omega) (by omega) (fun i h hi => L.words i h (by omega)) v89 v94 v102 k arg29 arg30 (w0 T) (w1 T) (w2 T) (w3 T) hw5 h30 hub)
    isplitl [HD]; · iexact HD
    isplitl [HA]; · iexact HA
    iintro %r ⟨HD, HA⟩
    iapply (WP_for0 c (k0_t3_loop k arg29 arg30 (w0 T) (w1 T) (w2 T) (w3 T)) (Scf.rem_trips _ _))
    iapply WP_ret
    iexists (started k.val (cnt H (4 * k.val + 4)) s)
    isplitr
    · ipureintro
      exact ⟨e34, h353, hs1⟩
    isplitl [HU]; · iexact HU
    isplitl [HA HHC]
    · iexists A
      iexists hcf
      isplitr; · ipureintro; exact L
      isplitl [HA]; · iexact HA
      iexact HHC
    isplitl [HD]; · iexact HD
    isplitl [HO]; · iexact HO
    isplitl [HX]; · iexact HX
    isplitl [HW]; · iexact HW
    isplitl [HB]; · iexact HB
    iexists fh'
    isplitr; · ipureintro; exact hfh'
    iexact HH
  · have h2 : ¬ Scalar.cmpi .ne (Scalar.extui (Scalar.cmpi .eq (Scalar.addi (Scf.iv 0#32 1#32 k.val) 5#32) 21#32) : BitVec 32) 0#32 = 1#1 := fun h =>
      h2' ((cond2_w k.val hk _ h343).1 h)
    have h16 : 16 < k.val := by have := mt (cond1_w k).2 h1; omega
    iapply (WP_neg c h1)
    iapply (WP_neg c h2)
    ihave HU := (hend _ (uSt_idle ⟨k.val, hk⟩ h16)) $$ HU
    unfold Live
    icases HL with ⟨%A, %hcf, %L, HA, HHC⟩
    iapply (k0_t2_run c fwd (al H) A 0 s (started k.val (cnt H (4 * k.val + 4)) s) (by omega) hs0 (by omega) (by omega) (fun i h hi => L.words i h (by omega)) v89 v94 v102 k arg29 arg30 (w0 T) (w1 T) (w2 T) (w3 T) hw5 h30 hub)
    isplitl [HD]; · iexact HD
    isplitl [HA]; · iexact HA
    iintro %r ⟨HD, HA⟩
    iapply (WP_for0 c (k0_t3_loop k arg29 arg30 (w0 T) (w1 T) (w2 T) (w3 T)) (Scf.rem_trips _ _))
    iapply WP_ret
    iexists (started k.val (cnt H (4 * k.val + 4)) s)
    isplitr
    · ipureintro
      exact ⟨e34, h353, hs1⟩
    isplitl [HU]; · iexact HU
    isplitl [HA HHC]
    · iexists A
      iexists hcf
      isplitr; · ipureintro; exact L
      isplitl [HA]; · iexact HA
      iexact HHC
    isplitl [HD]; · iexact HD
    isplitl [HO]; · iexact HO
    isplitl [HX]; · iexact HX
    isplitl [HW]; · iexact HW
    isplitl [HB]; · iexact HB
    iexists fh'
    isplitr; · ipureintro; exact hfh'
    iexact HH

theorem k0_t1_run (c : Dev nD) (v94 : FVec F S6x1 .f32) (lhs : Vec F S32x4096 .fp8e4m3) (fwu : Buf (Elt F) (wuH.view.loc (c : Thread nD τ))) (fwus fbu : Vec F S1x11008 .f32)
    (fwd : Buf (Elt F) (wdH.view.loc (c : Thread nD τ))) (v89 : FVec F S6x4096 .fp8e4m3) (v102 : FVec F S32x4096 .fp8e4m3) (hok : k0_t1_loop.OK)
    {β : Type} (kk : BitVec 32 × BitVec 32 → Prog (TpuEff nD τ sig (Elt F) Λ₀ .tc) β) (Q : β → sProp 𝕄) :
    iprop(T1 c v94 lhs fwu fwus fbu fwd 0 (0#32, 0#32) ∗ (∀ a, T1 c v94 lhs fwu fwus fbu fwd 21 a -∗ WP c (kk a) Q))
      ⊢ WP c (Scf.Loop.for k0_t1_loop hok (0#32, 0#32) (k0_t1_body xH (Memref.isWhole_whole _) wuH (Memref.isWhole_whole _) wusH (Memref.isWhole_whole _) buH (Memref.isWhole_whole _) wdH (Memref.isWhole_whole _) wdsH (Memref.isWhole_whole _) yH (Memref.isWhole_whole _) hH (Memref.isWhole_whole _) cH (Memref.isWhole_whole _) sH (Memref.isWhole_whole _) xV (Memref.isWhole_whole _) wusV (Memref.isWhole_whole _) buV (Memref.isWhole_whole _) wdsV (Memref.isWhole_whole _) cV (Memref.isWhole_whole _) sV (Memref.isWhole_whole _) hV (Memref.isWhole_whole _) yV (Memref.isWhole_whole _) lhsV (Memref.isWhole_whole _) hcV (Memref.isWhole_whole _) accV (Memref.isWhole_whole _) wuV (Memref.isWhole_whole _) wdV (Memref.isWhole_whole _) alS (Memref.isWhole_whole _) inS ouS upS dnS v89 v94 v102) >>= kk) Q := by
  iintro ⟨HT, HQ⟩
  iapply (Scf.wp_for_bind frame (wpE (defs₀ (F := F)) Variants.none (c : Thread nD τ) none) Set.univ k0_t1_loop.lb k0_t1_loop.ub k0_t1_loop.st hok (0#32, 0#32) _
    (fun k a => T1 c v94 lhs fwu fwus fbu fwd k a) (fun k acc => k0_t1_step c v94 lhs fwu fwus fbu fwd v89 v102 k acc)) $$ [HT]
  · iexact HT
  iintro %a HT
  iapply HQ
  rw [show Scf.trips k0_t1_loop.lb k0_t1_loop.ub k0_t1_loop.st = 21 from t1_trips]
  iexact HT

end Cert.Kernel.Hand

end
-- ==== Proof.Kernel.Pairs.lean ====
/-
  The loop over pairs of live blocks: the down projection's sum grows by two blocks a trip.
-/
module

public import proofs.«01_k».proof.Proof.Kernel.Steps
public import Idealize.ShloMosaic.Lib.LoopRemainder

@[expose] public section

noncomputable section

namespace Cert.Kernel.Hand

open Cert.Kernel Cert.Kernel.Gen Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's beside the transfers' counters. -/
local notation "𝕄" => MT nD τ sig Unit (Elt F) ℕ (Pipeline.UD sig nD τ) ℕ

/-- The down projection's sum after `p` pairs of live blocks. -/
def accSeq (c : Dev nD) (fwd : Buf (Elt F) (wdH.view.loc (c : Thread nD τ))) (hcB : Fin 86 → Vec F S1x16x128 .bf16) (al : ℕ → Fin 86) : ℕ → Vec F S8x4096 .f32
  | 0 => k0_pay31
  | p + 1 => k0_pay1 (hcB (al (2 * p))) (hcB (al (2 * p + 1))) (wdTile c fwd (al (2 * p)) (al (2 * p + 1))) (accSeq c fwd hcB al p)

/-- Two waits and a load of both slots free the two oldest slots of the ring. -/
theorem st_pair (al : ℕ → Fin 86) {w s : ℕ} (h1 : w + 2 ≤ s) (h2 : s ≤ w + 16) :
    Function.update (Function.update (Function.update (Function.update (stOf al w s) (Ring.sl 16 w) (.full (al w))) (Ring.sl 16 (w + 1)) (.full (al (w + 1)))) (Ring.sl 16 w) .idle) (Ring.sl 16 (w + 1)) .idle
      = stOf al (w + 2) s := by
  have hne : (Ring.sl 16 w : Fin 16) ≠ Ring.sl 16 (w + 1) := fun e => by
    have := congrArg Fin.val e; rw [Ring.sl_val, Ring.sl_val] at this; omega
  rw [Function.update_comm hne.symm, Function.update_idem, Function.update_idem, ← stOf_pop al (w := w + 1) (s := s) (by omega) (by omega), ← stOf_pop al (w := w) (s := s) (by omega) (by omega)]

theorem k0_t6_step (c : Dev nD) (fwd : Buf (Elt F) (wdH.view.loc (c : Thread nD τ))) (hcB : Fin 86 → Vec F S1x16x128 .bf16) (al : ℕ → Fin 86)
    (A : Buf (Elt F) (alS.view.loc (c : Thread nD τ))) (hcf : Buf (Elt F) (hcV.view.loc (c : Thread nD τ)))
    (v126_0 v126_1 v160 v178 : BitVec 32) (k0_hw10 : k0_chk10 v126_0 v126_1 v160 v178) (c0 : BitVec 32) (hc0 : c0 = 0#32)
    (n : ℕ) (hn : Scalar.addi (Scalar.addi v126_0 v160) v178 = BitVec.ofNat 32 n) (hn86 : n ≤ 86)
    (hA : AL (alF A) al n) (hHC : HCok c hcB al n hcf)
    (k : Fin (k0_t6_loop v126_0 v160 v178).trips) (arg29 : BitVec 32) (h29 : arg29 = BitVec.ofNat 32 (min n (2 * k.val + 16))) (Q : BitVec 32 → sProp 𝕄) :
    iprop(Down c fwd (stOf al (2 * k.val) (min n (2 * k.val + 16))) ∗ pt c alS A ∗ Ow c ∗ pt c hcV hcf ∗ pt c accV (accSeq c fwd hcB al k.val)
        ∗ (Down c fwd (stOf al (2 * (k.val + 1)) (min n (2 * (k.val + 1) + 16))) ∗ pt c alS A ∗ Ow c ∗ pt c hcV hcf ∗ pt c accV (accSeq c fwd hcB al (k.val + 1)) -∗ Q (BitVec.ofNat 32 (min n (2 * (k.val + 1) + 16)))))
      ⊢ WP c (k0_t6_body xH (Memref.isWhole_whole _) wuH (Memref.isWhole_whole _) wusH (Memref.isWhole_whole _) buH (Memref.isWhole_whole _) wdH (Memref.isWhole_whole _) wdsH (Memref.isWhole_whole _) yH (Memref.isWhole_whole _) hH (Memref.isWhole_whole _) cH (Memref.isWhole_whole _) sH (Memref.isWhole_whole _) xV (Memref.isWhole_whole _) wusV (Memref.isWhole_whole _) buV (Memref.isWhole_whole _) wdsV (Memref.isWhole_whole _) cV (Memref.isWhole_whole _) sV (Memref.isWhole_whole _) hV (Memref.isWhole_whole _) yV (Memref.isWhole_whole _) lhsV (Memref.isWhole_whole _) hcV (Memref.isWhole_whole _) accV (Memref.isWhole_whole _) wuV (Memref.isWhole_whole _) wdV (Memref.isWhole_whole _) alS (Memref.isWhole_whole _) inS ouS upS dnS v126_0 v126_1 v160 v178 k0_hw10 (Scalar.addi (Scalar.addi v126_0 v160) v178) c0 k arg29) Q := by
  subst hc0
  have hk : k.val < n / 2 := lt_of_lt_of_eq k.isLt (t6_trips v126_0 v160 v178 hn hn86)
  have hk2 : k.val < 2 ^ 20 := by omega
  have hub := t7_ub v126_0 v160 v178 hn hn86 k arg29 h29 (by omega)
  have hchk15 : k0_chk15 v126_0 v160 v178 k arg29 := k0_chk15_w v126_0 v160 v178 k arg29 (min n (2 * k.val + 16)) (min n (2 * k.val + 18)) (by omega) (by omega) h29 hub
  have hne : (Ring.sl 16 (2 * k.val) : Fin 16) ≠ Ring.sl 16 (2 * k.val + 1) := fun e => by
    have := congrArg Fin.val e; rw [Ring.sl_val, Ring.sl_val] at this; omega
  have hs1 : Function.update (stOf al (2 * k.val) (min n (2 * k.val + 16))) (Ring.sl 16 (2 * k.val)) (DS.full (al (2 * k.val))) (Ring.sl 16 (2 * k.val + 1)) = .busy (al (2 * k.val + 1)) := by
    rw [Function.update_of_ne hne.symm, ← Function.update_of_ne hne.symm DS.idle (stOf al (2 * k.val) (min n (2 * k.val + 16))), stOf_pop al (by omega) (by omega), stOf_lo al (by omega) (by omega)]
  unfold k0_t6_body
  rw [k0_part4_eq_skeleton]
  unfold k0_part4_skel
  iintro ⟨HD, HA, HO, HH, Hacc, HQ⟩
  iapply (WP_assume c hchk15 (k0_chk15.dec v126_0 v160 v178 k arg29))
  iapply (dn_wait c fwd (stOf al (2 * k.val) (min n (2 * k.val + 16))) (Ring.sl 16 (2 * k.val)) (al (2 * k.val)) A ⟨2 * k.val, by omega⟩ (stOf_lo al (by omega) (by omega)) (hA _ (by omega) (by omega))
    (k0_off38 v126_0 v160 v178 k) (k0_off38_inb v126_0 v126_1 v160 v178 k0_hw10 k) k0_chk13 k0_chk13.dec (k0_off39 v126_0 v160 v178 k) (k0_off39_inb v126_0 v126_1 v160 v178 k0_hw10 k) (k0_off40 v126_0 v160 v178 k) (k0_off40_inb v126_0 v126_1 v160 v178 k0_hw10 k)
    k0_off41 (fun v hv => k0_off41_inb v hv) (((Memref.isWhole_whole _).wordExact_slice rfl _ (k0_off40_wordsi8 v126_0 v126_1 v160 v178 k0_hw10 k)).reshape _ _) (fun v hv => (Memref.isWhole_whole _).wordExact_slice rfl _ (k0_off41_wordsi8 v hv)) (k0_off38_w v126_0 v160 v178 k hk2) (by rw [k0_off39_w v126_0 v160 v178 k hk2, Ring.sl_val]) (by rw [k0_off40_w v126_0 v160 v178 k hk2, Ring.sl_val])
    (k0_chk13_w (al _).isLt))
  isplitl [HD]; · iexact HD
  isplitl [HA]; · iexact HA
  isplitl [HO]; · iexact HO
  iintro ⟨HD, HA, HO⟩
  iapply (dn_wait c fwd (Function.update (stOf al (2 * k.val) (min n (2 * k.val + 16))) (Ring.sl 16 (2 * k.val)) (DS.full (al (2 * k.val)))) (Ring.sl 16 (2 * k.val + 1)) (al (2 * k.val + 1)) A ⟨2 * k.val + 1, by omega⟩ hs1 (hA _ (by omega) (by omega))
    (k0_off42 v126_0 v160 v178 k) (k0_off42_inb v126_0 v126_1 v160 v178 k0_hw10 k) k0_chk14 k0_chk14.dec (k0_off43 v126_0 v160 v178 k) (k0_off43_inb v126_0 v126_1 v160 v178 k0_hw10 k) (k0_off44 v126_0 v160 v178 k) (k0_off44_inb v126_0 v126_1 v160 v178 k0_hw10 k)
    k0_off45 (fun v hv => k0_off45_inb v hv) (((Memref.isWhole_whole _).wordExact_slice rfl _ (k0_off44_wordsi8 v126_0 v126_1 v160 v178 k0_hw10 k)).reshape _ _) (fun v hv => (Memref.isWhole_whole _).wordExact_slice rfl _ (k0_off45_wordsi8 v hv)) (k0_off42_w v126_0 v160 v178 k hk2) (by rw [k0_off43_w v126_0 v160 v178 k hk2, Ring.sl_val]) (by rw [k0_off44_w v126_0 v160 v178 k hk2, Ring.sl_val])
    (k0_chk14_w (al _).isLt))
  isplitl [HD]; · iexact HD
  isplitl [HA]; · iexact HA
  isplitl [HO]; · iexact HO
  iintro ⟨HD, HA, HO⟩
  iapply (WP_ld c hcV _ _ hcf _ (hc_read c hcB al n hcf hHC (2 * k.val) (by omega) (by omega) _ (k0_off46_w v126_0 v160 v178 k hk2) (k0_off46_inb v126_0 v126_1 v160 v178 k0_hw10 k)))
  isplitl [HH]; · iexact HH
  iintro HH
  iapply (WP_ld c hcV _ _ hcf _ (hc_read c hcB al n hcf hHC (2 * k.val + 1) (by omega) (by omega) _ (k0_off47_w v126_0 v160 v178 k hk2) (k0_off47_inb v126_0 v126_1 v160 v178 k0_hw10 k)))
  isplitl [HH]; · iexact HH
  iintro HH
  iapply (dn_load2 c fwd (Function.update (Function.update (stOf al (2 * k.val) (min n (2 * k.val + 16))) (Ring.sl 16 (2 * k.val)) (.full (al (2 * k.val)))) (Ring.sl 16 (2 * k.val + 1)) (.full (al (2 * k.val + 1))))
    ⟨k.val % 8, by omega⟩ (Ring.sl 16 (2 * k.val)) (Ring.sl 16 (2 * k.val + 1)) (al (2 * k.val)) (al (2 * k.val + 1)) (by rw [Ring.sl_val]; show _ = 2 * (k.val % 8); omega) (by rw [Ring.sl_val]; show _ = 2 * (k.val % 8) + 1; omega)
    (by rw [Function.update_of_ne hne, Function.update_self]) (by rw [Function.update_self]) (k0_off48 v126_0 v160 v178 k) (k0_off48_inb v126_0 v126_1 v160 v178 k0_hw10 k) (k0_off48_w v126_0 v160 v178 k hk2))
  isplitl [HD]; · iexact HD
  rw [st_pair al (by omega) (by omega)]
  iintro HD
  iapply (WP_ld c accV _ _ (accSeq c fwd hcB al k.val) (accSeq c fwd hcB al k.val) (Memref.readAt_unit_zero _ _ z2 _ _))
  isplitl [Hacc]; · iexact Hacc
  iintro Hacc
  iapply (WP_ld c accV _ _ (accSeq c fwd hcB al k.val) (accSeq c fwd hcB al k.val) (Memref.readAt_unit_zero _ _ z2 _ _))
  isplitl [Hacc]; · iexact Hacc
  iintro Hacc
  iapply (WP_st c accV _ _ _ _ (accSeq c fwd hcB al k.val) (accSeq c fwd hcB al (k.val + 1)) (Memref.write_access_unit_zero_univ _ _ z2 _ _ _))
  isplitl [Hacc]; · iexact Hacc
  iintro Hacc
  iapply (k0_t7_run c fwd al A (2 * k.val + 2) (min n (2 * k.val + 16)) (min n (2 * k.val + 18)) (by omega) (by omega) (by omega) (by omega) (fun i h hi => hA i h (by omega)) v126_0 v160 v178 k arg29 hchk15 h29 hub)
  isplitl [HD]; · iexact HD
  isplitl [HA]; · iexact HA
  iintro %r ⟨HD, HA⟩
  iapply (WP_for0 c (k0_t8_loop v126_0 v160 v178 k arg29) (Scf.rem_trips _ _))
  iapply WP_ret
  rw [show Scalar.maxsi arg29 (Scalar.minsi (Scalar.addi (Scalar.addi v126_0 v160) v178) (Scalar.addi (Scalar.addi (Scalar.muli 2#32 (Scf.iv 0#32 1#32 k)) 2#32) 16#32)) = BitVec.ofNat 32 (min n (2 * k.val + 18)) from t7_next v126_0 v160 v178 hn hn86 k arg29 h29 (by omega),
    show 2 * (k.val + 1) + 16 = 2 * k.val + 18 by omega, show 2 * (k.val + 1) = 2 * k.val + 2 by omega]
  iapply HQ
  isplitl [HD]; · iexact HD
  isplitl [HA]; · iexact HA
  isplitl [HO]; · iexact HO
  isplitl [HH]; · iexact HH
  iexact Hacc

theorem k0_t6_run (c : Dev nD) (fwd : Buf (Elt F) (wdH.view.loc (c : Thread nD τ))) (hcB : Fin 86 → Vec F S1x16x128 .bf16) (al : ℕ → Fin 86)
    (A : Buf (Elt F) (alS.view.loc (c : Thread nD τ))) (hcf : Buf (Elt F) (hcV.view.loc (c : Thread nD τ)))
    (v126_0 v126_1 v160 v178 : BitVec 32) (k0_hw10 : k0_chk10 v126_0 v126_1 v160 v178) (v186 : BitVec 32) (h186 : v186 = Scalar.addi (Scalar.addi v126_0 v160) v178) (c0 : BitVec 32) (hc0 : c0 = 0#32)
    (n : ℕ) (hn : Scalar.addi (Scalar.addi v126_0 v160) v178 = BitVec.ofNat 32 n) (hn86 : n ≤ 86)
    (hA : AL (alF A) al n) (hHC : HCok c hcB al n hcf) (hok : (k0_t6_loop v126_0 v160 v178).OK) (init : BitVec 32) (hinit : init = BitVec.ofNat 32 (min n 16))
    {β : Type} (kk : BitVec 32 → Prog (TpuEff nD τ sig (Elt F) Λ₀ .tc) β) (Q : β → sProp 𝕄) :
    iprop(Down c fwd (stOf al 0 (min n 16)) ∗ pt c alS A ∗ Ow c ∗ pt c hcV hcf ∗ pt c accV (k0_pay31 : Vec F S8x4096 .f32)
        ∗ (∀ r, Down c fwd (stOf al (2 * (n / 2)) n) ∗ pt c alS A ∗ Ow c ∗ pt c hcV hcf ∗ pt c accV (accSeq c fwd hcB al (n / 2)) -∗ WP c (kk r) Q))
      ⊢ WP c (Scf.Loop.for (k0_t6_loop v126_0 v160 v178) hok init (k0_t6_body xH (Memref.isWhole_whole _) wuH (Memref.isWhole_whole _) wusH (Memref.isWhole_whole _) buH (Memref.isWhole_whole _) wdH (Memref.isWhole_whole _) wdsH (Memref.isWhole_whole _) yH (Memref.isWhole_whole _) hH (Memref.isWhole_whole _) cH (Memref.isWhole_whole _) sH (Memref.isWhole_whole _) xV (Memref.isWhole_whole _) wusV (Memref.isWhole_whole _) buV (Memref.isWhole_whole _) wdsV (Memref.isWhole_whole _) cV (Memref.isWhole_whole _) sV (Memref.isWhole_whole _) hV (Memref.isWhole_whole _) yV (Memref.isWhole_whole _) lhsV (Memref.isWhole_whole _) hcV (Memref.isWhole_whole _) accV (Memref.isWhole_whole _) wuV (Memref.isWhole_whole _) wdV (Memref.isWhole_whole _) alS (Memref.isWhole_whole _) inS ouS upS dnS v126_0 v126_1 v160 v178 k0_hw10 v186 c0) >>= kk) Q := by
  subst h186
  have htr : (k0_t6_loop v126_0 v160 v178).trips = n / 2 := t6_trips v126_0 v160 v178 hn hn86
  iintro ⟨HD, HA, HO, HH, Hacc, HQ⟩
  iapply (Scf.wp_for_bind frame (wpE (defs₀ (F := F)) Variants.none (c : Thread nD τ) none) Set.univ (k0_t6_loop v126_0 v160 v178).lb (k0_t6_loop v126_0 v160 v178).ub (k0_t6_loop v126_0 v160 v178).st hok init _
    (fun k a => iprop(⌜a = BitVec.ofNat 32 (min n (2 * k + 16))⌝ ∗ Down c fwd (stOf al (2 * k) (min n (2 * k + 16))) ∗ pt c alS A ∗ Ow c ∗ pt c hcV hcf ∗ pt c accV (accSeq c fwd hcB al k))) (fun k acc => by
      iintro ⟨%ha, HD, HA, HO, HH, Hacc⟩
      iapply (k0_t6_step c fwd hcB al A hcf v126_0 v126_1 v160 v178 k0_hw10 c0 hc0 n hn hn86 hA hHC k acc ha)
      isplitl [HD]; · iexact HD
      isplitl [HA]; · iexact HA
      isplitl [HO]; · iexact HO
      isplitl [HH]; · iexact HH
      isplitl [Hacc]; · iexact Hacc
      iintro ⟨HD, HA, HO, HH, Hacc⟩
      isplitr; · ipureintro; rfl
      isplitl [HD]; · iexact HD
      isplitl [HA]; · iexact HA
      isplitl [HO]; · iexact HO
      isplitl [HH]; · iexact HH
      iexact Hacc)) $$ [HD HA HO HH Hacc]
  · isplitr; · ipureintro; exact hinit
    isplitl [HD]; · iexact HD
    isplitl [HA]; · iexact HA
    isplitl [HO]; · iexact HO
    isplitl [HH]; · iexact HH
    iexact Hacc
  rw [show Scf.trips (k0_t6_loop v126_0 v160 v178).lb (k0_t6_loop v126_0 v160 v178).ub (k0_t6_loop v126_0 v160 v178).st = n / 2 from htr, show min n (2 * (n / 2) + 16) = n by omega]
  iintro %acc ⟨-, HD, HA, HO, HH, Hacc⟩
  iapply HQ
  isplitl [HD]; · iexact HD
  isplitl [HA]; · iexact HA
  isplitl [HO]; · iexact HO
  isplitl [HH]; · iexact HH
  iexact Hacc

/-- The down projection's sum over the `n` live blocks. -/
def accFin (c : Dev nD) (fwd : Buf (Elt F) (wdH.view.loc (c : Thread nD τ))) (hcB : Fin 86 → Vec F S1x16x128 .bf16) (al : ℕ → Fin 86) (n : ℕ) : Vec F S8x4096 .f32 :=
  if n % 2 = 1 then k0_pay3 (wdHalf c fwd (al (n - 1))) (accSeq c fwd hcB al (n / 2)) (hcB (al (n - 1))) else accSeq c fwd hcB al (n / 2)

end Cert.Kernel.Hand

end
-- ==== Proof.Kernel.Epi.lean ====
/-
  The end of the kernel's body: the odd live block, the output's scale, and the four output copies.
-/
module

public import proofs.«01_k».proof.Proof.Kernel.Pairs
public import proofs.«01_k».proof.Proof.Kernel.Copies

@[expose] public section

noncomputable section

namespace Cert.Kernel.Hand

open Cert.Kernel Cert.Kernel.Gen Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's beside the transfers' counters. -/
local notation "𝕄" => MT nD τ sig Unit (Elt F) ℕ (Pipeline.UD sig nD τ) ℕ

/-- The very end of the kernel's body, after the odd live block. -/
def k0_fin  (arg0 : Memref sig .tc .hbm S6x4096 .bf16) (harg0 : arg0.IsWhole) (arg1 : Memref sig .tc .hbm S4096x11008 .fp8e4m3) (harg1 : arg1.IsWhole) (arg2 : Memref sig .tc .hbm S1x11008 .f32) (harg2 : arg2.IsWhole) (arg3 : Memref sig .tc .hbm S1x11008 .f32) (harg3 : arg3.IsWhole) (arg4 : Memref sig .tc .hbm S11008x4096 .i8) (harg4 : arg4.IsWhole) (arg5 : Memref sig .tc .hbm S1x4096 .f32) (harg5 : arg5.IsWhole) (arg6 : Memref sig .tc .hbm S6x4096 .bf16) (harg6 : arg6.IsWhole) (arg7 : Memref sig .tc .hbm S6x11008 .bf16) (harg7 : arg7.IsWhole) (arg8 : Memref sig .tc .hbm S6x4096 .fp8e4m3) (harg8 : arg8.IsWhole) (arg9 : Memref sig .tc .hbm S1x6 .f32) (harg9 : arg9.IsWhole) (arg10 : Memref sig .tc .vmem S6x4096 .bf16) (harg10 : arg10.IsWhole) (arg11 : Memref sig .tc .vmem S1x11008 .f32) (harg11 : arg11.IsWhole) (arg12 : Memref sig .tc .vmem S1x11008 .f32) (harg12 : arg12.IsWhole) (arg13 : Memref sig .tc .vmem S1x4096 .f32) (harg13 : arg13.IsWhole) (arg14 : Memref sig .tc .vmem S6x4096 .fp8e4m3) (harg14 : arg14.IsWhole) (arg15 : Memref sig .tc .vmem S1x6 .f32) (harg15 : arg15.IsWhole) (arg16 : Memref sig .tc .vmem S6x11008 .bf16) (harg16 : arg16.IsWhole) (arg17 : Memref sig .tc .vmem S6x4096 .bf16) (harg17 : arg17.IsWhole) (arg18 : Memref sig .tc .vmem S32x4096 .fp8e4m3) (harg18 : arg18.IsWhole) (arg19 : Memref sig .tc .vmem S87x16x128 .bf16) (harg19 : arg19.IsWhole) (arg20 : Memref sig .tc .vmem S8x4096 .f32) (harg20 : arg20.IsWhole) (arg21 : Memref sig .tc .vmem S5x4096x512 .fp8e4m3) (harg21 : arg21.IsWhole) (arg22 : Memref sig .tc .vmem S8x256x4096 .i8) (harg22 : arg22.IsWhole) (arg23 : Memref sig .tc .smem S87 .i32) (harg23 : arg23.IsWhole) (arg24 : DmaSems sig S4) (arg25 : DmaSems sig S4) (arg26 : DmaSems sig S5) (arg27 : DmaSems sig S16)  :
    Prog (TpuEff nD τ sig (Elt F) Λ₀ .tc) PUnit := do
  let v210 : DmaSems sig S1 := arg24.slice (Rect.unit (s := S4) ![3] S1.size inb_S4_S1_3)
  let v211 : DmaSems sig S_ := v210.squeeze S_ squeezes_S1_S_
  Prog.lift (.waitDma2 v211.sem arg5 arg13 harg5.wordExact harg13.wordExact)
  let v212 : Vec F S6x4096 .f32 ← Prog.lift (.load arg20 (Rect.unit (s := S8x4096) ![0, 0] S6x4096.size inb_S8x4096_S6x4096_0_0).toLoadRect (View.loadsAt_vmem h_S6x4096))
  let v213 : Vec F S1x4096 .f32 ← Prog.lift (.load arg13 (Rect.unit (s := S1x4096) ![0, 0] S1x4096.size inb_S1x4096_S1x4096_0_0).toLoadRect (View.loadsAt_vmem h_S1x4096))
  let v217 : Vec F S6x4096 .bf16 ← Prog.lift (.load arg17 (Rect.unit (s := S6x4096) ![0, 0] S6x4096.size inb_S6x4096_S6x4096_0_0).toLoadRect (View.loadsAt_vmem h_S6x4096))

  Prog.lift (.store arg17 (Rect.unit (s := S6x4096) ![0, 0] S6x4096.size inb_S6x4096_S6x4096_0_0) (k0_pay4 v212 v213) Finset.univ (View.stores_vmem h_S6x4096 (harg17.storeExact_slice rfl _ packedbf16_S6x4096_S6x4096_0_0) (fun _ => rfl)) (.inl rfl))
  let v220 : DmaSems sig S1 := arg25.slice (Rect.unit (s := S4) ![3] S1.size inb_S4_S1_3)
  let v221 : DmaSems sig S_ := v220.squeeze S_ squeezes_S1_S_
  Prog.lift (.enqueueDma arg17 (.here arg6) (.dma v221.sem) harg17.wordExact harg6.wordExact ⟨Or.inl rfl, trivial⟩)
  let v222 : DmaSems sig S1 := arg25.slice (Rect.unit (s := S4) ![0] S1.size inb_S4_S1_0)
  let v223 : DmaSems sig S_ := v222.squeeze S_ squeezes_S1_S_
  Prog.lift (.waitDma2 v223.sem arg14 arg8 harg14.wordExact harg8.wordExact)
  let v224 : DmaSems sig S1 := arg25.slice (Rect.unit (s := S4) ![1] S1.size inb_S4_S1_1)
  let v225 : DmaSems sig S_ := v224.squeeze S_ squeezes_S1_S_
  Prog.lift (.waitDma2 v225.sem arg15 arg9 harg15.wordExact harg9.wordExact)
  let v226 : DmaSems sig S1 := arg25.slice (Rect.unit (s := S4) ![2] S1.size inb_S4_S1_2)
  let v227 : DmaSems sig S_ := v226.squeeze S_ squeezes_S1_S_
  Prog.lift (.waitDma2 v227.sem arg16 arg7 harg16.wordExact harg7.wordExact)
  let v228 : DmaSems sig S1 := arg25.slice (Rect.unit (s := S4) ![3] S1.size inb_S4_S1_3)
  let v229 : DmaSems sig S_ := v228.squeeze S_ squeezes_S1_S_
  Prog.lift (.waitDma2 v229.sem arg17 arg6 harg17.wordExact harg6.wordExact)
  pure ⟨⟩

/-- The end of the kernel's body, after the sum over pairs of live blocks. -/
def k0_epi  (arg0 : Memref sig .tc .hbm S6x4096 .bf16) (harg0 : arg0.IsWhole) (arg1 : Memref sig .tc .hbm S4096x11008 .fp8e4m3) (harg1 : arg1.IsWhole) (arg2 : Memref sig .tc .hbm S1x11008 .f32) (harg2 : arg2.IsWhole) (arg3 : Memref sig .tc .hbm S1x11008 .f32) (harg3 : arg3.IsWhole) (arg4 : Memref sig .tc .hbm S11008x4096 .i8) (harg4 : arg4.IsWhole) (arg5 : Memref sig .tc .hbm S1x4096 .f32) (harg5 : arg5.IsWhole) (arg6 : Memref sig .tc .hbm S6x4096 .bf16) (harg6 : arg6.IsWhole) (arg7 : Memref sig .tc .hbm S6x11008 .bf16) (harg7 : arg7.IsWhole) (arg8 : Memref sig .tc .hbm S6x4096 .fp8e4m3) (harg8 : arg8.IsWhole) (arg9 : Memref sig .tc .hbm S1x6 .f32) (harg9 : arg9.IsWhole) (arg10 : Memref sig .tc .vmem S6x4096 .bf16) (harg10 : arg10.IsWhole) (arg11 : Memref sig .tc .vmem S1x11008 .f32) (harg11 : arg11.IsWhole) (arg12 : Memref sig .tc .vmem S1x11008 .f32) (harg12 : arg12.IsWhole) (arg13 : Memref sig .tc .vmem S1x4096 .f32) (harg13 : arg13.IsWhole) (arg14 : Memref sig .tc .vmem S6x4096 .fp8e4m3) (harg14 : arg14.IsWhole) (arg15 : Memref sig .tc .vmem S1x6 .f32) (harg15 : arg15.IsWhole) (arg16 : Memref sig .tc .vmem S6x11008 .bf16) (harg16 : arg16.IsWhole) (arg17 : Memref sig .tc .vmem S6x4096 .bf16) (harg17 : arg17.IsWhole) (arg18 : Memref sig .tc .vmem S32x4096 .fp8e4m3) (harg18 : arg18.IsWhole) (arg19 : Memref sig .tc .vmem S87x16x128 .bf16) (harg19 : arg19.IsWhole) (arg20 : Memref sig .tc .vmem S8x4096 .f32) (harg20 : arg20.IsWhole) (arg21 : Memref sig .tc .vmem S5x4096x512 .fp8e4m3) (harg21 : arg21.IsWhole) (arg22 : Memref sig .tc .vmem S8x256x4096 .i8) (harg22 : arg22.IsWhole) (arg23 : Memref sig .tc .smem S87 .i32) (harg23 : arg23.IsWhole) (arg24 : DmaSems sig S4) (arg25 : DmaSems sig S4) (arg26 : DmaSems sig S5) (arg27 : DmaSems sig S16)  (v126_0 v126_1 v160 v178 : BitVec 32) (k0_hw10 : k0_chk10 v126_0 v126_1 v160 v178) :
    Prog (TpuEff nD τ sig (Elt F) Λ₀ .tc) PUnit := do
  if k0_h3 : k0_cond3 v126_0 v160 v178 = 1#1 then do

    let v232 : Elt F .i32 ← smemLoad arg23 (Rect.unit (s := S87) (k0_off76 v126_0 v160 v178) S1.size (k0_off76_inb v126_0 v126_1 v160 v178 k0_hw10 k0_h3)) numel1_S1 rfl
    have k0_hw23 : k0_chk23 v126_0 v160 v178 v232 := (← Prog.lift (TpuEff.assume (k0_chk23 v126_0 v160 v178 v232) (k0_chk23.dec v126_0 v160 v178 v232))).down

    let v240 : DmaSems sig S1 := arg27.slice (Rect.unit (s := S16) (k0_off77 v126_0 v160 v178) S1.size (k0_off77_inb v126_0 v126_1 v160 v178 k0_hw10 k0_h3))
    let v241 : DmaSems sig S_ := v240.squeeze S_ squeezes_S1_S_
    let v242 : Memref sig .tc .vmem S1x128x4096 .i8 := arg22.slice (Rect.unit (s := S8x256x4096) (k0_off78 v126_0 v160 v178) S1x128x4096.size (k0_off78_inb v126_0 v126_1 v160 v178 k0_hw10 k0_h3)) (fun _ => rfl)
    let v243 : Memref sig .tc .vmem S128x4096 .i8 := v242.squeeze S128x4096 squeezes_S1x128x4096_S128x4096
    let v244 : Memref sig .tc .hbm S128x4096 .i8 := arg4.slice (Rect.unit (s := S11008x4096) (k0_off79 v232) S128x4096.size (k0_off79_inb v126_0 v160 v178 v232 k0_hw23 k0_h3)) (fun _ => rfl)
    Prog.lift (.waitDma2 v241.sem v244 v243 (harg4.wordExact_slice rfl _ (k0_off79_wordsi8 v126_0 v160 v178 v232 k0_hw23 k0_h3)) ((harg22.wordExact_slice rfl _ (k0_off78_wordsi8 v126_0 v126_1 v160 v178 k0_hw10 k0_h3)).reshape _ _))

    let v247 : Vec F S1x128x4096 .i8 ← Prog.lift (.load arg22 (Rect.unit (s := S8x256x4096) (k0_off80 v126_0 v160 v178) S1x128x4096.size (k0_off80_inb v126_0 v126_1 v160 v178 k0_hw10 k0_h3)).toLoadRect (View.loadsAt_vmem h_S1x128x4096))
    let v250 : Vec F S8x4096 .f32 ← Prog.lift (.load arg20 (Rect.unit (s := S8x4096) ![0, 0] S8x4096.size inb_S8x4096_S8x4096_0_0).toLoadRect (View.loadsAt_vmem h_S8x4096))

    let v252 : Vec F S1x16x128 .bf16 ← Prog.lift (.load arg19 (Rect.unit (s := S87x16x128) (k0_off81 v126_0 v160 v178) S1x16x128.size (k0_off81_inb v126_0 v126_1 v160 v178 k0_hw10 k0_h3)).toLoadRect (View.loadsAt_vmem h_S1x16x128))
    let v257 : Vec F S8x4096 .f32 ← Prog.lift (.load arg20 (Rect.unit (s := S8x4096) ![0, 0] S8x4096.size inb_S8x4096_S8x4096_0_0).toLoadRect (View.loadsAt_vmem h_S8x4096))

    Prog.lift (.store arg20 (Rect.unit (s := S8x4096) ![0, 0] S8x4096.size inb_S8x4096_S8x4096_0_0) (k0_pay3 v247 v250 v252) Finset.univ (View.stores_vmem_bits_univ h_S8x4096 rfl) (.inl rfl))
    pure ⟨⟩
  else do
    pure ⟨⟩
  let v210 : DmaSems sig S1 := arg24.slice (Rect.unit (s := S4) ![3] S1.size inb_S4_S1_3)
  let v211 : DmaSems sig S_ := v210.squeeze S_ squeezes_S1_S_
  Prog.lift (.waitDma2 v211.sem arg5 arg13 harg5.wordExact harg13.wordExact)
  let v212 : Vec F S6x4096 .f32 ← Prog.lift (.load arg20 (Rect.unit (s := S8x4096) ![0, 0] S6x4096.size inb_S8x4096_S6x4096_0_0).toLoadRect (View.loadsAt_vmem h_S6x4096))
  let v213 : Vec F S1x4096 .f32 ← Prog.lift (.load arg13 (Rect.unit (s := S1x4096) ![0, 0] S1x4096.size inb_S1x4096_S1x4096_0_0).toLoadRect (View.loadsAt_vmem h_S1x4096))
  let v217 : Vec F S6x4096 .bf16 ← Prog.lift (.load arg17 (Rect.unit (s := S6x4096) ![0, 0] S6x4096.size inb_S6x4096_S6x4096_0_0).toLoadRect (View.loadsAt_vmem h_S6x4096))

  Prog.lift (.store arg17 (Rect.unit (s := S6x4096) ![0, 0] S6x4096.size inb_S6x4096_S6x4096_0_0) (k0_pay4 v212 v213) Finset.univ (View.stores_vmem h_S6x4096 (harg17.storeExact_slice rfl _ packedbf16_S6x4096_S6x4096_0_0) (fun _ => rfl)) (.inl rfl))
  let v220 : DmaSems sig S1 := arg25.slice (Rect.unit (s := S4) ![3] S1.size inb_S4_S1_3)
  let v221 : DmaSems sig S_ := v220.squeeze S_ squeezes_S1_S_
  Prog.lift (.enqueueDma arg17 (.here arg6) (.dma v221.sem) harg17.wordExact harg6.wordExact ⟨Or.inl rfl, trivial⟩)
  let v222 : DmaSems sig S1 := arg25.slice (Rect.unit (s := S4) ![0] S1.size inb_S4_S1_0)
  let v223 : DmaSems sig S_ := v222.squeeze S_ squeezes_S1_S_
  Prog.lift (.waitDma2 v223.sem arg14 arg8 harg14.wordExact harg8.wordExact)
  let v224 : DmaSems sig S1 := arg25.slice (Rect.unit (s := S4) ![1] S1.size inb_S4_S1_1)
  let v225 : DmaSems sig S_ := v224.squeeze S_ squeezes_S1_S_
  Prog.lift (.waitDma2 v225.sem arg15 arg9 harg15.wordExact harg9.wordExact)
  let v226 : DmaSems sig S1 := arg25.slice (Rect.unit (s := S4) ![2] S1.size inb_S4_S1_2)
  let v227 : DmaSems sig S_ := v226.squeeze S_ squeezes_S1_S_
  Prog.lift (.waitDma2 v227.sem arg16 arg7 harg16.wordExact harg7.wordExact)
  let v228 : DmaSems sig S1 := arg25.slice (Rect.unit (s := S4) ![3] S1.size inb_S4_S1_3)
  let v229 : DmaSems sig S_ := v228.squeeze S_ squeezes_S1_S_
  Prog.lift (.waitDma2 v229.sem arg17 arg6 harg17.wordExact harg6.wordExact)
  pure ⟨⟩

abbrev isem (i : ℕ) (h : ∀ a, (![i] : Fin 1 → ℕ) a + S1.size a ≤ S4.size a) : DmaSem sig :=
  ((inS.slice (Rect.unit (s := S4) ![i] S1.size h)).squeeze S_ squeezes_S1_S_).sem
abbrev osem (i : ℕ) (h : ∀ a, (![i] : Fin 1 → ℕ) a + S1.size a ≤ S4.size a) : DmaSem sig :=
  ((ouS.slice (Rect.unit (s := S4) ![i] S1.size h)).squeeze S_ squeezes_S1_S_).sem

/-- The first six of eight rows. -/
def six (a : Vec F S8x4096 .f32) : Vec F S6x4096 .f32 := fun x => a (ix2 ⟨(x 0).val, by have : (x 0).val < 6 := (x 0).isLt; omega⟩ (x 1) : S8x4096.Idx)

theorem six_read (c : Dev nD) (a : Vec F S8x4096 .f32) (h : ∀ b, (![0, 0] : Fin 2 → ℕ) b + S6x4096.size b ≤ S8x4096.size b) :
    accV.view.readAt (Elt F) (Rect.unit (s := S8x4096) ![0, 0] S6x4096.size h).toLoadRect a = six a := by
  funext x
  show a _ = a _
  congr 1
  funext b
  apply Fin.ext
  fin_cases b
  · show 0 + 1 * (x 0).val = (x 0).val; omega
  · show 0 + 1 * (x 1).val = (x 1).val; omega

/-- What the end of the body needs. -/
def EpiPre (c : Dev nD) (fwd : Buf (Elt F) (wdH.view.loc (c : Thread nD τ))) (hcB : Fin 86 → Vec F S1x16x128 .bf16) (al : ℕ → Fin 86) (n : ℕ)
    (A : Buf (Elt F) (alS.view.loc (c : Thread nD τ))) (hcf : Buf (Elt F) (hcV.view.loc (c : Thread nD τ)))
    (fwds : Buf (Elt F) (wdsH.view.loc (c : Thread nD τ))) (fc : Buf (Elt F) (cV.view.loc (c : Thread nD τ))) (fs : Buf (Elt F) (sV.view.loc (c : Thread nD τ)))
    (fh : Buf (Elt F) (hV.view.loc (c : Thread nD τ))) : sProp 𝕄 :=
  iprop(Down c fwd (stOf al (2 * (n / 2)) n) ∗ pt c alS A ∗ Ow c ∗ pt c hcV hcf ∗ pt c accV (accSeq c fwd hcB al (n / 2))
    ∗ Fl c wdsH wdsV (isem 3 inb_S4_S1_3) fwds fwds
    ∗ (∃ f, pt (F := F) c yV f) ∗ (∃ f, pt (F := F) c yH f) ∗ semVal ((c : Thread nD τ), SemLoc.dma (osem 3 inb_S4_S1_3)) 0
    ∗ Fl c cV cH (osem 0 inb_S4_S1_0) fc fc ∗ Fl c sV sH (osem 1 inb_S4_S1_1) fs fs ∗ Fl c hV hH (osem 2 inb_S4_S1_2) fh fh)

/-- What the end of the body leaves. -/
def EpiPost (c : Dev nD) (fwd : Buf (Elt F) (wdH.view.loc (c : Thread nD τ))) (hcB : Fin 86 → Vec F S1x16x128 .bf16) (al : ℕ → Fin 86) (n : ℕ)
    (A : Buf (Elt F) (alS.view.loc (c : Thread nD τ))) (hcf : Buf (Elt F) (hcV.view.loc (c : Thread nD τ)))
    (fwds : Buf (Elt F) (wdsH.view.loc (c : Thread nD τ))) (fc : Buf (Elt F) (cV.view.loc (c : Thread nD τ))) (fs : Buf (Elt F) (sV.view.loc (c : Thread nD τ)))
    (fh : Buf (Elt F) (hV.view.loc (c : Thread nD τ))) : sProp 𝕄 :=
  iprop(Down c fwd (fun _ => .idle) ∗ pt c alS A ∗ Ow c ∗ pt c hcV hcf ∗ pt c accV (accFin c fwd hcB al n)
    ∗ (pt c wdsV fwds ∗ pt c wdsH fwds ∗ semVal ((c : Thread nD τ), SemLoc.dma (isem 3 inb_S4_S1_3)) 0)
    ∗ (pt c yH (k0_pay4 (six (accFin c fwd hcB al n)) fwds) ∗ pt c yV (k0_pay4 (six (accFin c fwd hcB al n)) fwds) ∗ semVal ((c : Thread nD τ), SemLoc.dma (osem 3 inb_S4_S1_3)) 0)
    ∗ (pt c cH fc ∗ pt c cV fc ∗ semVal ((c : Thread nD τ), SemLoc.dma (osem 0 inb_S4_S1_0)) 0)
    ∗ (pt c sH fs ∗ pt c sV fs ∗ semVal ((c : Thread nD τ), SemLoc.dma (osem 1 inb_S4_S1_1)) 0)
    ∗ (pt c hH fh ∗ pt c hV fh ∗ semVal ((c : Thread nD τ), SemLoc.dma (osem 2 inb_S4_S1_2)) 0))

set_option maxHeartbeats 4000000 in
theorem k0_fin_run (c : Dev nD) (a : Vec F S8x4096 .f32)
    (fwds : Buf (Elt F) (wdsH.view.loc (c : Thread nD τ))) (fc : Buf (Elt F) (cV.view.loc (c : Thread nD τ))) (fs : Buf (Elt F) (sV.view.loc (c : Thread nD τ)))
    (fh : Buf (Elt F) (hV.view.loc (c : Thread nD τ))) (Q : PUnit → sProp 𝕄) :
    iprop(Ow c ∗ pt c accV a ∗ Fl c wdsH wdsV (isem 3 inb_S4_S1_3) fwds fwds
      ∗ (∃ f, pt (F := F) c yV f) ∗ (∃ f, pt (F := F) c yH f) ∗ semVal ((c : Thread nD τ), SemLoc.dma (osem 3 inb_S4_S1_3)) 0
      ∗ Fl c cV cH (osem 0 inb_S4_S1_0) fc fc ∗ Fl c sV sH (osem 1 inb_S4_S1_1) fs fs ∗ Fl c hV hH (osem 2 inb_S4_S1_2) fh fh
      ∗ (Ow c ∗ pt c accV a
        ∗ (pt c wdsV fwds ∗ pt c wdsH fwds ∗ semVal ((c : Thread nD τ), SemLoc.dma (isem 3 inb_S4_S1_3)) 0)
        ∗ (pt c yH (k0_pay4 (six a) fwds) ∗ pt c yV (k0_pay4 (six a) fwds) ∗ semVal ((c : Thread nD τ), SemLoc.dma (osem 3 inb_S4_S1_3)) 0)
        ∗ (pt c cH fc ∗ pt c cV fc ∗ semVal ((c : Thread nD τ), SemLoc.dma (osem 0 inb_S4_S1_0)) 0)
        ∗ (pt c sH fs ∗ pt c sV fs ∗ semVal ((c : Thread nD τ), SemLoc.dma (osem 1 inb_S4_S1_1)) 0)
        ∗ (pt c hH fh ∗ pt c hV fh ∗ semVal ((c : Thread nD τ), SemLoc.dma (osem 2 inb_S4_S1_2)) 0) -∗ Q ⟨⟩))
      ⊢ WP c (k0_fin xH (Memref.isWhole_whole _) wuH (Memref.isWhole_whole _) wusH (Memref.isWhole_whole _) buH (Memref.isWhole_whole _) wdH (Memref.isWhole_whole _) wdsH (Memref.isWhole_whole _) yH (Memref.isWhole_whole _) hH (Memref.isWhole_whole _) cH (Memref.isWhole_whole _) sH (Memref.isWhole_whole _) xV (Memref.isWhole_whole _) wusV (Memref.isWhole_whole _) buV (Memref.isWhole_whole _) wdsV (Memref.isWhole_whole _) cV (Memref.isWhole_whole _) sV (Memref.isWhole_whole _) hV (Memref.isWhole_whole _) yV (Memref.isWhole_whole _) lhsV (Memref.isWhole_whole _) hcV (Memref.isWhole_whole _) accV (Memref.isWhole_whole _) wuV (Memref.isWhole_whole _) wdV (Memref.isWhole_whole _) alS (Memref.isWhole_whole _) inS ouS upS dnS) Q := by
  unfold k0_fin
  iintro ⟨HO, Hacc, Hwds, ⟨%yv, HyV⟩, ⟨%yh, HyH⟩, Hs3, Hc, Hs, Hh, HQ⟩
  iapply (WP_wt c wdsH wdsV (isem 3 inb_S4_S1_3) fwds fwds rfl)
  isplitl [Hwds]; · iexact Hwds
  isplitl [HO]; · iexact HO
  iintro ⟨HwV, HwH, Hw3, HO⟩
  iapply (WP_ld c accV _ _ a _ (six_read c a inb_S8x4096_S6x4096_0_0))
  isplitl [Hacc]; · iexact Hacc
  iintro Hacc
  iapply (WP_ld c wdsV _ _ fwds fwds (Memref.readAt_unit_zero _ _ z2 _ _))
  isplitl [HwV]; · iexact HwV
  iintro HwV
  iapply (WP_ld c yV _ _ yv yv (Memref.readAt_unit_zero _ _ z2 _ _))
  isplitl [HyV]; · iexact HyV
  iintro HyV
  iapply (WP_st c yV _ _ _ _ yv (k0_pay4 (six a) fwds) (Memref.write_access_unit_zero_univ _ _ z2 _ _ _))
  isplitl [HyV]; · iexact HyV
  iintro HyV
  iapply (WP_enq c yV yH (osem 3 inb_S4_S1_3) (k0_pay4 (six a) fwds) yh (k0_pay4 (six a) fwds) (View.set_whole _) (View.set_whole _) (by decide) (View.write_whole_univ _ _ _))
  isplitl [HyV]; · iexact HyV
  isplitl [HyH]; · iexact HyH
  isplitl [Hs3]; · iexact Hs3
  iintro Hy
  iapply (WP_wt c cV cH (osem 0 inb_S4_S1_0) fc fc rfl)
  isplitl [Hc]; · iexact Hc
  isplitl [HO]; · iexact HO
  iintro ⟨HcH, HcV, Hc0, HO⟩
  iapply (WP_wt c sV sH (osem 1 inb_S4_S1_1) fs fs rfl)
  isplitl [Hs]; · iexact Hs
  isplitl [HO]; · iexact HO
  iintro ⟨HsH, HsV, Hs1, HO⟩
  iapply (WP_wt c hV hH (osem 2 inb_S4_S1_2) fh fh rfl)
  isplitl [Hh]; · iexact Hh
  isplitl [HO]; · iexact HO
  iintro ⟨HhH, HhV, Hh2, HO⟩
  iapply (WP_wt c yV yH (osem 3 inb_S4_S1_3) (k0_pay4 (six a) fwds) (k0_pay4 (six a) fwds) rfl)
  isplitl [Hy]; · iexact Hy
  isplitl [HO]; · iexact HO
  iintro ⟨HyH, HyV, Hs3, HO⟩
  iapply WP_ret
  iapply HQ
  isplitl [HO]; · iexact HO
  isplitl [Hacc]; · iexact Hacc
  isplitl [HwV HwH Hw3]
  · isplitl [HwV]; · iexact HwV
    isplitl [HwH]; · iexact HwH
    iexact Hw3
  isplitl [HyH HyV Hs3]
  · isplitl [HyH]; · iexact HyH
    isplitl [HyV]; · iexact HyV
    iexact Hs3
  isplitl [HcH HcV Hc0]
  · isplitl [HcH]; · iexact HcH
    isplitl [HcV]; · iexact HcV
    iexact Hc0
  isplitl [HsH HsV Hs1]
  · isplitl [HsH]; · iexact HsH
    isplitl [HsV]; · iexact HsV
    iexact Hs1
  isplitl [HhH]; · iexact HhH
  isplitl [HhV]; · iexact HhV
  iexact Hh2

set_option maxHeartbeats 4000000 in
theorem k0_epi_run (c : Dev nD) (fwd : Buf (Elt F) (wdH.view.loc (c : Thread nD τ))) (hcB : Fin 86 → Vec F S1x16x128 .bf16) (al : ℕ → Fin 86)
    (A : Buf (Elt F) (alS.view.loc (c : Thread nD τ))) (hcf : Buf (Elt F) (hcV.view.loc (c : Thread nD τ)))
    (v126_0 v126_1 v160 v178 : BitVec 32) (k0_hw10 : k0_chk10 v126_0 v126_1 v160 v178)
    (n : ℕ) (hn : Scalar.addi (Scalar.addi v126_0 v160) v178 = BitVec.ofNat 32 n) (hn86 : n ≤ 86)
    (hA : AL (alF A) al n) (hHC : HCok c hcB al n hcf)
    (fwds : Buf (Elt F) (wdsH.view.loc (c : Thread nD τ))) (fc : Buf (Elt F) (cV.view.loc (c : Thread nD τ))) (fs : Buf (Elt F) (sV.view.loc (c : Thread nD τ)))
    (fh : Buf (Elt F) (hV.view.loc (c : Thread nD τ))) (Q : PUnit → sProp 𝕄) :
    iprop(EpiPre c fwd hcB al n A hcf fwds fc fs fh ∗ (EpiPost c fwd hcB al n A hcf fwds fc fs fh -∗ Q ⟨⟩))
      ⊢ WP c (k0_epi xH (Memref.isWhole_whole _) wuH (Memref.isWhole_whole _) wusH (Memref.isWhole_whole _) buH (Memref.isWhole_whole _) wdH (Memref.isWhole_whole _) wdsH (Memref.isWhole_whole _) yH (Memref.isWhole_whole _) hH (Memref.isWhole_whole _) cH (Memref.isWhole_whole _) sH (Memref.isWhole_whole _) xV (Memref.isWhole_whole _) wusV (Memref.isWhole_whole _) buV (Memref.isWhole_whole _) wdsV (Memref.isWhole_whole _) cV (Memref.isWhole_whole _) sV (Memref.isWhole_whole _) hV (Memref.isWhole_whole _) yV (Memref.isWhole_whole _) lhsV (Memref.isWhole_whole _) hcV (Memref.isWhole_whole _) accV (Memref.isWhole_whole _) wuV (Memref.isWhole_whole _) wdV (Memref.isWhole_whole _) alS (Memref.isWhole_whole _) inS ouS upS dnS v126_0 v126_1 v160 v178 k0_hw10) Q := by
  unfold k0_epi EpiPre EpiPost
  by_cases h3 : k0_cond3 v126_0 v160 v178 = 1#1
  · have hodd : n % 2 = 1 := (cond3_w v126_0 v160 v178 hn hn86).1 h3
    have hst : Function.update (stOf al (2 * (n / 2)) n) (Ring.sl 16 (n - 1)) .idle = fun _ => .idle := by
      have := stOf_pop al (w := n - 1) (s := n) (by omega) (by omega)
      rw [show 2 * (n / 2) = n - 1 by omega, this, show n - 1 + 1 = n by omega, stOf_self]
    have hacc : accFin c fwd hcB al n = k0_pay3 (wdHalf c fwd (al (n - 1))) (accSeq c fwd hcB al (n / 2)) (hcB (al (n - 1))) := by
      unfold accFin; rw [if_pos hodd]
    rw [hacc]
    simp only [dif_pos h3]
    iintro ⟨⟨HD, HA, HO, HH, Hacc, H⟩, HQ⟩
    iapply (dn_wait c fwd (stOf al (2 * (n / 2)) n) (Ring.sl 16 (n - 1)) (al (n - 1)) A ⟨n - 1, by omega⟩ (by rw [show 2 * (n / 2) = n - 1 by omega]; exact stOf_lo al (by omega) (by omega)) (hA _ (by omega) (by omega))
      (k0_off76 v126_0 v160 v178) (k0_off76_inb v126_0 v126_1 v160 v178 k0_hw10 h3) (k0_chk23 v126_0 v160 v178) (k0_chk23.dec v126_0 v160 v178) (k0_off77 v126_0 v160 v178) (k0_off77_inb v126_0 v126_1 v160 v178 k0_hw10 h3) (k0_off78 v126_0 v160 v178) (k0_off78_inb v126_0 v126_1 v160 v178 k0_hw10 h3)
      k0_off79 (fun v hv => k0_off79_inb v126_0 v160 v178 v hv h3) (((Memref.isWhole_whole _).wordExact_slice rfl _ (k0_off78_wordsi8 v126_0 v126_1 v160 v178 k0_hw10 h3)).reshape _ _) (fun v hv => (Memref.isWhole_whole _).wordExact_slice rfl _ (k0_off79_wordsi8 v126_0 v160 v178 v hv h3)) (k0_off76_w v126_0 v160 v178 hn hn86 hodd) (by rw [k0_off77_w v126_0 v160 v178 hn hn86 hodd, Ring.sl_val]) (by rw [k0_off78_w v126_0 v160 v178 hn hn86 hodd, Ring.sl_val])
      (k0_chk23_w v126_0 v160 v178 (al _).isLt))
    isplitl [HD]; · iexact HD
    isplitl [HA]; · iexact HA
    isplitl [HO]; · iexact HO
    iintro ⟨HD, HA, HO⟩
    iapply (dn_load1 c fwd (Function.update (stOf al (2 * (n / 2)) n) (Ring.sl 16 (n - 1)) (.full (al (n - 1)))) (Ring.sl 16 (n - 1)) (al (n - 1)) (Function.update_self _ _ _)
      (k0_off80 v126_0 v160 v178) (k0_off80_inb v126_0 v126_1 v160 v178 k0_hw10 h3) (by rw [k0_off80_w v126_0 v160 v178 hn hn86 hodd, Ring.sl_val, show n / 2 % 8 = (n - 1) % 16 / 2 by omega, show (n - 1) % 16 % 2 * 128 = 0 by omega]))
    isplitl [HD]; · iexact HD
    rw [Function.update_idem, hst]
    iintro HD
    iapply (WP_ld c accV _ _ (accSeq c fwd hcB al (n / 2)) (accSeq c fwd hcB al (n / 2)) (Memref.readAt_unit_zero _ _ z2 _ _))
    isplitl [Hacc]; · iexact Hacc
    iintro Hacc
    iapply (WP_ld c hcV _ _ hcf _ (hc_read c hcB al n hcf hHC (n - 1) (by omega) (by omega) _ (k0_off81_w v126_0 v160 v178 hn hn86 hodd) (k0_off81_inb v126_0 v126_1 v160 v178 k0_hw10 h3)))
    isplitl [HH]; · iexact HH
    iintro HH
    iapply (WP_ld c accV _ _ (accSeq c fwd hcB al (n / 2)) (accSeq c fwd hcB al (n / 2)) (Memref.readAt_unit_zero _ _ z2 _ _))
    isplitl [Hacc]; · iexact Hacc
    iintro Hacc
    iapply (WP_st c accV _ _ _ _ (accSeq c fwd hcB al (n / 2)) (k0_pay3 (wdHalf c fwd (al (n - 1))) (accSeq c fwd hcB al (n / 2)) (hcB (al (n - 1)))) (Memref.write_access_unit_zero_univ _ _ z2 _ _ _))
    isplitl [Hacc]; · iexact Hacc
    iintro Hacc
    iapply (k0_fin_run c (k0_pay3 (wdHalf c fwd (al (n - 1))) (accSeq c fwd hcB al (n / 2)) (hcB (al (n - 1)))) fwds fc fs fh Q)
    isplitl [HO]; · iexact HO
    isplitl [Hacc]; · iexact Hacc
    icases H with ⟨H1, H2, H3, H4, H5, H6, H7⟩
    isplitl [H1]; · iexact H1
    isplitl [H2]; · iexact H2
    isplitl [H3]; · iexact H3
    isplitl [H4]; · iexact H4
    isplitl [H5]; · iexact H5
    isplitl [H6]; · iexact H6
    isplitl [H7]; · iexact H7
    iintro ⟨HO, Hacc, H⟩
    iapply HQ
    isplitl [HD]; · iexact HD
    isplitl [HA]; · iexact HA
    isplitl [HO]; · iexact HO
    isplitl [HH]; · iexact HH
    isplitl [Hacc]; · iexact Hacc
    iexact H
  · have hodd : ¬ n % 2 = 1 := fun h => h3 ((cond3_w v126_0 v160 v178 hn hn86).2 h)
    have hst : stOf al (2 * (n / 2)) n = fun _ => .idle := by
      rw [show 2 * (n / 2) = n by omega, stOf_self]
    have hacc : accFin c fwd hcB al n = accSeq c fwd hcB al (n / 2) := by
      unfold accFin; rw [if_neg hodd]
    rw [hacc, hst]
    simp only [dif_neg h3]
    iintro ⟨⟨HD, HA, HO, HH, Hacc, H⟩, HQ⟩
    iapply (k0_fin_run c (accSeq c fwd hcB al (n / 2)) fwds fc fs fh Q)
    isplitl [HO]; · iexact HO
    isplitl [Hacc]; · iexact Hacc
    icases H with ⟨H1, H2, H3, H4, H5, H6, H7⟩
    isplitl [H1]; · iexact H1
    isplitl [H2]; · iexact H2
    isplitl [H3]; · iexact H3
    isplitl [H4]; · iexact H4
    isplitl [H5]; · iexact H5
    isplitl [H6]; · iexact H6
    isplitl [H7]; · iexact H7
    iintro ⟨HO, Hacc, H⟩
    iapply HQ
    isplitl [HD]; · iexact HD
    isplitl [HA]; · iexact HA
    isplitl [HO]; · iexact HO
    isplitl [HH]; · iexact HH
    isplitl [Hacc]; · iexact Hacc
    iexact H

end Cert.Kernel.Hand

end
-- ==== Proof.Kernel.Tail.lean ====
/-
  The last 256 columns of the activations, and what follows them up to the down-projection.
-/
module

public import proofs.«01_k».proof.Proof.Kernel.T1
public import proofs.«01_k».proof.Proof.Kernel.Epi

@[expose] public section

noncomputable section

namespace Cert.Kernel.Hand

open Cert.Kernel Cert.Kernel.Gen Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's beside the transfers' counters. -/
local notation "𝕄" => MT nD τ sig Unit (Elt F) ℕ (Pipeline.UD sig nD τ) ℕ

/-- One push onto the list, with the activations written and the word not yet. -/
def Half (c : Dev nD) (H : Vec F S6x11008 .f32) (b : ℕ) (hb : b < 86) : sProp 𝕄 :=
  iprop(∃ A hcf hcf', ⌜LIVE c H b A hcf ∧ ∀ (i : Fin 87) (r : Fin 16) (l : Fin 128), hcf' (ix3 i r l : S87x16x128.Idx)
      = if i.val = cnt H b ∧ r.val < 6 then hcB H ⟨b, hb⟩ (ix3 0 r l : S1x16x128.Idx) else hcf (ix3 i r l : S87x16x128.Idx)⌝ ∗ pt c alS A ∗ pt c hcV hcf')

theorem push_hc (c : Dev nD) (H : Vec F S6x11008 .f32) (b : ℕ) (hb : b < 86)
    (o7 h7) (e7 : o7 = ![cnt H b, 0, 0])
    (w : Vec F S1x6x128 .bf16)
    (hw : ∀ (r : Fin 6) (l : Fin 128), w (ix3 0 r l : S1x6x128.Idx) = hB H (ix2 r ⟨128 * b + l.val, by omega⟩ : S6x11008.Idx))
    (hl hx hm)
    {α : Type} (k : Prog (TpuEff nD τ sig (Elt F) Λ₀ .tc) α) (Q : α → sProp 𝕄) :
    iprop(Live c H b ∗ (Half c H b hb -∗ WP c k Q))
      ⊢ WP c (.op (.load hcV (Rect.unit (s := S87x16x128) o7 S1x6x128.size h7).toLoadRect hl) fun _ =>
        .op (.store hcV (Rect.unit (s := S87x16x128) o7 S1x6x128.size h7) w Finset.univ hx hm) fun _ => k) Q := by
  have hn : cnt H b < 87 := by have := cnt_le H b; omega
  unfold Live Half
  iintro ⟨⟨%A, %hcf, %L, HA, HH⟩, HQ⟩
  iapply (WP_ld c hcV _ _ hcf _ rfl)
  isplitl [HH]; · iexact HH
  iintro HH
  iapply (WP_st c hcV _ _ _ _ hcf _ rfl)
  isplitl [HH]; · iexact HH
  iintro HH
  iapply HQ
  iexists A
  iexists hcf
  iexists _
  isplitr
  rotate_left
  · isplitl [HA]; · iexact HA
    iexact HH
  ipureintro
  refine ⟨L, fun i r l => hc_write c ⟨cnt H b, hn⟩ o7 e7 h7 hcf w (hcB H ⟨b, hb⟩) (fun r l => ?_) i r l⟩
  rw [hw]
  exact (hcB_lt H ⟨b, hb⟩ ⟨r.val, by omega⟩ l r.isLt).symm

theorem push_al (c : Dev nD) (H : Vec F S6x11008 .f32) (b : ℕ) (hb : b < 86)
    (o8 h8) (e8 : o8 = ![cnt H b])
    (v : BitVec 32) (hv : v = BitVec.ofNat 32 b) (hx' hm')
    {α : Type} (k : Prog (TpuEff nD τ sig (Elt F) Λ₀ .tc) α) (Q : α → sProp 𝕄) :
    iprop(Half c H b hb ∗ (Live c H (b + 1) -∗ WP c k Q))
      ⊢ WP c (smemLoadElt alS (Rect.unit (s := S87) o8 S1.size h8) (View.loads_smem_one rfl numel1_S1) (Shape.Idx.first (numel1_S1.symm ▸ Nat.one_pos)) fun _ =>
        .op (.store alS (Rect.unit (s := S87) o8 S1.size h8) (fun _ => v) Finset.univ hx' hm') fun _ => k) Q := by
  have hn : cnt H b < 87 := by have := cnt_le H b; omega
  unfold Live Half
  iintro ⟨⟨%A, %hcf, %hcf', %L, HA, HH⟩, HQ⟩
  iapply (wp_smemLoadElt Variants.none (c : Thread nD τ) none Set.univ (m := alS) (r := Rect.unit (s := S87) o8 S1.size h8) (S := Finset.univ) (f := A) (q := fullShare) (Finset.subset_univ _)) $$ HA
  iintro HA
  iapply (wp_store Variants.none (c : Thread nD τ) none Set.univ (m := alS) (r := Rect.unit (s := S87) o8 S1.size h8) (w := fun _ => v) (Mk := Finset.univ) (hx := hx') (hm := hm') (S := Finset.univ) (f := A) (Finset.subset_univ _)) $$ HA
  iintro HA
  iapply HQ
  iexists _
  iexists hcf'
  isplitr
  rotate_left
  · isplitl [HA]; · iexact HA
    iexact HH
  ipureintro
  refine LIVE.push c H b hb A _ hcf hcf' L.1 (fun i => ?_) L.2
  rw [← hv]
  exact al_write c ⟨cnt H b, hn⟩ o8 e8 h8 A v i

/-- The words that say which of the last two blocks are live. -/
abbrev w4 (c : Dev nD) (v94 : FVec F S6x1 .f32) (lhs : Vec F S32x4096 .fp8e4m3) (fwu : Buf (Elt F) (wuH.view.loc (c : Thread nD τ))) (fwus fbu : Vec F S1x11008 .f32) : BitVec 32 :=
  extractAt ![0, 0, 0] (k0_pay36 v94 lhs (wuTail c fwu) (rowTail fwus) (rowTail fbu)) inpos_S1x1x1_p0_0_0
abbrev w5 (T : FVec F S6x256 .f32) : BitVec 32 := extractAt ![0, 0, 0] (k0_pay38 T) inpos_S1x1x1_p0_0_0

section
variable (T : FVec F S6x256 .f32) (H : Vec F S6x11008 .f32) (b : ℕ) (hb : b + 1 < 86)
    (hT : ∀ (r : Fin 6) (l : Fin 256) (h : 128 * b + l.val < 11008), T (ix2 r l : S6x256.Idx) = H (ix2 r ⟨128 * b + l.val, h⟩ : S6x11008.Idx))
include hb hT
theorem w4_eq (c : Dev nD) (v94 : FVec F S6x1 .f32) (lhs : Vec F S32x4096 .fp8e4m3) (fwu : Buf (Elt F) (wuH.view.loc (c : Thread nD τ))) (fwus fbu : Vec F S1x11008 .f32)
    (hTT : tileL c v94 lhs fwu fwus fbu = T) : w4 c v94 lhs fwu fwus fbu = lw H b := by
  subst hTT
  exact (show w4 c v94 lhs fwu fwus fbu = liveW (extractStridedSlice S6x128 ![0, 0] (tileL c v94 lhs fwu fwus fbu) slices_S6x256_o0_0_S6x128) from rfl).trans (congrArg liveW (sl256_0 _ H b (by omega) hT))
theorem w5_eq : w5 T = lw H (b + 1) := (congrArg liveW (sl256_1 T H b (by omega) hT))
end

theorem rowTail_read (c : Dev nD) (f : Vec F S1x11008 .f32) (h : ∀ a, (![0, 10752] : Fin 2 → ℕ) a + S1x256.size a ≤ S1x11008.size a) :
    (fun x => f ((Rect.unit (s := S1x11008) ![0, 10752] S1x256.size h).emb x)) = rowTail f := by
  funext x
  unfold rowTail
  congr 1
  funext a
  apply Fin.ext
  have h0 : (x 0).val < 1 := (x 0).isLt
  fin_cases a
  · show 0 + 1 * (x 0).val = 0; omega
  · show 10752 + 1 * (x 1).val = 10752 + (x 1).val; omega

/-- Two binds in a row. -/
theorem WP_assoc (c : Dev nD) {α β γ : Type} (p : Prog (TpuEff nD τ sig (Elt F) Λ₀ .tc) α) (f : α → Prog (TpuEff nD τ sig (Elt F) Λ₀ .tc) β) (k : β → Prog (TpuEff nD τ sig (Elt F) Λ₀ .tc) γ) (Q : γ → sProp 𝕄) :
    WP c (p >>= fun x => (f x).bind k) Q ⊢ WP c ((p >>= f).bind k) Q := by
  rw [show (p >>= f).bind k = p >>= fun x => (f x).bind k from Prog.bind_assoc p f k]

set_option maxHeartbeats 1000000 in
theorem k0_part10_run (c : Dev nD) (v94 : FVec F S6x1 .f32) (lhs : Vec F S32x4096 .fp8e4m3) (fwu : Buf (Elt F) (wuH.view.loc (c : Thread nD τ))) (fwus fbu : Vec F S1x11008 .f32)
    (H : Vec F S6x11008 .f32) (hHF : HF c v94 lhs fwu fwus fbu = H) (T : FVec F S6x256 .f32) (hTT : tileL c v94 lhs fwu fwus fbu = T)
    (v126_0 : BitVec 32) (h0 : v126_0 = BitVec.ofNat 32 (cnt H 84)) (hw8 : k0_chk8 v126_0) (hw9 : k0_chk9 v126_0 (w4 c v94 lhs fwu fwus fbu))
    (fh : Buf (Elt F) (hV.view.loc (c : Thread nD τ))) (hfh : HVok c H 10752 fh)
    {β : Type} (kk : _ → Prog (TpuEff nD τ sig (Elt F) Λ₀ .tc) β) (Q : β → sProp 𝕄) :
    iprop(Up c fwu (uSt 21) ∗ Live c H 84 ∗ Ow c ∗ pt c lhsV lhs ∗ pt c wusV fwus ∗ pt c buV fbu ∗ pt c hV fh
      ∗ (∀ fh' : Buf (Elt F) (hV.view.loc (c : Thread nD τ)), ⌜HVok c H 11008 fh'⌝ ∗ Up c fwu (fun _ => .idle) ∗ Half c H 84 (by decide) ∗ Ow c ∗ pt c lhsV lhs ∗ pt c wusV fwus ∗ pt c buV fbu ∗ pt c hV fh'
          -∗ WP c (kk ⟨T, truncf .bf16 T bitsLt_bf16_f32, w4 c v94 lhs fwu fwus fbu, hw9⟩) Q))
      ⊢ WP c (k0_part10 xH (Memref.isWhole_whole _) wuH (Memref.isWhole_whole _) wusH (Memref.isWhole_whole _) buH (Memref.isWhole_whole _) wdH (Memref.isWhole_whole _) wdsH (Memref.isWhole_whole _) yH (Memref.isWhole_whole _) hH (Memref.isWhole_whole _) cH (Memref.isWhole_whole _) sH (Memref.isWhole_whole _) xV (Memref.isWhole_whole _) wusV (Memref.isWhole_whole _) buV (Memref.isWhole_whole _) wdsV (Memref.isWhole_whole _) cV (Memref.isWhole_whole _) sV (Memref.isWhole_whole _) hV (Memref.isWhole_whole _) yV (Memref.isWhole_whole _) lhsV (Memref.isWhole_whole _) hcV (Memref.isWhole_whole _) accV (Memref.isWhole_whole _) wuV (Memref.isWhole_whole _) wdV (Memref.isWhole_whole _) alS (Memref.isWhole_whole _) inS ouS upS dnS v94 v126_0 hw8 >>= kk) Q := by
  have hn := cnt_le H 84
  have hT : ∀ (r : Fin 6) (l : Fin 256) (h : 128 * 84 + l.val < 11008), T (ix2 r l : S6x256.Idx) = H (ix2 r ⟨128 * 84 + l.val, h⟩ : S6x11008.Idx) := by
    subst hHF hTT
    exact fun r l h => tileL_HF c v94 lhs fwu fwus fbu r l h
  have hend : Up c fwu (Function.update (uSt 21) 1 .idle) ⊢ Up c fwu (fun _ => .idle) := by
    rw [show Function.update (uSt 21) 1 .idle = (fun _ => US.idle) from funext uSt_end]
  rw [k0_part10_eq_skeleton]
  unfold k0_part10_skel
  iintro ⟨HU, HL, HO, HX, HW, HB, HH, HQ⟩
  iapply (up_tail_wait c fwu (uSt 21) uSt_end1)
  isplitl [HU]; · iexact HU
  isplitl [HO]; · iexact HO
  iintro ⟨HU, HO⟩
  iapply (WP_ld c lhsV _ _ lhs lhs (Memref.readAt_unit_zero _ _ z2 _ _))
  isplitl [HX]; · iexact HX
  iintro HX
  iapply (up_tail_load c fwu _ (Function.update_self _ _ _))
  isplitl [HU]; · iexact HU
  rw [Function.update_idem]
  iintro HU
  iapply (WP_ld c wusV _ _ fwus (rowTail fwus) (rowTail_read c fwus _))
  isplitl [HW]; · iexact HW
  iintro HW
  iapply (WP_ld c buV _ _ fbu (rowTail fbu) (rowTail_read c fbu _))
  isplitl [HB]; · iexact HB
  iintro HB
  iapply (WP_ld c hV _ _ fh _ rfl)
  isplitl [HH]; · iexact HH
  iintro HH
  iapply (WP_st c hV _ _ _ _ fh _ rfl)
  isplitl [HH]; · iexact HH
  iintro HH
  rw [show k0_pay35 v94 lhs (wuTail c fwu) (rowTail fwus) (rowTail fbu) = shapeCast S6x256 (truncf .bf16 (tileL c v94 lhs fwu fwus fbu) bitsLt_bf16_f32) shapeCasts_S6x256_S6x256 from rfl,
    show k0_pay33 v94 lhs (wuTail c fwu) (rowTail fwus) (rowTail fbu) = tileL c v94 lhs fwu fwus fbu from rfl,
    show k0_pay34 v94 lhs (wuTail c fwu) (rowTail fwus) (rowTail fbu) = truncf .bf16 (tileL c v94 lhs fwu fwus fbu) bitsLt_bf16_f32 from rfl,
    show k0_pay37 v94 lhs (wuTail c fwu) (rowTail fwus) (rowTail fbu) = shapeCast S1x6x128 (extractStridedSlice S6x128 ![0, 0] (truncf .bf16 (tileL c v94 lhs fwu fwus fbu) bitsLt_bf16_f32) slices_S6x256_o0_0_S6x128) shapeCasts_S6x128_S1x6x128 from rfl,
    hTT]
  iapply (WP_assume c hw9 (k0_chk9.dec _ _))
  iapply (push_hc c H 84 (by decide) (k0_off26 v126_0) (k0_off26_inb v126_0 hw8) (k0_off26_w v126_0 (by omega) h0) _ (ck256_0 T H 84 (by decide) hT))
  isplitl [HL]; · iexact HL
  iintro HL
  iapply (WP_bind_ret c _ kk)
  subst hTT
  iapply HQ
  isplitr
  · ipureintro
    exact h_write_tail c H (tileL c v94 lhs fwu fwus fbu) 10752 (by decide) (fun r l => hT r l (by omega)) _ rfl inb_S6x11008_S6x256_0_10752 fh hfh
  isplitl [HU]; · iapply hend $$ HU
  isplitl [HL]; · iexact HL
  isplitl [HO]; · iexact HO
  isplitl [HX]; · iexact HX
  isplitl [HW]; · iexact HW
  isplitl [HB]; · iexact HB
  iexact HH

set_option maxHeartbeats 1000000 in
theorem k0_part11_run (c : Dev nD) (fwd : Buf (Elt F) (wdH.view.loc (c : Thread nD τ))) (H : Vec F S6x11008 .f32) (T : FVec F S6x256 .f32)
    (hT : ∀ (r : Fin 6) (l : Fin 256) (h : 128 * 84 + l.val < 11008), T (ix2 r l : S6x256.Idx) = H (ix2 r ⟨128 * 84 + l.val, h⟩ : S6x11008.Idx))
    (v126_0 v126_1 v160 : BitVec 32) (h160 : v160 = lw H 84) (h0 : v126_0 = BitVec.ofNat 32 (cnt H 84)) (s : ℕ) (h1 : v126_1 = BitVec.ofNat 32 s) (hs : s ≤ min (cnt H 84) 16) (hw8 : k0_chk8 v126_0) (hw9 : k0_chk9 v126_0 v160)
    (hw10 : k0_chk10 v126_0 v126_1 v160 (w5 T))
    (fh : Buf (Elt F) (hV.view.loc (c : Thread nD τ))) (fhH : Buf (Elt F) (hH.view.loc (c : Thread nD τ)))
    {β : Type} (kk : _ → Prog (TpuEff nD τ sig (Elt F) Λ₀ .tc) β) (Q : β → sProp 𝕄) :
    iprop(Half c H 84 (by decide) ∗ Down c fwd (stOf (al H) 0 s) ∗ pt c hV fh ∗ pt c hH fhH ∗ semVal ((c : Thread nD τ), SemLoc.dma (osem 2 inb_S4_S1_2)) 0
      ∗ (∀ v198 : BitVec 32, ∀ v203 : BitVec 32, ∀ A : Buf (Elt F) (alS.view.loc (c : Thread nD τ)), ∀ hcf : Buf (Elt F) (hcV.view.loc (c : Thread nD τ)), ⌜LIVE c H 86 A hcf⌝ ∗ pt c alS A ∗ pt c hcV hcf ∗ Down c fwd (stOf (al H) 0 (min (cnt H 86) 16)) ∗ Fl c hV hH (osem 2 inb_S4_S1_2) fh fh
          -∗ WP c (kk ⟨w5 T, hw10, Scalar.addi (Scalar.addi v126_0 v160) (w5 T), Scalar.maxsi v126_1 (Scalar.minsi (Scalar.addi (Scalar.addi v126_0 v160) (w5 T)) 16#32), v198, 0#32, v203⟩) Q))
      ⊢ WP c (k0_part11 xH (Memref.isWhole_whole _) wuH (Memref.isWhole_whole _) wusH (Memref.isWhole_whole _) buH (Memref.isWhole_whole _) wdH (Memref.isWhole_whole _) wdsH (Memref.isWhole_whole _) yH (Memref.isWhole_whole _) hH (Memref.isWhole_whole _) cH (Memref.isWhole_whole _) sH (Memref.isWhole_whole _) xV (Memref.isWhole_whole _) wusV (Memref.isWhole_whole _) buV (Memref.isWhole_whole _) wdsV (Memref.isWhole_whole _) cV (Memref.isWhole_whole _) sV (Memref.isWhole_whole _) hV (Memref.isWhole_whole _) yV (Memref.isWhole_whole _) lhsV (Memref.isWhole_whole _) hcV (Memref.isWhole_whole _) accV (Memref.isWhole_whole _) wuV (Memref.isWhole_whole _) wdV (Memref.isWhole_whole _) alS (Memref.isWhole_whole _) inS ouS upS dnS v126_0 v126_1 hw8 T (truncf .bf16 T bitsLt_bf16_f32) v160 hw9 >>= kk) Q := by
  have hn := cnt_le H 84
  have hn5 := cnt_le H 85
  have hn6 := cnt_le H 86
  have hm : cnt H 84 ≤ cnt H 86 := cnt_mono H (by decide)
  have e5 : Scalar.addi v126_0 v160 = BitVec.ofNat 32 (cnt H 85) := by rw [h0, h160, cnt_succ]
  have e6 : Scalar.addi (Scalar.addi v126_0 v160) (w5 T) = BitVec.ofNat 32 (cnt H 86) := by rw [e5, w5_eq T H 84 (by decide) hT, cnt_succ]
  rw [k0_part11_eq_skeleton]
  unfold k0_part11_skel
  iintro ⟨HL, HD, HH, HhH, Hsem, HQ⟩
  iapply (push_al c H 84 (by decide) (k0_off27 v126_0) (k0_off27_inb v126_0 hw8) (k0_off27_w v126_0 (by omega) h0) _ rfl)
  isplitl [HL]; · iexact HL
  iintro HL
  iapply (WP_assume c hw10 (k0_chk10.dec _ _ _ _))
  iapply (push_run c H 85 (by decide) (k0_off28 v126_0 v160) (k0_off28_inb v126_0 v160 hw9) (k0_off29 v126_0 v160) (k0_off29_inb v126_0 v160 hw9) (k0_off28_w v126_0 _ (by omega) e5) (k0_off29_w v126_0 _ (by omega) e5)
    _ (ck256_1 T H 84 (by decide) hT) _ rfl)
  isplitl [HL]; · iexact HL
  iintro HL
  iapply (WP_enq c hV hH (osem 2 inb_S4_S1_2) fh fhH fh (View.set_whole _) (View.set_whole _) (by decide) (View.write_whole_univ _ _ _))
  isplitl [HH]; · iexact HH
  isplitl [HhH]; · iexact HhH
  isplitl [Hsem]; · iexact Hsem
  iintro HF
  unfold Live
  icases HL with ⟨%A, %hcf, %L, HA, HHC⟩
  iapply (WP_assoc c)
  iapply (WP_bind_ret c)
  iapply (WP_assoc c)
  iapply (k0_t4_run c fwd (al H) A 0 s (min (cnt H 86) 16) (Nat.zero_le _) (by omega) (by omega) (by omega) (fun i h hi => L.words i h (lt_of_lt_of_le hi (min_le_left _ _))) v126_0 v126_1 hw8 T (truncf .bf16 T bitsLt_bf16_f32) v160 hw9 (w5 T) hw10 h1
    (t4_ub v126_0 v126_1 v160 (w5 T) e6 (by omega) h1 (by omega)))
  isplitl [HD]; · iexact HD
  isplitl [HA]; · iexact HA
  iintro %r ⟨HD, HA⟩
  iapply (WP_assoc c)
  iapply (WP_for0 c (k0_t5_loop v126_0 v126_1 v160 (w5 T)) (Scf.rem_trips _ _))
  iapply (WP_bind_ret c _ kk)
  iapply HQ
  isplitr; · ipureintro; exact L
  isplitl [HA]; · iexact HA
  isplitl [HHC]; · iexact HHC
  isplitl [HD]; · iexact HD
  iexact HF

end Cert.Kernel.Hand

end
-- ==== Proof.Kernel.Pre.lean ====
/-
  The start of the body: the first copies, the quantiser, and the first twenty-one tiles of the activations.
-/
module

public import proofs.«01_k».proof.Proof.Kernel.Tail

@[expose] public section

noncomputable section

namespace Cert.Kernel.Hand

open Cert.Kernel Cert.Kernel.Gen Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's beside the transfers' counters. -/
local notation "𝕄" => MT nD τ sig Unit (Elt F) ℕ (Pipeline.UD sig nD τ) ℕ

/-- The five up-projection slots while their first copies are started. -/
def st0 : Fin 5 → US := fun _ => .idle
def st1 : Fin 5 → US := Function.update st0 0 (.busy 0)
def st2 : Fin 5 → US := Function.update st1 1 (.busy 1)
def st3 : Fin 5 → US := Function.update st2 2 (.busy 2)
def st4 : Fin 5 → US := Function.update st3 3 (.busy 3)

theorem st_5 : ∀ q, Function.update st4 4 (.busy 4) q = uSt 0 q := by decide

theorem k0_part6_run (c : Dev nD) (fx : Buf (Elt F) (xH.view.loc (c : Thread nD τ))) (fwu : Buf (Elt F) (wuH.view.loc (c : Thread nD τ))) (gx : Buf (Elt F) (xV.view.loc (c : Thread nD τ)))
    {β : Type} (kk : _ → Prog (TpuEff nD τ sig (Elt F) Λ₀ .tc) β) (Q : β → sProp 𝕄) :
    iprop(Up c fwu (fun _ => .idle) ∗ pt c xH fx ∗ pt c xV gx ∗ semVal ((c : Thread nD τ), SemLoc.dma (isem 0 inb_S4_S1_0)) 0
      ∗ (Up c fwu st4 ∗ Fl c xH xV (isem 0 inb_S4_S1_0) fx fx -∗ WP c (kk ⟨⟩) Q))
      ⊢ WP c (k0_part6 xH (Memref.isWhole_whole _) wuH (Memref.isWhole_whole _) wusH (Memref.isWhole_whole _) buH (Memref.isWhole_whole _) wdH (Memref.isWhole_whole _) wdsH (Memref.isWhole_whole _) yH (Memref.isWhole_whole _) hH (Memref.isWhole_whole _) cH (Memref.isWhole_whole _) sH (Memref.isWhole_whole _) xV (Memref.isWhole_whole _) wusV (Memref.isWhole_whole _) buV (Memref.isWhole_whole _) wdsV (Memref.isWhole_whole _) cV (Memref.isWhole_whole _) sV (Memref.isWhole_whole _) hV (Memref.isWhole_whole _) yV (Memref.isWhole_whole _) lhsV (Memref.isWhole_whole _) hcV (Memref.isWhole_whole _) accV (Memref.isWhole_whole _) wuV (Memref.isWhole_whole _) wdV (Memref.isWhole_whole _) alS (Memref.isWhole_whole _) inS ouS upS dnS >>= kk) Q := by
  rw [k0_part6_eq_skeleton]
  unfold k0_part6_skel
  iintro ⟨HU, HxH, HxV, HC0, HQ⟩
  iapply (WP_enq c xH xV (isem 0 inb_S4_S1_0) fx _ fx (View.set_whole _) (View.set_whole _) (by decide) (View.write_whole_univ _ _ _))
  isplitl [HxH]; · iexact HxH
  isplitl [HxV]; · iexact HxV
  isplitl [HC0]; · iexact HC0
  iintro HF0
  iapply (up_start c fwu (st0) 0 0 (by decide) ![0] inb_S5_S1_0 ![0, 0, 0] inb_S5x4096x512_S1x4096x512_0_0_0 ![0, 0] inb_S4096x11008_S4096x512_0_0 rfl rfl rfl)
  isplitl [HU]; · iexact HU
  iintro HU
  iapply (up_start c fwu (st1) 1 1 (by decide) ![1] inb_S5_S1_1 ![1, 0, 0] inb_S5x4096x512_S1x4096x512_1_0_0 ![0, 512] inb_S4096x11008_S4096x512_0_512 rfl rfl rfl)
  isplitl [HU]; · iexact HU
  iintro HU
  iapply (up_start c fwu (st2) 2 2 (by decide) ![2] inb_S5_S1_2 ![2, 0, 0] inb_S5x4096x512_S1x4096x512_2_0_0 ![0, 1024] inb_S4096x11008_S4096x512_0_1024 rfl rfl rfl)
  isplitl [HU]; · iexact HU
  iintro HU
  iapply (up_start c fwu (st3) 3 3 (by decide) ![3] inb_S5_S1_3 ![3, 0, 0] inb_S5x4096x512_S1x4096x512_3_0_0 ![0, 1536] inb_S4096x11008_S4096x512_0_1536 rfl rfl rfl)
  isplitl [HU]; · iexact HU
  iintro HU
  iapply (WP_bind_ret c _ kk)
  iapply HQ
  isplitl [HU]; · iexact HU
  iexact HF0

theorem k0_part7_run (c : Dev nD) (fx : Vec F S6x4096 .bf16) (fwu : Buf (Elt F) (wuH.view.loc (c : Thread nD τ))) (fwus : Buf (Elt F) (wusH.view.loc (c : Thread nD τ))) (fbu : Buf (Elt F) (buH.view.loc (c : Thread nD τ))) (fwds : Buf (Elt F) (wdsH.view.loc (c : Thread nD τ))) (g1 : Buf (Elt F) (wusV.view.loc (c : Thread nD τ))) (g2 : Buf (Elt F) (buV.view.loc (c : Thread nD τ))) (g3 : Buf (Elt F) (wdsV.view.loc (c : Thread nD τ)))
    {β : Type} (kk : _ → Prog (TpuEff nD τ sig (Elt F) Λ₀ .tc) β) (Q : β → sProp 𝕄) :
    iprop(Up c fwu st4 ∗ Fl c xH xV (isem 0 inb_S4_S1_0) fx fx ∗ Ow c
      ∗ pt c wusH fwus ∗ pt c wusV g1 ∗ semVal ((c : Thread nD τ), SemLoc.dma (isem 1 inb_S4_S1_1)) 0 ∗ pt c buH fbu ∗ pt c buV g2 ∗ semVal ((c : Thread nD τ), SemLoc.dma (isem 2 inb_S4_S1_2)) 0 ∗ pt c wdsH fwds ∗ pt c wdsV g3 ∗ semVal ((c : Thread nD τ), SemLoc.dma (isem 3 inb_S4_S1_3)) 0
      ∗ (Up c fwu (uSt 0) ∗ pt c xH fx ∗ pt c xV fx ∗ semVal ((c : Thread nD τ), SemLoc.dma (isem 0 inb_S4_S1_0)) 0 ∗ Ow c
        ∗ Fl c wusH wusV (isem 1 inb_S4_S1_1) fwus fwus ∗ Fl c buH buV (isem 2 inb_S4_S1_2) fbu fbu ∗ Fl c wdsH wdsV (isem 3 inb_S4_S1_3) fwds fwds
        -∗ WP c (kk ⟨k0_pay20 fx, k0_pay21 fx, k0_pay22 fx⟩) Q))
      ⊢ WP c (k0_part7 xH (Memref.isWhole_whole _) wuH (Memref.isWhole_whole _) wusH (Memref.isWhole_whole _) buH (Memref.isWhole_whole _) wdH (Memref.isWhole_whole _) wdsH (Memref.isWhole_whole _) yH (Memref.isWhole_whole _) hH (Memref.isWhole_whole _) cH (Memref.isWhole_whole _) sH (Memref.isWhole_whole _) xV (Memref.isWhole_whole _) wusV (Memref.isWhole_whole _) buV (Memref.isWhole_whole _) wdsV (Memref.isWhole_whole _) cV (Memref.isWhole_whole _) sV (Memref.isWhole_whole _) hV (Memref.isWhole_whole _) yV (Memref.isWhole_whole _) lhsV (Memref.isWhole_whole _) hcV (Memref.isWhole_whole _) accV (Memref.isWhole_whole _) wuV (Memref.isWhole_whole _) wdV (Memref.isWhole_whole _) alS (Memref.isWhole_whole _) inS ouS upS dnS >>= kk) Q := by
  have hend : Up c fwu (Function.update st4 4 (.busy 4)) ⊢ Up c fwu (uSt 0) := by
    rw [show Function.update st4 4 (.busy 4) = uSt 0 from funext st_5]
  rw [k0_part7_eq_skeleton]
  unfold k0_part7_skel
  iintro ⟨HU, HF0, HO, HwusH, HwusV, HC1, HbuH, HbuV, HC2, HwdsH, HwdsV, HC3, HQ⟩
  iapply (up_start c fwu (st4) 4 4 (by decide) ![4] inb_S5_S1_4 ![4, 0, 0] inb_S5x4096x512_S1x4096x512_4_0_0 ![0, 2048] inb_S4096x11008_S4096x512_0_2048 rfl rfl rfl)
  isplitl [HU]; · iexact HU
  iintro HU
  iapply (WP_enq c wusH wusV (isem 1 inb_S4_S1_1) fwus _ fwus (View.set_whole _) (View.set_whole _) (by decide) (View.write_whole_univ _ _ _))
  isplitl [HwusH]; · iexact HwusH
  isplitl [HwusV]; · iexact HwusV
  isplitl [HC1]; · iexact HC1
  iintro HF1
  iapply (WP_enq c buH buV (isem 2 inb_S4_S1_2) fbu _ fbu (View.set_whole _) (View.set_whole _) (by decide) (View.write_whole_univ _ _ _))
  isplitl [HbuH]; · iexact HbuH
  isplitl [HbuV]; · iexact HbuV
  isplitl [HC2]; · iexact HC2
  iintro HF2
  iapply (WP_enq c wdsH wdsV (isem 3 inb_S4_S1_3) fwds _ fwds (View.set_whole _) (View.set_whole _) (by decide) (View.write_whole_univ _ _ _))
  isplitl [HwdsH]; · iexact HwdsH
  isplitl [HwdsV]; · iexact HwdsV
  isplitl [HC3]; · iexact HC3
  iintro HF3
  iapply (WP_wt c xH xV (isem 0 inb_S4_S1_0) fx fx rfl)
  isplitl [HF0]; · iexact HF0
  isplitl [HO]; · iexact HO
  iintro ⟨HxV, HxH, HC0, HO⟩
  iapply (WP_ld c xV _ _ fx fx (Memref.readAt_unit_zero _ _ z2 _ _))
  isplitl [HxV]; · iexact HxV
  iintro HxV
  iapply (WP_bind_ret c _ kk)
  iapply HQ
  isplitl [HU]; · iapply hend; iexact HU
  isplitl [HxH]; · iexact HxH
  isplitl [HxV]; · iexact HxV
  isplitl [HC0]; · iexact HC0
  isplitl [HO]; · iexact HO
  isplitl [HF1]; · iexact HF1
  isplitl [HF2]; · iexact HF2
  iexact HF3

theorem k0_part8_run (c : Dev nD) (v41 : FVec F S6x4096 .f32) (v44 : FVec F S6x1 .f32) (v63 : IVec S6x1 32) (g1 : Buf (Elt F) (cV.view.loc (c : Thread nD τ))) (g2 : Buf (Elt F) (sV.view.loc (c : Thread nD τ)))
    {β : Type} (kk : _ → Prog (TpuEff nD τ sig (Elt F) Λ₀ .tc) β) (Q : β → sProp 𝕄) :
    iprop(pt c cV g1 ∗ pt c sV g2
      ∗ (pt c cV (k0_pay26 v41 v44 v63) ∗ pt c sV (k0_pay27 v44 v63) -∗ WP c (kk ⟨k0_pay24 v41 v44 v63, k0_pay25 v44 v63, k0_pay28 (F := F)⟩) Q))
      ⊢ WP c (k0_part8 xH (Memref.isWhole_whole _) wuH (Memref.isWhole_whole _) wusH (Memref.isWhole_whole _) buH (Memref.isWhole_whole _) wdH (Memref.isWhole_whole _) wdsH (Memref.isWhole_whole _) yH (Memref.isWhole_whole _) hH (Memref.isWhole_whole _) cH (Memref.isWhole_whole _) sH (Memref.isWhole_whole _) xV (Memref.isWhole_whole _) wusV (Memref.isWhole_whole _) buV (Memref.isWhole_whole _) wdsV (Memref.isWhole_whole _) cV (Memref.isWhole_whole _) sV (Memref.isWhole_whole _) hV (Memref.isWhole_whole _) yV (Memref.isWhole_whole _) lhsV (Memref.isWhole_whole _) hcV (Memref.isWhole_whole _) accV (Memref.isWhole_whole _) wuV (Memref.isWhole_whole _) wdV (Memref.isWhole_whole _) alS (Memref.isWhole_whole _) inS ouS upS dnS v41 v44 v63 >>= kk) Q := by
  rw [k0_part8_eq_skeleton]
  unfold k0_part8_skel
  iintro ⟨HcV, HsV, HQ⟩
  iapply (WP_ld c cV _ _ _ _ rfl)
  isplitl [HcV]; · iexact HcV
  iintro HcV
  iapply (WP_st c cV _ _ _ _ _ (k0_pay26 v41 v44 v63) (Memref.write_access_unit_zero_univ _ _ z2 _ _ _))
  isplitl [HcV]; · iexact HcV
  iintro HcV
  iapply (WP_ld c sV _ _ _ _ rfl)
  isplitl [HsV]; · iexact HsV
  iintro HsV
  iapply (WP_st c sV _ _ _ _ _ (k0_pay27 v44 v63) (Memref.write_access_unit_zero_univ _ _ z2 _ _ _))
  isplitl [HsV]; · iexact HsV
  iintro HsV
  iapply (WP_bind_ret c _ kk)
  iapply HQ
  isplitl [HcV]; · iexact HcV
  iexact HsV

/-- The up-projection's left operand: the codes in its first six rows, zeros below. -/
def lhsOf (v89 : FVec F S6x4096 .fp8e4m3) : Vec F S32x4096 .fp8e4m3 :=
  (lhsV.access (Rect.unit (s := S32x4096) ![0, 0] S8x4096.size inb_S32x4096_S8x4096_0_0)).write (Elt F) (k0_pay29 (k0_pay28 (F := F)))
    (updateSlice (lhsV.view.readAt (Elt F) (Rect.unit (s := S32x4096) ![0, 0] S8x4096.size inb_S32x4096_S8x4096_0_0).toLoadRect (k0_pay29 (k0_pay28 (F := F)))) (k0_pay30 v89) ![0, 0] slices_S8x4096_S6x4096_0_0) Finset.univ

theorem k0_part9_run (c : Dev nD) (v89 : FVec F S6x4096 .fp8e4m3) (v94 : FVec F S6x1 .f32) (fwu : Buf (Elt F) (wuH.view.loc (c : Thread nD τ))) (fwus fbu : Vec F S1x11008 .f32) (fwd : Buf (Elt F) (wdH.view.loc (c : Thread nD τ)))
    (H : Vec F S6x11008 .f32) (hHF : HF c v94 (lhsOf v89) fwu fwus fbu = H) (hw8 : k0_chk8 (BitVec.ofNat 32 (cnt H 84)))
    (g0 : Buf (Elt F) (lhsV.view.loc (c : Thread nD τ))) (g1 : Buf (Elt F) (accV.view.loc (c : Thread nD τ))) (g2 : Buf (Elt F) (hcV.view.loc (c : Thread nD τ))) (g3 : Buf (Elt F) (alS.view.loc (c : Thread nD τ))) (g4 : Buf (Elt F) (hV.view.loc (c : Thread nD τ))) (fc : Buf (Elt F) (cV.view.loc (c : Thread nD τ))) (fs : Buf (Elt F) (sV.view.loc (c : Thread nD τ))) (g5 : Buf (Elt F) (cH.view.loc (c : Thread nD τ))) (g6 : Buf (Elt F) (sH.view.loc (c : Thread nD τ)))
    {β : Type} (kk : _ → Prog (TpuEff nD τ sig (Elt F) Λ₀ .tc) β) (Q : β → sProp 𝕄) :
    iprop(Up c fwu (uSt 0) ∗ Down c fwd (fun _ => .idle) ∗ Ow c ∗ pt c lhsV g0 ∗ pt c accV g1 ∗ pt c hcV g2 ∗ pt c alS g3 ∗ pt c hV g4
      ∗ pt c cV fc ∗ pt c cH g5 ∗ semVal ((c : Thread nD τ), SemLoc.dma (osem 0 inb_S4_S1_0)) 0 ∗ pt c sV fs ∗ pt c sH g6 ∗ semVal ((c : Thread nD τ), SemLoc.dma (osem 1 inb_S4_S1_1)) 0
      ∗ Fl c wusH wusV (isem 1 inb_S4_S1_1) fwus fwus ∗ Fl c buH buV (isem 2 inb_S4_S1_2) fbu fbu
      ∗ (∀ s : ℕ, ∀ fh : Buf (Elt F) (hV.view.loc (c : Thread nD τ)), ⌜s ≤ min (cnt H 84) 16 ∧ HVok c H 10752 fh⌝ ∗ Up c fwu (uSt 21) ∗ Live c H 84 ∗ Down c fwd (stOf (al H) 0 s) ∗ Ow c
        ∗ pt c lhsV (lhsOf v89) ∗ pt c wusV fwus ∗ pt c buV fbu ∗ pt c hV fh ∗ pt c accV (k0_pay31 : Vec F S8x4096 .f32)
        ∗ Fl c cV cH (osem 0 inb_S4_S1_0) fc fc ∗ Fl c sV sH (osem 1 inb_S4_S1_1) fs fs
        ∗ pt c wusH fwus ∗ semVal ((c : Thread nD τ), SemLoc.dma (isem 1 inb_S4_S1_1)) 0 ∗ pt c buH fbu ∗ semVal ((c : Thread nD τ), SemLoc.dma (isem 2 inb_S4_S1_2)) 0
        -∗ WP c (kk ⟨BitVec.ofNat 32 (cnt H 84), BitVec.ofNat 32 s, hw8⟩) Q))
      ⊢ WP c (k0_part9 xH (Memref.isWhole_whole _) wuH (Memref.isWhole_whole _) wusH (Memref.isWhole_whole _) buH (Memref.isWhole_whole _) wdH (Memref.isWhole_whole _) wdsH (Memref.isWhole_whole _) yH (Memref.isWhole_whole _) hH (Memref.isWhole_whole _) cH (Memref.isWhole_whole _) sH (Memref.isWhole_whole _) xV (Memref.isWhole_whole _) wusV (Memref.isWhole_whole _) buV (Memref.isWhole_whole _) wdsV (Memref.isWhole_whole _) cV (Memref.isWhole_whole _) sV (Memref.isWhole_whole _) hV (Memref.isWhole_whole _) yV (Memref.isWhole_whole _) lhsV (Memref.isWhole_whole _) hcV (Memref.isWhole_whole _) accV (Memref.isWhole_whole _) wuV (Memref.isWhole_whole _) wdV (Memref.isWhole_whole _) alS (Memref.isWhole_whole _) inS ouS upS dnS v89 v94 (k0_pay28 (F := F)) >>= kk) Q := by
  have hlive : LIVE c H 0 g3 (k0_pay32 : Vec F S87x16x128 .bf16) := by
    have e0 : cnt H 0 = 0 := Nat.le_zero.1 (cnt_le H 0)
    refine ⟨fun i h hi => ?_, fun i h hi => ?_, fun i r l h => ?_⟩
    · rw [e0] at hi; exact absurd hi (Nat.not_lt_zero _)
    · rw [e0] at hi; exact absurd hi (Nat.not_lt_zero _)
    · unfold k0_pay32
      dsimp only
      rw [shapeCast_self]
      rfl
  rw [k0_part9_eq_skeleton]
  unfold k0_part9_skel
  iintro ⟨HU, HD, HO, HlhsV, HaccV, HhcV, HA, HH, HcV, HcH, HS0, HsV, HsH, HS1, HF1, HF2, HQ⟩
  iapply (WP_ld c lhsV _ _ _ _ rfl)
  isplitl [HlhsV]; · iexact HlhsV
  iintro HlhsV
  iapply (WP_st c lhsV _ _ _ _ _ (k0_pay29 (k0_pay28 (F := F))) (Memref.write_access_unit_zero_univ _ _ z2 _ _ _))
  isplitl [HlhsV]; · iexact HlhsV
  iintro HlhsV
  iapply (WP_ld c lhsV _ _ _ _ rfl)
  isplitl [HlhsV]; · iexact HlhsV
  iintro HlhsV
  unfold storeSubelements
  iapply (WP_ld c lhsV _ _ _ _ rfl)
  isplitl [HlhsV]; · iexact HlhsV
  iintro HlhsV
  iapply (WP_st c lhsV _ _ _ _ _ (lhsOf v89) rfl)
  isplitl [HlhsV]; · iexact HlhsV
  iintro HlhsV
  iapply (WP_ld c accV _ _ _ _ rfl)
  isplitl [HaccV]; · iexact HaccV
  iintro HaccV
  iapply (WP_st c accV _ _ _ _ _ (k0_pay31 (F := F)) (Memref.write_access_unit_zero_univ _ _ z2 _ _ _))
  isplitl [HaccV]; · iexact HaccV
  iintro HaccV
  iapply (WP_ld c hcV _ _ _ _ rfl)
  isplitl [HhcV]; · iexact HhcV
  iintro HhcV
  iapply (WP_st c hcV _ _ _ _ _ (k0_pay32 (F := F)) (Memref.write_access_unit_zero_univ _ _ z3 _ _ _))
  isplitl [HhcV]; · iexact HhcV
  iintro HhcV
  iapply (WP_enq c cV cH (osem 0 inb_S4_S1_0) fc _ fc (View.set_whole _) (View.set_whole _) (by decide) (View.write_whole_univ _ _ _))
  isplitl [HcV]; · iexact HcV
  isplitl [HcH]; · iexact HcH
  isplitl [HS0]; · iexact HS0
  iintro HO0
  iapply (WP_enq c sV sH (osem 1 inb_S4_S1_1) fs _ fs (View.set_whole _) (View.set_whole _) (by decide) (View.write_whole_univ _ _ _))
  isplitl [HsV]; · iexact HsV
  isplitl [HsH]; · iexact HsH
  isplitl [HS1]; · iexact HS1
  iintro HO1
  iapply (WP_wt c wusH wusV (isem 1 inb_S4_S1_1) fwus fwus rfl)
  isplitl [HF1]; · iexact HF1
  isplitl [HO]; · iexact HO
  iintro ⟨HwusV, HwusH, HC1, HO⟩
  iapply (WP_wt c buH buV (isem 2 inb_S4_S1_2) fbu fbu rfl)
  isplitl [HF2]; · iexact HF2
  isplitl [HO]; · iexact HO
  iintro ⟨HbuV, HbuH, HC2, HO⟩
  iapply (WP_assoc c)
  iapply (WP_bind_ret c)
  iapply (WP_assoc c)
  iapply (k0_t1_run c v94 (lhsOf v89) fwu fwus fbu fwd v89 (k0_pay28 (F := F)))
  unfold T1
  rw [hHF]
  isplitl [HU HD HO HlhsV HwusV HbuV HhcV HA HH]
  · iexists 0
    isplitr
    · ipureintro
      refine ⟨?_, rfl, Nat.zero_le _⟩
      rw [show cnt H (4 * 0) = 0 from Nat.le_zero.1 (cnt_le H 0)]
    isplitl [HU]; · iexact HU
    isplitl [HA HhcV]
    · unfold Live
      iexists _; iexists _
      isplitr; · ipureintro; exact hlive
      isplitl [HA]; · iexact HA
      iexact HhcV
    isplitl [HD]
    · rw [stOf_self]; iexact HD
    isplitl [HO]; · iexact HO
    isplitl [HlhsV]; · iexact HlhsV
    isplitl [HwusV]; · iexact HwusV
    isplitl [HbuV]; · iexact HbuV
    iexists g4
    isplitr; · ipureintro; exact fun r l h => absurd h (Nat.not_lt_zero _)
    iexact HH
  iintro %a ⟨%s, %ha, HU, HL, HD, HO, HlhsV, HwusV, HbuV, %fh, %hfh, HH⟩
  obtain ⟨v0, v1⟩ := a
  obtain ⟨h0, h1, hs⟩ := ha
  change v0 = _ at h0
  change v1 = _ at h1
  subst h0 h1
  iapply (WP_assume c hw8 (k0_chk8.dec _))
  iapply (WP_bind_ret c _ kk)
  iapply HQ
  isplitr; · ipureintro; exact ⟨hs, hfh⟩
  isplitl [HU]; · iexact HU
  isplitl [HL]; · iexact HL
  isplitl [HD]; · iexact HD
  isplitl [HO]; · iexact HO
  isplitl [HlhsV]; · iexact HlhsV
  isplitl [HwusV]; · iexact HwusV
  isplitl [HbuV]; · iexact HbuV
  isplitl [HH]; · iexact HH
  isplitl [HaccV]; · iexact HaccV
  isplitl [HO0]; · iexact HO0
  isplitl [HO1]; · iexact HO1
  isplitl [HwusH]; · iexact HwusH
  isplitl [HC1]; · iexact HC1
  isplitl [HbuH]; · iexact HbuH
  iexact HC2

end Cert.Kernel.Hand

end
-- ==== Proof.Kernel.Body.lean ====
/-
  The whole body: what it leaves in its four results.
-/
module

public import proofs.«01_k».proof.Proof.Kernel.Pre

@[expose] public section

noncomputable section

namespace Cert.Kernel.Hand

open Cert.Kernel Cert.Kernel.Gen Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's beside the transfers' counters. -/
local notation "𝕄" => MT nD τ sig Unit (Elt F) ℕ (Pipeline.UD sig nD τ) ℕ

/-- The ring idle: its cells at zero, its buffer at anything and the weights, whole. -/
theorem up_split (c : Dev nD) (f : Buf (Elt F) (wuH.view.loc (c : Thread nD τ))) :
    iprop((bigSep Finset.univ fun q : Fin 5 => semVal ((c : Thread nD τ), SemLoc.dma (usem q)) 0) ∗ (∃ g : Buf (Elt F) (wuV.view.loc (c : Thread nD τ)), pt (F := F) c wuV g) ∗ pt c wuH f)
      ⊢ (iprop(Up c f (fun _ => .idle) ∗ (∃ g, wuV.view.loc (c : Thread nD τ) ↦[Ring.restOf (fun q : Fin 5 => (uslot q).view.set)]{fullShare} g)
        ∗ wuH.view.loc (c : Thread nD τ) ↦{Transfers.shareDrop fullShare 5} f) : sProp 𝕄) := by
  have e : (Up c f (fun _ => .idle) : sProp 𝕄) = iprop((bigSep Finset.univ fun q : Fin 5 => semVal ((c : Thread nD τ), SemLoc.dma (usem q)) 0)
      ∗ (bigSep Finset.univ fun q : Fin 5 => iprop(∃ g, wuV.view.loc (c : Thread nD τ) ↦[(uslot q).view.set]{fullShare} g))
      ∗ (bigSep Finset.univ fun q : Fin 5 => wuH.view.loc (c : Thread nD τ) ↦{Transfers.shareTok fullShare 5 q} f)) := by
    rw [← BI.bigSep_sep', ← BI.bigSep_sep']; rfl
  rw [e]
  iintro ⟨Hs, Hg, Hf⟩
  ihave Hg := (Ring.fam_split_ex (Ix := Unit) (Name := ℕ) (U := Pipeline.UD sig nD τ) (Lvl := ℕ) (fun q : Fin 5 => (uslot q).view.set) (fun _ _ h => uslot_disj h)) $$ Hg
  icases Hg with ⟨Hg, Hgr⟩
  ihave Hf := (Transfers.pointsTo_toks_split fullShare 5) $$ Hf
  icases Hf with ⟨Hfr, Hf⟩
  isplitl [Hs Hg Hf]
  · isplitl [Hs]; · iexact Hs
    isplitl [Hg]; · iexact Hg
    iexact Hf
  isplitl [Hgr]; · iexact Hgr
  iexact Hfr

theorem up_join (c : Dev nD) (f : Buf (Elt F) (wuH.view.loc (c : Thread nD τ))) (g₀ : Buf (Elt F) (wuV.view.loc (c : Thread nD τ))) :
    (iprop(Up c f (fun _ => .idle) ∗ (∃ g, wuV.view.loc (c : Thread nD τ) ↦[Ring.restOf (fun q : Fin 5 => (uslot q).view.set)]{fullShare} g)
        ∗ wuH.view.loc (c : Thread nD τ) ↦{Transfers.shareDrop fullShare 5} f) : sProp 𝕄)
      ⊢ iprop((bigSep Finset.univ fun q : Fin 5 => semVal ((c : Thread nD τ), SemLoc.dma (usem q)) 0) ∗ (∃ g : Buf (Elt F) (wuV.view.loc (c : Thread nD τ)), pt (F := F) c wuV g) ∗ pt c wuH f) := by
  have e : (Up c f (fun _ => .idle) : sProp 𝕄) = iprop((bigSep Finset.univ fun q : Fin 5 => semVal ((c : Thread nD τ), SemLoc.dma (usem q)) 0)
      ∗ (bigSep Finset.univ fun q : Fin 5 => iprop(∃ g, wuV.view.loc (c : Thread nD τ) ↦[(uslot q).view.set]{fullShare} g))
      ∗ (bigSep Finset.univ fun q : Fin 5 => wuH.view.loc (c : Thread nD τ) ↦{Transfers.shareTok fullShare 5 q} f)) := by
    rw [← BI.bigSep_sep', ← BI.bigSep_sep']; rfl
  rw [e]
  iintro ⟨⟨Hs, Hg, Hf⟩, Hgr, Hfr⟩
  isplitl [Hs]; · iexact Hs
  isplitl [Hg Hgr]
  · iapply (Ring.fam_join (Ix := Unit) (Name := ℕ) (U := Pipeline.UD sig nD τ) (Lvl := ℕ) (fun q : Fin 5 => (uslot q).view.set) (fun _ _ h => uslot_disj h) g₀)
    isplitl [Hg]; · iexact Hg
    iexact Hgr
  iapply (Transfers.pointsTo_toks_join fullShare 5)
  isplitl [Hfr]; · iexact Hfr
  iexact Hf

/-- The ring idle: its cells at zero, its buffer at anything and the weights, whole. -/
theorem down_split (c : Dev nD) (f : Buf (Elt F) (wdH.view.loc (c : Thread nD τ))) :
    iprop((bigSep Finset.univ fun q : Fin 16 => semVal ((c : Thread nD τ), SemLoc.dma (dsem q)) 0) ∗ (∃ g : Buf (Elt F) (wdV.view.loc (c : Thread nD τ)), pt (F := F) c wdV g) ∗ pt c wdH f)
      ⊢ (iprop(Down c f (fun _ => .idle) ∗ (∃ g, wdV.view.loc (c : Thread nD τ) ↦[Ring.restOf (fun q : Fin 16 => (dslot q).view.set)]{fullShare} g)
        ∗ wdH.view.loc (c : Thread nD τ) ↦{Transfers.shareDrop fullShare 16} f) : sProp 𝕄) := by
  have e : (Down c f (fun _ => .idle) : sProp 𝕄) = iprop((bigSep Finset.univ fun q : Fin 16 => semVal ((c : Thread nD τ), SemLoc.dma (dsem q)) 0)
      ∗ (bigSep Finset.univ fun q : Fin 16 => iprop(∃ g, wdV.view.loc (c : Thread nD τ) ↦[(dslot q).view.set]{fullShare} g))
      ∗ (bigSep Finset.univ fun q : Fin 16 => wdH.view.loc (c : Thread nD τ) ↦{Transfers.shareTok fullShare 16 q} f)) := by
    rw [← BI.bigSep_sep', ← BI.bigSep_sep']; rfl
  rw [e]
  iintro ⟨Hs, Hg, Hf⟩
  ihave Hg := (Ring.fam_split_ex (Ix := Unit) (Name := ℕ) (U := Pipeline.UD sig nD τ) (Lvl := ℕ) (fun q : Fin 16 => (dslot q).view.set) (fun _ _ h => dslot_disj h)) $$ Hg
  icases Hg with ⟨Hg, Hgr⟩
  ihave Hf := (Transfers.pointsTo_toks_split fullShare 16) $$ Hf
  icases Hf with ⟨Hfr, Hf⟩
  isplitl [Hs Hg Hf]
  · isplitl [Hs]; · iexact Hs
    isplitl [Hg]; · iexact Hg
    iexact Hf
  isplitl [Hgr]; · iexact Hgr
  iexact Hfr

theorem down_join (c : Dev nD) (f : Buf (Elt F) (wdH.view.loc (c : Thread nD τ))) (g₀ : Buf (Elt F) (wdV.view.loc (c : Thread nD τ))) :
    (iprop(Down c f (fun _ => .idle) ∗ (∃ g, wdV.view.loc (c : Thread nD τ) ↦[Ring.restOf (fun q : Fin 16 => (dslot q).view.set)]{fullShare} g)
        ∗ wdH.view.loc (c : Thread nD τ) ↦{Transfers.shareDrop fullShare 16} f) : sProp 𝕄)
      ⊢ iprop((bigSep Finset.univ fun q : Fin 16 => semVal ((c : Thread nD τ), SemLoc.dma (dsem q)) 0) ∗ (∃ g : Buf (Elt F) (wdV.view.loc (c : Thread nD τ)), pt (F := F) c wdV g) ∗ pt c wdH f) := by
  have e : (Down c f (fun _ => .idle) : sProp 𝕄) = iprop((bigSep Finset.univ fun q : Fin 16 => semVal ((c : Thread nD τ), SemLoc.dma (dsem q)) 0)
      ∗ (bigSep Finset.univ fun q : Fin 16 => iprop(∃ g, wdV.view.loc (c : Thread nD τ) ↦[(dslot q).view.set]{fullShare} g))
      ∗ (bigSep Finset.univ fun q : Fin 16 => wdH.view.loc (c : Thread nD τ) ↦{Transfers.shareTok fullShare 16 q} f)) := by
    rw [← BI.bigSep_sep', ← BI.bigSep_sep']; rfl
  rw [e]
  iintro ⟨⟨Hs, Hg, Hf⟩, Hgr, Hfr⟩
  isplitl [Hs]; · iexact Hs
  isplitl [Hg Hgr]
  · iapply (Ring.fam_join (Ix := Unit) (Name := ℕ) (U := Pipeline.UD sig nD τ) (Lvl := ℕ) (fun q : Fin 16 => (dslot q).view.set) (fun _ _ h => dslot_disj h) g₀)
    isplitl [Hg]; · iexact Hg
    iexact Hgr
  iapply (Transfers.pointsTo_toks_join fullShare 16)
  isplitl [Hfr]; · iexact Hfr
  iexact Hf

/-! ## The results -/

/-- The scales, and the codes, of the tokens. -/
def scalesOf (fx : Vec F S6x4096 .bf16) : FVec F S6x1 .f32 := k0_pay25 (k0_pay21 fx) (k0_pay22 fx)
def codesOf (fx : Vec F S6x4096 .bf16) : FVec F S6x4096 .fp8e4m3 := k0_pay24 (k0_pay20 fx) (k0_pay21 fx) (k0_pay22 fx)

/-- The activations before they are stored. -/
def actsOf (c : Dev nD) (fx : Vec F S6x4096 .bf16) (fwu : Buf (Elt F) (wuH.view.loc (c : Thread nD τ))) (fwus fbu : Vec F S1x11008 .f32) : Vec F S6x11008 .f32 :=
  HF c (scalesOf fx) (lhsOf (codesOf fx)) fwu fwus fbu

/-- The down-projection of the live blocks. -/
def downOf (c : Dev nD) (fwd : Buf (Elt F) (wdH.view.loc (c : Thread nD τ))) (H : Vec F S6x11008 .f32) : Vec F S8x4096 .f32 := accFin c fwd (hcB H) (al H) (cnt H 86)

/-- The body's scratch, at anything. -/
def Scr (c : Dev nD) : sProp 𝕄 :=
  iprop((∃ f : Buf (Elt F) (xV.view.loc (c : Thread nD τ)), pt (F := F) c xV f)
    ∗ (∃ f : Buf (Elt F) (wusV.view.loc (c : Thread nD τ)), pt (F := F) c wusV f)
    ∗ (∃ f : Buf (Elt F) (buV.view.loc (c : Thread nD τ)), pt (F := F) c buV f)
    ∗ (∃ f : Buf (Elt F) (wdsV.view.loc (c : Thread nD τ)), pt (F := F) c wdsV f)
    ∗ (∃ f : Buf (Elt F) (cV.view.loc (c : Thread nD τ)), pt (F := F) c cV f)
    ∗ (∃ f : Buf (Elt F) (sV.view.loc (c : Thread nD τ)), pt (F := F) c sV f)
    ∗ (∃ f : Buf (Elt F) (hV.view.loc (c : Thread nD τ)), pt (F := F) c hV f)
    ∗ (∃ f : Buf (Elt F) (yV.view.loc (c : Thread nD τ)), pt (F := F) c yV f)
    ∗ (∃ f : Buf (Elt F) (lhsV.view.loc (c : Thread nD τ)), pt (F := F) c lhsV f)
    ∗ (∃ f : Buf (Elt F) (hcV.view.loc (c : Thread nD τ)), pt (F := F) c hcV f)
    ∗ (∃ f : Buf (Elt F) (accV.view.loc (c : Thread nD τ)), pt (F := F) c accV f)
    ∗ (∃ f : Buf (Elt F) (wuV.view.loc (c : Thread nD τ)), pt (F := F) c wuV f)
    ∗ (∃ f : Buf (Elt F) (wdV.view.loc (c : Thread nD τ)), pt (F := F) c wdV f)
    ∗ (∃ f : Buf (Elt F) (alS.view.loc (c : Thread nD τ)), pt (F := F) c alS f))

/-- The body's cells, at zero. -/
def Cells (c : Dev nD) : sProp 𝕄 :=
  iprop((semVal ((c : Thread nD τ), SemLoc.dma (isem 0 inb_S4_S1_0)) 0
    ∗ semVal ((c : Thread nD τ), SemLoc.dma (isem 1 inb_S4_S1_1)) 0
    ∗ semVal ((c : Thread nD τ), SemLoc.dma (isem 2 inb_S4_S1_2)) 0
    ∗ semVal ((c : Thread nD τ), SemLoc.dma (isem 3 inb_S4_S1_3)) 0
    ∗ semVal ((c : Thread nD τ), SemLoc.dma (osem 0 inb_S4_S1_0)) 0
    ∗ semVal ((c : Thread nD τ), SemLoc.dma (osem 1 inb_S4_S1_1)) 0
    ∗ semVal ((c : Thread nD τ), SemLoc.dma (osem 2 inb_S4_S1_2)) 0
    ∗ semVal ((c : Thread nD τ), SemLoc.dma (osem 3 inb_S4_S1_3)) 0)
    ∗ (bigSep Finset.univ fun q : Fin 5 => semVal ((c : Thread nD τ), SemLoc.dma (usem q)) 0)
    ∗ (bigSep Finset.univ fun q : Fin 16 => semVal ((c : Thread nD τ), SemLoc.dma (dsem q)) 0))

/-- The body's arguments. -/
def Args (c : Dev nD) (fx : Buf (Elt F) (xH.view.loc (c : Thread nD τ))) (fwu : Buf (Elt F) (wuH.view.loc (c : Thread nD τ))) (fwus : Buf (Elt F) (wusH.view.loc (c : Thread nD τ))) (fbu : Buf (Elt F) (buH.view.loc (c : Thread nD τ))) (fwd : Buf (Elt F) (wdH.view.loc (c : Thread nD τ))) (fwds : Buf (Elt F) (wdsH.view.loc (c : Thread nD τ))) : sProp 𝕄 :=
  iprop(pt c xH fx ∗ pt c wuH fwu ∗ pt c wusH fwus ∗ pt c buH fbu ∗ pt c wdH fwd ∗ pt c wdsH fwds)

/-- The body's results. -/
def Outs (c : Dev nD) (fy : Buf (Elt F) (yH.view.loc (c : Thread nD τ))) (fh : Buf (Elt F) (hH.view.loc (c : Thread nD τ))) (fc : Buf (Elt F) (cH.view.loc (c : Thread nD τ))) (fs : Buf (Elt F) (sH.view.loc (c : Thread nD τ))) : sProp 𝕄 :=
  iprop(pt c yH fy ∗ pt c hH fh ∗ pt c cH fc ∗ pt c sH fs)

set_option maxHeartbeats 4000000 in
theorem body_run (c : Dev nD) (fx : Vec F S6x4096 .bf16) (fwu : Buf (Elt F) (wuH.view.loc (c : Thread nD τ))) (fwus fbu : Vec F S1x11008 .f32) (fwd : Buf (Elt F) (wdH.view.loc (c : Thread nD τ))) (fwds : Vec F S1x4096 .f32)
    (gy : Buf (Elt F) (yH.view.loc (c : Thread nD τ))) (gh : Buf (Elt F) (hH.view.loc (c : Thread nD τ))) (gc : Buf (Elt F) (cH.view.loc (c : Thread nD τ))) (gs : Buf (Elt F) (sH.view.loc (c : Thread nD τ))) (H : Vec F S6x11008 .f32) (hHF : actsOf c fx fwu fwus fbu = H) (Q : PUnit → sProp 𝕄) :
    iprop(Scr c ∗ Cells c ∗ Args c fx fwu fwus fbu fwd fwds ∗ Outs c gy gh gc gs ∗ Ow c
      ∗ (Scr c ∗ Cells c ∗ Args c fx fwu fwus fbu fwd fwds
          ∗ Outs c (k0_pay4 (six (downOf c fwd H)) fwds) (hB H) (k0_pay26 (k0_pay20 fx) (k0_pay21 fx) (k0_pay22 fx)) (k0_pay27 (k0_pay21 fx) (k0_pay22 fx)) ∗ Ow c -∗ Q ⟨⟩))
      ⊢ WP c (cc0_relu_mlp_decode xH (Memref.isWhole_whole _) wuH (Memref.isWhole_whole _) wusH (Memref.isWhole_whole _) buH (Memref.isWhole_whole _) wdH (Memref.isWhole_whole _) wdsH (Memref.isWhole_whole _) yH (Memref.isWhole_whole _) hH (Memref.isWhole_whole _) cH (Memref.isWhole_whole _) sH (Memref.isWhole_whole _) xV (Memref.isWhole_whole _) wusV (Memref.isWhole_whole _) buV (Memref.isWhole_whole _) wdsV (Memref.isWhole_whole _) cV (Memref.isWhole_whole _) sV (Memref.isWhole_whole _) hV (Memref.isWhole_whole _) yV (Memref.isWhole_whole _) lhsV (Memref.isWhole_whole _) hcV (Memref.isWhole_whole _) accV (Memref.isWhole_whole _) wuV (Memref.isWhole_whole _) wdV (Memref.isWhole_whole _) alS (Memref.isWhole_whole _) inS ouS upS dnS) Q := by
  have hn := cnt_le H 84
  have hn6 := cnt_le H 86
  have hm : cnt H 84 ≤ cnt H 86 := cnt_mono H (by decide)
  generalize hT : tileL c (scalesOf fx) (lhsOf (codesOf fx)) fwu fwus fbu = T
  have hTT : ∀ (r : Fin 6) (l : Fin 256) (h : 128 * 84 + l.val < 11008), T (ix2 r l : S6x256.Idx) = H (ix2 r ⟨128 * 84 + l.val, h⟩ : S6x11008.Idx) := by
    subst hHF hT
    exact fun r l h => tileL_HF c (scalesOf fx) (lhsOf (codesOf fx)) fwu fwus fbu r l h
  have e4 := w4_eq T H 84 (by decide) hTT c (scalesOf fx) (lhsOf (codesOf fx)) fwu fwus fbu hT
  have e5 : Scalar.addi (BitVec.ofNat 32 (cnt H 84)) (w4 c (scalesOf fx) (lhsOf (codesOf fx)) fwu fwus fbu) = BitVec.ofNat 32 (cnt H 85) := by rw [e4, cnt_succ]
  have e6 : Scalar.addi (Scalar.addi (BitVec.ofNat 32 (cnt H 84)) (w4 c (scalesOf fx) (lhsOf (codesOf fx)) fwu fwus fbu)) (w5 T) = BitVec.ofNat 32 (cnt H 86) := by
    rw [e5, w5_eq T H 84 (by decide) hTT, cnt_succ]
  have hw8 : k0_chk8 (BitVec.ofNat 32 (cnt H 84)) := k0_chk8_w _ (by omega) rfl
  have hw9 : k0_chk9 (BitVec.ofNat 32 (cnt H 84)) (w4 c (scalesOf fx) (lhsOf (codesOf fx)) fwu fwus fbu) := k0_chk9_w _ _ (by have := cnt_le H 85; omega) e5
  rw [cc0_relu_mlp_decode_eq_skeleton]
  unfold cc0_relu_mlp_decode_skel Scr Cells Args Outs
  iintro ⟨⟨⟨%gxV, HxV⟩, ⟨%gwusV, HwusV⟩, ⟨%gbuV, HbuV⟩, ⟨%gwdsV, HwdsV⟩, ⟨%gcV, HcV⟩, ⟨%gsV, HsV⟩, ⟨%ghV, HhV⟩, ⟨%gyV, HyV⟩, ⟨%glhsV, HlhsV⟩, ⟨%ghcV, HhcV⟩, ⟨%gaccV, HaccV⟩, ⟨%gwuV, HwuV⟩, ⟨%gwdV, HwdV⟩, ⟨%galS, HalS⟩⟩, ⟨⟨HI0, HI1, HI2, HI3, HO0, HO1, HO2, HO3⟩, Hus, Hds⟩, ⟨HxH, HwuH, HwusH, HbuH, HwdH, HwdsH⟩, ⟨HyH, HhH, HcH, HsH⟩, HO, HQ⟩
  ihave HU := (up_split c fwu) $$ [Hus HwuV HwuH]
  · isplitl [Hus]; · iexact Hus
    isplitl [HwuV]; · iexists gwuV; iexact HwuV
    iexact HwuH
  icases HU with ⟨HU, HUr, HUt⟩
  ihave HD := (down_split c fwd) $$ [Hds HwdV HwdH]
  · isplitl [Hds]; · iexact Hds
    isplitl [HwdV]; · iexists gwdV; iexact HwdV
    iexact HwdH
  icases HD with ⟨HD, HDr, HDt⟩
  iapply (k0_part6_run c fx fwu gxV)
  isplitl [HU]; · iexact HU
  isplitl [HxH]; · iexact HxH
  isplitl [HxV]; · iexact HxV
  isplitl [HI0]; · iexact HI0
  iintro ⟨HU, HF0⟩
  iapply (k0_part7_run c fx fwu fwus fbu fwds gwusV gbuV gwdsV)
  isplitl [HU]; · iexact HU
  isplitl [HF0]; · iexact HF0
  isplitl [HO]; · iexact HO
  isplitl [HwusH]; · iexact HwusH
  isplitl [HwusV]; · iexact HwusV
  isplitl [HI1]; · iexact HI1
  isplitl [HbuH]; · iexact HbuH
  isplitl [HbuV]; · iexact HbuV
  isplitl [HI2]; · iexact HI2
  isplitl [HwdsH]; · iexact HwdsH
  isplitl [HwdsV]; · iexact HwdsV
  isplitl [HI3]; · iexact HI3
  iintro ⟨HU, HxH, HxV, HI0, HO, HF1, HF2, HF3⟩
  iapply (k0_part8_run c (k0_pay20 fx) (k0_pay21 fx) (k0_pay22 fx) gcV gsV)
  isplitl [HcV]; · iexact HcV
  isplitl [HsV]; · iexact HsV
  iintro ⟨HcV, HsV⟩
  iapply (k0_part9_run c (codesOf fx) (scalesOf fx) fwu fwus fbu fwd H hHF hw8 glhsV gaccV ghcV galS ghV
    (k0_pay26 (k0_pay20 fx) (k0_pay21 fx) (k0_pay22 fx)) (k0_pay27 (k0_pay21 fx) (k0_pay22 fx)) gc gs)
  isplitl [HU]; · iexact HU
  isplitl [HD]; · iexact HD
  isplitl [HO]; · iexact HO
  isplitl [HlhsV]; · iexact HlhsV
  isplitl [HaccV]; · iexact HaccV
  isplitl [HhcV]; · iexact HhcV
  isplitl [HalS]; · iexact HalS
  isplitl [HhV]; · iexact HhV
  isplitl [HcV]; · iexact HcV
  isplitl [HcH]; · iexact HcH
  isplitl [HO0]; · iexact HO0
  isplitl [HsV]; · iexact HsV
  isplitl [HsH]; · iexact HsH
  isplitl [HO1]; · iexact HO1
  isplitl [HF1]; · iexact HF1
  isplitl [HF2]; · iexact HF2
  iintro %s %fh ⟨%hs, HU, HL, HD, HO, HlhsV, HwusV, HbuV, HhV, HaccV, HO0, HO1, HwusH, HI1, HbuH, HI2⟩
  obtain ⟨hs, hfh⟩ := hs
  iapply (k0_part10_run c (scalesOf fx) (lhsOf (codesOf fx)) fwu fwus fbu H hHF T hT (BitVec.ofNat 32 (cnt H 84)) rfl hw8 hw9 fh hfh)
  isplitl [HU]; · iexact HU
  isplitl [HL]; · iexact HL
  isplitl [HO]; · iexact HO
  isplitl [HlhsV]; · iexact HlhsV
  isplitl [HwusV]; · iexact HwusV
  isplitl [HbuV]; · iexact HbuV
  isplitl [HhV]; · iexact HhV
  iintro %fh' ⟨%hfh', HU, HL, HO, HlhsV, HwusV, HbuV, HhV⟩
  obtain rfl : fh' = hB H := by
    funext x
    have e := eq_ix2 (x : S6x11008.Idx)
    rw [e]
    exact hfh' _ _ (x 1).isLt
  have hw10 : k0_chk10 (BitVec.ofNat 32 (cnt H 84)) (BitVec.ofNat 32 s) (w4 c (scalesOf fx) (lhsOf (codesOf fx)) fwu fwus fbu) (w5 T) :=
    k0_chk10_w _ _ _ _ e6 hn6 rfl (by omega)
  have e190 : Scalar.maxsi (BitVec.ofNat 32 s) (Scalar.minsi (Scalar.addi (Scalar.addi (BitVec.ofNat 32 (cnt H 84)) (w4 c (scalesOf fx) (lhsOf (codesOf fx)) fwu fwus fbu)) (w5 T)) 16#32)
      = BitVec.ofNat 32 (min (cnt H 86) 16) := by
    rw [e6, show (16#32 : BitVec 32) = BitVec.ofNat 32 16 from rfl, minsi_w (by omega) (by omega), maxsi_w (by omega) (by omega)]
    exact congrArg (BitVec.ofNat 32) (show max s (min (cnt H 86) 16) = min (cnt H 86) 16 by omega)
  iapply (k0_part11_run c fwd H T hTT (BitVec.ofNat 32 (cnt H 84)) (BitVec.ofNat 32 s) (w4 c (scalesOf fx) (lhsOf (codesOf fx)) fwu fwus fbu) e4 rfl s rfl hs hw8 hw9 hw10 (hB H) gh)
  isplitl [HL]; · iexact HL
  isplitl [HD]; · iexact HD
  isplitl [HhV]; · iexact HhV
  isplitl [HhH]; · iexact HhH
  isplitl [HO2]; · iexact HO2
  iintro %v198 %v203 %A %hcf ⟨%L, HalS, HhcV, HD, HO2⟩
  iapply (k0_t6_run c fwd (hcB H) (al H) A hcf _ _ _ _ hw10 _ rfl _ rfl (cnt H 86) e6 hn6 L.words L.rows _ _ e190)
  isplitl [HD]; · iexact HD
  isplitl [HalS]; · iexact HalS
  isplitl [HO]; · iexact HO
  isplitl [HhcV]; · iexact HhcV
  isplitl [HaccV]; · iexact HaccV
  iintro %r ⟨HD, HalS, HO, HhcV, HaccV⟩
  iapply (WP_for0 c (k0_t9_loop _ _ _) (Scf.rem_trips _ _))
  have hepi := k0_epi_run c fwd (hcB H) (al H) A hcf _ _ _ _ hw10 (cnt H 86) e6 hn6 L.words L.rows fwds
    (k0_pay26 (k0_pay20 fx) (k0_pay21 fx) (k0_pay22 fx)) (k0_pay27 (k0_pay21 fx) (k0_pay22 fx)) (hB H) Q
  unfold k0_epi EpiPre EpiPost at hepi
  iapply hepi
  isplitr [HQ HU HUr HUt HDr HDt HxH HxV HI0 HlhsV HwusV HbuV HwusH HI1 HbuH HI2]
  · isplitl [HD]; · iexact HD
    isplitl [HalS]; · iexact HalS
    isplitl [HO]; · iexact HO
    isplitl [HhcV]; · iexact HhcV
    isplitl [HaccV]; · iexact HaccV
    isplitl [HF3]; · iexact HF3
    isplitl [HyV]; · iexists gyV; iexact HyV
    isplitl [HyH]; · iexists gy; iexact HyH
    isplitl [HO3]; · iexact HO3
    isplitl [HO0]; · iexact HO0
    isplitl [HO1]; · iexact HO1
    iexact HO2
  iintro ⟨HD, HalS, HO, HhcV, HaccV, ⟨HwdsV, HwdsH, HI3⟩, ⟨HyH, HyV, HO3⟩, ⟨HcH, HcV, HO0⟩, ⟨HsH, HsV, HO1⟩, ⟨HhH, HhV, HO2⟩⟩
  ihave HU := (up_join c fwu gwuV) $$ [HU HUr HUt]
  · isplitl [HU]; · iexact HU
    isplitl [HUr]; · iexact HUr
    iexact HUt
  icases HU with ⟨Hus, HwuV, HwuH⟩
  ihave HD := (down_join c fwd gwdV) $$ [HD HDr HDt]
  · isplitl [HD]; · iexact HD
    isplitl [HDr]; · iexact HDr
    iexact HDt
  icases HD with ⟨Hds, HwdV, HwdH⟩
  iapply HQ
  isplitl [HxV HwusV HbuV HwdsV HcV HsV HhV HyV HlhsV HhcV HaccV HwuV HwdV HalS]
  · isplitl [HxV]; · iexists _; iexact HxV
    isplitl [HwusV]; · iexists _; iexact HwusV
    isplitl [HbuV]; · iexists _; iexact HbuV
    isplitl [HwdsV]; · iexists _; iexact HwdsV
    isplitl [HcV]; · iexists _; iexact HcV
    isplitl [HsV]; · iexists _; iexact HsV
    isplitl [HhV]; · iexists _; iexact HhV
    isplitl [HyV]; · iexists _; iexact HyV
    isplitl [HlhsV]; · iexists _; iexact HlhsV
    isplitl [HhcV]; · iexists _; iexact HhcV
    isplitl [HaccV]; · iexists _; iexact HaccV
    isplitl [HwuV]; · iexact HwuV
    isplitl [HwdV]; · iexact HwdV
    iexists _; iexact HalS
  isplitl [HI0 HI1 HI2 HI3 HO0 HO1 HO2 HO3 Hus Hds]
  · isplitl [HI0 HI1 HI2 HI3 HO0 HO1 HO2 HO3]
    · isplitl [HI0]; · iexact HI0
      isplitl [HI1]; · iexact HI1
      isplitl [HI2]; · iexact HI2
      isplitl [HI3]; · iexact HI3
      isplitl [HO0]; · iexact HO0
      isplitl [HO1]; · iexact HO1
      isplitl [HO2]; · iexact HO2
      iexact HO3
    isplitl [Hus]; · iexact Hus
    iexact Hds
  isplitl [HxH HwuH HwusH HbuH HwdH HwdsH]
  · isplitl [HxH]; · iexact HxH
    isplitl [HwuH]; · iexact HwuH
    isplitl [HwusH]; · iexact HwusH
    isplitl [HbuH]; · iexact HbuH
    isplitl [HwdH]; · iexact HwdH
    iexact HwdsH
  isplitl [HyH HhH HcH HsH]
  · isplitl [HyH]; · iexact HyH
    isplitl [HhH]; · iexact HhH
    isplitl [HcH]; · iexact HcH
    iexact HsH
  iexact HO

end Cert.Kernel.Hand

end
-- ==== Proof.Kernel.Launch.lean ====
/-
  The launch: the body inside `main`, what the results and the arguments end at.
-/
module

public import proofs.«01_k».proof.Proof.Kernel.Body
public import proofs.«01_k».proof.Proof.Gen.Kernel.Frame
public import Idealize.ShloMosaic.Lib.Pipeline.FrameSuffixV

@[expose] public section

noncomputable section

namespace Cert.Kernel.Hand

open Cert.Kernel Cert.Kernel.Gen Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's user algebra: the pipeline library's beside the transfers' counters. -/
local notation "𝕄" => MT nD τ sig Unit (Elt F) ℕ (Pipeline.UD sig nD τ) ℕ

open Idealize.ShloMosaic.Pipeline (Dat Cfg Window BodyObligation cellOf)

variable (m : (ℓ : Loc nD τ sig) → Buf (Elt F) ℓ) (ρ : Dev nD → PrngReg)

/-- The cells of the body's own transfers: the eight of the plain copies, the five of the up-projection ring, the sixteen
    of the down-projection ring. -/
abbrev cells : Fin 8 ⊕ (Fin 5 ⊕ Fin 16) → SemLoc sig := fun j => match j with
  | .inl i => SemLoc.dma ((![isem 0 inb_S4_S1_0, isem 1 inb_S4_S1_1, isem 2 inb_S4_S1_2, isem 3 inb_S4_S1_3, osem 0 inb_S4_S1_0, osem 1 inb_S4_S1_1, osem 2 inb_S4_S1_2, osem 3 inb_S4_S1_3] : Fin 8 → DmaSem sig) i)
  | .inr (.inl q) => SemLoc.dma (usem q)
  | .inr (.inr q) => SemLoc.dma (dsem q)

theorem cellFacts : Pipeline.OwnSemFacts (cfg0.spec) cells := by decide

theorem cells_eq (c : Dev nD) :
    (Pipeline.ownSems0 (Ix := Unit) (Name := ℕ) (U := Pipeline.UD sig nD τ) (Lvl := ℕ) (Val := Elt F) (τ := τ) cells c : sProp 𝕄) = Cells c := by
  unfold Pipeline.ownSems0 Cells
  rw [BI.bigSep_univ_sum, BI.bigSep_univ_sum, BI.bigSep_univ_eq_bigSepL [0, 1, 2, 3, 4, 5, 6, 7] (by decide) (by decide)]
  rfl

/-- The arguments the body reads, and the results it writes. -/
def Hs : Finset (Ref sig .tc) := {main_v0, main_arg1, main_v1, main_v2, main_arg4, main_v3}
def Rs : Finset (Ref sig .tc) := {main_v4_0, main_v4_1, main_v4_2, main_v4_3}
theorem Hs_sub : Hs ⊆ Pipeline.restRefs sig (cfg0.spec) := by decide
theorem Rs_sub : Rs ⊆ Pipeline.restRefs sig (cfg0.spec) \ Hs := by decide

theorem Hs_eq (c : Dev nD) (V : (b : Ref sig .tc) → Buf (Elt F) ((c : Thread nD τ).loc b)) :
    (bigSep Hs (fun b => ((c : Thread nD τ).loc b) ↦{fullShare} V b) : sProp 𝕄)
      = Args c (V main_v0) (V main_arg1) (V main_v1) (V main_v2) (V main_arg4) (V main_v3) := by
  rw [BI.bigSep_eq_bigSepL_of_eq [main_v0, main_arg1, main_v1, main_v2, main_arg4, main_v3] (by decide) (by decide)]; rfl
theorem Rs_eq (c : Dev nD) (V : (b : Ref sig .tc) → Buf (Elt F) ((c : Thread nD τ).loc b)) :
    (bigSep Rs (fun b => ((c : Thread nD τ).loc b) ↦{fullShare} V b) : sProp 𝕄)
      = Outs c (V main_v4_0) (V main_v4_1) (V main_v4_2) (V main_v4_3) := by
  rw [BI.bigSep_eq_bigSepL_of_eq [main_v4_0, main_v4_1, main_v4_2, main_v4_3] (by decide) (by decide)]; rfl

/-! ## What the results end at -/

def actsAt (c : Dev nD) : Vec F S6x11008 .f32 :=
  actsOf c (Gen.V m c main_v0) (Gen.V m c main_arg1) (Gen.V m c main_v1) (Gen.V m c main_v2)
def yAt (c : Dev nD) : Vec F S6x4096 .bf16 := k0_pay4 (six (downOf c (Gen.V m c main_arg4) (actsAt m c))) (Gen.V m c main_v3)
def hAt (c : Dev nD) : Vec F S6x11008 .bf16 := hB (actsAt m c)
def cAt (c : Dev nD) : Vec F S6x4096 .fp8e4m3 := k0_pay26 (k0_pay20 (Gen.V m c main_v0)) (k0_pay21 (Gen.V m c main_v0)) (k0_pay22 (Gen.V m c main_v0))
def sAt (c : Dev nD) : Vec F S1x6 .f32 := k0_pay27 (k0_pay21 (Gen.V m c main_v0)) (k0_pay22 (Gen.V m c main_v0))

/-- Every buffer after the body: the results as above, the rest as it was. -/
def G (c : Dev nD) : (b : Ref sig .tc) → Buf (Elt F) ((c : Thread nD τ).loc b) :=
  Function.update (Function.update (Function.update (Function.update (Gen.V m c) main_v4_0 (yAt m c)) main_v4_1 (hAt m c))
    main_v4_2 (cAt m c)) main_v4_3 (sAt m c)

theorem G_y (c : Dev nD) : G m c main_v4_0 = yAt m c := by
  unfold G
  rw [Function.update_of_ne (by decide), Function.update_of_ne (by decide), Function.update_of_ne (by decide), Function.update_self]
theorem G_h (c : Dev nD) : G m c main_v4_1 = hAt m c := by
  unfold G
  rw [Function.update_of_ne (by decide), Function.update_of_ne (by decide), Function.update_self]
theorem G_c (c : Dev nD) : G m c main_v4_2 = cAt m c := by
  unfold G
  rw [Function.update_of_ne (by decide), Function.update_self]
theorem G_s (c : Dev nD) : G m c main_v4_3 = sAt m c := by
  unfold G
  rw [Function.update_self]

/-! ## The body's obligation -/

/-- The body's invariant: before the one point, and after it. -/
def inv (c : Dev nD) (G : (b : Ref sig .tc) → Buf (Elt F) ((c : Thread nD τ).loc b)) : sProp 𝕄 :=
  iprop(Scr c ∗ Cells c ∗ Args c (Gen.V m c main_v0) (Gen.V m c main_arg1) (Gen.V m c main_v1) (Gen.V m c main_v2) (Gen.V m c main_arg4) (Gen.V m c main_v3)
    ∗ Outs c (G main_v4_0) (G main_v4_1) (G main_v4_2) (G main_v4_3))

theorem inv_eq (c : Dev nD) (G : (c : Dev nD) → (b : Ref sig .tc) → Buf (Elt F) ((c : Thread nD τ).loc b)) :
    (Pipeline.ΦDRV cells (cfg0.spec) Hs Rs (Gen.V m) G c : sProp 𝕄) = inv m c (G c) := by
  unfold Pipeline.ΦDRV inv
  rw [Gen.scopedRest0_eq, cells_eq, Hs_eq, Rs_eq]
  rfl

def dats (_ : Fin 1) (c : Dev nD) : Dat τ (Elt F) Unit ℕ (Pipeline.UD sig nD τ) ℕ cfg0 c where
  A w := Gen.V m c (Pipeline.arrRef (cfg0.spec) w)
  after w _ := w.elim0
  Φ i := if i.val = 0 then inv m c (Gen.V m c) else inv m c (G m c)
  q _ := fullShare
  owed _ := 0

theorem sound_body (c : Dev nD) (Q : PUnit → sProp 𝕄) :
    iprop(inv m c (Gen.V m c) ∗ Ow c ∗ (inv m c (G m c) ∗ Ow c -∗ Q ⟨⟩)) ⊢ WP c (Gen.bodyAt0 Gen.t0_0) Q := by
  unfold inv Gen.bodyAt0
  rw [G_y, G_h, G_c, G_s]
  unfold yAt hAt cAt sAt
  iintro ⟨⟨HS, HC, HA, HR⟩, HO, HQ⟩
  iapply (body_run c (Gen.V m c main_v0) (Gen.V m c main_arg1) (Gen.V m c main_v1) (Gen.V m c main_v2) (Gen.V m c main_arg4) (Gen.V m c main_v3)
    (Gen.V m c main_v4_0) (Gen.V m c main_v4_1) (Gen.V m c main_v4_2) (Gen.V m c main_v4_3) (actsAt m c) rfl)
  isplitl [HS]; · iexact HS
  isplitl [HC]; · iexact HC
  isplitl [HA]; · iexact HA
  isplitl [HR]; · iexact HR
  isplitl [HO]; · iexact HO
  iintro ⟨HS, HC, HA, HR, HO⟩
  iapply HQ
  isplitr [HO]
  · isplitl [HS]; · iexact HS
    isplitl [HC]; · iexact HC
    isplitl [HA]; · iexact HA
    iexact HR
  iexact HO

def bodyPre (c : Dev nD) (t : Fin cfg0.N) : sProp 𝕄 := iprop((dats m 0 c).Φ t.castSucc ∗ (dats m 0 c).owesAt () t.castSucc ∗ emp)
def bodyPost (c : Dev nD) (t : Fin cfg0.N) : sProp 𝕄 := iprop((dats m 0 c).Φ t.succ ∗ (dats m 0 c).owesAt () t.succ ∗ emp)

theorem sound_at (c : Dev nD) (t : Fin cfg0.N) : bodyPre m c t ⊢ WP c (Gen.bodyAt0 t) (fun _ => bodyPost m c t) := by
  obtain rfl : t = Gen.t0_0 := Gen.fin_N0 t
  unfold bodyPre bodyPost
  rw [show (dats m 0 c).Φ (Fin.castSucc Gen.t0_0) = inv m c (Gen.V m c) from (by dsimp only [dats]; exact if_pos rfl),
    show (dats m 0 c).Φ (Fin.succ Gen.t0_0) = inv m c (G m c) from (by dsimp only [dats]; exact if_neg (by decide))]
  unfold Dat.owesAt Pipeline.owesWithin
  rw [show (dats m 0 c).owed (Fin.castSucc Gen.t0_0) = 0 from rfl, show (dats m 0 c).owed (Fin.succ Gen.t0_0) = 0 from rfl]
  iintro ⟨HI, ⟨%W, -, HW⟩, -⟩
  iapply (sound_body m c)
  isplitl [HI]; · iexact HI
  isplitl [HW]; · unfold Ow; iexists W; iexact HW
  iintro ⟨HI, HO⟩
  isplitl [HI]; · iexact HI
  isplitl [HO]
  · unfold Ow
    icases HO with ⟨%W', HO⟩
    iexists W'; isplitr; · ipureintro; exact fun _ _ => Or.inl trivial
    iexact HO
  iempintro

theorem defs₀_row (t : Fin cfg0.N) :
    defs₀ (F := F) .tc cfg0.body (cfg0.bodyArgs t (cfg0.slots t)) = Gen.bodyAt0 t := by
  unfold defs₀; rw [Defs.onTc_tc]

theorem body_obligation (c : Dev nD) : BodyObligation (dats (F := F) m 0 c) (defs₀ (F := F)) Variants.none () Set.univ := fun t => by
  rw [defs₀_row]
  exact triple_restated (sound_at m c t) rfl .rfl fun _ => .rfl

/-! ## The run -/

set_option maxHeartbeats 800000 in
theorem hmain (𝒱₀ : Variants) : Pipeline.HMainK (Ix := Unit) (Name := ℕ) (U := Pipeline.UD sig nD τ) (Lvl := ℕ) cfgs 0 defs₀ 𝒱₀ m (main (F := F)) (Gen.V m)
      (fun _ => Pipeline.chain ([Gen.hostOps1].map StableHlo.seq)) :=
  Pipeline.hmain_around cfgs 0 defs₀ 𝒱₀ m main [Gen.hostOps0] [Gen.hostOps1] (by simp only [List.Forall]; exact Gen.hostOps0_sub)
    (by simp only [List.Forall]; exact Gen.hostOps0_fresh) Gen.main_chain

/-- Every buffer when the body has returned, and when the lines after it have run. -/
abbrev mid (c : Dev nD) : Valuation τ sig (Elt F) :=
  Pipeline.withArrays (cfg0.spec) c (Pipeline.withR (Gen.V0 m c) Rs c (G m c)) fun w => (dats m 0 c).arrAt w cfg0.N
abbrev fin (c : Dev nD) (b : Ref sig .tc) : Buf (Elt F) ((c : Thread nD τ).loc b) :=
  StableHlo.after (List.flatten [Gen.hostOps1]) (mid m c) (Proc.devRef .tc b)

set_option backward.isDefEq.respectTransparency.types false in
theorem run_main : θ_run defs (onTc (τ := τ) (main (F := F))) (s₀ m ρ)
    (fun r => (∀ c : Dev nD, ∀ b ∈ Pipeline.restRefs sig (cfg0.spec), r.2.mem ((c : Thread nD τ).loc b) = fin m c b) ∧ r.2.sem = fun _ => 0) :=
  Pipeline.θ_run_frame_dmaR_aroundV cfgs (dats m) (0 : Fin 1) Gen.launch0 cells defs₀ Variants.none cellFacts Hs Rs Hs_sub Rs_sub m ρ main
    (hbody := fun c => (body_obligation m c).loose) (hshare := fun c => (dats m 0 c).share_full fun _ => rfl)
    (howed := fun _ _ => rfl) (V₀ := Gen.V0 m) (opss := [Gen.hostOps1]) (hsub := Gen.sfx_sub) (hfresh := Gen.sfx_fresh) (hkeep := Gen.sfx_keeps)
    (G := G m) (hmain := hmain m Variants.none) (hA := fun _ w => w.elim0)
    (hin := fun c => Entails.of_eq (inv_eq m c (Gen.V m))) (hout := fun c => Entails.of_eq (inv_eq m c (G m)).symm)
    (Q' := fun r => (∀ c : Dev nD, ∀ b ∈ Pipeline.restRefs sig (cfg0.spec), r.2.mem ((c : Thread nD τ).loc b) = fin m c b) ∧ r.2.sem = fun _ => 0)
    (hQ' := fun r h => ⟨fun c b hb => (h.1 c).2 b hb, h.2⟩)

/-! ## The arguments and the results at the end -/

theorem mid_arg (c : Dev nD) (b : Ref sig .tc) (hb : b ∉ Rs) : mid m c (Proc.devRef .tc b) = Gen.V m c b := by
  unfold mid
  rw [Pipeline.withArrays_of_ne _ c _ _ b (fun w => w.elim0), Pipeline.withR_of_not_mem _ _ _ _ b hb]
theorem mid_res (c : Dev nD) (b : Ref sig .tc) (hb : b ∈ Rs) : mid m c (Proc.devRef .tc b) = G m c b := by
  unfold mid
  rw [Pipeline.withArrays_of_ne _ c _ _ b (fun w => w.elim0), Pipeline.withR_of_mem _ _ _ _ b hb]

theorem fin_arg0 (c : Dev nD) : fin m c main_arg0 = m ((c : Thread nD τ).loc main_arg0) := by
  unfold fin
  rw [StableHlo.after_of_forall_not_mem (b := Proc.devRef .tc main_arg0) _ _ (List.forall_iff_forall_mem.mp (by
      simp only [Gen.hostOps1, List.flatten_cons, List.flatten_nil, List.append_nil, List.cons_append,
        List.nil_append, List.Forall, StableHlo.reshape_writes, Finset.mem_singleton]
      repeat' apply And.intro
      all_goals exact StableHlo.devRef_ne_of_ne (by decide))),
    mid_arg m c main_arg0 (by decide)]
  exact Gen.V_main_arg0 m c
theorem fin_arg1 (c : Dev nD) : fin m c main_arg1 = m ((c : Thread nD τ).loc main_arg1) := by
  unfold fin
  rw [StableHlo.after_of_forall_not_mem (b := Proc.devRef .tc main_arg1) _ _ (List.forall_iff_forall_mem.mp (by
      simp only [Gen.hostOps1, List.flatten_cons, List.flatten_nil, List.append_nil, List.cons_append,
        List.nil_append, List.Forall, StableHlo.reshape_writes, Finset.mem_singleton]
      repeat' apply And.intro
      all_goals exact StableHlo.devRef_ne_of_ne (by decide))),
    mid_arg m c main_arg1 (by decide)]
  exact Gen.V_main_arg1 m c
theorem fin_arg2 (c : Dev nD) : fin m c main_arg2 = m ((c : Thread nD τ).loc main_arg2) := by
  unfold fin
  rw [StableHlo.after_of_forall_not_mem (b := Proc.devRef .tc main_arg2) _ _ (List.forall_iff_forall_mem.mp (by
      simp only [Gen.hostOps1, List.flatten_cons, List.flatten_nil, List.append_nil, List.cons_append,
        List.nil_append, List.Forall, StableHlo.reshape_writes, Finset.mem_singleton]
      repeat' apply And.intro
      all_goals exact StableHlo.devRef_ne_of_ne (by decide))),
    mid_arg m c main_arg2 (by decide)]
  exact Gen.V_main_arg2 m c
theorem fin_arg3 (c : Dev nD) : fin m c main_arg3 = m ((c : Thread nD τ).loc main_arg3) := by
  unfold fin
  rw [StableHlo.after_of_forall_not_mem (b := Proc.devRef .tc main_arg3) _ _ (List.forall_iff_forall_mem.mp (by
      simp only [Gen.hostOps1, List.flatten_cons, List.flatten_nil, List.append_nil, List.cons_append,
        List.nil_append, List.Forall, StableHlo.reshape_writes, Finset.mem_singleton]
      repeat' apply And.intro
      all_goals exact StableHlo.devRef_ne_of_ne (by decide))),
    mid_arg m c main_arg3 (by decide)]
  exact Gen.V_main_arg3 m c
theorem fin_arg4 (c : Dev nD) : fin m c main_arg4 = m ((c : Thread nD τ).loc main_arg4) := by
  unfold fin
  rw [StableHlo.after_of_forall_not_mem (b := Proc.devRef .tc main_arg4) _ _ (List.forall_iff_forall_mem.mp (by
      simp only [Gen.hostOps1, List.flatten_cons, List.flatten_nil, List.append_nil, List.cons_append,
        List.nil_append, List.Forall, StableHlo.reshape_writes, Finset.mem_singleton]
      repeat' apply And.intro
      all_goals exact StableHlo.devRef_ne_of_ne (by decide))),
    mid_arg m c main_arg4 (by decide)]
  exact Gen.V_main_arg4 m c
theorem fin_arg5 (c : Dev nD) : fin m c main_arg5 = m ((c : Thread nD τ).loc main_arg5) := by
  unfold fin
  rw [StableHlo.after_of_forall_not_mem (b := Proc.devRef .tc main_arg5) _ _ (List.forall_iff_forall_mem.mp (by
      simp only [Gen.hostOps1, List.flatten_cons, List.flatten_nil, List.append_nil, List.cons_append,
        List.nil_append, List.Forall, StableHlo.reshape_writes, Finset.mem_singleton]
      repeat' apply And.intro
      all_goals exact StableHlo.devRef_ne_of_ne (by decide))),
    mid_arg m c main_arg5 (by decide)]
  exact Gen.V_main_arg5 m c
theorem fin_y (c : Dev nD) : fin m c main_v5 = shapeCast S6x1x4096 (yAt m c) shapeCasts_S6x4096_S6x1x4096 := by
  have e : fin m c main_v5 = shapeCast S6x1x4096 (mid m c (Proc.devRef .tc main_v4_0)) shapeCasts_S6x4096_S6x1x4096 := by
    show StableHlo.after (List.flatten [Gen.hostOps1]) (mid m c) (main_v5 : DevRef τ sig) = _
    generalize mid m c = X
    rw [show List.flatten [Gen.hostOps1] = (Gen.hostOps1 : List (HloOp τ sig (Elt F))) from rfl]
    unfold Gen.hostOps1
    after_results
    rfl
  rw [e, mid_res m c main_v4_0 (by decide), G_y]
theorem fin_h (c : Dev nD) : fin m c main_v6 = shapeCast S6x1x11008 (hAt m c) shapeCasts_S6x11008_S6x1x11008 := by
  have e : fin m c main_v6 = shapeCast S6x1x11008 (mid m c (Proc.devRef .tc main_v4_1)) shapeCasts_S6x11008_S6x1x11008 := by
    show StableHlo.after (List.flatten [Gen.hostOps1]) (mid m c) (main_v6 : DevRef τ sig) = _
    generalize mid m c = X
    rw [show List.flatten [Gen.hostOps1] = (Gen.hostOps1 : List (HloOp τ sig (Elt F))) from rfl]
    unfold Gen.hostOps1
    after_results
    rfl
  rw [e, mid_res m c main_v4_1 (by decide), G_h]
theorem fin_c (c : Dev nD) : fin m c main_v7 = shapeCast S6x1x4096 (cAt m c) shapeCasts_S6x4096_S6x1x4096 := by
  have e : fin m c main_v7 = shapeCast S6x1x4096 (mid m c (Proc.devRef .tc main_v4_2)) shapeCasts_S6x4096_S6x1x4096 := by
    show StableHlo.after (List.flatten [Gen.hostOps1]) (mid m c) (main_v7 : DevRef τ sig) = _
    generalize mid m c = X
    rw [show List.flatten [Gen.hostOps1] = (Gen.hostOps1 : List (HloOp τ sig (Elt F))) from rfl]
    unfold Gen.hostOps1
    after_results
    rfl
  rw [e, mid_res m c main_v4_2 (by decide), G_c]
theorem fin_s (c : Dev nD) : fin m c main_v8 = shapeCast S6x1 (sAt m c) shapeCasts_S1x6_S6x1 := by
  have e : fin m c main_v8 = shapeCast S6x1 (mid m c (Proc.devRef .tc main_v4_3)) shapeCasts_S1x6_S6x1 := by
    show StableHlo.after (List.flatten [Gen.hostOps1]) (mid m c) (main_v8 : DevRef τ sig) = _
    generalize mid m c = X
    rw [show List.flatten [Gen.hostOps1] = (Gen.hostOps1 : List (HloOp τ sig (Elt F))) from rfl]
    unfold Gen.hostOps1
    after_results
    rfl
  rw [e, mid_res m c main_v4_3 (by decide), G_s]

/-- The arguments end as launched, and every semaphore at zero. -/
theorem frame : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1 c main_arg0 (Pipeline.mem_restRefs_of main_arg0 (by decide) (by decide))).trans (fin_arg0 m c),
      (h.1 c main_arg1 (Pipeline.mem_restRefs_of main_arg1 (by decide) (by decide))).trans (fin_arg1 m c),
      (h.1 c main_arg2 (Pipeline.mem_restRefs_of main_arg2 (by decide) (by decide))).trans (fin_arg2 m c),
      (h.1 c main_arg3 (Pipeline.mem_restRefs_of main_arg3 (by decide) (by decide))).trans (fin_arg3 m c),
      (h.1 c main_arg4 (Pipeline.mem_restRefs_of main_arg4 (by decide) (by decide))).trans (fin_arg4 m c),
      (h.1 c main_arg5 (Pipeline.mem_restRefs_of main_arg5 (by decide) (by decide))).trans (fin_arg5 m c)⟩, h.2⟩) (run_main m ρ)

/-- The results' values, and the arguments as launched. -/
theorem values : θ_run defs (onTc (τ := τ) (main (F := F))) ⟨m, fun _ => 0, ρ⟩ (fun r => ∀ c : Dev nD,
      r.2.mem ((c.tc : Thread nD τ).loc main_v5) = (shapeCast S6x1x4096 (yAt m c) shapeCasts_S6x4096_S6x1x4096 : Buf (Elt F) ((c.tc : Thread nD τ).loc main_v5))
      ∧ r.2.mem ((c.tc : Thread nD τ).loc main_v6) = (shapeCast S6x1x11008 (hAt m c) shapeCasts_S6x11008_S6x1x11008 : Buf (Elt F) ((c.tc : Thread nD τ).loc main_v6))
      ∧ r.2.mem ((c.tc : Thread nD τ).loc main_v7) = (shapeCast S6x1x4096 (cAt m c) shapeCasts_S6x4096_S6x1x4096 : Buf (Elt F) ((c.tc : Thread nD τ).loc main_v7))
      ∧ r.2.mem ((c.tc : Thread nD τ).loc main_v8) = (shapeCast S6x1 (sAt m c) shapeCasts_S1x6_S6x1 : Buf (Elt F) ((c.tc : Thread nD τ).loc main_v8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h.1 c main_v5 (Pipeline.mem_restRefs_of main_v5 (by decide) (by decide))).trans (fin_y m c),
      (h.1 c main_v6 (Pipeline.mem_restRefs_of main_v6 (by decide) (by decide))).trans (fin_h m c),
      (h.1 c main_v7 (Pipeline.mem_restRefs_of main_v7 (by decide) (by decide))).trans (fin_c m c),
      (h.1 c main_v8 (Pipeline.mem_restRefs_of main_v8 (by decide) (by decide))).trans (fin_s m c),
      (h.1 c main_arg0 (Pipeline.mem_restRefs_of main_arg0 (by decide) (by decide))).trans (fin_arg0 m c),
      (h.1 c main_arg1 (Pipeline.mem_restRefs_of main_arg1 (by decide) (by decide))).trans (fin_arg1 m c),
      (h.1 c main_arg2 (Pipeline.mem_restRefs_of main_arg2 (by decide) (by decide))).trans (fin_arg2 m c),
      (h.1 c main_arg3 (Pipeline.mem_restRefs_of main_arg3 (by decide) (by decide))).trans (fin_arg3 m c),
      (h.1 c main_arg4 (Pipeline.mem_restRefs_of main_arg4 (by decide) (by decide))).trans (fin_arg4 m c),
      (h.1 c main_arg5 (Pipeline.mem_restRefs_of main_arg5 (by decide) (by decide))).trans (fin_arg5 m c)⟩) (run_main m ρ)

end Cert.Kernel.Hand

end
-- ==== Proof.Same.lean ====
/-
  The two printings of the kernel are one program: `KernelIdeal` is `Kernel`'s own text, no operation of it rewritten, so
  that what is proved of the one at every arithmetic is proved of the other.
-/
module

public import proofs.«01_k».proof.Proof.Kernel.Launch
public import proofs.«01_k».proof.Defs
public import proofs.«01_k».proof.Proof.Gen.KernelIdeal
public import proofs.«01_k».proof.Proof.Gen.ReferenceIdeal

@[expose] public section

set_option maxRecDepth 16384

noncomputable section

namespace Cert.Same

open Idealize.ShloMosaic Idealize.ShloMosaic.TcCoe Idealize.SL.Sem

theorem frame_eq : Cert.quiescent_KernelIdeal (hKernelIdeal := Cert.KernelIdeal.Gen.facts) = (∀ (m : (ℓ : Loc Cert.Kernel.nD Cert.Kernel.τ Cert.Kernel.sig) → Buf (Elt Ideal) ℓ) (g : Dev Cert.Kernel.nD → PrngReg), True →
    θ_run (Cert.Kernel.defs (F := Ideal)) (onTc (τ := Cert.Kernel.τ) (Cert.Kernel.main (F := Ideal))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)) := by sl_kernel_rfl

theorem frame : Cert.quiescent_KernelIdeal (hKernelIdeal := Cert.KernelIdeal.Gen.facts) := by
  rw [frame_eq]
  exact fun m g _ => Cert.Kernel.Hand.frame m g

/-- The kernel against the reference, said of `Kernel` at the ideal arithmetic. -/
def Alg [Cert.ReferenceIdeal.Facts] : Prop :=
  ∀ (m : (ℓ : Loc Cert.Kernel.nD Cert.Kernel.τ Cert.Kernel.sig) → Buf (Elt Ideal) ℓ) (g : Dev Cert.Kernel.nD → PrngReg)
    (m' : (ℓ : Loc Cert.ReferenceIdeal.nD Cert.ReferenceIdeal.τ Cert.ReferenceIdeal.sig) → Buf (Elt Ideal) ℓ) (g' : Dev Cert.ReferenceIdeal.nD → PrngReg), True →
    (∀ c : Dev Cert.Kernel.nD,
      m' ((c.tc : Thread Cert.ReferenceIdeal.nD Cert.ReferenceIdeal.τ).loc Cert.ReferenceIdeal.main_arg0) = m ((c.tc : Thread Cert.Kernel.nD Cert.Kernel.τ).loc Cert.Kernel.main_arg0)
      ∧ m' ((c.tc : Thread Cert.ReferenceIdeal.nD Cert.ReferenceIdeal.τ).loc Cert.ReferenceIdeal.main_arg1) = m ((c.tc : Thread Cert.Kernel.nD Cert.Kernel.τ).loc Cert.Kernel.main_arg1)
      ∧ m' ((c.tc : Thread Cert.ReferenceIdeal.nD Cert.ReferenceIdeal.τ).loc Cert.ReferenceIdeal.main_arg2) = m ((c.tc : Thread Cert.Kernel.nD Cert.Kernel.τ).loc Cert.Kernel.main_arg2)
      ∧ m' ((c.tc : Thread Cert.ReferenceIdeal.nD Cert.ReferenceIdeal.τ).loc Cert.ReferenceIdeal.main_arg3) = m ((c.tc : Thread Cert.Kernel.nD Cert.Kernel.τ).loc Cert.Kernel.main_arg3)
      ∧ m' ((c.tc : Thread Cert.ReferenceIdeal.nD Cert.ReferenceIdeal.τ).loc Cert.ReferenceIdeal.main_arg4) = m ((c.tc : Thread Cert.Kernel.nD Cert.Kernel.τ).loc Cert.Kernel.main_arg4)
      ∧ m' ((c.tc : Thread Cert.ReferenceIdeal.nD Cert.ReferenceIdeal.τ).loc Cert.ReferenceIdeal.main_arg5) = m ((c.tc : Thread Cert.Kernel.nD Cert.Kernel.τ).loc Cert.Kernel.main_arg5)) →
    ∃ (v0 : (c : Dev Cert.Kernel.nD) → Buf (Elt Ideal) ((c.tc : Thread Cert.Kernel.nD Cert.Kernel.τ).loc Cert.Kernel.main_v5)) (v1 : (c : Dev Cert.Kernel.nD) → Buf (Elt Ideal) ((c.tc : Thread Cert.Kernel.nD Cert.Kernel.τ).loc Cert.Kernel.main_v6)) (v2 : (c : Dev Cert.Kernel.nD) → Buf (Elt Ideal) ((c.tc : Thread Cert.Kernel.nD Cert.Kernel.τ).loc Cert.Kernel.main_v7)) (v3 : (c : Dev Cert.Kernel.nD) → Buf (Elt Ideal) ((c.tc : Thread Cert.Kernel.nD Cert.Kernel.τ).loc Cert.Kernel.main_v8)),
      θ_run (Cert.Kernel.defs (F := Ideal)) (onTc (τ := Cert.Kernel.τ) (Cert.Kernel.main (F := Ideal))) ⟨m, fun _ => 0, g⟩ (fun r => ∀ c : Dev Cert.Kernel.nD,
          r.2.mem ((c.tc : Thread Cert.Kernel.nD Cert.Kernel.τ).loc Cert.Kernel.main_v5) = v0 c
          ∧ r.2.mem ((c.tc : Thread Cert.Kernel.nD Cert.Kernel.τ).loc Cert.Kernel.main_v6) = v1 c
          ∧ r.2.mem ((c.tc : Thread Cert.Kernel.nD Cert.Kernel.τ).loc Cert.Kernel.main_v7) = v2 c
          ∧ r.2.mem ((c.tc : Thread Cert.Kernel.nD Cert.Kernel.τ).loc Cert.Kernel.main_v8) = v3 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3)
          ∧ r.2.mem ((c.tc : Thread Cert.Kernel.nD Cert.Kernel.τ).loc Cert.Kernel.main_arg4) = m ((c.tc : Thread Cert.Kernel.nD Cert.Kernel.τ).loc Cert.Kernel.main_arg4)
          ∧ r.2.mem ((c.tc : Thread Cert.Kernel.nD Cert.Kernel.τ).loc Cert.Kernel.main_arg5) = m ((c.tc : Thread Cert.Kernel.nD Cert.Kernel.τ).loc Cert.Kernel.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

theorem alg_eq : Cert.algebraic_KernelIdeal_ReferenceIdeal (hKernelIdeal := Cert.KernelIdeal.Gen.facts) (hReferenceIdeal := Cert.ReferenceIdeal.Gen.facts)
    = @Alg Cert.ReferenceIdeal.Gen.facts := by sl_kernel_rfl

end Cert.Same

end
-- ==== Proof.Powers.lean ====
/-
  Powers of two as words and as extended reals, and how many of them lie below a value.
-/
module

public import Idealize.ShloMosaic.Lib.Pointwise
public import Idealize.ShloMosaic.Lib.IdealHost
public import Idealize.ShloMosaic.Lib.IndicatorCount

@[expose] public section

noncomputable section

namespace Cert.Powers

open Idealize.ShloMosaic

/-- A power of two. -/
def pw (n : ℤ) : EReal := (((2 : ℝ) ^ n : ℝ) : EReal)

theorem pw_le {a b : ℤ} : pw a ≤ pw b ↔ a ≤ b := by
  unfold pw
  rw [EReal.coe_le_coe_iff]
  exact zpow_le_zpow_iff_right₀ (by norm_num)

theorem pw_lt {a b : ℤ} : pw a < pw b ↔ a < b := by
  unfold pw
  rw [EReal.coe_lt_coe_iff]
  exact zpow_lt_zpow_iff_right₀ (by norm_num)

theorem pw_pos (a : ℤ) : 0 < pw a := by
  unfold pw
  exact_mod_cast (zpow_pos (by norm_num : (0 : ℝ) < 2) a)

theorem pw_zero : pw 0 = 1 := by unfold pw; norm_num

theorem div_pw (x : EReal) (n : ℤ) : Ideal.div x (pw n) = x * pw (-n) := by
  unfold pw
  rw [Ideal.div_coe (by positivity), one_div, zpow_neg]

/-- The word with exponent field `n` and no fraction is a power of two. -/
theorem ofBits_exp (n : ℕ) (h1 : 1 ≤ n) (h2 : n ≤ 254) : Ideal.ofBits .f32 (BitVec.ofNat 32 n <<< 23) = pw ((n : ℤ) - 127) := by
  have hN : (BitVec.ofNat 32 n <<< 23 : BitVec 32).toNat = n * 2 ^ 23 := by
    rw [BitVec.toNat_shiftLeft, BitVec.toNat_ofNat, Nat.shiftLeft_eq]
    omega
  have e1 : (BitVec.extractLsb' 23 8 (BitVec.ofNat 32 n <<< 23 : BitVec 32)).toNat = n := by
    rw [BitVec.extractLsb'_toNat, hN, Nat.shiftRight_eq_div_pow]; omega
  have e2 : (BitVec.extractLsb' 0 23 (BitVec.ofNat 32 n <<< 23 : BitVec 32)).toNat = 0 := by
    rw [BitVec.extractLsb'_toNat, hN, Nat.shiftRight_eq_div_pow]; omega
  have e3 : (BitVec.extractLsb' 31 1 (BitVec.ofNat 32 n <<< 23 : BitVec 32)) = 0#1 := by
    apply BitVec.eq_of_toNat_eq
    rw [BitVec.extractLsb'_toNat, hN, Nat.shiftRight_eq_div_pow]
    show _ = 0
    omega
  show Ideal.ieee 8 23 _ = _
  unfold Ideal.ieee pw
  simp only [e1, e2, e3]
  rw [if_neg (by omega), if_neg (by omega), EReal.coe_eq_coe_iff]
  norm_num
  rw [show (n : ℤ) - 127 = 23 + ((n : ℤ) - 127 - 23) by ring, zpow_add₀ (by norm_num : (2 : ℝ) ≠ 0)]
  norm_num

theorem ofBits_minnorm : Ideal.ofBits .f32 0x00800000#32 = pw (-126) := ofBits_exp 1 (by norm_num) (by norm_num)

theorem exp2_int (n : ℤ) : Ideal.exp2 ((n : ℝ) : EReal) = pw n := by
  rw [Ideal.exp2_coe]
  unfold pw
  rw [EReal.coe_eq_coe_iff]
  exact Real.rpow_intCast 2 n

theorem ofBits_inf : Ideal.ofBits .f32 0x7F800000#32 = ⊤ := by simp [Ideal.ofBits, Ideal.ieee]
theorem ofBits_neginf : Ideal.ofBits .f32 0xFF800000#32 = ⊥ := by simp [Ideal.ofBits, Ideal.ieee]

/-- Every value lies below the normal powers, above them, or between two neighbours. -/
theorem cases_pw (v : EReal) : v < pw (-126) ∨ pw 120 ≤ v ∨ ∃ j : ℕ, j < 246 ∧ pw ((j : ℤ) - 126) ≤ v ∧ v < pw ((j : ℤ) - 125) := by
  by_cases h0 : v < pw (-126)
  · exact Or.inl h0
  by_cases h1 : pw 120 ≤ v
  · exact Or.inr (Or.inl h1)
  refine Or.inr (Or.inr ?_)
  have hex : ∃ k : ℕ, v < pw ((k : ℤ) - 126) := ⟨246, by simpa using h1⟩
  classical
  have hs := Nat.find_spec hex
  have hpos : Nat.find hex ≠ 0 := fun e => by rw [e] at hs; exact h0 (by simpa using hs)
  obtain ⟨j, hj⟩ := Nat.exists_eq_succ_of_ne_zero hpos
  have hle : Nat.find hex ≤ 246 := Nat.find_min' hex (by simpa using h1)
  refine ⟨j, by omega, ?_, ?_⟩
  · exact not_lt.1 (Nat.find_min hex (m := j) (by omega))
  · rw [hj] at hs
    have : (((j.succ : ℕ) : ℤ) - 126) = (j : ℤ) - 125 := by push_cast; ring
    rwa [this] at hs

/-- How many of the first `m` numbers lie below `n`, as a word. -/
theorem fold_lt (m : ℕ) (n : ℕ) (hn : n ≤ m) (g : Fin m → BitVec 32) (hg : ∀ k, g k = if k.val < n then 1#32 else 0#32) :
    Finset.univ.fold IntOp.addi 0#32 g = BitVec.ofNat 32 n := by
  have : g = fun k => ((if k.val < n then 1#1 else 0#1 : BitVec 1)).setWidth 32 := by
    funext k; rw [hg]; split <;> rfl
  rw [this, Idealize.ShloMosaic.IndicatorCount.fold_addi_setWidth_eq_card]
  congr 1
  rw [show (Finset.univ.filter fun k : Fin m => (if k.val < n then 1#1 else 0#1 : BitVec 1) = 1#1) = Finset.univ.filter fun k : Fin m => k.val < n from ?_]
  · rw [Fin.card_filter_val_lt]; omega
  · ext k
    simp only [Finset.mem_filter, Finset.mem_univ, true_and]
    split <;> simp_all

end Cert.Powers

end
-- ==== Proof.Quant.lean ====
/-
  The quantiser.
-/
module

public import proofs.«01_k».proof.Proof.Powers
public import proofs.«01_k».proof.Proof.Kernel.Launch
public import proofs.«01_k».proof.Proof.Gen.ReferenceIdeal.Value

@[expose] public section

set_option maxRecDepth 16384

noncomputable section

namespace Cert.Quant

open Idealize.ShloMosaic Cert.Powers

/-! ## Words -/

theorem shl_word (w : BitVec 32) (n : ℕ) (h : w = BitVec.ofNat 32 n) (h1 : 1 ≤ n) (h2 : n ≤ 254) :
    Ideal.ofBits .f32 (IntOp.shli ArithUnit.vector w 23#32) = pw ((n : ℤ) - 127) := by
  rw [h, ← ofBits_exp n h1 h2]
  rfl

theorem min_word (k : Fin 255) :
    IntOp.addi (IntOp.subi (IntOp.minsi (BitVec.ofNat 32 k.val) 246#32) 126#32) 127#32 = BitVec.ofNat 32 (min k.val 246 + 1) := by
  revert k
  decide

theorem up_word (j : ℕ) (h : j < 246) : IntOp.addi (IntOp.subi (BitVec.ofNat 32 (j + 1)) 126#32) 127#32 = BitVec.ofNat 32 (j + 2) := by
  show BitVec.ofNat 32 (j + 1) - 126#32 + 127#32 = _
  apply BitVec.eq_of_toNat_eq
  simp only [BitVec.toNat_add, BitVec.toNat_sub, BitVec.toNat_ofNat]
  omega

theorem down_word (j : ℕ) (h : j < 246) : IntOp.addi (IntOp.subi 0#32 (IntOp.subi (BitVec.ofNat 32 (j + 1)) 126#32)) 127#32 = BitVec.ofNat 32 (252 - j) := by
  show 0#32 - (BitVec.ofNat 32 (j + 1) - 126#32) + 127#32 = _
  apply BitVec.eq_of_toNat_eq
  simp only [BitVec.toNat_add, BitVec.toNat_sub, BitVec.toNat_ofNat]
  omega

theorem iota_word (k : Fin 246) : ((IntOp.subi (BitVec.ofNat 32 k.val) 125#32).toInt : ℤ) = (k.val : ℤ) - 125 := by
  revert k
  decide

/-! ## The kernel's exponent -/

/-- The kernel's count of the powers of two that are at most `v`. -/
def count (v : EReal) : BitVec 32 :=
  Finset.univ.fold IntOp.addi 0#32 fun k : Fin 255 =>
    if Ideal.ofBits .f32 (IntOp.shli ArithUnit.vector (IntOp.addi (IntOp.subi (IntOp.minsi (BitVec.ofNat 32 k.val) 246#32) 126#32) 127#32) 23#32) ≤ v
    then 1#32 else 0#32

theorem count_eq (v : EReal) (n : ℕ) (hn : n ≤ 255) (h : ∀ k : Fin 255, pw ((min k.val 246 : ℕ) - 126 : ℤ) ≤ v ↔ k.val < n) :
    count v = BitVec.ofNat 32 n := by
  unfold count
  refine fold_lt 255 n hn _ fun k => ?_
  rw [shl_word _ _ (min_word k) (by omega) (by omega), show (((min k.val 246 + 1 : ℕ) : ℤ) - 127) = ((min k.val 246 : ℕ) : ℤ) - 126 by push_cast; ring]
  exact if_congr (h k) rfl rfl

theorem count_lo (v : EReal) (h : v < pw (-126)) : count v = BitVec.ofNat 32 0 :=
  count_eq v 0 (by omega) fun k => iff_of_false (fun hk => absurd (lt_of_le_of_lt hk h) (by rw [pw_lt]; omega)) (by omega)

theorem count_hi (v : EReal) (h : pw 120 ≤ v) : count v = BitVec.ofNat 32 255 :=
  count_eq v 255 (by omega) fun k => iff_of_true ((pw_le.2 (by omega)).trans h) k.isLt

theorem count_mid (v : EReal) (j : ℕ) (hj : j < 246) (h1 : pw ((j : ℤ) - 126) ≤ v) (h2 : v < pw ((j : ℤ) - 125)) :
    count v = BitVec.ofNat 32 (j + 1) :=
  count_eq v (j + 1) (by omega) fun k => by
    constructor
    · intro hk
      have := pw_lt.1 (lt_of_le_of_lt hk h2)
      omega
    · intro hk
      exact (pw_le.2 (by omega)).trans h1

/-- The kernel's exponent of a row: zero off the normal range. -/
def expo (a v : EReal) : BitVec 32 :=
  Scalar.select (IntOp.ori (IntOp.ori (BitVec.ofBool (decide (a = 0))) (IntOp.cmpi .eq (count v) 0#32)) (IntOp.cmpi .eq (count v) 255#32))
    0#32 (IntOp.subi (count v) 126#32)

theorem ori_one (b : BitVec 1) : IntOp.ori b 1#1 = 1#1 := by revert b; decide
theorem one_ori (b : BitVec 1) : IntOp.ori 1#1 b = 1#1 := by revert b; decide

theorem expo_lo (a v : EReal) (h : count v = BitVec.ofNat 32 0) : expo a v = 0#32 := by
  unfold expo
  rw [h, show IntOp.cmpi .eq (BitVec.ofNat 32 0) 0#32 = 1#1 from by decide, ori_one, one_ori]
  rfl

theorem expo_hi (a v : EReal) (h : count v = BitVec.ofNat 32 255) : expo a v = 0#32 := by
  unfold expo
  rw [h, show IntOp.cmpi .eq (BitVec.ofNat 32 255) 255#32 = 1#1 from by decide, ori_one]
  rfl

theorem expo_mid (a v : EReal) (j : ℕ) (hj : j < 246) (ha : a ≠ 0) (h : count v = BitVec.ofNat 32 (j + 1)) :
    expo a v = IntOp.subi (BitVec.ofNat 32 (j + 1)) 126#32 := by
  have e0 : IntOp.cmpi .eq (BitVec.ofNat 32 (j + 1)) 0#32 = 0#1 := by
    have := (⟨j, hj⟩ : Fin 246).isLt
    exact (by decide : ∀ i : Fin 246, IntOp.cmpi .eq (BitVec.ofNat 32 (i.val + 1)) 0#32 = 0#1) ⟨j, hj⟩
  have e1 : IntOp.cmpi .eq (BitVec.ofNat 32 (j + 1)) 255#32 = 0#1 :=
    (by decide : ∀ i : Fin 246, IntOp.cmpi .eq (BitVec.ofNat 32 (i.val + 1)) 255#32 = 0#1) ⟨j, hj⟩
  unfold expo
  rw [h, e0, e1, decide_eq_false ha]
  rfl

/-! ## The reference's scale -/

/-- The least power of two above `v`. -/
def least (v : EReal) : EReal :=
  Finset.univ.fold min (⊤ : EReal) fun k : Fin 246 =>
    if v < FloatOps.exp2 (F := Ideal) (φ := .f32) (FloatOps.sitofp (F := Ideal) .f32 (IntOp.subi (BitVec.ofNat 32 k.val) 125#32))
    then FloatOps.exp2 (F := Ideal) (φ := .f32) (FloatOps.sitofp (F := Ideal) .f32 (IntOp.subi (BitVec.ofNat 32 k.val) 125#32)) else ⊤

theorem term_eq (k : Fin 246) :
    FloatOps.exp2 (F := Ideal) (φ := .f32) (FloatOps.sitofp (F := Ideal) .f32 (IntOp.subi (BitVec.ofNat 32 k.val) 125#32)) = pw ((k.val : ℤ) - 125) := by
  rw [← exp2_int, ← iota_word k]
  rfl

theorem least_eq (v : EReal) : least v = Finset.univ.fold min (⊤ : EReal) fun k : Fin 246 => if v < pw ((k.val : ℤ) - 125) then pw ((k.val : ℤ) - 125) else ⊤ := by
  unfold least
  congr 1
  funext k
  rw [term_eq]

theorem least_hi (v : EReal) (h : pw 120 ≤ v) : least v = ⊤ := by
  rw [least_eq, eq_top_iff, Finset.le_fold_min]
  refine ⟨le_refl _, fun k _ => ?_⟩
  rw [if_neg (not_lt.2 ((pw_le.2 (by omega)).trans h))]

theorem least_mid (v : EReal) (j : ℕ) (hj : j < 246) (h1 : pw ((j : ℤ) - 126) ≤ v) (h2 : v < pw ((j : ℤ) - 125)) : least v = pw ((j : ℤ) - 125) := by
  rw [least_eq]
  apply le_antisymm
  · rw [Finset.fold_min_le]
    exact Or.inr ⟨⟨j, hj⟩, Finset.mem_univ _, by rw [if_pos h2]⟩
  · rw [Finset.le_fold_min]
    refine ⟨le_top, fun k _ => ?_⟩
    by_cases hk : v < pw ((k.val : ℤ) - 125)
    · rw [if_pos hk]
      have := pw_lt.1 (lt_of_le_of_lt h1 hk)
      exact pw_le.2 (by omega)
    · rw [if_neg hk]; exact le_top

/-- The reference's scale of a row. -/
def scale (v : EReal) : EReal :=
  Scalar.select (IntOp.andi (BitVec.ofBool (decide (Ideal.ofBits .f32 0x00800000#32 ≤ v))) (BitVec.ofBool (decide (least v < ⊤)))) (least v) 1

/-- The kernel and the reference take the same power of two, and the kernel's other factor is its inverse. -/
theorem scale_eq (a v : EReal) (ha : a = 0 → v = 0) : ∃ n : ℤ, scale v = pw n
    ∧ Ideal.ofBits .f32 (IntOp.shli ArithUnit.vector (IntOp.addi (expo a v) 127#32) 23#32) = pw n
    ∧ Ideal.ofBits .f32 (IntOp.shli ArithUnit.vector (IntOp.addi (IntOp.subi 0#32 (expo a v)) 127#32) 23#32) = pw (-n) := by
  rcases cases_pw v with h | h | ⟨j, hj, h1, h2⟩
  · refine ⟨0, ?_, ?_, ?_⟩
    · unfold scale
      rw [ofBits_minnorm, decide_eq_false (not_le.2 h), pw_zero]
      generalize BitVec.ofBool (decide (least v < ⊤)) = b
      rw [show IntOp.andi (BitVec.ofBool false) b = 0#1 from by revert b; decide]
      rfl
    · rw [expo_lo a v (count_lo v h), shl_word _ 127 (by decide) (by omega) (by omega)]; norm_num
    · rw [expo_lo a v (count_lo v h), shl_word _ 127 (by decide) (by omega) (by omega)]; norm_num
  · refine ⟨0, ?_, ?_, ?_⟩
    · unfold scale
      rw [least_hi v h, decide_eq_false (lt_irrefl _), pw_zero]
      generalize BitVec.ofBool (decide (Ideal.ofBits .f32 0x00800000#32 ≤ v)) = b
      rw [show IntOp.andi b (BitVec.ofBool false) = 0#1 from by revert b; decide]
      rfl
    · rw [expo_hi a v (count_hi v h), shl_word _ 127 (by decide) (by omega) (by omega)]; norm_num
    · rw [expo_hi a v (count_hi v h), shl_word _ 127 (by decide) (by omega) (by omega)]; norm_num
  · have hv : 0 < v := lt_of_lt_of_le (pw_pos _) h1
    have ha' : a ≠ 0 := fun e => by rw [ha e] at hv; exact lt_irrefl _ hv
    have he := expo_mid a v j hj ha' (count_mid v j hj h1 h2)
    refine ⟨(j : ℤ) - 125, ?_, ?_, ?_⟩
    · unfold scale
      rw [least_mid v j hj h1 h2, ofBits_minnorm, decide_eq_true ((pw_le.2 (by omega)).trans h1), decide_eq_true (show pw ((j : ℤ) - 125) < ⊤ from EReal.coe_lt_top _)]
      rfl
    · rw [he, shl_word _ (j + 2) (up_word j hj) (by omega) (by omega)]
      congr 1; push_cast; ring
    · rw [he, shl_word _ (252 - j) (down_word j hj) (by omega) (by omega)]
      congr 1; omega

/-! ## The two programs' scales and codes -/

section
variable (x3 : Vec Ideal Cert.ReferenceIdeal.S6x1x4096 .bf16) (x2 : Vec Ideal Cert.Kernel.S6x4096 .bf16)
  (hx : ∀ (r : Fin 6) (l : Fin 4096), x2 (ix2 r l : Cert.Kernel.S6x4096.Idx) = x3 (ix3 r 0 l : Cert.ReferenceIdeal.S6x1x4096.Idx))

/-- The largest magnitude of a row. -/
def amax (r : Fin 6) : EReal :=
  Finset.fold max (Ideal.ofBits .f32 0xFF800000#32) (fun l : Fin 4096 => FloatOps.absf (F := Ideal) (φ := .f32) (x3 (ix3 r 0 l : Cert.ReferenceIdeal.S6x1x4096.Idx))) Finset.univ

/-- The same over 448. -/
def vmax (r : Fin 6) : EReal := amax x3 r * Ideal.ofBits .f32 0x3B124925#32

theorem vmax_zero (r : Fin 6) (h : amax x3 r = 0) : vmax x3 r = 0 := by unfold vmax; rw [h, zero_mul]

theorem ref_scale (r : Fin 6) : Cert.ReferenceIdeal.Gen.k0_pay6 x3 (ix2 r 0 : Cert.ReferenceIdeal.S6x1.Idx) = scale (vmax x3 r) := by
  pointwise [Cert.ReferenceIdeal.Gen.k0_pay6, Cert.ReferenceIdeal.Gen.k0_pay5]
  unfold scale least vmax amax
  rw [ofBits_inf]

include hx in
theorem kernel_amax (r : Fin 6) : Cert.Kernel.Gen.k0_pay21 x2 (ix2 r 0 : Cert.Kernel.S6x1.Idx) = amax x3 r := by
  pointwise [Cert.Kernel.Gen.k0_pay21, Cert.Kernel.Gen.k0_pay20]
  unfold amax
  exact Finset.fold_congr fun l _ => by rw [hx]

include hx in
theorem kernel_count (r : Fin 6) : Cert.Kernel.Gen.k0_pay22 x2 (ix2 r 0 : Cert.Kernel.S6x1.Idx) = count (vmax x3 r) := by
  have := kernel_amax x3 x2 hx r
  unfold count vmax
  rw [← this]
  pointwise [Cert.Kernel.Gen.k0_pay22]

include hx in
theorem kernel_expo (r : Fin 6) : Cert.Kernel.Gen.k0_pay23 (Cert.Kernel.Gen.k0_pay21 x2) (Cert.Kernel.Gen.k0_pay22 x2) (ix2 r 0 : Cert.Kernel.S6x1.Idx) = expo (amax x3 r) (vmax x3 r) := by
  have h1 := kernel_amax x3 x2 hx r
  have h2 := kernel_count x3 x2 hx r
  pointwise [Cert.Kernel.Gen.k0_pay23]
  rw [h1, h2]
  rfl

include hx in
/-- The scales agree. -/
theorem scales_eq (r : Fin 6) : Cert.Kernel.Hand.scalesOf x2 (ix2 r 0 : Cert.Kernel.S6x1.Idx) = Cert.ReferenceIdeal.Gen.k0_pay6 x3 (ix2 r 0 : Cert.ReferenceIdeal.S6x1.Idx) := by
  obtain ⟨n, e1, e2, e3⟩ := scale_eq (amax x3 r) (vmax x3 r) (vmax_zero x3 r)
  rw [ref_scale, e1, ← e2, ← kernel_expo x3 x2 hx r]
  unfold Cert.Kernel.Hand.scalesOf
  pointwise [Cert.Kernel.Gen.k0_pay25]

include hx in
/-- The codes agree. -/
theorem codes_eq (r : Fin 6) (l : Fin 4096) : Cert.Kernel.Hand.codesOf x2 (ix2 r l : Cert.Kernel.S6x4096.Idx) = Cert.ReferenceIdeal.Gen.k0_pay7 x3 (ix2 r l : Cert.ReferenceIdeal.S6x4096.Idx) := by
  obtain ⟨n, e1, e2, e3⟩ := scale_eq (amax x3 r) (vmax x3 r) (vmax_zero x3 r)
  have hs := ref_scale x3 r
  have he := kernel_expo x3 x2 hx r
  unfold Cert.Kernel.Hand.codesOf
  pointwise [Cert.Kernel.Gen.k0_pay24, Cert.Kernel.Gen.k0_pay20, Cert.ReferenceIdeal.Gen.k0_pay7, Cert.ReferenceIdeal.Gen.k0_pay5]
  rw [hs, he, e1, e3, div_pw, hx]

end

end Cert.Quant

end
-- ==== Proof.Up.lean ====
/-
  The up-projection.
-/
module

public import proofs.«01_k».proof.Proof.Quant

@[expose] public section

set_option maxRecDepth 16384

noncomputable section

namespace Cert.UpValue

open Idealize.ShloMosaic Idealize.ShloMosaic.TcCoe
open Cert.Kernel Cert.Kernel.Gen Cert.Kernel.Hand

/-- The first six rows of the left operand are the codes. -/
theorem lhsOf_row (v : FVec Ideal S6x4096 .fp8e4m3) (r : Fin 6) (l : Fin 4096) :
    lhsOf v (ix2 ⟨r.val, by omega⟩ l : S32x4096.Idx) = v (ix2 r l : S6x4096.Idx) := by
  have e : (lhsV.access (Rect.unit (s := S32x4096) ![0, 0] S8x4096.size inb_S32x4096_S8x4096_0_0)).emb (ix2 ⟨r.val, by omega⟩ l : S8x4096.Idx)
      = (ix2 ⟨r.val, by omega⟩ l : S32x4096.Idx) := by
    funext a
    apply Fin.ext
    fin_cases a
    · show 0 + 1 * r.val = r.val; omega
    · show 0 + 1 * l.val = l.val; omega
  unfold lhsOf
  rw [← e, View.write_emb_of_mem _ _ (Finset.mem_univ _)]
  refine (updateSlice_apply (s := S8x4096) (u := S6x4096) _ (k0_pay30 v) ![0, 0] slices_S8x4096_S6x4096_0_0 (ix2 ⟨r.val, by omega⟩ l)).trans ?_
  rw [dif_pos]
  · pointwise [k0_pay30]
  · intro a
    fin_cases a
    · show 0 ≤ r.val ∧ r.val < 0 + 6; omega
    · show 0 ≤ l.val ∧ l.val < 0 + 4096; omega

variable (c : Dev nD) (v94 : FVec Ideal S6x1 .f32) (lhs : Vec Ideal S32x4096 .fp8e4m3) (fwu : Buf (Elt Ideal) (wuH.view.loc (c : Thread nD τ))) (fwus fbu : Vec Ideal S1x11008 .f32)

/-- One activation. -/
def act (r : Fin 6) (l : Fin 11008) : EReal :=
  max ((∑ k : Fin 4096, lhs (ix2 ⟨r.val, by omega⟩ k : S32x4096.Idx) * fwu (ix2 k l : S4096x11008.Idx)) * v94 (ix2 r 0 : S6x1.Idx) * fwus (ix2 0 l : S1x11008.Idx) + fbu (ix2 0 l : S1x11008.Idx)) 0

theorem tileT_apply (t : Fin 21) (r : Fin 6) (l : Fin 512) :
    tileT c v94 lhs fwu fwus fbu t (ix2 r l : S6x512.Idx) = act c v94 lhs fwu fwus fbu r ⟨512 * t.val + l.val, by omega⟩ := by
  unfold tileT act
  pointwise [k0_pay5]
  rfl

theorem tileL_apply (r : Fin 6) (l : Fin 256) :
    tileL c v94 lhs fwu fwus fbu (ix2 r l : S6x256.Idx) = act c v94 lhs fwu fwus fbu r ⟨10752 + l.val, by omega⟩ := by
  unfold tileL act
  pointwise [k0_pay33]
  rfl

theorem HF_apply (r : Fin 6) (l : Fin 11008) : HF c v94 lhs fwu fwus fbu (ix2 r l : S6x11008.Idx) = act c v94 lhs fwu fwus fbu r l := by
  unfold HF
  split
  · rename_i h
    change l.val < 10752 at h
    refine (tileT_apply c v94 lhs fwu fwus fbu _ _ _).trans (congrArg (act c v94 lhs fwu fwus fbu r) (Fin.ext ?_))
    show 512 * (l.val / 512) + l.val % 512 = l.val
    omega
  · rename_i h
    change ¬ l.val < 10752 at h
    refine (tileL_apply c v94 lhs fwu fwus fbu _ _).trans (congrArg (act c v94 lhs fwu fwus fbu r) (Fin.ext ?_))
    show 10752 + (l.val - 10752) = l.val
    omega

/-- The activations agree. -/
theorem acts_eq (x3 : Vec Ideal Cert.ReferenceIdeal.S6x1x4096 .bf16) (x2 : Vec Ideal S6x4096 .bf16)
    (hx : ∀ (r : Fin 6) (l : Fin 4096), x2 (ix2 r l : S6x4096.Idx) = x3 (ix3 r 0 l : Cert.ReferenceIdeal.S6x1x4096.Idx))
    (wus bu : Vec Ideal Cert.ReferenceIdeal.S11008 .f32)
    (h1 : ∀ l : Fin 11008, fwus (ix2 0 l : S1x11008.Idx) = wus (ix1 l : Cert.ReferenceIdeal.S11008.Idx))
    (h2 : ∀ l : Fin 11008, fbu (ix2 0 l : S1x11008.Idx) = bu (ix1 l : Cert.ReferenceIdeal.S11008.Idx)) (r : Fin 6) (l : Fin 11008) :
    actsOf c x2 fwu fwus fbu (ix2 r l : S6x11008.Idx)
      = Cert.ReferenceIdeal.Gen.k0_pay1 (Cert.ReferenceIdeal.Gen.k0_pay8 x3 fwu wus) bu (ix2 r l : Cert.ReferenceIdeal.S6x11008.Idx) := by
  unfold actsOf
  rw [HF_apply]
  unfold act
  pointwise [Cert.ReferenceIdeal.Gen.k0_pay1, Cert.ReferenceIdeal.Gen.k0_pay8]
  rw [h1, h2, Cert.Quant.scales_eq x3 x2 hx]
  have : ∀ k : Fin 4096, lhsOf (codesOf x2) (ix2 ⟨r.val, by omega⟩ k : S32x4096.Idx) = Cert.ReferenceIdeal.Gen.k0_pay7 x3 (ix2 r k : Cert.ReferenceIdeal.S6x4096.Idx) :=
    fun k => (lhsOf_row _ r k).trans (Cert.Quant.codes_eq x3 x2 hx r k)
  simp only [this]

end Cert.UpValue

end
-- ==== Proof.Down.lean ====
/-
  The down-projection of the live blocks, against the product over all of the activations.
-/
module

public import proofs.«01_k».proof.Proof.Up

@[expose] public section

set_option maxRecDepth 16384

noncomputable section

namespace Cert.DownValue

open Idealize.ShloMosaic Idealize.ShloMosaic.TcCoe
open Cert.Kernel Cert.Kernel.Gen Cert.Kernel.Hand Cert.Words

/-! ## One step of the accumulation -/

/-- A pair of blocks adds the product of its 256 activations with 256 rows of weights. -/
theorem pay1_apply (A B : Vec Ideal S1x16x128 .bf16) (W : Vec Ideal S1x256x4096 .i8) (acc : Vec Ideal S8x4096 .f32) (r : Fin 8) (l : Fin 4096) :
    k0_pay1 A B W acc (ix2 r l : S8x4096.Idx) = acc (ix2 r l : S8x4096.Idx)
      + ∑ k : Fin 256, (if h : k.val < 128 then A (ix3 0 ⟨r.val, by omega⟩ ⟨k.val, h⟩ : S1x16x128.Idx) else B (ix3 0 ⟨r.val, by omega⟩ ⟨k.val - 128, by omega⟩ : S1x16x128.Idx))
          * FloatOps.sitofp (F := Ideal) .bf16 (W (ix3 0 k l : S1x256x4096.Idx)) := by
  pointwise [k0_pay1]

/-- The last block adds the product of its 128 activations with 128 rows of weights. -/
theorem pay3_apply (A : Vec Ideal S1x16x128 .bf16) (W : Vec Ideal S1x128x4096 .i8) (acc : Vec Ideal S8x4096 .f32) (r : Fin 8) (l : Fin 4096) :
    k0_pay3 W acc A (ix2 r l : S8x4096.Idx) = acc (ix2 r l : S8x4096.Idx)
      + ∑ k : Fin 128, A (ix3 0 ⟨r.val, by omega⟩ k : S1x16x128.Idx) * FloatOps.sitofp (F := Ideal) .bf16 (W (ix3 0 k l : S1x128x4096.Idx)) := by
  pointwise [k0_pay3]

theorem pay31_apply (r : Fin 8) (l : Fin 4096) : k0_pay31 (F := Ideal) (ix2 r l : S8x4096.Idx) = 0 := by
  pointwise [k0_pay31]

variable (c : Dev nD) (fwd : Buf (Elt Ideal) (wdH.view.loc (c : Thread nD τ))) (H : Vec Ideal S6x11008 .f32) (r : Fin 6) (l : Fin 4096)

/-- One product of the down-projection. -/
def term (n : ℕ) : EReal :=
  if h : n < 11008 then H (ix2 r ⟨n, h⟩ : S6x11008.Idx) * FloatOps.sitofp (F := Ideal) .bf16 (fwd (ix2 ⟨n, h⟩ l : S11008x4096.Idx)) else 0

/-- The products of one block. -/
def blockSum (b : ℕ) : EReal := ∑ k : Fin 128, term c fwd H r l (128 * b + k.val)

theorem term_hcB (b : Fin 86) (k : Fin 128) (i : ℕ) (hi : i = 128 * b.val + k.val) :
    hcB H b (ix3 0 ⟨r.val, by omega⟩ k : S1x16x128.Idx) * FloatOps.sitofp (F := Ideal) .bf16 (fwd (ix2 ⟨b.val * 128 + k.val, by omega⟩ l : S11008x4096.Idx))
      = term c fwd H r l i := by
  subst hi
  rw [hcB_lt H b ⟨r.val, by omega⟩ k r.isLt]
  unfold term
  rw [dif_pos (show 128 * b.val + k.val < 11008 by omega)]
  have e : (⟨b.val * 128 + k.val, by omega⟩ : Fin 11008) = ⟨128 * b.val + k.val, by omega⟩ := Fin.ext (by show b.val * 128 + k.val = 128 * b.val + k.val; omega)
  rw [e]
  rfl

theorem pair_step (b1 b2 : Fin 86) (acc : Vec Ideal S8x4096 .f32) :
    k0_pay1 (hcB H b1) (hcB H b2) (wdTile c fwd b1 b2) acc (ix2 ⟨r.val, by omega⟩ l : S8x4096.Idx)
      = acc (ix2 ⟨r.val, by omega⟩ l : S8x4096.Idx) + (blockSum c fwd H r l b1.val + blockSum c fwd H r l b2.val) := by
  rw [pay1_apply]
  congr 1
  refine (Fin.sum_univ_add (a := 128) (b := 128) _).trans ?_
  unfold blockSum
  congr 1
  · refine Finset.sum_congr rfl fun k _ => ?_
    rw [← term_hcB c fwd H r l b1 k _ rfl]
    unfold wdTile
    rw [dif_pos (show (Fin.castAdd 128 k).val < 128 from k.isLt)]
    congr 2
    exact dif_pos k.isLt
  · refine Finset.sum_congr rfl fun k _ => ?_
    rw [← term_hcB c fwd H r l b2 k _ rfl]
    have hk : ¬ (Fin.natAdd 128 k).val < 128 := by show ¬ 128 + k.val < 128; omega
    have e : (⟨(Fin.natAdd 128 k).val - 128, by show 128 + k.val - 128 < 128; omega⟩ : Fin 128) = k := Fin.ext (by show 128 + k.val - 128 = k.val; omega)
    unfold wdTile
    rw [dif_neg hk, e]
    congr 2
    refine (dif_neg hk).trans ?_
    congr 2
    apply Fin.ext
    show b2.val * 128 + (128 + k.val - 128) = b2.val * 128 + k.val
    omega

theorem last_step (b : Fin 86) (acc : Vec Ideal S8x4096 .f32) :
    k0_pay3 (wdHalf c fwd b) acc (hcB H b) (ix2 ⟨r.val, by omega⟩ l : S8x4096.Idx)
      = acc (ix2 ⟨r.val, by omega⟩ l : S8x4096.Idx) + blockSum c fwd H r l b.val := by
  rw [pay3_apply]
  congr 1
  exact Finset.sum_congr rfl fun k _ => term_hcB c fwd H r l b k _ rfl

/-! ## The accumulation -/

theorem accSeq_apply (p : ℕ) : accSeq c fwd (hcB H) (al H) p (ix2 ⟨r.val, by omega⟩ l : S8x4096.Idx)
    = ∑ i ∈ Finset.range (2 * p), blockSum c fwd H r l (al H i).val := by
  induction p with
  | zero => exact pay31_apply _ _
  | succ p ih =>
    show k0_pay1 (hcB H (al H (2 * p))) (hcB H (al H (2 * p + 1))) (wdTile c fwd (al H (2 * p)) (al H (2 * p + 1))) (accSeq c fwd (hcB H) (al H) p) _ = _
    rw [pair_step, ih, show 2 * (p + 1) = 2 * p + 1 + 1 by ring, Finset.sum_range_succ, Finset.sum_range_succ, add_assoc]

theorem accFin_apply (n : ℕ) : accFin c fwd (hcB H) (al H) n (ix2 ⟨r.val, by omega⟩ l : S8x4096.Idx)
    = ∑ i ∈ Finset.range n, blockSum c fwd H r l (al H i).val := by
  unfold accFin
  split
  · rename_i h
    rw [last_step, accSeq_apply]
    have e : n = 2 * (n / 2) + 1 := by omega
    conv_rhs => rw [e, Finset.sum_range_succ]
    rw [show n - 1 = 2 * (n / 2) by omega]
  · rename_i h
    rw [accSeq_apply, show 2 * (n / 2) = n by omega]

/-- A block that is not live is zero, so its products are. -/
theorem blockSum_dead (b : ℕ) (hb : b < 86) (hd : ¬ LP H b) : blockSum c fwd H r l b = 0 := by
  rcases liveW_spec (blk H b) with h | ⟨-, h⟩
  · exact absurd h.1 hd
  · unfold blockSum
    refine Finset.sum_eq_zero fun k _ => ?_
    have hk := h (ix2 r k : S6x128.Idx)
    have hz : blk H b (ix2 r k : S6x128.Idx) = 0 := by
      revert hk
      generalize blk H b = s
      pointwise []
      intro hk
      exact of_decide_eq_true (ofBool_one.1 hk)
    unfold term
    split
    · rename_i hn
      have e : H (ix2 r ⟨128 * b + k.val, hn⟩ : S6x11008.Idx) = 0 := by
        rw [← hz]
        unfold blk
        congr 2
        apply Fin.ext
        show 128 * b + k.val = (128 * b + k.val) % 11008
        omega
      rw [e, zero_mul]
    · rfl

theorem sum_blocks (f : ℕ → EReal) (n : ℕ) : ∑ b ∈ Finset.range n, ∑ k : Fin 128, f (128 * b + k.val) = ∑ i ∈ Finset.range (128 * n), f i := by
  induction n with
  | zero => simp
  | succ n ih =>
    rw [Finset.sum_range_succ, ih, show 128 * (n + 1) = 128 * n + 128 by ring, Finset.sum_range_add, Finset.sum_range (n := 128)]

/-- The live blocks' products sum to all of the products. -/
theorem downOf_apply : downOf c fwd H (ix2 ⟨r.val, by omega⟩ l : S8x4096.Idx)
    = ∑ k : Fin 11008, H (ix2 r k : S6x11008.Idx) * FloatOps.sitofp (F := Ideal) .bf16 (fwd (ix2 k l : S11008x4096.Idx)) := by
  unfold downOf
  rw [accFin_apply]
  have e1 : ∀ i ∈ Finset.range (cnt H 86), blockSum c fwd H r l (al H i).val = blockSum c fwd H r l (nth (LP H) i) := fun i hi => by
    have h := (nth_spec (LP H) (Finset.mem_range.1 hi)).2.1
    show blockSum c fwd H r l (nth (LP H) i % 86) = _
    rw [Nat.mod_eq_of_lt h]
  rw [Finset.sum_congr rfl e1]
  refine (sum_nth (LP H) (blockSum c fwd H r l) 86).trans ?_
  have e2 : ∀ b ∈ Finset.range 86, (if LP H b then blockSum c fwd H r l b else 0) = ∑ k : Fin 128, term c fwd H r l (128 * b + k.val) := fun b hb => by
    split
    · rfl
    · rename_i hd
      exact (blockSum_dead c fwd H r l b (Finset.mem_range.1 hb) hd).symm
  rw [Finset.sum_congr rfl e2, sum_blocks, Finset.sum_range]
  refine Finset.sum_congr rfl fun k _ => ?_
  unfold term
  exact dif_pos k.isLt

end Cert.DownValue

end
-- ==== Proof.Results.lean ====
/-
  The four results: the kernel's and the reference's are equal, index by index.
-/
module

public import proofs.«01_k».proof.Proof.Down
public import proofs.«01_k».proof.Proof.Same
public import proofs.«01_k».proof.Proof.Gen.ReferenceIdeal.Value

@[expose] public section

set_option maxRecDepth 16384

noncomputable section

namespace Cert.Results

open Idealize.ShloMosaic Idealize.ShloMosaic.TcCoe Idealize.SL.Sem Idealize.ShloMosaic.Tactic
open Cert.Kernel Cert.Kernel.Gen Cert.Kernel.Hand

/-! ## The arrays the kernel finds: the arguments with a dimension of one added or taken away -/

variable (m : (ℓ : Loc nD τ sig) → Buf (Elt Ideal) ℓ) (c : Dev nD)

theorem V_x : Gen.V m c main_v0 = shapeCast S6x4096 (m ((c : Thread nD τ).loc main_arg0)) shapeCasts_S6x1x4096_S6x4096 := by
  show StableHlo.after (List.flatten [Gen.hostOps0]) (fun b => m (c, b)) (main_v0 : DevRef τ sig) = _
  rw [show List.flatten [Gen.hostOps0] = (Gen.hostOps0 : List (HloOp τ sig (Elt Ideal))) from rfl]
  unfold Gen.hostOps0
  after_results
  rfl

theorem V_wus : Gen.V m c main_v1 = shapeCast S1x11008 (m ((c : Thread nD τ).loc main_arg2)) shapeCasts_S11008_S1x11008 := by
  show StableHlo.after (List.flatten [Gen.hostOps0]) (fun b => m (c, b)) (main_v1 : DevRef τ sig) = _
  rw [show List.flatten [Gen.hostOps0] = (Gen.hostOps0 : List (HloOp τ sig (Elt Ideal))) from rfl]
  unfold Gen.hostOps0
  after_results
  rfl

theorem V_bu : Gen.V m c main_v2 = shapeCast S1x11008 (m ((c : Thread nD τ).loc main_arg3)) shapeCasts_S11008_S1x11008 := by
  show StableHlo.after (List.flatten [Gen.hostOps0]) (fun b => m (c, b)) (main_v2 : DevRef τ sig) = _
  rw [show List.flatten [Gen.hostOps0] = (Gen.hostOps0 : List (HloOp τ sig (Elt Ideal))) from rfl]
  unfold Gen.hostOps0
  after_results
  rfl

theorem V_wds : Gen.V m c main_v3 = shapeCast S1x4096 (m ((c : Thread nD τ).loc main_arg5)) shapeCasts_S4096_S1x4096 := by
  show StableHlo.after (List.flatten [Gen.hostOps0]) (fun b => m (c, b)) (main_v3 : DevRef τ sig) = _
  rw [show List.flatten [Gen.hostOps0] = (Gen.hostOps0 : List (HloOp τ sig (Elt Ideal))) from rfl]
  unfold Gen.hostOps0
  after_results
  rfl

theorem drop_mid (X : Vec Ideal S6x1x4096 .bf16) (r : Fin 6) (l : Fin 4096) :
    shapeCast S6x4096 X shapeCasts_S6x1x4096_S6x4096 (ix2 r l : S6x4096.Idx) = X (ix3 r 0 l : S6x1x4096.Idx) := by
  pointwise []

theorem add_row (X : Vec Ideal S11008 .f32) (l : Fin 11008) :
    shapeCast S1x11008 X shapeCasts_S11008_S1x11008 (ix2 0 l : S1x11008.Idx) = X (ix1 l : S11008.Idx) := by
  pointwise []

theorem add_row' (X : Vec Ideal S4096 .f32) (l : Fin 4096) :
    shapeCast S1x4096 X shapeCasts_S4096_S1x4096 (ix2 0 l : S1x4096.Idx) = X (ix1 l : S4096.Idx) := by
  pointwise []

/-! ## The results' indices -/

theorem idx_mid {n : ℕ} (x : (⟨3, ![6, 1, n]⟩ : Shape).Idx) : ∃ (r : Fin 6) (l : Fin n), x = ix3 r 0 l := by
  refine ⟨x 0, x 2, ?_⟩
  funext a
  fin_cases a
  · rfl
  · exact Subsingleton.elim (α := Fin 1) _ _
  · rfl

theorem idx_col (x : (⟨2, ![6, 1]⟩ : Shape).Idx) : ∃ r : Fin 6, x = ix2 r 0 := by
  refine ⟨x 0, ?_⟩
  funext a
  fin_cases a
  · rfl
  · exact Subsingleton.elim (α := Fin 1) _ _

theorem mid_cast {e : EltTy} (Y : Vec Ideal S6x4096 e) (r : Fin 6) (l : Fin 4096) :
    shapeCast S6x1x4096 Y shapeCasts_S6x4096_S6x1x4096 (ix3 r 0 l : S6x1x4096.Idx) = Y (ix2 r l : S6x4096.Idx) := by
  pointwise []

theorem mid_cast' {e : EltTy} (Y : Vec Ideal S6x11008 e) (r : Fin 6) (l : Fin 11008) :
    shapeCast S6x1x11008 Y shapeCasts_S6x11008_S6x1x11008 (ix3 r 0 l : S6x1x11008.Idx) = Y (ix2 r l : S6x11008.Idx) := by
  pointwise []

/-! ## The two sides' last steps -/

theorem down_last (A : Vec Ideal S6x4096 .f32) (B : Vec Ideal S1x4096 .f32) (r : Fin 6) (l : Fin 4096) :
    k0_pay4 A B (ix2 r l : S6x4096.Idx) = A (ix2 r l : S6x4096.Idx) * B (ix2 0 l : S1x4096.Idx) := by
  pointwise [k0_pay4]

theorem ref_y (h : FVec Ideal Cert.ReferenceIdeal.S6x11008 .f32) (bu : Vec Ideal Cert.ReferenceIdeal.S11008 .f32)
    (wd : Vec Ideal Cert.ReferenceIdeal.S11008x4096 .i8) (wds : Vec Ideal Cert.ReferenceIdeal.S4096 .f32) (r : Fin 6) (l : Fin 4096) :
    Cert.ReferenceIdeal.Gen.k0_pay2 h bu wd wds (ix3 r 0 l : Cert.ReferenceIdeal.S6x1x4096.Idx)
      = (∑ k : Fin 11008, Cert.ReferenceIdeal.Gen.k0_pay1 h bu (ix2 r k : Cert.ReferenceIdeal.S6x11008.Idx)
          * FloatOps.sitofp (F := Ideal) .bf16 (wd (ix2 k l : Cert.ReferenceIdeal.S11008x4096.Idx))) * wds (ix1 l : Cert.ReferenceIdeal.S4096.Idx) := by
  pointwise [Cert.ReferenceIdeal.Gen.k0_pay2]

theorem ref_h (h : FVec Ideal Cert.ReferenceIdeal.S6x11008 .f32) (bu : Vec Ideal Cert.ReferenceIdeal.S11008 .f32) (r : Fin 6) (l : Fin 11008) :
    Cert.ReferenceIdeal.Gen.k0_pay3 h bu (ix3 r 0 l : Cert.ReferenceIdeal.S6x1x11008.Idx)
      = Cert.ReferenceIdeal.Gen.k0_pay1 h bu (ix2 r l : Cert.ReferenceIdeal.S6x11008.Idx) := by
  pointwise [Cert.ReferenceIdeal.Gen.k0_pay3]

theorem ref_c (q : FVec Ideal Cert.ReferenceIdeal.S6x4096 .fp8e4m3) (r : Fin 6) (l : Fin 4096) :
    Cert.ReferenceIdeal.Gen.k0_pay4 q (ix3 r 0 l : Cert.ReferenceIdeal.S6x1x4096.Idx) = q (ix2 r l : Cert.ReferenceIdeal.S6x4096.Idx) := by
  pointwise [Cert.ReferenceIdeal.Gen.k0_pay4]

/-- The reference's product, its loads read whole. -/
theorem ref_up (a0 : Vec Ideal Cert.ReferenceIdeal.S6x1x4096 .bf16) (a1 : Vec Ideal Cert.ReferenceIdeal.S4096x11008 .fp8e4m3) (a2 a3 : Vec Ideal Cert.ReferenceIdeal.S11008 .f32)
    (a4 : Vec Ideal Cert.ReferenceIdeal.S11008x4096 .i8) (a5 : Vec Ideal Cert.ReferenceIdeal.S4096 .f32) :
    Cert.ReferenceIdeal.Gen.k0_pay9 a0 a1 a2 a3 a4 a5 = Cert.ReferenceIdeal.Gen.k0_pay8 a0 a1 a2 := by
  unfold Cert.ReferenceIdeal.Gen.k0_pay9
  rw [View.ld_unit_zero (S := Cert.ReferenceIdeal.S6x1x4096) Cert.ReferenceIdeal.Value.hz0 _ a0,
    View.ld_unit_zero (S := Cert.ReferenceIdeal.S4096x11008) Cert.ReferenceIdeal.Value.hz1 _ a1,
    View.ld_unit_zero (S := Cert.ReferenceIdeal.S11008) Cert.ReferenceIdeal.Value.hz2 _ a2]

/-! ## The four results -/

variable (a0 : Vec Ideal Cert.ReferenceIdeal.S6x1x4096 .bf16) (a1 : Vec Ideal Cert.ReferenceIdeal.S4096x11008 .fp8e4m3) (a2 a3 : Vec Ideal Cert.ReferenceIdeal.S11008 .f32)
  (a4 : Vec Ideal Cert.ReferenceIdeal.S11008x4096 .i8) (a5 : Vec Ideal Cert.ReferenceIdeal.S4096 .f32)
  (e0 : a0 = m ((c : Thread nD τ).loc main_arg0)) (e1 : a1 = m ((c : Thread nD τ).loc main_arg1)) (e2 : a2 = m ((c : Thread nD τ).loc main_arg2))
  (e3 : a3 = m ((c : Thread nD τ).loc main_arg3)) (e4 : a4 = m ((c : Thread nD τ).loc main_arg4)) (e5 : a5 = m ((c : Thread nD τ).loc main_arg5))

include e0 in
theorem x_eq (r : Fin 6) (l : Fin 4096) : (Gen.V m c main_v0 : Vec Ideal S6x4096 .bf16) (ix2 r l : S6x4096.Idx) = a0 (ix3 r 0 l : Cert.ReferenceIdeal.S6x1x4096.Idx) := by
  rw [V_x, e0]
  exact drop_mid _ r l

include e0 e1 e2 e3 in
theorem acts_at (r : Fin 6) (l : Fin 11008) : actsAt m c (ix2 r l : S6x11008.Idx)
    = Cert.ReferenceIdeal.Gen.k0_pay1 (Cert.ReferenceIdeal.Gen.k0_pay9 a0 a1 a2 a3 a4 a5) a3 (ix2 r l : Cert.ReferenceIdeal.S6x11008.Idx) := by
  rw [ref_up]
  unfold actsAt
  rw [Gen.V_main_arg1, ← e1]
  refine Cert.UpValue.acts_eq c a1 (Gen.V m c main_v1) (Gen.V m c main_v2) a0 (Gen.V m c main_v0) (x_eq m c a0 e0) a2 a3 (fun l => ?_) (fun l => ?_) r l
  · rw [V_wus, e2]
    exact add_row _ l
  · rw [V_bu, e3]
    exact add_row _ l

include e0 e1 e2 e3 e4 e5 in
theorem y_eq : (shapeCast S6x1x4096 (yAt m c) shapeCasts_S6x4096_S6x1x4096 : Vec Ideal S6x1x4096 .bf16) = Cert.ReferenceIdeal.Value.G6 a0 a1 a2 a3 a4 a5 := by
  funext x
  obtain ⟨r, l, rfl⟩ := idx_mid x
  refine (mid_cast _ r l).trans (Eq.trans ?_ (ref_y _ _ _ _ r l).symm)
  unfold yAt
  rw [down_last]
  have hw : (Gen.V m c main_v3 : Vec Ideal S1x4096 .f32) (ix2 0 l : S1x4096.Idx) = a5 (ix1 l : Cert.ReferenceIdeal.S4096.Idx) := by
    rw [V_wds, e5]
    exact add_row' _ l
  refine congrArg₂ (· * ·) ?_ hw
  refine (Cert.DownValue.downOf_apply c (Gen.V m c main_arg4) (actsAt m c) r l).trans (Finset.sum_congr rfl fun k _ => ?_)
  rw [acts_at m c a0 a1 a2 a3 a4 a5 e0 e1 e2 e3, Gen.V_main_arg4, ← e4]

include e0 e1 e2 e3 in
theorem h_eq : (shapeCast S6x1x11008 (hAt m c) shapeCasts_S6x11008_S6x1x11008 : Vec Ideal S6x1x11008 .bf16) = Cert.ReferenceIdeal.Value.G7 a0 a1 a2 a3 a4 a5 := by
  funext x
  obtain ⟨r, l, rfl⟩ := idx_mid x
  refine (mid_cast' _ r l).trans (Eq.trans ?_ (ref_h _ _ r l).symm)
  exact acts_at m c a0 a1 a2 a3 a4 a5 e0 e1 e2 e3 r l

include e0 in
theorem c_eq : (shapeCast S6x1x4096 (cAt m c) shapeCasts_S6x4096_S6x1x4096 : Vec Ideal S6x1x4096 .fp8e4m3) = Cert.ReferenceIdeal.Value.G8 a0 a1 a2 a3 a4 a5 := by
  funext x
  obtain ⟨r, l, rfl⟩ := idx_mid x
  refine (mid_cast _ r l).trans (Eq.trans ?_ (ref_c _ r l).symm)
  refine Eq.trans ?_ (Cert.Quant.codes_eq a0 (Gen.V m c main_v0) (x_eq m c a0 e0) r l)
  unfold cAt codesOf
  pointwise [k0_pay26]

include e0 in
theorem s_eq : (shapeCast S6x1 (sAt m c) shapeCasts_S1x6_S6x1 : Vec Ideal S6x1 .f32) = Cert.ReferenceIdeal.Value.G9 a0 a1 a2 a3 a4 a5 := by
  funext x
  obtain ⟨r, rfl⟩ := idx_col x
  refine Eq.trans ?_ (Cert.Quant.scales_eq a0 (Gen.V m c main_v0) (x_eq m c a0 e0) r)
  unfold sAt scalesOf
  pointwise [k0_pay27]

/-- The kernel's results are the reference's. -/
theorem alg : @Cert.Same.Alg Cert.ReferenceIdeal.Gen.facts := by
  intro m g m' g' _ hargs
  refine ⟨fun c => shapeCast S6x1x4096 (yAt m c) shapeCasts_S6x4096_S6x1x4096, fun c => shapeCast S6x1x11008 (hAt m c) shapeCasts_S6x11008_S6x1x11008,
    fun c => shapeCast S6x1x4096 (cAt m c) shapeCasts_S6x4096_S6x1x4096, fun c => shapeCast S6x1 (sAt m c) shapeCasts_S1x6_S6x1, values m g, ?_⟩
  refine (θ_run Cert.ReferenceIdeal.defs _ _).mono (fun r h c => ?_) (Cert.ReferenceIdeal.Value.run m' g')
  obtain ⟨e0, e1, e2, e3, e4, e5⟩ := hargs c
  obtain ⟨hy, hh, hc, hs, hrest⟩ := h c
  exact ⟨hy.trans (y_eq m c _ _ _ _ _ _ e0 e1 e2 e3 e4 e5).symm, hh.trans (h_eq m c _ _ _ _ _ _ e0 e1 e2 e3).symm,
    hc.trans (c_eq m c _ _ _ _ _ _ e0).symm, hs.trans (s_eq m c _ _ _ _ _ _ e0).symm, hrest⟩

end Cert.Results

end
-- ==== Proof.lean ====
/-
  The claims' proofs put together.
-/
module

public import proofs.«01_k».proof.Defs
public import proofs.«01_k».proof.Proof.Gen.ReferenceIdeal.Frame
public import proofs.«01_k».proof.Proof.Gen.ReferenceIdeal.Value
public import proofs.«01_k».proof.Proof.Same
public import proofs.«01_k».proof.Proof.Results

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  fun m g _ => Cert.Kernel.Hand.frame m g,
  Cert.Same.frame,
  fun m g _ => Cert.ReferenceIdeal.Gen.frame m g,
  trivial,
  by rw [Cert.Same.alg_eq]; exact Cert.Results.alg⟩

end Cert.Proof

end
